-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeIdeal_scales_finite [hPre_scales_finite : Cert.Pre_scales_finite.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_scales_finite.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1))) = (fun _ => 1#1)

def Pre_DecodedIdeal (m : (ℓ : Loc Cert.DecodedIdeal.nD Cert.DecodedIdeal.τ Cert.DecodedIdeal.sig) → Buf (Elt Ideal) ℓ) : Prop :=
  True

def Pre_DecodedIdeal_scales_finite [hPre_scales_finite : Cert.Pre_scales_finite.Facts] (m : (ℓ : Loc Cert.DecodedIdeal.nD Cert.DecodedIdeal.τ Cert.DecodedIdeal.sig) → Buf (Elt Ideal) ℓ) : Prop :=
  ∀ c : Dev Cert.DecodedIdeal.nD,
    (Cert.Pre_scales_finite.fn (F := Ideal) (m ((c.tc : Thread Cert.DecodedIdeal.nD Cert.DecodedIdeal.τ).loc Cert.DecodedIdeal.main_arg0)) (m ((c.tc : Thread Cert.DecodedIdeal.nD Cert.DecodedIdeal.τ).loc Cert.DecodedIdeal.main_arg1))) = (fun _ => 1#1)

def Pre_DecodeDown (m : (ℓ : Loc Cert.DecodeDown.nD Cert.DecodeDown.τ Cert.DecodeDown.sig) → Buf (Elt Bits) ℓ) : Prop :=
  True

def Pre_DecodeDownIdeal (m : (ℓ : Loc Cert.DecodeDownIdeal.nD Cert.DecodeDownIdeal.τ Cert.DecodeDownIdeal.sig) → Buf (Elt Ideal) ℓ) : Prop :=
  True

def Pre_DecodeDownIdeal_down_scales_finite [hPre_down_scales_finite : Cert.Pre_down_scales_finite.Facts] (m : (ℓ : Loc Cert.DecodeDownIdeal.nD Cert.DecodeDownIdeal.τ Cert.DecodeDownIdeal.sig) → Buf (Elt Ideal) ℓ) : Prop :=
  ∀ c : Dev Cert.DecodeDownIdeal.nD,
    (Cert.Pre_down_scales_finite.fn (F := Ideal) (m ((c.tc : Thread Cert.DecodeDownIdeal.nD Cert.DecodeDownIdeal.τ).loc Cert.DecodeDownIdeal.main_arg0)) (m ((c.tc : Thread Cert.DecodeDownIdeal.nD Cert.DecodeDownIdeal.τ).loc Cert.DecodeDownIdeal.main_arg1))) = (fun _ => 1#1)

def Pre_DecodedDownIdeal (m : (ℓ : Loc Cert.DecodedDownIdeal.nD Cert.DecodedDownIdeal.τ Cert.DecodedDownIdeal.sig) → Buf (Elt Ideal) ℓ) : Prop :=
  True

def Pre_DecodedDownIdeal_down_scales_finite [hPre_down_scales_finite : Cert.Pre_down_scales_finite.Facts] (m : (ℓ : Loc Cert.DecodedDownIdeal.nD Cert.DecodedDownIdeal.τ Cert.DecodedDownIdeal.sig) → Buf (Elt Ideal) ℓ) : Prop :=
  ∀ c : Dev Cert.DecodedDownIdeal.nD,
    (Cert.Pre_down_scales_finite.fn (F := Ideal) (m ((c.tc : Thread Cert.DecodedDownIdeal.nD Cert.DecodedDownIdeal.τ).loc Cert.DecodedDownIdeal.main_arg0)) (m ((c.tc : Thread Cert.DecodedDownIdeal.nD Cert.DecodedDownIdeal.τ).loc Cert.DecodedDownIdeal.main_arg1))) = (fun _ => 1#1)

def Pre_Unpack (m : (ℓ : Loc Cert.Unpack.nD Cert.Unpack.τ Cert.Unpack.sig) → Buf (Elt Bits) ℓ) : Prop :=
  True

def Pre_UnpackIdeal (m : (ℓ : Loc Cert.UnpackIdeal.nD Cert.UnpackIdeal.τ Cert.UnpackIdeal.sig) → Buf (Elt Ideal) ℓ) : Prop :=
  True

def Pre_UnpackedIdeal (m : (ℓ : Loc Cert.UnpackedIdeal.nD Cert.UnpackedIdeal.τ Cert.UnpackedIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ r.2.sem = fun _ => 0)

def quiescent_DecodeIdeal_pre_scales_finite [hDecodeIdeal : Cert.DecodeIdeal.Facts] [hPre_scales_finite : Cert.Pre_scales_finite.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal_scales_finite m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ r.2.sem = fun _ => 0)

def quiescent_DecodedIdeal [hDecodedIdeal : Cert.DecodedIdeal.Facts] : Prop :=
  ∀ (m : (ℓ : Loc Cert.DecodedIdeal.nD Cert.DecodedIdeal.τ Cert.DecodedIdeal.sig) → Buf (Elt Ideal) ℓ) (g : Dev Cert.DecodedIdeal.nD → PrngReg), Pre_DecodedIdeal m →
    θ_run (Cert.DecodedIdeal.defs (F := Ideal)) (onTc (τ := Cert.DecodedIdeal.τ) (Cert.DecodedIdeal.main (F := Ideal))) ⟨m, fun _ => 0, g⟩ (fun r => (∀ c : Dev Cert.DecodedIdeal.nD,
      r.2.mem ((c.tc : Thread Cert.DecodedIdeal.nD Cert.DecodedIdeal.τ).loc Cert.DecodedIdeal.main_arg0) = m ((c.tc : Thread Cert.DecodedIdeal.nD Cert.DecodedIdeal.τ).loc Cert.DecodedIdeal.main_arg0)
      ∧ r.2.mem ((c.tc : Thread Cert.DecodedIdeal.nD Cert.DecodedIdeal.τ).loc Cert.DecodedIdeal.main_arg1) = m ((c.tc : Thread Cert.DecodedIdeal.nD Cert.DecodedIdeal.τ).loc Cert.DecodedIdeal.main_arg1))
      ∧ r.2.sem = fun _ => 0)

def quiescent_DecodedIdeal_pre_scales_finite [hDecodedIdeal : Cert.DecodedIdeal.Facts] [hPre_scales_finite : Cert.Pre_scales_finite.Facts] : Prop :=
  ∀ (m : (ℓ : Loc Cert.DecodedIdeal.nD Cert.DecodedIdeal.τ Cert.DecodedIdeal.sig) → Buf (Elt Ideal) ℓ) (g : Dev Cert.DecodedIdeal.nD → PrngReg), Pre_DecodedIdeal_scales_finite m →
    θ_run (Cert.DecodedIdeal.defs (F := Ideal)) (onTc (τ := Cert.DecodedIdeal.τ) (Cert.DecodedIdeal.main (F := Ideal))) ⟨m, fun _ => 0, g⟩ (fun r => (∀ c : Dev Cert.DecodedIdeal.nD,
      r.2.mem ((c.tc : Thread Cert.DecodedIdeal.nD Cert.DecodedIdeal.τ).loc Cert.DecodedIdeal.main_arg0) = m ((c.tc : Thread Cert.DecodedIdeal.nD Cert.DecodedIdeal.τ).loc Cert.DecodedIdeal.main_arg0)
      ∧ r.2.mem ((c.tc : Thread Cert.DecodedIdeal.nD Cert.DecodedIdeal.τ).loc Cert.DecodedIdeal.main_arg1) = m ((c.tc : Thread Cert.DecodedIdeal.nD Cert.DecodedIdeal.τ).loc Cert.DecodedIdeal.main_arg1))
      ∧ r.2.sem = fun _ => 0)

def quiescent_DecodeDown [hDecodeDown : Cert.DecodeDown.Facts] : Prop :=
  ∀ (m : (ℓ : Loc Cert.DecodeDown.nD Cert.DecodeDown.τ Cert.DecodeDown.sig) → Buf (Elt Bits) ℓ) (g : Dev Cert.DecodeDown.nD → PrngReg), Pre_DecodeDown m →
    θ_run (Cert.DecodeDown.defs (F := Bits)) (onTc (τ := Cert.DecodeDown.τ) (Cert.DecodeDown.main (F := Bits))) ⟨m, fun _ => 0, g⟩ (fun r => (∀ c : Dev Cert.DecodeDown.nD,
      r.2.mem ((c.tc : Thread Cert.DecodeDown.nD Cert.DecodeDown.τ).loc Cert.DecodeDown.main_arg0) = m ((c.tc : Thread Cert.DecodeDown.nD Cert.DecodeDown.τ).loc Cert.DecodeDown.main_arg0)
      ∧ r.2.mem ((c.tc : Thread Cert.DecodeDown.nD Cert.DecodeDown.τ).loc Cert.DecodeDown.main_arg1) = m ((c.tc : Thread Cert.DecodeDown.nD Cert.DecodeDown.τ).loc Cert.DecodeDown.main_arg1))
      ∧ r.2.sem = fun _ => 0)

def quiescent_DecodeDownIdeal [hDecodeDownIdeal : Cert.DecodeDownIdeal.Facts] : Prop :=
  ∀ (m : (ℓ : Loc Cert.DecodeDownIdeal.nD Cert.DecodeDownIdeal.τ Cert.DecodeDownIdeal.sig) → Buf (Elt Ideal) ℓ) (g : Dev Cert.DecodeDownIdeal.nD → PrngReg), Pre_DecodeDownIdeal m →
    θ_run (Cert.DecodeDownIdeal.defs (F := Ideal)) (onTc (τ := Cert.DecodeDownIdeal.τ) (Cert.DecodeDownIdeal.main (F := Ideal))) ⟨m, fun _ => 0, g⟩ (fun r => (∀ c : Dev Cert.DecodeDownIdeal.nD,
      r.2.mem ((c.tc : Thread Cert.DecodeDownIdeal.nD Cert.DecodeDownIdeal.τ).loc Cert.DecodeDownIdeal.main_arg0) = m ((c.tc : Thread Cert.DecodeDownIdeal.nD Cert.DecodeDownIdeal.τ).loc Cert.DecodeDownIdeal.main_arg0)
      ∧ r.2.mem ((c.tc : Thread Cert.DecodeDownIdeal.nD Cert.DecodeDownIdeal.τ).loc Cert.DecodeDownIdeal.main_arg1) = m ((c.tc : Thread Cert.DecodeDownIdeal.nD Cert.DecodeDownIdeal.τ).loc Cert.DecodeDownIdeal.main_arg1))
      ∧ r.2.sem = fun _ => 0)

def quiescent_DecodeDownIdeal_pre_down_scales_finite [hDecodeDownIdeal : Cert.DecodeDownIdeal.Facts] [hPre_down_scales_finite : Cert.Pre_down_scales_finite.Facts] : Prop :=
  ∀ (m : (ℓ : Loc Cert.DecodeDownIdeal.nD Cert.DecodeDownIdeal.τ Cert.DecodeDownIdeal.sig) → Buf (Elt Ideal) ℓ) (g : Dev Cert.DecodeDownIdeal.nD → PrngReg), Pre_DecodeDownIdeal_down_scales_finite m →
    θ_run (Cert.DecodeDownIdeal.defs (F := Ideal)) (onTc (τ := Cert.DecodeDownIdeal.τ) (Cert.DecodeDownIdeal.main (F := Ideal))) ⟨m, fun _ => 0, g⟩ (fun r => (∀ c : Dev Cert.DecodeDownIdeal.nD,
      r.2.mem ((c.tc : Thread Cert.DecodeDownIdeal.nD Cert.DecodeDownIdeal.τ).loc Cert.DecodeDownIdeal.main_arg0) = m ((c.tc : Thread Cert.DecodeDownIdeal.nD Cert.DecodeDownIdeal.τ).loc Cert.DecodeDownIdeal.main_arg0)
      ∧ r.2.mem ((c.tc : Thread Cert.DecodeDownIdeal.nD Cert.DecodeDownIdeal.τ).loc Cert.DecodeDownIdeal.main_arg1) = m ((c.tc : Thread Cert.DecodeDownIdeal.nD Cert.DecodeDownIdeal.τ).loc Cert.DecodeDownIdeal.main_arg1))
      ∧ r.2.sem = fun _ => 0)

def quiescent_DecodedDownIdeal [hDecodedDownIdeal : Cert.DecodedDownIdeal.Facts] : Prop :=
  ∀ (m : (ℓ : Loc Cert.DecodedDownIdeal.nD Cert.DecodedDownIdeal.τ Cert.DecodedDownIdeal.sig) → Buf (Elt Ideal) ℓ) (g : Dev Cert.DecodedDownIdeal.nD → PrngReg), Pre_DecodedDownIdeal m →
    θ_run (Cert.DecodedDownIdeal.defs (F := Ideal)) (onTc (τ := Cert.DecodedDownIdeal.τ) (Cert.DecodedDownIdeal.main (F := Ideal))) ⟨m, fun _ => 0, g⟩ (fun r => (∀ c : Dev Cert.DecodedDownIdeal.nD,
      r.2.mem ((c.tc : Thread Cert.DecodedDownIdeal.nD Cert.DecodedDownIdeal.τ).loc Cert.DecodedDownIdeal.main_arg0) = m ((c.tc : Thread Cert.DecodedDownIdeal.nD Cert.DecodedDownIdeal.τ).loc Cert.DecodedDownIdeal.main_arg0)
      ∧ r.2.mem ((c.tc : Thread Cert.DecodedDownIdeal.nD Cert.DecodedDownIdeal.τ).loc Cert.DecodedDownIdeal.main_arg1) = m ((c.tc : Thread Cert.DecodedDownIdeal.nD Cert.DecodedDownIdeal.τ).loc Cert.DecodedDownIdeal.main_arg1))
      ∧ r.2.sem = fun _ => 0)

def quiescent_DecodedDownIdeal_pre_down_scales_finite [hDecodedDownIdeal : Cert.DecodedDownIdeal.Facts] [hPre_down_scales_finite : Cert.Pre_down_scales_finite.Facts] : Prop :=
  ∀ (m : (ℓ : Loc Cert.DecodedDownIdeal.nD Cert.DecodedDownIdeal.τ Cert.DecodedDownIdeal.sig) → Buf (Elt Ideal) ℓ) (g : Dev Cert.DecodedDownIdeal.nD → PrngReg), Pre_DecodedDownIdeal_down_scales_finite m →
    θ_run (Cert.DecodedDownIdeal.defs (F := Ideal)) (onTc (τ := Cert.DecodedDownIdeal.τ) (Cert.DecodedDownIdeal.main (F := Ideal))) ⟨m, fun _ => 0, g⟩ (fun r => (∀ c : Dev Cert.DecodedDownIdeal.nD,
      r.2.mem ((c.tc : Thread Cert.DecodedDownIdeal.nD Cert.DecodedDownIdeal.τ).loc Cert.DecodedDownIdeal.main_arg0) = m ((c.tc : Thread Cert.DecodedDownIdeal.nD Cert.DecodedDownIdeal.τ).loc Cert.DecodedDownIdeal.main_arg0)
      ∧ r.2.mem ((c.tc : Thread Cert.DecodedDownIdeal.nD Cert.DecodedDownIdeal.τ).loc Cert.DecodedDownIdeal.main_arg1) = m ((c.tc : Thread Cert.DecodedDownIdeal.nD Cert.DecodedDownIdeal.τ).loc Cert.DecodedDownIdeal.main_arg1))
      ∧ r.2.sem = fun _ => 0)

def quiescent_Unpack [hUnpack : Cert.Unpack.Facts] : Prop :=
  ∀ (m : (ℓ : Loc Cert.Unpack.nD Cert.Unpack.τ Cert.Unpack.sig) → Buf (Elt Bits) ℓ) (g : Dev Cert.Unpack.nD → PrngReg), Pre_Unpack m →
    θ_run (Cert.Unpack.defs (F := Bits)) (onTc (τ := Cert.Unpack.τ) (Cert.Unpack.main (F := Bits))) ⟨m, fun _ => 0, g⟩ (fun r => (∀ c : Dev Cert.Unpack.nD,
      r.2.mem ((c.tc : Thread Cert.Unpack.nD Cert.Unpack.τ).loc Cert.Unpack.main_arg0) = m ((c.tc : Thread Cert.Unpack.nD Cert.Unpack.τ).loc Cert.Unpack.main_arg0))
      ∧ r.2.sem = fun _ => 0)

def quiescent_UnpackIdeal [hUnpackIdeal : Cert.UnpackIdeal.Facts] : Prop :=
  ∀ (m : (ℓ : Loc Cert.UnpackIdeal.nD Cert.UnpackIdeal.τ Cert.UnpackIdeal.sig) → Buf (Elt Ideal) ℓ) (g : Dev Cert.UnpackIdeal.nD → PrngReg), Pre_UnpackIdeal m →
    θ_run (Cert.UnpackIdeal.defs (F := Ideal)) (onTc (τ := Cert.UnpackIdeal.τ) (Cert.UnpackIdeal.main (F := Ideal))) ⟨m, fun _ => 0, g⟩ (fun r => (∀ c : Dev Cert.UnpackIdeal.nD,
      r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0))
      ∧ r.2.sem = fun _ => 0)

def quiescent_UnpackedIdeal [hUnpackedIdeal : Cert.UnpackedIdeal.Facts] : Prop :=
  ∀ (m : (ℓ : Loc Cert.UnpackedIdeal.nD Cert.UnpackedIdeal.τ Cert.UnpackedIdeal.sig) → Buf (Elt Ideal) ℓ) (g : Dev Cert.UnpackedIdeal.nD → PrngReg), Pre_UnpackedIdeal m →
    θ_run (Cert.UnpackedIdeal.defs (F := Ideal)) (onTc (τ := Cert.UnpackedIdeal.τ) (Cert.UnpackedIdeal.main (F := Ideal))) ⟨m, fun _ => 0, g⟩ (fun r => (∀ c : Dev Cert.UnpackedIdeal.nD,
      r.2.mem ((c.tc : Thread Cert.UnpackedIdeal.nD Cert.UnpackedIdeal.τ).loc Cert.UnpackedIdeal.main_arg0) = m ((c.tc : Thread Cert.UnpackedIdeal.nD Cert.UnpackedIdeal.τ).loc Cert.UnpackedIdeal.main_arg0))
      ∧ r.2.sem = fun _ => 0)

def preserves_Kernel_KernelIdeal : Prop :=
  True

def algebraic_KernelIdeal_ReferenceIdeal_on_tiles_used [hKernelIdeal : Cert.KernelIdeal.Facts] [hReferenceIdeal : Cert.ReferenceIdeal.Facts] [hPre_in_range : Cert.Pre_in_range.Facts] [hOn_tiles_used : Cert.On_tiles_used.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![41984, 1536]⟩ : Shape).Idx, (Cert.On_tiles_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v6) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![41984, 1536]⟩ : Shape).Idx, (Cert.On_tiles_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v69) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Decode_DecodeIdeal : Prop :=
  IdealRules.bf16_pair.PackStatement Cert.DecodeIdeal.S1280x256
  ∧ IdealRules.bf16_pair.Statement Cert.DecodeIdeal.S2560x256 Cert.DecodeIdeal.S1280x256

def algebraic_DecodeIdeal_DecodedIdeal_pre_scales_finite [hDecodeIdeal : Cert.DecodeIdeal.Facts] [hDecodedIdeal : Cert.DecodedIdeal.Facts] [hPre_scales_finite : Cert.Pre_scales_finite.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodedIdeal.nD Cert.DecodedIdeal.τ Cert.DecodedIdeal.sig) → Buf (Elt Ideal) ℓ) (g' : Dev Cert.DecodedIdeal.nD → PrngReg), Pre_DecodeIdeal_scales_finite m →
    (∀ c : Dev Cert.DecodeIdeal.nD,
      m' ((c.tc : Thread Cert.DecodedIdeal.nD Cert.DecodedIdeal.τ).loc Cert.DecodedIdeal.main_arg0) = m ((c.tc : Thread Cert.DecodeIdeal.nD Cert.DecodeIdeal.τ).loc Cert.DecodeIdeal.main_arg0)
      ∧ m' ((c.tc : Thread Cert.DecodedIdeal.nD Cert.DecodedIdeal.τ).loc Cert.DecodedIdeal.main_arg1) = m ((c.tc : Thread Cert.DecodeIdeal.nD Cert.DecodeIdeal.τ).loc Cert.DecodeIdeal.main_arg1)) →
    ∃ (v0 : (c : Dev Cert.DecodeIdeal.nD) → Buf (Elt Ideal) ((c.tc : Thread Cert.DecodeIdeal.nD Cert.DecodeIdeal.τ).loc Cert.DecodeIdeal.main_v7)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v7) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ θ_run (Cert.DecodedIdeal.defs (F := Ideal)) (onTc (τ := Cert.DecodedIdeal.τ) (Cert.DecodedIdeal.main (F := Ideal))) ⟨m', fun _ => 0, g'⟩ (fun r => ∀ c : Dev Cert.DecodedIdeal.nD,
          r.2.mem ((c.tc : Thread Cert.DecodedIdeal.nD Cert.DecodedIdeal.τ).loc Cert.DecodedIdeal.main_v71) = v0 c
          ∧ r.2.mem ((c.tc : Thread Cert.DecodedIdeal.nD Cert.DecodedIdeal.τ).loc Cert.DecodedIdeal.main_arg0) = m' ((c.tc : Thread Cert.DecodedIdeal.nD Cert.DecodedIdeal.τ).loc Cert.DecodedIdeal.main_arg0)
          ∧ r.2.mem ((c.tc : Thread Cert.DecodedIdeal.nD Cert.DecodedIdeal.τ).loc Cert.DecodedIdeal.main_arg1) = m' ((c.tc : Thread Cert.DecodedIdeal.nD Cert.DecodedIdeal.τ).loc Cert.DecodedIdeal.main_arg1))

def preserves_DecodeDown_DecodeDownIdeal : Prop :=
  IdealRules.bf16_pair.PackStatement Cert.DecodeDownIdeal.S384x1024
  ∧ IdealRules.bf16_pair.Statement Cert.DecodeDownIdeal.S768x1024 Cert.DecodeDownIdeal.S384x1024

def algebraic_DecodeDownIdeal_DecodedDownIdeal_pre_down_scales_finite [hDecodeDownIdeal : Cert.DecodeDownIdeal.Facts] [hDecodedDownIdeal : Cert.DecodedDownIdeal.Facts] [hPre_down_scales_finite : Cert.Pre_down_scales_finite.Facts] : Prop :=
  ∀ (m : (ℓ : Loc Cert.DecodeDownIdeal.nD Cert.DecodeDownIdeal.τ Cert.DecodeDownIdeal.sig) → Buf (Elt Ideal) ℓ) (g : Dev Cert.DecodeDownIdeal.nD → PrngReg)
    (m' : (ℓ : Loc Cert.DecodedDownIdeal.nD Cert.DecodedDownIdeal.τ Cert.DecodedDownIdeal.sig) → Buf (Elt Ideal) ℓ) (g' : Dev Cert.DecodedDownIdeal.nD → PrngReg), Pre_DecodeDownIdeal_down_scales_finite m →
    (∀ c : Dev Cert.DecodeDownIdeal.nD,
      m' ((c.tc : Thread Cert.DecodedDownIdeal.nD Cert.DecodedDownIdeal.τ).loc Cert.DecodedDownIdeal.main_arg0) = m ((c.tc : Thread Cert.DecodeDownIdeal.nD Cert.DecodeDownIdeal.τ).loc Cert.DecodeDownIdeal.main_arg0)
      ∧ m' ((c.tc : Thread Cert.DecodedDownIdeal.nD Cert.DecodedDownIdeal.τ).loc Cert.DecodedDownIdeal.main_arg1) = m ((c.tc : Thread Cert.DecodeDownIdeal.nD Cert.DecodeDownIdeal.τ).loc Cert.DecodeDownIdeal.main_arg1)) →
    ∃ (v0 : (c : Dev Cert.DecodeDownIdeal.nD) → Buf (Elt Ideal) ((c.tc : Thread Cert.DecodeDownIdeal.nD Cert.DecodeDownIdeal.τ).loc Cert.DecodeDownIdeal.main_v7)),
      θ_run (Cert.DecodeDownIdeal.defs (F := Ideal)) (onTc (τ := Cert.DecodeDownIdeal.τ) (Cert.DecodeDownIdeal.main (F := Ideal))) ⟨m, fun _ => 0, g⟩ (fun r => ∀ c : Dev Cert.DecodeDownIdeal.nD,
          r.2.mem ((c.tc : Thread Cert.DecodeDownIdeal.nD Cert.DecodeDownIdeal.τ).loc Cert.DecodeDownIdeal.main_v7) = v0 c
          ∧ r.2.mem ((c.tc : Thread Cert.DecodeDownIdeal.nD Cert.DecodeDownIdeal.τ).loc Cert.DecodeDownIdeal.main_arg0) = m ((c.tc : Thread Cert.DecodeDownIdeal.nD Cert.DecodeDownIdeal.τ).loc Cert.DecodeDownIdeal.main_arg0)
          ∧ r.2.mem ((c.tc : Thread Cert.DecodeDownIdeal.nD Cert.DecodeDownIdeal.τ).loc Cert.DecodeDownIdeal.main_arg1) = m ((c.tc : Thread Cert.DecodeDownIdeal.nD Cert.DecodeDownIdeal.τ).loc Cert.DecodeDownIdeal.main_arg1))
      ∧ θ_run (Cert.DecodedDownIdeal.defs (F := Ideal)) (onTc (τ := Cert.DecodedDownIdeal.τ) (Cert.DecodedDownIdeal.main (F := Ideal))) ⟨m', fun _ => 0, g'⟩ (fun r => ∀ c : Dev Cert.DecodedDownIdeal.nD,
          r.2.mem ((c.tc : Thread Cert.DecodedDownIdeal.nD Cert.DecodedDownIdeal.τ).loc Cert.DecodedDownIdeal.main_v71) = v0 c
          ∧ r.2.mem ((c.tc : Thread Cert.DecodedDownIdeal.nD Cert.DecodedDownIdeal.τ).loc Cert.DecodedDownIdeal.main_arg0) = m' ((c.tc : Thread Cert.DecodedDownIdeal.nD Cert.DecodedDownIdeal.τ).loc Cert.DecodedDownIdeal.main_arg0)
          ∧ r.2.mem ((c.tc : Thread Cert.DecodedDownIdeal.nD Cert.DecodedDownIdeal.τ).loc Cert.DecodedDownIdeal.main_arg1) = m' ((c.tc : Thread Cert.DecodedDownIdeal.nD Cert.DecodedDownIdeal.τ).loc Cert.DecodedDownIdeal.main_arg1))

def preserves_Unpack_UnpackIdeal : Prop :=
  True

def algebraic_UnpackIdeal_UnpackedIdeal [hUnpackIdeal : Cert.UnpackIdeal.Facts] [hUnpackedIdeal : Cert.UnpackedIdeal.Facts] : Prop :=
  ∀ (m : (ℓ : Loc Cert.UnpackIdeal.nD Cert.UnpackIdeal.τ Cert.UnpackIdeal.sig) → Buf (Elt Ideal) ℓ) (g : Dev Cert.UnpackIdeal.nD → PrngReg)
    (m' : (ℓ : Loc Cert.UnpackedIdeal.nD Cert.UnpackedIdeal.τ Cert.UnpackedIdeal.sig) → Buf (Elt Ideal) ℓ) (g' : Dev Cert.UnpackedIdeal.nD → PrngReg), Pre_UnpackIdeal m →
    (∀ c : Dev Cert.UnpackIdeal.nD,
      m' ((c.tc : Thread Cert.UnpackedIdeal.nD Cert.UnpackedIdeal.τ).loc Cert.UnpackedIdeal.main_arg0) = m ((c.tc : Thread Cert.UnpackIdeal.nD Cert.UnpackIdeal.τ).loc Cert.UnpackIdeal.main_arg0)) →
    ∃ (v0 : (c : Dev Cert.UnpackIdeal.nD) → Buf (Elt Ideal) ((c.tc : Thread Cert.UnpackIdeal.nD Cert.UnpackIdeal.τ).loc Cert.UnpackIdeal.main_v0)),
      θ_run (Cert.UnpackIdeal.defs (F := Ideal)) (onTc (τ := Cert.UnpackIdeal.τ) (Cert.UnpackIdeal.main (F := Ideal))) ⟨m, fun _ => 0, g⟩ (fun r => ∀ c : Dev Cert.UnpackIdeal.nD,
          r.2.mem ((c.tc : Thread Cert.UnpackIdeal.nD Cert.UnpackIdeal.τ).loc Cert.UnpackIdeal.main_v0) = v0 c
          ∧ r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0))
      ∧ θ_run (Cert.UnpackedIdeal.defs (F := Ideal)) (onTc (τ := Cert.UnpackedIdeal.τ) (Cert.UnpackedIdeal.main (F := Ideal))) ⟨m', fun _ => 0, g'⟩ (fun r => ∀ c : Dev Cert.UnpackedIdeal.nD,
          r.2.mem ((c.tc : Thread Cert.UnpackedIdeal.nD Cert.UnpackedIdeal.τ).loc Cert.UnpackedIdeal.main_v8) = v0 c
          ∧ r.2.mem ((c.tc : Thread Cert.UnpackedIdeal.nD Cert.UnpackedIdeal.τ).loc Cert.UnpackedIdeal.main_arg0) = m' ((c.tc : Thread Cert.UnpackedIdeal.nD Cert.UnpackedIdeal.τ).loc Cert.UnpackedIdeal.main_arg0))

def Claim : Prop :=
  ∃ (hKernel : Cert.Kernel.Facts) (hKernelIdeal : Cert.KernelIdeal.Facts) (hReferenceIdeal : Cert.ReferenceIdeal.Facts) (hDecode : Cert.Decode.Facts) (hDecodeIdeal : Cert.DecodeIdeal.Facts) (hDecodedIdeal : Cert.DecodedIdeal.Facts) (hDecodeDown : Cert.DecodeDown.Facts) (hDecodeDownIdeal : Cert.DecodeDownIdeal.Facts) (hDecodedDownIdeal : Cert.DecodedDownIdeal.Facts) (hUnpack : Cert.Unpack.Facts) (hUnpackIdeal : Cert.UnpackIdeal.Facts) (hUnpackedIdeal : Cert.UnpackedIdeal.Facts) (hPre_in_range : Cert.Pre_in_range.Facts) (hPre_scales_finite : Cert.Pre_scales_finite.Facts) (hPre_down_scales_finite : Cert.Pre_down_scales_finite.Facts) (hOn_tiles_used : Cert.On_tiles_used.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Decode (hDecode := hDecode)
    ∧ quiescent_DecodeIdeal (hDecodeIdeal := hDecodeIdeal)
    ∧ quiescent_DecodeIdeal_pre_scales_finite (hDecodeIdeal := hDecodeIdeal) (hPre_scales_finite := hPre_scales_finite)
    ∧ quiescent_DecodedIdeal (hDecodedIdeal := hDecodedIdeal)
    ∧ quiescent_DecodedIdeal_pre_scales_finite (hDecodedIdeal := hDecodedIdeal) (hPre_scales_finite := hPre_scales_finite)
    ∧ quiescent_DecodeDown (hDecodeDown := hDecodeDown)
    ∧ quiescent_DecodeDownIdeal (hDecodeDownIdeal := hDecodeDownIdeal)
    ∧ quiescent_DecodeDownIdeal_pre_down_scales_finite (hDecodeDownIdeal := hDecodeDownIdeal) (hPre_down_scales_finite := hPre_down_scales_finite)
    ∧ quiescent_DecodedDownIdeal (hDecodedDownIdeal := hDecodedDownIdeal)
    ∧ quiescent_DecodedDownIdeal_pre_down_scales_finite (hDecodedDownIdeal := hDecodedDownIdeal) (hPre_down_scales_finite := hPre_down_scales_finite)
    ∧ quiescent_Unpack (hUnpack := hUnpack)
    ∧ quiescent_UnpackIdeal (hUnpackIdeal := hUnpackIdeal)
    ∧ quiescent_UnpackedIdeal (hUnpackedIdeal := hUnpackedIdeal)
    ∧ preserves_Kernel_KernelIdeal
    ∧ algebraic_KernelIdeal_ReferenceIdeal_on_tiles_used (hKernelIdeal := hKernelIdeal) (hReferenceIdeal := hReferenceIdeal) (hPre_in_range := hPre_in_range) (hOn_tiles_used := hOn_tiles_used)
    ∧ preserves_Decode_DecodeIdeal
    ∧ algebraic_DecodeIdeal_DecodedIdeal_pre_scales_finite (hDecodeIdeal := hDecodeIdeal) (hDecodedIdeal := hDecodedIdeal) (hPre_scales_finite := hPre_scales_finite)
    ∧ preserves_DecodeDown_DecodeDownIdeal
    ∧ algebraic_DecodeDownIdeal_DecodedDownIdeal_pre_down_scales_finite (hDecodeDownIdeal := hDecodeDownIdeal) (hDecodedDownIdeal := hDecodedDownIdeal) (hPre_down_scales_finite := hPre_down_scales_finite)
    ∧ preserves_Unpack_UnpackIdeal
    ∧ algebraic_UnpackIdeal_UnpackedIdeal (hUnpackIdeal := hUnpackIdeal) (hUnpackedIdeal := hUnpackedIdeal)
-- ==== On_tiles_used.lean ====
abbrev S1 : Shape := ⟨1, ![1]⟩
abbrev S41984 : Shape := ⟨1, ![41984]⟩
abbrev S164 : Shape := ⟨1, ![164]⟩
abbrev S16384x5120 : Shape := ⟨2, ![16384, 5120]⟩
abbrev S8x5120x1536 : Shape := ⟨3, ![8, 5120, 1536]⟩
abbrev S8x1536 : Shape := ⟨2, ![8, 1536]⟩
abbrev S41984x1536 : Shape := ⟨2, ![41984, 1536]⟩
abbrev S_ : Shape := ⟨0, ![]⟩

class Facts : Prop where
  bcast_S_S1 : S_.BroadcastsInDim S1 (![] : Fin 0 → Fin S1.rank)
  bcast_S1_S41984x1536_0 : S1.BroadcastsInDim S41984x1536 (![0] : Fin 1 → Fin S41984x1536.rank)

variable [Facts]

def fn {F : FTy → Type} [FloatOps F] (main_arg0 : IVec S1 32) (main_arg1 : IVec S41984 32) (main_arg2 : IVec S164 32) (main_arg3 : IVec S164 32) (main_arg4 : IVec S16384x5120 32) (main_arg5 : FVec F S8x5120x1536 .bf16) (main_arg6 : FVec F S8x1536 .bf16) : IVec S41984x1536 1 :=
  let main_v0 : IVec S41984x1536 32 := iotaInDim S41984x1536 32 0
  let main_c : IVec S_ 32 := constantI S_ 32 256#32
  let main_v1 : IVec S1 32 := broadcastInDim S1 ![] bcast_S_S1 main_c
  let main_v2 : IVec S1 32 := muli main_arg0 main_v1
  let main_v3 : IVec S41984x1536 32 := broadcastInDim S41984x1536 ![0] bcast_S1_S41984x1536_0 main_v2
  let main_v4 : IVec S41984x1536 1 := cmpi .slt main_v0 main_v3
  main_v4
-- ==== Pre_down_scales_finite.lean ====
abbrev S8x5120x384 : Shape := ⟨3, ![8, 5120, 384]⟩
abbrev S8x5120x24 : Shape := ⟨3, ![8, 5120, 24]⟩
abbrev S_ : Shape := ⟨0, ![]⟩

class Facts : Prop where
  natLt_8_32 : 8 < 32
  bcast_S_S8x5120x24 : S_.BroadcastsInDim S8x5120x24 (![] : Fin 0 → Fin S8x5120x24.rank)
  reducesTo_S8x5120x24_S_d0_1_2 : S8x5120x24.ReducesTo [0, 1, 2] S_
  h_S_ : 0 < S_.numel

variable [Facts]

def fn {F : FTy → Type} [FloatOps F] (main_arg0 : IVec S8x5120x384 8) (main_arg1 : IVec S8x5120x24 8) : IVec S_ 1 :=
  let main_v0 : IVec S8x5120x24 32 := (extui 32 · natLt_8_32) main_arg1
  let main_c : IVec S_ 32 := constantI S_ 32 1#32
  let main_v1 : IVec S8x5120x24 32 := broadcastInDim S8x5120x24 ![] bcast_S_S8x5120x24 main_c
  let main_v2 : IVec S8x5120x24 1 := cmpi .sge main_v0 main_v1
  let main_c_0 : IVec S_ 32 := constantI S_ 32 254#32
  let main_v3 : IVec S8x5120x24 32 := broadcastInDim S8x5120x24 ![] bcast_S_S8x5120x24 main_c_0
  let main_v4 : IVec S8x5120x24 1 := cmpi .sle main_v0 main_v3
  let main_v5 : IVec S8x5120x24 1 := andi main_v2 main_v4
  let main_c_1 : IVec S_ 1 := constantI S_ 1 1#1
  let main_v6 : IVec S_ 1 := (fun x v => Host.reduce IntOp.andi x v reducesTo_S8x5120x24_S_d0_1_2 h_S_) main_v5 main_c_1
  main_v6
-- ==== Pre_in_range.lean ====
abbrev S1 : Shape := ⟨1, ![1]⟩
abbrev S41984 : Shape := ⟨1, ![41984]⟩
abbrev S164 : Shape := ⟨1, ![164]⟩
abbrev S16384x5120 : Shape := ⟨2, ![16384, 5120]⟩
abbrev S8x5120x1536 : Shape := ⟨3, ![8, 5120, 1536]⟩
abbrev S8x1536 : Shape := ⟨2, ![8, 1536]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S1_S41984_0 : S1.BroadcastsInDim S41984 (![0] : Fin 1 → Fin S41984.rank)
  bcast_S_S41984 : S_.BroadcastsInDim S41984 (![] : Fin 0 → Fin S41984.rank)
  reducesTo_S41984_S_d0 : S41984.ReducesTo [0] S_
  bcast_S1_S164_0 : S1.BroadcastsInDim S164 (![0] : Fin 1 → Fin S164.rank)
  bcast_S_S164 : S_.BroadcastsInDim S164 (![] : Fin 0 → Fin S164.rank)
  reducesTo_S164_S_d0 : S164.ReducesTo [0] S_

variable [Facts]

def fn_part2 {F : FTy → Type} [FloatOps F] (main_v29 : IVec S_ 1) (main_v31 : IVec S164 1) (main_v33 : IVec S164 1) (main_v35 : IVec S164 1) : IVec S_ 1 :=
  let main_v36 : IVec S164 1 := andi main_v33 main_v35
  let main_v37 : IVec S164 1 := ori main_v31 main_v36
  let main_c_11 : IVec S_ 1 := constantI S_ 1 1#1
  let main_v38 : IVec S_ 1 := (fun x v => Host.reduce IntOp.andi x v reducesTo_S164_S_d0 h_S_) main_v37 main_c_11
  let main_v39 : IVec S_ 1 := andi main_v29 main_v38
  main_v39

def fn_part1 {F : FTy → Type} [FloatOps F] (main_arg0 : IVec S1 32) (main_arg2 : IVec S164 32) (main_arg3 : IVec S164 32) (main_v1 : IVec S164 32) (main_v7 : IVec S_ 1) (main_v17 : IVec S41984 1) : IVec S_ 1 :=
  let main_c_5 : IVec S_ 1 := constantI S_ 1 1#1
  let main_v18 : IVec S_ 1 := (fun x v => Host.reduce IntOp.andi x v reducesTo_S41984_S_d0 h_S_) main_v17 main_c_5
  let main_v19 : IVec S_ 1 := andi main_v7 main_v18
  let main_v20 : IVec S164 32 := broadcastInDim S164 ![0] bcast_S1_S164_0 main_arg0
  let main_v21 : IVec S164 1 := cmpi .sge main_v1 main_v20
  let main_c_6 : IVec S_ 32 := constantI S_ 32 0#32
  let main_v22 : IVec S164 32 := broadcastInDim S164 ![] bcast_S_S164 main_c_6
  let main_v23 : IVec S164 1 := cmpi .sge main_arg2 main_v22
  let main_c_7 : IVec S_ 32 := constantI S_ 32 8#32
  let main_v24 : IVec S164 32 := broadcastInDim S164 ![] bcast_S_S164 main_c_7
  let main_v25 : IVec S164 1 := cmpi .slt main_arg2 main_v24
  let main_v26 : IVec S164 1 := andi main_v23 main_v25
  let main_v27 : IVec S164 1 := ori main_v21 main_v26
  let main_c_8 : IVec S_ 1 := constantI S_ 1 1#1
  let main_v28 : IVec S_ 1 := (fun x v => Host.reduce IntOp.andi x v reducesTo_S164_S_d0 h_S_) main_v27 main_c_8
  let main_v29 : IVec S_ 1 := andi main_v19 main_v28
  let main_v30 : IVec S164 32 := broadcastInDim S164 ![0] bcast_S1_S164_0 main_arg0
  let main_v31 : IVec S164 1 := cmpi .sge main_v1 main_v30
  let main_c_9 : IVec S_ 32 := constantI S_ 32 0#32
  let main_v32 : IVec S164 32 := broadcastInDim S164 ![] bcast_S_S164 main_c_9
  let main_v33 : IVec S164 1 := cmpi .sge main_arg3 main_v32
  let main_c_10 : IVec S_ 32 := constantI S_ 32 8#32
  let main_v34 : IVec S164 32 := broadcastInDim S164 ![] bcast_S_S164 main_c_10
  let main_v35 : IVec S164 1 := cmpi .slt main_arg3 main_v34
  fn_part2 (F := F) main_v29 main_v31 main_v33 main_v35

def fn {F : FTy → Type} [FloatOps F] (main_arg0 : IVec S1 32) (main_arg1 : IVec S41984 32) (main_arg2 : IVec S164 32) (main_arg3 : IVec S164 32) (main_arg4 : IVec S16384x5120 32) (main_arg5 : FVec F S8x5120x1536 .bf16) (main_arg6 : FVec F S8x1536 .bf16) : IVec S_ 1 :=
  let main_v0 : IVec S41984 32 := iotaInDim S41984 32 0
  let main_v1 : IVec S164 32 := iotaInDim S164 32 0
  let main_c : IVec S_ 32 := constantI S_ 32 1#32
  let main_v2 : IVec S1 32 := broadcastInDim S1 ![] bcast_S_S1 main_c
  let main_v3 : IVec S1 1 := cmpi .sge main_arg0 main_v2
  let main_c_0 : IVec S_ 32 := constantI S_ 32 164#32
  let main_v4 : IVec S1 32 := broadcastInDim S1 ![] bcast_S_S1 main_c_0
  let main_v5 : IVec S1 1 := cmpi .sle main_arg0 main_v4
  let main_v6 : IVec S1 1 := andi main_v3 main_v5
  let main_c_1 : IVec S_ 1 := constantI S_ 1 1#1
  let main_v7 : IVec S_ 1 := (fun x v => Host.reduce IntOp.andi x v reducesTo_S1_S_d0 h_S_) main_v6 main_c_1
  let main_c_2 : IVec S_ 32 := constantI S_ 32 256#32
  let main_v8 : IVec S1 32 := broadcastInDim S1 ![] bcast_S_S1 main_c_2
  let main_v9 : IVec S1 32 := muli main_arg0 main_v8
  let main_v10 : IVec S41984 32 := broadcastInDim S41984 ![0] bcast_S1_S41984_0 main_v9
  let main_v11 : IVec S41984 1 := cmpi .sge main_v0 main_v10
  let main_c_3 : IVec S_ 32 := constantI S_ 32 0#32
  let main_v12 : IVec S41984 32 := broadcastInDim S41984 ![] bcast_S_S41984 main_c_3
  let main_v13 : IVec S41984 1 := cmpi .sge main_arg1 main_v12
  let main_c_4 : IVec S_ 32 := constantI S_ 32 32768#32
  let main_v14 : IVec S41984 32 := broadcastInDim S41984 ![] bcast_S_S41984 main_c_4
  let main_v15 : IVec S41984 1 := cmpi .slt main_arg1 main_v14
  let main_v16 : IVec S41984 1 := andi main_v13 main_v15
  let main_v17 : IVec S41984 1 := ori main_v11 main_v16
  fn_part1 (F := F) main_arg0 main_arg2 main_arg3 main_v1 main_v7 main_v17
-- ==== Pre_scales_finite.lean ====
abbrev S8x1536x2560 : Shape := ⟨3, ![8, 1536, 2560]⟩
abbrev S8x1536x160 : Shape := ⟨3, ![8, 1536, 160]⟩
abbrev S_ : Shape := ⟨0, ![]⟩

class Facts : Prop where
  natLt_8_32 : 8 < 32
  bcast_S_S8x1536x160 : S_.BroadcastsInDim S8x1536x160 (![] : Fin 0 → Fin S8x1536x160.rank)
  reducesTo_S8x1536x160_S_d0_1_2 : S8x1536x160.ReducesTo [0, 1, 2] S_
  h_S_ : 0 < S_.numel

variable [Facts]

def fn {F : FTy → Type} [FloatOps F] (main_arg0 : IVec S8x1536x2560 8) (main_arg1 : IVec S8x1536x160 8) : IVec S_ 1 :=
  let main_v0 : IVec S8x1536x160 32 := (extui 32 · natLt_8_32) main_arg1
  let main_c : IVec S_ 32 := constantI S_ 32 1#32
  let main_v1 : IVec S8x1536x160 32 := broadcastInDim S8x1536x160 ![] bcast_S_S8x1536x160 main_c
  let main_v2 : IVec S8x1536x160 1 := cmpi .sge main_v0 main_v1
  let main_c_0 : IVec S_ 32 := constantI S_ 32 254#32
  let main_v3 : IVec S8x1536x160 32 := broadcastInDim S8x1536x160 ![] bcast_S_S8x1536x160 main_c_0
  let main_v4 : IVec S8x1536x160 1 := cmpi .sle main_v0 main_v3
  let main_v5 : IVec S8x1536x160 1 := andi main_v2 main_v4
  let main_c_1 : IVec S_ 1 := constantI S_ 1 1#1
  let main_v6 : IVec S_ 1 := (fun x v => Host.reduce IntOp.andi x v reducesTo_S8x1536x160_S_d0_1_2 h_S_) main_v5 main_c_1
  main_v6
-- ==== Kernel.lean ====
abbrev S1 : Shape := ⟨1, ![1]⟩
abbrev S41984 : Shape := ⟨1, ![41984]⟩
abbrev S164 : Shape := ⟨1, ![164]⟩
abbrev S16384x5120 : Shape := ⟨2, ![16384, 5120]⟩
abbrev S8x5120x1536 : Shape := ⟨3, ![8, 5120, 1536]⟩
abbrev S8x1536 : Shape := ⟨2, ![8, 1536]⟩
abbrev S_ : Shape := ⟨0, ![]⟩
abbrev S164x16x8x2 : Shape := ⟨4, ![164, 16, 8, 2]⟩
abbrev S164x16x2x8 : Shape := ⟨4, ![164, 16, 2, 8]⟩
abbrev S164x1x256 : Shape := ⟨3, ![164, 1, 256]⟩
abbrev S8x1x1536 : Shape := ⟨3, ![8, 1, 1536]⟩
abbrev S41984x1536 : Shape := ⟨2, ![41984, 1536]⟩
abbrev S2x5120x1536 : Shape := ⟨3, ![2, 5120, 1536]⟩
abbrev S2x256x5120 : Shape := ⟨3, ![2, 256, 5120]⟩
abbrev S256x5120 : Shape := ⟨2, ![256, 5120]⟩
abbrev S2x256x1536 : Shape := ⟨3, ![2, 256, 1536]⟩
abbrev S2x1x256 : Shape := ⟨3, ![2, 1, 256]⟩
abbrev S2 : Shape := ⟨1, ![2]⟩
abbrev S1x5120x1536 : Shape := ⟨3, ![1, 5120, 1536]⟩
abbrev S5120x1536 : Shape := ⟨2, ![5120, 1536]⟩
abbrev S1x1x5120 : Shape := ⟨3, ![1, 1, 5120]⟩
abbrev S1x5120 : Shape := ⟨2, ![1, 5120]⟩
abbrev S1x1x256 : Shape := ⟨3, ![1, 1, 256]⟩
abbrev S1x256 : Shape := ⟨2, ![1, 256]⟩
abbrev S128x256 : Shape := ⟨2, ![128, 256]⟩
abbrev S256x128 : Shape := ⟨2, ![256, 128]⟩
abbrev S1x256x128 : Shape := ⟨3, ![1, 256, 128]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S128x128 : Shape := ⟨2, ![128, 128]⟩
abbrev S256x1536 : Shape := ⟨2, ![256, 1536]⟩
abbrev S1x256x1536 : Shape := ⟨3, ![1, 256, 1536]⟩
abbrev S1x1x1536 : Shape := ⟨3, ![1, 1, 1536]⟩
abbrev S1x1536 : Shape := ⟨2, ![1, 1536]⟩
abbrev S256x768 : Shape := ⟨2, ![256, 768]⟩
abbrev S1x256x768 : Shape := ⟨3, ![1, 256, 768]⟩

abbrev nBuf : Space → Nat
  | .hbm => 15
  | .vmem => 6
  | .smem => 4
  | _ => 0

abbrev bufTy : (tb : Table) → Fin (tcTables nBuf tb) → BufTy
  | .hbm, ⟨0, _⟩ => ⟨S1, .i32⟩
  | .hbm, ⟨1, _⟩ => ⟨S41984, .i32⟩
  | .hbm, ⟨2, _⟩ => ⟨S164, .i32⟩
  | .hbm, ⟨3, _⟩ => ⟨S164, .i32⟩
  | .hbm, ⟨4, _⟩ => ⟨S16384x5120, .i32⟩
  | .hbm, ⟨5, _⟩ => ⟨S8x5120x1536, .bf16⟩
  | .hbm, ⟨6, _⟩ => ⟨S8x1536, .bf16⟩
  | .hbm, ⟨7, _⟩ => ⟨S_, .i32⟩
  | .hbm, ⟨8, _⟩ => ⟨S41984, .i32⟩
  | .hbm, ⟨9, _⟩ => ⟨S41984, .i32⟩
  | .hbm, ⟨10, _⟩ => ⟨S164x16x8x2, .i32⟩
  | .hbm, ⟨11, _⟩ => ⟨S164x16x2x8, .i32⟩
  | .hbm, ⟨12, _⟩ => ⟨S164x1x256, .i32⟩
  | .hbm, ⟨13, _⟩ => ⟨S8x1x1536, .bf16⟩
  | .hbm, ⟨14, _⟩ => ⟨S41984x1536, .bf16⟩
  | .local _ .vmem, ⟨0, _⟩ => ⟨S8x1x1536, .bf16⟩
  | .local _ .vmem, ⟨1, _⟩ => ⟨S2x5120x1536, .bf16⟩
  | .local _ .vmem, ⟨2, _⟩ => ⟨S2x256x5120, .i32⟩
  | .local _ .vmem, ⟨3, _⟩ => ⟨S256x5120, .bf16⟩
  | .local _ .vmem, ⟨4, _⟩ => ⟨S2x256x1536, .bf16⟩
  | .local _ .vmem, ⟨5, _⟩ => ⟨S2x1x256, .i32⟩
  | .local _ .smem, ⟨0, _⟩ => ⟨S1, .i32⟩
  | .local _ .smem, ⟨1, _⟩ => ⟨S41984, .i32⟩
  | .local _ .smem, ⟨2, _⟩ => ⟨S164, .i32⟩
  | .local _ .smem, ⟨3, _⟩ => ⟨S164, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg4_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (v1 : BitVec 32) : Fin 3 → Nat :=
  let c0_i32_4 : BitVec 32 := 0#32
  let c0_i32_5 : BitVec 32 := 0#32
  ![v1.toNat, 0, 0]

def k0_chk1 (v1 : BitVec 32) : Prop :=
  (∀ a, (k0_off1 v1) a + S1x5120x1536.size a ≤ S8x5120x1536.size a) ∧
  (∀ (hinb : ∀ a, (k0_off1 v1) a + S1x5120x1536.size a ≤ S8x5120x1536.size a), (Rect.unit (s := S8x5120x1536) (k0_off1 v1) S1x5120x1536.size hinb).WholeWords (EltTy.packing .bf16))
theorem k0_off1_inb : ∀ (v1 : BitVec 32) (k0_hw1 : k0_chk1 v1), ∀ a, (k0_off1 v1) a + S1x5120x1536.size a ≤ S8x5120x1536.size a := fun v1 k0_hw1 => k0_hw1.1
theorem k0_off1_wordsbf16 : ∀ (v1 : BitVec 32) (k0_hw1 : k0_chk1 v1), (Rect.unit (s := S8x5120x1536) (k0_off1 v1) S1x5120x1536.size (k0_off1_inb v1 k0_hw1)).WholeWords (EltTy.packing .bf16) := fun v1 k0_hw1 => k0_hw1.2 (k0_off1_inb v1 k0_hw1)

def k0_off2 (v8 : BitVec 32) : Fin 3 → Nat :=
  let c0_i32_10 : BitVec 32 := 0#32
  let c0_i32_11 : BitVec 32 := 0#32
  ![v8.toNat, 0, 0]

def k0_chk2 (v8 : BitVec 32) : Prop :=
  (∀ a, (k0_off2 v8) a + S1x5120x1536.size a ≤ S8x5120x1536.size a) ∧
  (∀ (hinb : ∀ a, (k0_off2 v8) a + S1x5120x1536.size a ≤ S8x5120x1536.size a), (Rect.unit (s := S8x5120x1536) (k0_off2 v8) S1x5120x1536.size hinb).WholeWords (EltTy.packing .bf16))
theorem k0_off2_inb : ∀ (v8 : BitVec 32) (k0_hw2 : k0_chk2 v8), ∀ a, (k0_off2 v8) a + S1x5120x1536.size a ≤ S8x5120x1536.size a := fun v8 k0_hw2 => k0_hw2.1
theorem k0_off2_wordsbf16 : ∀ (v8 : BitVec 32) (k0_hw2 : k0_chk2 v8), (Rect.unit (s := S8x5120x1536) (k0_off2 v8) S1x5120x1536.size (k0_off2_inb v8 k0_hw2)).WholeWords (EltTy.packing .bf16) := fun v8 k0_hw2 => k0_hw2.2 (k0_off2_inb v8 k0_hw2)

@[reducible] def k0_t1_loop : Scf.Loop 32 :=
  let c0_i32_12 : BitVec 32 := 0#32
  let c16_i32 : BitVec 32 := 16#32
  let v15 : BitVec 32 := Scalar.addi c0_i32_12 c16_i32
  let c1_i32_13 : BitVec 32 := 1#32
  ⟨c0_i32_12, v15, c1_i32_13⟩
def k0_off3 (k0_t1 : Fin k0_t1_loop.trips) : Fin 1 → Nat :=
  let c0_i32_35 : BitVec 32 := 0#32
  let c0_i32_12 : BitVec 32 := 0#32
  let c1_i32_13 : BitVec 32 := 1#32
  let arg18 : BitVec 32 := Scf.iv c0_i32_12 c1_i32_13 k0_t1
  let c16_i32_34 : BitVec 32 := 16#32
  let v37 : BitVec 32 := Scalar.muli arg18 c16_i32_34
  let v38 : BitVec 32 := Scalar.addi c0_i32_35 v37
  let c0_i32_36 : BitVec 32 := 0#32
  let v39 : BitVec 32 := Scalar.addi v38 c0_i32_36
  let v40 : Index := Scalar.indexCast v39
  ![v40.toNat]
def k0_off4 (k0_t1 : Fin k0_t1_loop.trips) : Fin 3 → Nat :=
  let c0_i32_46 : BitVec 32 := 0#32
  let c0_i32_12 : BitVec 32 := 0#32
  let c1_i32_13 : BitVec 32 := 1#32
  let arg18 : BitVec 32 := Scf.iv c0_i32_12 c1_i32_13 k0_t1
  let c16_i32_37 : BitVec 32 := 16#32
  let v42 : BitVec 32 := Scalar.muli arg18 c16_i32_37
  let c0_i32_38 : BitVec 32 := 0#32
  let v43 : BitVec 32 := Scalar.addi v42 c0_i32_38
  let c0_i32_48 : BitVec 32 := 0#32
  ![0, v43.toNat, 0]
def k0_off5 (v41 : BitVec 32) : Fin 2 → Nat :=
  let c0_i32_40 : BitVec 32 := 0#32
  let v45 : BitVec 1 := Scalar.cmpi .sgt v41 c0_i32_40
  let v46 : BitVec 32 := Scalar.extui v45
  let c0_i32_41 : BitVec 32 := 0#32
  let v47 : BitVec 1 := Scalar.cmpi .slt v41 c0_i32_41
  let v48 : BitVec 32 := Scalar.extui v47
  let v49 : BitVec 32 := Scalar.subi v46 v48
  let c2_i32_39 : BitVec 32 := 2#32
  let c0_i32_42 : BitVec 32 := 0#32
  let v50 : BitVec 1 := Scalar.cmpi .sgt c2_i32_39 c0_i32_42
  let v51 : BitVec 32 := Scalar.extui v50
  let c0_i32_43 : BitVec 32 := 0#32
  let v52 : BitVec 1 := Scalar.cmpi .slt c2_i32_39 c0_i32_43
  let v53 : BitVec 32 := Scalar.extui v52
  let v54 : BitVec 32 := Scalar.subi v51 v53
  let v55 : BitVec 1 := Scalar.cmpi .ne v49 v54
  let v56 : BitVec 32 := Scalar.remsi v41 c2_i32_39
  let c0_i32_44 : BitVec 32 := 0#32
  let v57 : BitVec 1 := Scalar.cmpi .ne v56 c0_i32_44
  let v58 : BitVec 1 := Scalar.andi v55 v57
  let v44 : BitVec 32 := Scalar.divsi v41 c2_i32_39
  let c1_i32_45 : BitVec 32 := 1#32
  let v59 : BitVec 32 := Scalar.subi v44 c1_i32_45
  let v60 : BitVec 32 := Scalar.select v58 v59 v44
  let c0_i32_49 : BitVec 32 := 0#32
  ![v60.toNat, 0]

def k0_chk3 (v41 : BitVec 32) : Prop :=
  (∀ a, (k0_off5 v41) a + S1x5120.size a ≤ S16384x5120.size a)
theorem k0_off5_inb : ∀ (v41 : BitVec 32) (k0_hw3 : k0_chk3 v41), ∀ a, (k0_off5 v41) a + S1x5120.size a ≤ S16384x5120.size a := fun v41 k0_hw3 => k0_hw3

def k0_off6 (k0_t1 : Fin k0_t1_loop.trips) : Fin 1 → Nat :=
  let c0_i32_51 : BitVec 32 := 0#32
  let c0_i32_12 : BitVec 32 := 0#32
  let c1_i32_13 : BitVec 32 := 1#32
  let arg18 : BitVec 32 := Scf.iv c0_i32_12 c1_i32_13 k0_t1
  let c16_i32_50 : BitVec 32 := 16#32
  let v66 : BitVec 32 := Scalar.muli arg18 c16_i32_50
  let v67 : BitVec 32 := Scalar.addi c0_i32_51 v66
  let c1_i32_52 : BitVec 32 := 1#32
  let v68 : BitVec 32 := Scalar.addi v67 c1_i32_52
  let v69 : Index := Scalar.indexCast v68
  ![v69.toNat]
def k0_off7 (k0_t1 : Fin k0_t1_loop.trips) : Fin 3 → Nat :=
  let c0_i32_61 : BitVec 32 := 0#32
  let c0_i32_12 : BitVec 32 := 0#32
  let c1_i32_13 : BitVec 32 := 1#32
  let arg18 : BitVec 32 := Scf.iv c0_i32_12 c1_i32_13 k0_t1
  let c16_i32_53 : BitVec 32 := 16#32
  let v71 : BitVec 32 := Scalar.muli arg18 c16_i32_53
  let c8_i32 : BitVec 32 := 8#32
  let v72 : BitVec 32 := Scalar.addi v71 c8_i32
  let c0_i32_63 : BitVec 32 := 0#32
  ![0, v72.toNat, 0]
def k0_off8 (v70 : BitVec 32) : Fin 2 → Nat :=
  let c0_i32_55 : BitVec 32 := 0#32
  let v74 : BitVec 1 := Scalar.cmpi .sgt v70 c0_i32_55
  let v75 : BitVec 32 := Scalar.extui v74
  let c0_i32_56 : BitVec 32 := 0#32
  let v76 : BitVec 1 := Scalar.cmpi .slt v70 c0_i32_56
  let v77 : BitVec 32 := Scalar.extui v76
  let v78 : BitVec 32 := Scalar.subi v75 v77
  let c2_i32_54 : BitVec 32 := 2#32
  let c0_i32_57 : BitVec 32 := 0#32
  let v79 : BitVec 1 := Scalar.cmpi .sgt c2_i32_54 c0_i32_57
  let v80 : BitVec 32 := Scalar.extui v79
  let c0_i32_58 : BitVec 32 := 0#32
  let v81 : BitVec 1 := Scalar.cmpi .slt c2_i32_54 c0_i32_58
  let v82 : BitVec 32 := Scalar.extui v81
  let v83 : BitVec 32 := Scalar.subi v80 v82
  let v84 : BitVec 1 := Scalar.cmpi .ne v78 v83
  let v85 : BitVec 32 := Scalar.remsi v70 c2_i32_54
  let c0_i32_59 : BitVec 32 := 0#32
  let v86 : BitVec 1 := Scalar.cmpi .ne v85 c0_i32_59
  let v87 : BitVec 1 := Scalar.andi v84 v86
  let v73 : BitVec 32 := Scalar.divsi v70 c2_i32_54
  let c1_i32_60 : BitVec 32 := 1#32
  let v88 : BitVec 32 := Scalar.subi v73 c1_i32_60
  let v89 : BitVec 32 := Scalar.select v87 v88 v73
  let c0_i32_64 : BitVec 32 := 0#32
  ![v89.toNat, 0]

def k0_chk4 (v70 : BitVec 32) : Prop :=
  (∀ a, (k0_off8 v70) a + S1x5120.size a ≤ S16384x5120.size a)
theorem k0_off8_inb : ∀ (v70 : BitVec 32) (k0_hw4 : k0_chk4 v70), ∀ a, (k0_off8 v70) a + S1x5120.size a ≤ S16384x5120.size a := fun v70 k0_hw4 => k0_hw4

def k0_off9 (k0_t1 : Fin k0_t1_loop.trips) : Fin 1 → Nat :=
  let c0_i32_66 : BitVec 32 := 0#32
  let c0_i32_12 : BitVec 32 := 0#32
  let c1_i32_13 : BitVec 32 := 1#32
  let arg18 : BitVec 32 := Scf.iv c0_i32_12 c1_i32_13 k0_t1
  let c16_i32_65 : BitVec 32 := 16#32
  let v95 : BitVec 32 := Scalar.muli arg18 c16_i32_65
  let v96 : BitVec 32 := Scalar.addi c0_i32_66 v95
  let c2_i32_67 : BitVec 32 := 2#32
  let v97 : BitVec 32 := Scalar.addi v96 c2_i32_67
  let v98 : Index := Scalar.indexCast v97
  ![v98.toNat]
def k0_off10 (k0_t1 : Fin k0_t1_loop.trips) : Fin 3 → Nat :=
  let c0_i32_77 : BitVec 32 := 0#32
  let c0_i32_12 : BitVec 32 := 0#32
  let c1_i32_13 : BitVec 32 := 1#32
  let arg18 : BitVec 32 := Scf.iv c0_i32_12 c1_i32_13 k0_t1
  let c16_i32_68 : BitVec 32 := 16#32
  let v100 : BitVec 32 := Scalar.muli arg18 c16_i32_68
  let c1_i32_69 : BitVec 32 := 1#32
  let v101 : BitVec 32 := Scalar.addi v100 c1_i32_69
  let c0_i32_79 : BitVec 32 := 0#32
  ![0, v101.toNat, 0]
def k0_off11 (v99 : BitVec 32) : Fin 2 → Nat :=
  let c0_i32_71 : BitVec 32 := 0#32
  let v103 : BitVec 1 := Scalar.cmpi .sgt v99 c0_i32_71
  let v104 : BitVec 32 := Scalar.extui v103
  let c0_i32_72 : BitVec 32 := 0#32
  let v105 : BitVec 1 := Scalar.cmpi .slt v99 c0_i32_72
  let v106 : BitVec 32 := Scalar.extui v105
  let v107 : BitVec 32 := Scalar.subi v104 v106
  let c2_i32_70 : BitVec 32 := 2#32
  let c0_i32_73 : BitVec 32 := 0#32
  let v108 : BitVec 1 := Scalar.cmpi .sgt c2_i32_70 c0_i32_73
  let v109 : BitVec 32 := Scalar.extui v108
  let c0_i32_74 : BitVec 32 := 0#32
  let v110 : BitVec 1 := Scalar.cmpi .slt c2_i32_70 c0_i32_74
  let v111 : BitVec 32 := Scalar.extui v110
  let v112 : BitVec 32 := Scalar.subi v109 v111
  let v113 : BitVec 1 := Scalar.cmpi .ne v107 v112
  let v114 : BitVec 32 := Scalar.remsi v99 c2_i32_70
  let c0_i32_75 : BitVec 32 := 0#32
  let v115 : BitVec 1 := Scalar.cmpi .ne v114 c0_i32_75
  let v116 : BitVec 1 := Scalar.andi v113 v115
  let v102 : BitVec 32 := Scalar.divsi v99 c2_i32_70
  let c1_i32_76 : BitVec 32 := 1#32
  let v117 : BitVec 32 := Scalar.subi v102 c1_i32_76
  let v118 : BitVec 32 := Scalar.select v116 v117 v102
  let c0_i32_80 : BitVec 32 := 0#32
  ![v118.toNat, 0]

def k0_chk5 (v99 : BitVec 32) : Prop :=
  (∀ a, (k0_off11 v99) a + S1x5120.size a ≤ S16384x5120.size a)
theorem k0_off11_inb : ∀ (v99 : BitVec 32) (k0_hw5 : k0_chk5 v99), ∀ a, (k0_off11 v99) a + S1x5120.size a ≤ S16384x5120.size a := fun v99 k0_hw5 => k0_hw5

def k0_off12 (k0_t1 : Fin k0_t1_loop.trips) : Fin 1 → Nat :=
  let c0_i32_82 : BitVec 32 := 0#32
  let c0_i32_12 : BitVec 32 := 0#32
  let c1_i32_13 : BitVec 32 := 1#32
  let arg18 : BitVec 32 := Scf.iv c0_i32_12 c1_i32_13 k0_t1
  let c16_i32_81 : BitVec 32 := 16#32
  let v124 : BitVec 32 := Scalar.muli arg18 c16_i32_81
  let v125 : BitVec 32 := Scalar.addi c0_i32_82 v124
  let c3_i32 : BitVec 32 := 3#32
  let v126 : BitVec 32 := Scalar.addi v125 c3_i32
  let v127 : Index := Scalar.indexCast v126
  ![v127.toNat]
def k0_off13 (k0_t1 : Fin k0_t1_loop.trips) : Fin 3 → Nat :=
  let c0_i32_91 : BitVec 32 := 0#32
  let c0_i32_12 : BitVec 32 := 0#32
  let c1_i32_13 : BitVec 32 := 1#32
  let arg18 : BitVec 32 := Scf.iv c0_i32_12 c1_i32_13 k0_t1
  let c16_i32_83 : BitVec 32 := 16#32
  let v129 : BitVec 32 := Scalar.muli arg18 c16_i32_83
  let c9_i32 : BitVec 32 := 9#32
  let v130 : BitVec 32 := Scalar.addi v129 c9_i32
  let c0_i32_93 : BitVec 32 := 0#32
  ![0, v130.toNat, 0]
def k0_off14 (v128 : BitVec 32) : Fin 2 → Nat :=
  let c0_i32_85 : BitVec 32 := 0#32
  let v132 : BitVec 1 := Scalar.cmpi .sgt v128 c0_i32_85
  let v133 : BitVec 32 := Scalar.extui v132
  let c0_i32_86 : BitVec 32 := 0#32
  let v134 : BitVec 1 := Scalar.cmpi .slt v128 c0_i32_86
  let v135 : BitVec 32 := Scalar.extui v134
  let v136 : BitVec 32 := Scalar.subi v133 v135
  let c2_i32_84 : BitVec 32 := 2#32
  let c0_i32_87 : BitVec 32 := 0#32
  let v137 : BitVec 1 := Scalar.cmpi .sgt c2_i32_84 c0_i32_87
  let v138 : BitVec 32 := Scalar.extui v137
  let c0_i32_88 : BitVec 32 := 0#32
  let v139 : BitVec 1 := Scalar.cmpi .slt c2_i32_84 c0_i32_88
  let v140 : BitVec 32 := Scalar.extui v139
  let v141 : BitVec 32 := Scalar.subi v138 v140
  let v142 : BitVec 1 := Scalar.cmpi .ne v136 v141
  let v143 : BitVec 32 := Scalar.remsi v128 c2_i32_84
  let c0_i32_89 : BitVec 32 := 0#32
  let v144 : BitVec 1 := Scalar.cmpi .ne v143 c0_i32_89
  let v145 : BitVec 1 := Scalar.andi v142 v144
  let v131 : BitVec 32 := Scalar.divsi v128 c2_i32_84
  let c1_i32_90 : BitVec 32 := 1#32
  let v146 : BitVec 32 := Scalar.subi v131 c1_i32_90
  let v147 : BitVec 32 := Scalar.select v145 v146 v131
  let c0_i32_94 : BitVec 32 := 0#32
  ![v147.toNat, 0]

def k0_chk6 (v128 : BitVec 32) : Prop :=
  (∀ a, (k0_off14 v128) a + S1x5120.size a ≤ S16384x5120.size a)
theorem k0_off14_inb : ∀ (v128 : BitVec 32) (k0_hw6 : k0_chk6 v128), ∀ a, (k0_off14 v128) a + S1x5120.size a ≤ S16384x5120.size a := fun v128 k0_hw6 => k0_hw6

def k0_off15 (k0_t1 : Fin k0_t1_loop.trips) : Fin 1 → Nat :=
  let c0_i32_96 : BitVec 32 := 0#32
  let c0_i32_12 : BitVec 32 := 0#32
  let c1_i32_13 : BitVec 32 := 1#32
  let arg18 : BitVec 32 := Scf.iv c0_i32_12 c1_i32_13 k0_t1
  let c16_i32_95 : BitVec 32 := 16#32
  let v153 : BitVec 32 := Scalar.muli arg18 c16_i32_95
  let v154 : BitVec 32 := Scalar.addi c0_i32_96 v153
  let c4_i32 : BitVec 32 := 4#32
  let v155 : BitVec 32 := Scalar.addi v154 c4_i32
  let v156 : Index := Scalar.indexCast v155
  ![v156.toNat]
def k0_off16 (k0_t1 : Fin k0_t1_loop.trips) : Fin 3 → Nat :=
  let c0_i32_106 : BitVec 32 := 0#32
  let c0_i32_12 : BitVec 32 := 0#32
  let c1_i32_13 : BitVec 32 := 1#32
  let arg18 : BitVec 32 := Scf.iv c0_i32_12 c1_i32_13 k0_t1
  let c16_i32_97 : BitVec 32 := 16#32
  let v158 : BitVec 32 := Scalar.muli arg18 c16_i32_97
  let c2_i32_98 : BitVec 32 := 2#32
  let v159 : BitVec 32 := Scalar.addi v158 c2_i32_98
  let c0_i32_108 : BitVec 32 := 0#32
  ![0, v159.toNat, 0]
def k0_off17 (v157 : BitVec 32) : Fin 2 → Nat :=
  let c0_i32_100 : BitVec 32 := 0#32
  let v161 : BitVec 1 := Scalar.cmpi .sgt v157 c0_i32_100
  let v162 : BitVec 32 := Scalar.extui v161
  let c0_i32_101 : BitVec 32 := 0#32
  let v163 : BitVec 1 := Scalar.cmpi .slt v157 c0_i32_101
  let v164 : BitVec 32 := Scalar.extui v163
  let v165 : BitVec 32 := Scalar.subi v162 v164
  let c2_i32_99 : BitVec 32 := 2#32
  let c0_i32_102 : BitVec 32 := 0#32
  let v166 : BitVec 1 := Scalar.cmpi .sgt c2_i32_99 c0_i32_102
  let v167 : BitVec 32 := Scalar.extui v166
  let c0_i32_103 : BitVec 32 := 0#32
  let v168 : BitVec 1 := Scalar.cmpi .slt c2_i32_99 c0_i32_103
  let v169 : BitVec 32 := Scalar.extui v168
  let v170 : BitVec 32 := Scalar.subi v167 v169
  let v171 : BitVec 1 := Scalar.cmpi .ne v165 v170
  let v172 : BitVec 32 := Scalar.remsi v157 c2_i32_99
  let c0_i32_104 : BitVec 32 := 0#32
  let v173 : BitVec 1 := Scalar.cmpi .ne v172 c0_i32_104
  let v174 : BitVec 1 := Scalar.andi v171 v173
  let v160 : BitVec 32 := Scalar.divsi v157 c2_i32_99
  let c1_i32_105 : BitVec 32 := 1#32
  let v175 : BitVec 32 := Scalar.subi v160 c1_i32_105
  let v176 : BitVec 32 := Scalar.select v174 v175 v160
  let c0_i32_109 : BitVec 32 := 0#32
  ![v176.toNat, 0]

def k0_chk7 (v157 : BitVec 32) : Prop :=
  (∀ a, (k0_off17 v157) a + S1x5120.size a ≤ S16384x5120.size a)
theorem k0_off17_inb : ∀ (v157 : BitVec 32) (k0_hw7 : k0_chk7 v157), ∀ a, (k0_off17 v157) a + S1x5120.size a ≤ S16384x5120.size a := fun v157 k0_hw7 => k0_hw7

def k0_off18 (k0_t1 : Fin k0_t1_loop.trips) : Fin 1 → Nat :=
  let c0_i32_111 : BitVec 32 := 0#32
  let c0_i32_12 : BitVec 32 := 0#32
  let c1_i32_13 : BitVec 32 := 1#32
  let arg18 : BitVec 32 := Scf.iv c0_i32_12 c1_i32_13 k0_t1
  let c16_i32_110 : BitVec 32 := 16#32
  let v182 : BitVec 32 := Scalar.muli arg18 c16_i32_110
  let v183 : BitVec 32 := Scalar.addi c0_i32_111 v182
  let c5_i32 : BitVec 32 := 5#32
  let v184 : BitVec 32 := Scalar.addi v183 c5_i32
  let v185 : Index := Scalar.indexCast v184
  ![v185.toNat]
def k0_off19 (k0_t1 : Fin k0_t1_loop.trips) : Fin 3 → Nat :=
  let c0_i32_120 : BitVec 32 := 0#32
  let c0_i32_12 : BitVec 32 := 0#32
  let c1_i32_13 : BitVec 32 := 1#32
  let arg18 : BitVec 32 := Scf.iv c0_i32_12 c1_i32_13 k0_t1
  let c16_i32_112 : BitVec 32 := 16#32
  let v187 : BitVec 32 := Scalar.muli arg18 c16_i32_112
  let c10_i32 : BitVec 32 := 10#32
  let v188 : BitVec 32 := Scalar.addi v187 c10_i32
  let c0_i32_122 : BitVec 32 := 0#32
  ![0, v188.toNat, 0]
def k0_off20 (v186 : BitVec 32) : Fin 2 → Nat :=
  let c0_i32_114 : BitVec 32 := 0#32
  let v190 : BitVec 1 := Scalar.cmpi .sgt v186 c0_i32_114
  let v191 : BitVec 32 := Scalar.extui v190
  let c0_i32_115 : BitVec 32 := 0#32
  let v192 : BitVec 1 := Scalar.cmpi .slt v186 c0_i32_115
  let v193 : BitVec 32 := Scalar.extui v192
  let v194 : BitVec 32 := Scalar.subi v191 v193
  let c2_i32_113 : BitVec 32 := 2#32
  let c0_i32_116 : BitVec 32 := 0#32
  let v195 : BitVec 1 := Scalar.cmpi .sgt c2_i32_113 c0_i32_116
  let v196 : BitVec 32 := Scalar.extui v195
  let c0_i32_117 : BitVec 32 := 0#32
  let v197 : BitVec 1 := Scalar.cmpi .slt c2_i32_113 c0_i32_117
  let v198 : BitVec 32 := Scalar.extui v197
  let v199 : BitVec 32 := Scalar.subi v196 v198
  let v200 : BitVec 1 := Scalar.cmpi .ne v194 v199
  let v201 : BitVec 32 := Scalar.remsi v186 c2_i32_113
  let c0_i32_118 : BitVec 32 := 0#32
  let v202 : BitVec 1 := Scalar.cmpi .ne v201 c0_i32_118
  let v203 : BitVec 1 := Scalar.andi v200 v202
  let v189 : BitVec 32 := Scalar.divsi v186 c2_i32_113
  let c1_i32_119 : BitVec 32 := 1#32
  let v204 : BitVec 32 := Scalar.subi v189 c1_i32_119
  let v205 : BitVec 32 := Scalar.select v203 v204 v189
  let c0_i32_123 : BitVec 32 := 0#32
  ![v205.toNat, 0]

def k0_chk8 (v186 : BitVec 32) : Prop :=
  (∀ a, (k0_off20 v186) a + S1x5120.size a ≤ S16384x5120.size a)
theorem k0_off20_inb : ∀ (v186 : BitVec 32) (k0_hw8 : k0_chk8 v186), ∀ a, (k0_off20 v186) a + S1x5120.size a ≤ S16384x5120.size a := fun v186 k0_hw8 => k0_hw8

def k0_off21 (k0_t1 : Fin k0_t1_loop.trips) : Fin 1 → Nat :=
  let c0_i32_125 : BitVec 32 := 0#32
  let c0_i32_12 : BitVec 32 := 0#32
  let c1_i32_13 : BitVec 32 := 1#32
  let arg18 : BitVec 32 := Scf.iv c0_i32_12 c1_i32_13 k0_t1
  let c16_i32_124 : BitVec 32 := 16#32
  let v211 : BitVec 32 := Scalar.muli arg18 c16_i32_124
  let v212 : BitVec 32 := Scalar.addi c0_i32_125 v211
  let c6_i32 : BitVec 32 := 6#32
  let v213 : BitVec 32 := Scalar.addi v212 c6_i32
  let v214 : Index := Scalar.indexCast v213
  ![v214.toNat]
def k0_off22 (k0_t1 : Fin k0_t1_loop.trips) : Fin 3 → Nat :=
  let c0_i32_135 : BitVec 32 := 0#32
  let c0_i32_12 : BitVec 32 := 0#32
  let c1_i32_13 : BitVec 32 := 1#32
  let arg18 : BitVec 32 := Scf.iv c0_i32_12 c1_i32_13 k0_t1
  let c16_i32_126 : BitVec 32 := 16#32
  let v216 : BitVec 32 := Scalar.muli arg18 c16_i32_126
  let c3_i32_127 : BitVec 32 := 3#32
  let v217 : BitVec 32 := Scalar.addi v216 c3_i32_127
  let c0_i32_137 : BitVec 32 := 0#32
  ![0, v217.toNat, 0]
def k0_off23 (v215 : BitVec 32) : Fin 2 → Nat :=
  let c0_i32_129 : BitVec 32 := 0#32
  let v219 : BitVec 1 := Scalar.cmpi .sgt v215 c0_i32_129
  let v220 : BitVec 32 := Scalar.extui v219
  let c0_i32_130 : BitVec 32 := 0#32
  let v221 : BitVec 1 := Scalar.cmpi .slt v215 c0_i32_130
  let v222 : BitVec 32 := Scalar.extui v221
  let v223 : BitVec 32 := Scalar.subi v220 v222
  let c2_i32_128 : BitVec 32 := 2#32
  let c0_i32_131 : BitVec 32 := 0#32
  let v224 : BitVec 1 := Scalar.cmpi .sgt c2_i32_128 c0_i32_131
  let v225 : BitVec 32 := Scalar.extui v224
  let c0_i32_132 : BitVec 32 := 0#32
  let v226 : BitVec 1 := Scalar.cmpi .slt c2_i32_128 c0_i32_132
  let v227 : BitVec 32 := Scalar.extui v226
  let v228 : BitVec 32 := Scalar.subi v225 v227
  let v229 : BitVec 1 := Scalar.cmpi .ne v223 v228
  let v230 : BitVec 32 := Scalar.remsi v215 c2_i32_128
  let c0_i32_133 : BitVec 32 := 0#32
  let v231 : BitVec 1 := Scalar.cmpi .ne v230 c0_i32_133
  let v232 : BitVec 1 := Scalar.andi v229 v231
  let v218 : BitVec 32 := Scalar.divsi v215 c2_i32_128
  let c1_i32_134 : BitVec 32 := 1#32
  let v233 : BitVec 32 := Scalar.subi v218 c1_i32_134
  let v234 : BitVec 32 := Scalar.select v232 v233 v218
  let c0_i32_138 : BitVec 32 := 0#32
  ![v234.toNat, 0]

def k0_chk9 (v215 : BitVec 32) : Prop :=
  (∀ a, (k0_off23 v215) a + S1x5120.size a ≤ S16384x5120.size a)
theorem k0_off23_inb : ∀ (v215 : BitVec 32) (k0_hw9 : k0_chk9 v215), ∀ a, (k0_off23 v215) a + S1x5120.size a ≤ S16384x5120.size a := fun v215 k0_hw9 => k0_hw9

def k0_off24 (k0_t1 : Fin k0_t1_loop.trips) : Fin 1 → Nat :=
  let c0_i32_140 : BitVec 32 := 0#32
  let c0_i32_12 : BitVec 32 := 0#32
  let c1_i32_13 : BitVec 32 := 1#32
  let arg18 : BitVec 32 := Scf.iv c0_i32_12 c1_i32_13 k0_t1
  let c16_i32_139 : BitVec 32 := 16#32
  let v240 : BitVec 32 := Scalar.muli arg18 c16_i32_139
  let v241 : BitVec 32 := Scalar.addi c0_i32_140 v240
  let c7_i32 : BitVec 32 := 7#32
  let v242 : BitVec 32 := Scalar.addi v241 c7_i32
  let v243 : Index := Scalar.indexCast v242
  ![v243.toNat]
def k0_off25 (k0_t1 : Fin k0_t1_loop.trips) : Fin 3 → Nat :=
  let c0_i32_149 : BitVec 32 := 0#32
  let c0_i32_12 : BitVec 32 := 0#32
  let c1_i32_13 : BitVec 32 := 1#32
  let arg18 : BitVec 32 := Scf.iv c0_i32_12 c1_i32_13 k0_t1
  let c16_i32_141 : BitVec 32 := 16#32
  let v245 : BitVec 32 := Scalar.muli arg18 c16_i32_141
  let c11_i32 : BitVec 32 := 11#32
  let v246 : BitVec 32 := Scalar.addi v245 c11_i32
  let c0_i32_151 : BitVec 32 := 0#32
  ![0, v246.toNat, 0]
def k0_off26 (v244 : BitVec 32) : Fin 2 → Nat :=
  let c0_i32_143 : BitVec 32 := 0#32
  let v248 : BitVec 1 := Scalar.cmpi .sgt v244 c0_i32_143
  let v249 : BitVec 32 := Scalar.extui v248
  let c0_i32_144 : BitVec 32 := 0#32
  let v250 : BitVec 1 := Scalar.cmpi .slt v244 c0_i32_144
  let v251 : BitVec 32 := Scalar.extui v250
  let v252 : BitVec 32 := Scalar.subi v249 v251
  let c2_i32_142 : BitVec 32 := 2#32
  let c0_i32_145 : BitVec 32 := 0#32
  let v253 : BitVec 1 := Scalar.cmpi .sgt c2_i32_142 c0_i32_145
  let v254 : BitVec 32 := Scalar.extui v253
  let c0_i32_146 : BitVec 32 := 0#32
  let v255 : BitVec 1 := Scalar.cmpi .slt c2_i32_142 c0_i32_146
  let v256 : BitVec 32 := Scalar.extui v255
  let v257 : BitVec 32 := Scalar.subi v254 v256
  let v258 : BitVec 1 := Scalar.cmpi .ne v252 v257
  let v259 : BitVec 32 := Scalar.remsi v244 c2_i32_142
  let c0_i32_147 : BitVec 32 := 0#32
  let v260 : BitVec 1 := Scalar.cmpi .ne v259 c0_i32_147
  let v261 : BitVec 1 := Scalar.andi v258 v260
  let v247 : BitVec 32 := Scalar.divsi v244 c2_i32_142
  let c1_i32_148 : BitVec 32 := 1#32
  let v262 : BitVec 32 := Scalar.subi v247 c1_i32_148
  let v263 : BitVec 32 := Scalar.select v261 v262 v247
  let c0_i32_152 : BitVec 32 := 0#32
  ![v263.toNat, 0]

def k0_chk10 (v244 : BitVec 32) : Prop :=
  (∀ a, (k0_off26 v244) a + S1x5120.size a ≤ S16384x5120.size a)
theorem k0_off26_inb : ∀ (v244 : BitVec 32) (k0_hw10 : k0_chk10 v244), ∀ a, (k0_off26 v244) a + S1x5120.size a ≤ S16384x5120.size a := fun v244 k0_hw10 => k0_hw10

def k0_off27 (k0_t1 : Fin k0_t1_loop.trips) : Fin 1 → Nat :=
  let c0_i32_154 : BitVec 32 := 0#32
  let c0_i32_12 : BitVec 32 := 0#32
  let c1_i32_13 : BitVec 32 := 1#32
  let arg18 : BitVec 32 := Scf.iv c0_i32_12 c1_i32_13 k0_t1
  let c16_i32_153 : BitVec 32 := 16#32
  let v269 : BitVec 32 := Scalar.muli arg18 c16_i32_153
  let v270 : BitVec 32 := Scalar.addi c0_i32_154 v269
  let c8_i32_155 : BitVec 32 := 8#32
  let v271 : BitVec 32 := Scalar.addi v270 c8_i32_155
  let v272 : Index := Scalar.indexCast v271
  ![v272.toNat]
def k0_off28 (k0_t1 : Fin k0_t1_loop.trips) : Fin 3 → Nat :=
  let c0_i32_165 : BitVec 32 := 0#32
  let c0_i32_12 : BitVec 32 := 0#32
  let c1_i32_13 : BitVec 32 := 1#32
  let arg18 : BitVec 32 := Scf.iv c0_i32_12 c1_i32_13 k0_t1
  let c16_i32_156 : BitVec 32 := 16#32
  let v274 : BitVec 32 := Scalar.muli arg18 c16_i32_156
  let c4_i32_157 : BitVec 32 := 4#32
  let v275 : BitVec 32 := Scalar.addi v274 c4_i32_157
  let c0_i32_167 : BitVec 32 := 0#32
  ![0, v275.toNat, 0]
def k0_off29 (v273 : BitVec 32) : Fin 2 → Nat :=
  let c0_i32_159 : BitVec 32 := 0#32
  let v277 : BitVec 1 := Scalar.cmpi .sgt v273 c0_i32_159
  let v278 : BitVec 32 := Scalar.extui v277
  let c0_i32_160 : BitVec 32 := 0#32
  let v279 : BitVec 1 := Scalar.cmpi .slt v273 c0_i32_160
  let v280 : BitVec 32 := Scalar.extui v279
  let v281 : BitVec 32 := Scalar.subi v278 v280
  let c2_i32_158 : BitVec 32 := 2#32
  let c0_i32_161 : BitVec 32 := 0#32
  let v282 : BitVec 1 := Scalar.cmpi .sgt c2_i32_158 c0_i32_161
  let v283 : BitVec 32 := Scalar.extui v282
  let c0_i32_162 : BitVec 32 := 0#32
  let v284 : BitVec 1 := Scalar.cmpi .slt c2_i32_158 c0_i32_162
  let v285 : BitVec 32 := Scalar.extui v284
  let v286 : BitVec 32 := Scalar.subi v283 v285
  let v287 : BitVec 1 := Scalar.cmpi .ne v281 v286
  let v288 : BitVec 32 := Scalar.remsi v273 c2_i32_158
  let c0_i32_163 : BitVec 32 := 0#32
  let v289 : BitVec 1 := Scalar.cmpi .ne v288 c0_i32_163
  let v290 : BitVec 1 := Scalar.andi v287 v289
  let v276 : BitVec 32 := Scalar.divsi v273 c2_i32_158
  let c1_i32_164 : BitVec 32 := 1#32
  let v291 : BitVec 32 := Scalar.subi v276 c1_i32_164
  let v292 : BitVec 32 := Scalar.select v290 v291 v276
  let c0_i32_168 : BitVec 32 := 0#32
  ![v292.toNat, 0]

def k0_chk11 (v273 : BitVec 32) : Prop :=
  (∀ a, (k0_off29 v273) a + S1x5120.size a ≤ S16384x5120.size a)
theorem k0_off29_inb : ∀ (v273 : BitVec 32) (k0_hw11 : k0_chk11 v273), ∀ a, (k0_off29 v273) a + S1x5120.size a ≤ S16384x5120.size a := fun v273 k0_hw11 => k0_hw11

def k0_off30 (k0_t1 : Fin k0_t1_loop.trips) : Fin 1 → Nat :=
  let c0_i32_170 : BitVec 32 := 0#32
  let c0_i32_12 : BitVec 32 := 0#32
  let c1_i32_13 : BitVec 32 := 1#32
  let arg18 : BitVec 32 := Scf.iv c0_i32_12 c1_i32_13 k0_t1
  let c16_i32_169 : BitVec 32 := 16#32
  let v298 : BitVec 32 := Scalar.muli arg18 c16_i32_169
  let v299 : BitVec 32 := Scalar.addi c0_i32_170 v298
  let c9_i32_171 : BitVec 32 := 9#32
  let v300 : BitVec 32 := Scalar.addi v299 c9_i32_171
  let v301 : Index := Scalar.indexCast v300
  ![v301.toNat]
def k0_off31 (k0_t1 : Fin k0_t1_loop.trips) : Fin 3 → Nat :=
  let c0_i32_180 : BitVec 32 := 0#32
  let c0_i32_12 : BitVec 32 := 0#32
  let c1_i32_13 : BitVec 32 := 1#32
  let arg18 : BitVec 32 := Scf.iv c0_i32_12 c1_i32_13 k0_t1
  let c16_i32_172 : BitVec 32 := 16#32
  let v303 : BitVec 32 := Scalar.muli arg18 c16_i32_172
  let c12_i32 : BitVec 32 := 12#32
  let v304 : BitVec 32 := Scalar.addi v303 c12_i32
  let c0_i32_182 : BitVec 32 := 0#32
  ![0, v304.toNat, 0]
def k0_off32 (v302 : BitVec 32) : Fin 2 → Nat :=
  let c0_i32_174 : BitVec 32 := 0#32
  let v306 : BitVec 1 := Scalar.cmpi .sgt v302 c0_i32_174
  let v307 : BitVec 32 := Scalar.extui v306
  let c0_i32_175 : BitVec 32 := 0#32
  let v308 : BitVec 1 := Scalar.cmpi .slt v302 c0_i32_175
  let v309 : BitVec 32 := Scalar.extui v308
  let v310 : BitVec 32 := Scalar.subi v307 v309
  let c2_i32_173 : BitVec 32 := 2#32
  let c0_i32_176 : BitVec 32 := 0#32
  let v311 : BitVec 1 := Scalar.cmpi .sgt c2_i32_173 c0_i32_176
  let v312 : BitVec 32 := Scalar.extui v311
  let c0_i32_177 : BitVec 32 := 0#32
  let v313 : BitVec 1 := Scalar.cmpi .slt c2_i32_173 c0_i32_177
  let v314 : BitVec 32 := Scalar.extui v313
  let v315 : BitVec 32 := Scalar.subi v312 v314
  let v316 : BitVec 1 := Scalar.cmpi .ne v310 v315
  let v317 : BitVec 32 := Scalar.remsi v302 c2_i32_173
  let c0_i32_178 : BitVec 32 := 0#32
  let v318 : BitVec 1 := Scalar.cmpi .ne v317 c0_i32_178
  let v319 : BitVec 1 := Scalar.andi v316 v318
  let v305 : BitVec 32 := Scalar.divsi v302 c2_i32_173
  let c1_i32_179 : BitVec 32 := 1#32
  let v320 : BitVec 32 := Scalar.subi v305 c1_i32_179
  let v321 : BitVec 32 := Scalar.select v319 v320 v305
  let c0_i32_183 : BitVec 32 := 0#32
  ![v321.toNat, 0]

def k0_chk12 (v302 : BitVec 32) : Prop :=
  (∀ a, (k0_off32 v302) a + S1x5120.size a ≤ S16384x5120.size a)
theorem k0_off32_inb : ∀ (v302 : BitVec 32) (k0_hw12 : k0_chk12 v302), ∀ a, (k0_off32 v302) a + S1x5120.size a ≤ S16384x5120.size a := fun v302 k0_hw12 => k0_hw12

def k0_off33 (k0_t1 : Fin k0_t1_loop.trips) : Fin 1 → Nat :=
  let c0_i32_185 : BitVec 32 := 0#32
  let c0_i32_12 : BitVec 32 := 0#32
  let c1_i32_13 : BitVec 32 := 1#32
  let arg18 : BitVec 32 := Scf.iv c0_i32_12 c1_i32_13 k0_t1
  let c16_i32_184 : BitVec 32 := 16#32
  let v327 : BitVec 32 := Scalar.muli arg18 c16_i32_184
  let v328 : BitVec 32 := Scalar.addi c0_i32_185 v327
  let c10_i32_186 : BitVec 32 := 10#32
  let v329 : BitVec 32 := Scalar.addi v328 c10_i32_186
  let v330 : Index := Scalar.indexCast v329
  ![v330.toNat]
def k0_off34 (k0_t1 : Fin k0_t1_loop.trips) : Fin 3 → Nat :=
  let c0_i32_196 : BitVec 32 := 0#32
  let c0_i32_12 : BitVec 32 := 0#32
  let c1_i32_13 : BitVec 32 := 1#32
  let arg18 : BitVec 32 := Scf.iv c0_i32_12 c1_i32_13 k0_t1
  let c16_i32_187 : BitVec 32 := 16#32
  let v332 : BitVec 32 := Scalar.muli arg18 c16_i32_187
  let c5_i32_188 : BitVec 32 := 5#32
  let v333 : BitVec 32 := Scalar.addi v332 c5_i32_188
  let c0_i32_198 : BitVec 32 := 0#32
  ![0, v333.toNat, 0]
def k0_off35 (v331 : BitVec 32) : Fin 2 → Nat :=
  let c0_i32_190 : BitVec 32 := 0#32
  let v335 : BitVec 1 := Scalar.cmpi .sgt v331 c0_i32_190
  let v336 : BitVec 32 := Scalar.extui v335
  let c0_i32_191 : BitVec 32 := 0#32
  let v337 : BitVec 1 := Scalar.cmpi .slt v331 c0_i32_191
  let v338 : BitVec 32 := Scalar.extui v337
  let v339 : BitVec 32 := Scalar.subi v336 v338
  let c2_i32_189 : BitVec 32 := 2#32
  let c0_i32_192 : BitVec 32 := 0#32
  let v340 : BitVec 1 := Scalar.cmpi .sgt c2_i32_189 c0_i32_192
  let v341 : BitVec 32 := Scalar.extui v340
  let c0_i32_193 : BitVec 32 := 0#32
  let v342 : BitVec 1 := Scalar.cmpi .slt c2_i32_189 c0_i32_193
  let v343 : BitVec 32 := Scalar.extui v342
  let v344 : BitVec 32 := Scalar.subi v341 v343
  let v345 : BitVec 1 := Scalar.cmpi .ne v339 v344
  let v346 : BitVec 32 := Scalar.remsi v331 c2_i32_189
  let c0_i32_194 : BitVec 32 := 0#32
  let v347 : BitVec 1 := Scalar.cmpi .ne v346 c0_i32_194
  let v348 : BitVec 1 := Scalar.andi v345 v347
  let v334 : BitVec 32 := Scalar.divsi v331 c2_i32_189
  let c1_i32_195 : BitVec 32 := 1#32
  let v349 : BitVec 32 := Scalar.subi v334 c1_i32_195
  let v350 : BitVec 32 := Scalar.select v348 v349 v334
  let c0_i32_199 : BitVec 32 := 0#32
  ![v350.toNat, 0]

def k0_chk13 (v331 : BitVec 32) : Prop :=
  (∀ a, (k0_off35 v331) a + S1x5120.size a ≤ S16384x5120.size a)
theorem k0_off35_inb : ∀ (v331 : BitVec 32) (k0_hw13 : k0_chk13 v331), ∀ a, (k0_off35 v331) a + S1x5120.size a ≤ S16384x5120.size a := fun v331 k0_hw13 => k0_hw13

def k0_off36 (k0_t1 : Fin k0_t1_loop.trips) : Fin 1 → Nat :=
  let c0_i32_201 : BitVec 32 := 0#32
  let c0_i32_12 : BitVec 32 := 0#32
  let c1_i32_13 : BitVec 32 := 1#32
  let arg18 : BitVec 32 := Scf.iv c0_i32_12 c1_i32_13 k0_t1
  let c16_i32_200 : BitVec 32 := 16#32
  let v356 : BitVec 32 := Scalar.muli arg18 c16_i32_200
  let v357 : BitVec 32 := Scalar.addi c0_i32_201 v356
  let c11_i32_202 : BitVec 32 := 11#32
  let v358 : BitVec 32 := Scalar.addi v357 c11_i32_202
  let v359 : Index := Scalar.indexCast v358
  ![v359.toNat]
def k0_off37 (k0_t1 : Fin k0_t1_loop.trips) : Fin 3 → Nat :=
  let c0_i32_211 : BitVec 32 := 0#32
  let c0_i32_12 : BitVec 32 := 0#32
  let c1_i32_13 : BitVec 32 := 1#32
  let arg18 : BitVec 32 := Scf.iv c0_i32_12 c1_i32_13 k0_t1
  let c16_i32_203 : BitVec 32 := 16#32
  let v361 : BitVec 32 := Scalar.muli arg18 c16_i32_203
  let c13_i32 : BitVec 32 := 13#32
  let v362 : BitVec 32 := Scalar.addi v361 c13_i32
  let c0_i32_213 : BitVec 32 := 0#32
  ![0, v362.toNat, 0]
def k0_off38 (v360 : BitVec 32) : Fin 2 → Nat :=
  let c0_i32_205 : BitVec 32 := 0#32
  let v364 : BitVec 1 := Scalar.cmpi .sgt v360 c0_i32_205
  let v365 : BitVec 32 := Scalar.extui v364
  let c0_i32_206 : BitVec 32 := 0#32
  let v366 : BitVec 1 := Scalar.cmpi .slt v360 c0_i32_206
  let v367 : BitVec 32 := Scalar.extui v366
  let v368 : BitVec 32 := Scalar.subi v365 v367
  let c2_i32_204 : BitVec 32 := 2#32
  let c0_i32_207 : BitVec 32 := 0#32
  let v369 : BitVec 1 := Scalar.cmpi .sgt c2_i32_204 c0_i32_207
  let v370 : BitVec 32 := Scalar.extui v369
  let c0_i32_208 : BitVec 32 := 0#32
  let v371 : BitVec 1 := Scalar.cmpi .slt c2_i32_204 c0_i32_208
  let v372 : BitVec 32 := Scalar.extui v371
  let v373 : BitVec 32 := Scalar.subi v370 v372
  let v374 : BitVec 1 := Scalar.cmpi .ne v368 v373
  let v375 : BitVec 32 := Scalar.remsi v360 c2_i32_204
  let c0_i32_209 : BitVec 32 := 0#32
  let v376 : BitVec 1 := Scalar.cmpi .ne v375 c0_i32_209
  let v377 : BitVec 1 := Scalar.andi v374 v376
  let v363 : BitVec 32 := Scalar.divsi v360 c2_i32_204
  let c1_i32_210 : BitVec 32 := 1#32
  let v378 : BitVec 32 := Scalar.subi v363 c1_i32_210
  let v379 : BitVec 32 := Scalar.select v377 v378 v363
  let c0_i32_214 : BitVec 32 := 0#32
  ![v379.toNat, 0]

def k0_chk14 (v360 : BitVec 32) : Prop :=
  (∀ a, (k0_off38 v360) a + S1x5120.size a ≤ S16384x5120.size a)
theorem k0_off38_inb : ∀ (v360 : BitVec 32) (k0_hw14 : k0_chk14 v360), ∀ a, (k0_off38 v360) a + S1x5120.size a ≤ S16384x5120.size a := fun v360 k0_hw14 => k0_hw14

def k0_off39 (k0_t1 : Fin k0_t1_loop.trips) : Fin 1 → Nat :=
  let c0_i32_216 : BitVec 32 := 0#32
  let c0_i32_12 : BitVec 32 := 0#32
  let c1_i32_13 : BitVec 32 := 1#32
  let arg18 : BitVec 32 := Scf.iv c0_i32_12 c1_i32_13 k0_t1
  let c16_i32_215 : BitVec 32 := 16#32
  let v385 : BitVec 32 := Scalar.muli arg18 c16_i32_215
  let v386 : BitVec 32 := Scalar.addi c0_i32_216 v385
  let c12_i32_217 : BitVec 32 := 12#32
  let v387 : BitVec 32 := Scalar.addi v386 c12_i32_217
  let v388 : Index := Scalar.indexCast v387
  ![v388.toNat]
def k0_off40 (k0_t1 : Fin k0_t1_loop.trips) : Fin 3 → Nat :=
  let c0_i32_227 : BitVec 32 := 0#32
  let c0_i32_12 : BitVec 32 := 0#32
  let c1_i32_13 : BitVec 32 := 1#32
  let arg18 : BitVec 32 := Scf.iv c0_i32_12 c1_i32_13 k0_t1
  let c16_i32_218 : BitVec 32 := 16#32
  let v390 : BitVec 32 := Scalar.muli arg18 c16_i32_218
  let c6_i32_219 : BitVec 32 := 6#32
  let v391 : BitVec 32 := Scalar.addi v390 c6_i32_219
  let c0_i32_229 : BitVec 32 := 0#32
  ![0, v391.toNat, 0]
def k0_off41 (v389 : BitVec 32) : Fin 2 → Nat :=
  let c0_i32_221 : BitVec 32 := 0#32
  let v393 : BitVec 1 := Scalar.cmpi .sgt v389 c0_i32_221
  let v394 : BitVec 32 := Scalar.extui v393
  let c0_i32_222 : BitVec 32 := 0#32
  let v395 : BitVec 1 := Scalar.cmpi .slt v389 c0_i32_222
  let v396 : BitVec 32 := Scalar.extui v395
  let v397 : BitVec 32 := Scalar.subi v394 v396
  let c2_i32_220 : BitVec 32 := 2#32
  let c0_i32_223 : BitVec 32 := 0#32
  let v398 : BitVec 1 := Scalar.cmpi .sgt c2_i32_220 c0_i32_223
  let v399 : BitVec 32 := Scalar.extui v398
  let c0_i32_224 : BitVec 32 := 0#32
  let v400 : BitVec 1 := Scalar.cmpi .slt c2_i32_220 c0_i32_224
  let v401 : BitVec 32 := Scalar.extui v400
  let v402 : BitVec 32 := Scalar.subi v399 v401
  let v403 : BitVec 1 := Scalar.cmpi .ne v397 v402
  let v404 : BitVec 32 := Scalar.remsi v389 c2_i32_220
  let c0_i32_225 : BitVec 32 := 0#32
  let v405 : BitVec 1 := Scalar.cmpi .ne v404 c0_i32_225
  let v406 : BitVec 1 := Scalar.andi v403 v405
  let v392 : BitVec 32 := Scalar.divsi v389 c2_i32_220
  let c1_i32_226 : BitVec 32 := 1#32
  let v407 : BitVec 32 := Scalar.subi v392 c1_i32_226
  let v408 : BitVec 32 := Scalar.select v406 v407 v392
  let c0_i32_230 : BitVec 32 := 0#32
  ![v408.toNat, 0]

def k0_chk15 (v389 : BitVec 32) : Prop :=
  (∀ a, (k0_off41 v389) a + S1x5120.size a ≤ S16384x5120.size a)
theorem k0_off41_inb : ∀ (v389 : BitVec 32) (k0_hw15 : k0_chk15 v389), ∀ a, (k0_off41 v389) a + S1x5120.size a ≤ S16384x5120.size a := fun v389 k0_hw15 => k0_hw15

def k0_off42 (k0_t1 : Fin k0_t1_loop.trips) : Fin 1 → Nat :=
  let c0_i32_232 : BitVec 32 := 0#32
  let c0_i32_12 : BitVec 32 := 0#32
  let c1_i32_13 : BitVec 32 := 1#32
  let arg18 : BitVec 32 := Scf.iv c0_i32_12 c1_i32_13 k0_t1
  let c16_i32_231 : BitVec 32 := 16#32
  let v414 : BitVec 32 := Scalar.muli arg18 c16_i32_231
  let v415 : BitVec 32 := Scalar.addi c0_i32_232 v414
  let c13_i32_233 : BitVec 32 := 13#32
  let v416 : BitVec 32 := Scalar.addi v415 c13_i32_233
  let v417 : Index := Scalar.indexCast v416
  ![v417.toNat]
def k0_off43 (k0_t1 : Fin k0_t1_loop.trips) : Fin 3 → Nat :=
  let c0_i32_242 : BitVec 32 := 0#32
  let c0_i32_12 : BitVec 32 := 0#32
  let c1_i32_13 : BitVec 32 := 1#32
  let arg18 : BitVec 32 := Scf.iv c0_i32_12 c1_i32_13 k0_t1
  let c16_i32_234 : BitVec 32 := 16#32
  let v419 : BitVec 32 := Scalar.muli arg18 c16_i32_234
  let c14_i32 : BitVec 32 := 14#32
  let v420 : BitVec 32 := Scalar.addi v419 c14_i32
  let c0_i32_244 : BitVec 32 := 0#32
  ![0, v420.toNat, 0]
def k0_off44 (v418 : BitVec 32) : Fin 2 → Nat :=
  let c0_i32_236 : BitVec 32 := 0#32
  let v422 : BitVec 1 := Scalar.cmpi .sgt v418 c0_i32_236
  let v423 : BitVec 32 := Scalar.extui v422
  let c0_i32_237 : BitVec 32 := 0#32
  let v424 : BitVec 1 := Scalar.cmpi .slt v418 c0_i32_237
  let v425 : BitVec 32 := Scalar.extui v424
  let v426 : BitVec 32 := Scalar.subi v423 v425
  let c2_i32_235 : BitVec 32 := 2#32
  let c0_i32_238 : BitVec 32 := 0#32
  let v427 : BitVec 1 := Scalar.cmpi .sgt c2_i32_235 c0_i32_238
  let v428 : BitVec 32 := Scalar.extui v427
  let c0_i32_239 : BitVec 32 := 0#32
  let v429 : BitVec 1 := Scalar.cmpi .slt c2_i32_235 c0_i32_239
  let v430 : BitVec 32 := Scalar.extui v429
  let v431 : BitVec 32 := Scalar.subi v428 v430
  let v432 : BitVec 1 := Scalar.cmpi .ne v426 v431
  let v433 : BitVec 32 := Scalar.remsi v418 c2_i32_235
  let c0_i32_240 : BitVec 32 := 0#32
  let v434 : BitVec 1 := Scalar.cmpi .ne v433 c0_i32_240
  let v435 : BitVec 1 := Scalar.andi v432 v434
  let v421 : BitVec 32 := Scalar.divsi v418 c2_i32_235
  let c1_i32_241 : BitVec 32 := 1#32
  let v436 : BitVec 32 := Scalar.subi v421 c1_i32_241
  let v437 : BitVec 32 := Scalar.select v435 v436 v421
  let c0_i32_245 : BitVec 32 := 0#32
  ![v437.toNat, 0]

def k0_chk16 (v418 : BitVec 32) : Prop :=
  (∀ a, (k0_off44 v418) a + S1x5120.size a ≤ S16384x5120.size a)
theorem k0_off44_inb : ∀ (v418 : BitVec 32) (k0_hw16 : k0_chk16 v418), ∀ a, (k0_off44 v418) a + S1x5120.size a ≤ S16384x5120.size a := fun v418 k0_hw16 => k0_hw16

def k0_off45 (k0_t1 : Fin k0_t1_loop.trips) : Fin 1 → Nat :=
  let c0_i32_247 : BitVec 32 := 0#32
  let c0_i32_12 : BitVec 32 := 0#32
  let c1_i32_13 : BitVec 32 := 1#32
  let arg18 : BitVec 32 := Scf.iv c0_i32_12 c1_i32_13 k0_t1
  let c16_i32_246 : BitVec 32 := 16#32
  let v443 : BitVec 32 := Scalar.muli arg18 c16_i32_246
  let v444 : BitVec 32 := Scalar.addi c0_i32_247 v443
  let c14_i32_248 : BitVec 32 := 14#32
  let v445 : BitVec 32 := Scalar.addi v444 c14_i32_248
  let v446 : Index := Scalar.indexCast v445
  ![v446.toNat]
def k0_off46 (k0_t1 : Fin k0_t1_loop.trips) : Fin 3 → Nat :=
  let c0_i32_258 : BitVec 32 := 0#32
  let c0_i32_12 : BitVec 32 := 0#32
  let c1_i32_13 : BitVec 32 := 1#32
  let arg18 : BitVec 32 := Scf.iv c0_i32_12 c1_i32_13 k0_t1
  let c16_i32_249 : BitVec 32 := 16#32
  let v448 : BitVec 32 := Scalar.muli arg18 c16_i32_249
  let c7_i32_250 : BitVec 32 := 7#32
  let v449 : BitVec 32 := Scalar.addi v448 c7_i32_250
  let c0_i32_260 : BitVec 32 := 0#32
  ![0, v449.toNat, 0]
def k0_off47 (v447 : BitVec 32) : Fin 2 → Nat :=
  let c0_i32_252 : BitVec 32 := 0#32
  let v451 : BitVec 1 := Scalar.cmpi .sgt v447 c0_i32_252
  let v452 : BitVec 32 := Scalar.extui v451
  let c0_i32_253 : BitVec 32 := 0#32
  let v453 : BitVec 1 := Scalar.cmpi .slt v447 c0_i32_253
  let v454 : BitVec 32 := Scalar.extui v453
  let v455 : BitVec 32 := Scalar.subi v452 v454
  let c2_i32_251 : BitVec 32 := 2#32
  let c0_i32_254 : BitVec 32 := 0#32
  let v456 : BitVec 1 := Scalar.cmpi .sgt c2_i32_251 c0_i32_254
  let v457 : BitVec 32 := Scalar.extui v456
  let c0_i32_255 : BitVec 32 := 0#32
  let v458 : BitVec 1 := Scalar.cmpi .slt c2_i32_251 c0_i32_255
  let v459 : BitVec 32 := Scalar.extui v458
  let v460 : BitVec 32 := Scalar.subi v457 v459
  let v461 : BitVec 1 := Scalar.cmpi .ne v455 v460
  let v462 : BitVec 32 := Scalar.remsi v447 c2_i32_251
  let c0_i32_256 : BitVec 32 := 0#32
  let v463 : BitVec 1 := Scalar.cmpi .ne v462 c0_i32_256
  let v464 : BitVec 1 := Scalar.andi v461 v463
  let v450 : BitVec 32 := Scalar.divsi v447 c2_i32_251
  let c1_i32_257 : BitVec 32 := 1#32
  let v465 : BitVec 32 := Scalar.subi v450 c1_i32_257
  let v466 : BitVec 32 := Scalar.select v464 v465 v450
  let c0_i32_261 : BitVec 32 := 0#32
  ![v466.toNat, 0]

def k0_chk17 (v447 : BitVec 32) : Prop :=
  (∀ a, (k0_off47 v447) a + S1x5120.size a ≤ S16384x5120.size a)
theorem k0_off47_inb : ∀ (v447 : BitVec 32) (k0_hw17 : k0_chk17 v447), ∀ a, (k0_off47 v447) a + S1x5120.size a ≤ S16384x5120.size a := fun v447 k0_hw17 => k0_hw17

def k0_off48 (k0_t1 : Fin k0_t1_loop.trips) : Fin 1 → Nat :=
  let c0_i32_263 : BitVec 32 := 0#32
  let c0_i32_12 : BitVec 32 := 0#32
  let c1_i32_13 : BitVec 32 := 1#32
  let arg18 : BitVec 32 := Scf.iv c0_i32_12 c1_i32_13 k0_t1
  let c16_i32_262 : BitVec 32 := 16#32
  let v472 : BitVec 32 := Scalar.muli arg18 c16_i32_262
  let v473 : BitVec 32 := Scalar.addi c0_i32_263 v472
  let c15_i32 : BitVec 32 := 15#32
  let v474 : BitVec 32 := Scalar.addi v473 c15_i32
  let v475 : Index := Scalar.indexCast v474
  ![v475.toNat]
def k0_off49 (k0_t1 : Fin k0_t1_loop.trips) : Fin 3 → Nat :=
  let c0_i32_273 : BitVec 32 := 0#32
  let c0_i32_12 : BitVec 32 := 0#32
  let c1_i32_13 : BitVec 32 := 1#32
  let arg18 : BitVec 32 := Scf.iv c0_i32_12 c1_i32_13 k0_t1
  let c16_i32_264 : BitVec 32 := 16#32
  let v477 : BitVec 32 := Scalar.muli arg18 c16_i32_264
  let c15_i32_265 : BitVec 32 := 15#32
  let v478 : BitVec 32 := Scalar.addi v477 c15_i32_265
  let c0_i32_275 : BitVec 32 := 0#32
  ![0, v478.toNat, 0]
def k0_off50 (v476 : BitVec 32) : Fin 2 → Nat :=
  let c0_i32_267 : BitVec 32 := 0#32
  let v480 : BitVec 1 := Scalar.cmpi .sgt v476 c0_i32_267
  let v481 : BitVec 32 := Scalar.extui v480
  let c0_i32_268 : BitVec 32 := 0#32
  let v482 : BitVec 1 := Scalar.cmpi .slt v476 c0_i32_268
  let v483 : BitVec 32 := Scalar.extui v482
  let v484 : BitVec 32 := Scalar.subi v481 v483
  let c2_i32_266 : BitVec 32 := 2#32
  let c0_i32_269 : BitVec 32 := 0#32
  let v485 : BitVec 1 := Scalar.cmpi .sgt c2_i32_266 c0_i32_269
  let v486 : BitVec 32 := Scalar.extui v485
  let c0_i32_270 : BitVec 32 := 0#32
  let v487 : BitVec 1 := Scalar.cmpi .slt c2_i32_266 c0_i32_270
  let v488 : BitVec 32 := Scalar.extui v487
  let v489 : BitVec 32 := Scalar.subi v486 v488
  let v490 : BitVec 1 := Scalar.cmpi .ne v484 v489
  let v491 : BitVec 32 := Scalar.remsi v476 c2_i32_266
  let c0_i32_271 : BitVec 32 := 0#32
  let v492 : BitVec 1 := Scalar.cmpi .ne v491 c0_i32_271
  let v493 : BitVec 1 := Scalar.andi v490 v492
  let v479 : BitVec 32 := Scalar.divsi v476 c2_i32_266
  let c1_i32_272 : BitVec 32 := 1#32
  let v494 : BitVec 32 := Scalar.subi v479 c1_i32_272
  let v495 : BitVec 32 := Scalar.select v493 v494 v479
  let c0_i32_276 : BitVec 32 := 0#32
  ![v495.toNat, 0]

def k0_chk18 (v476 : BitVec 32) : Prop :=
  (∀ a, (k0_off50 v476) a + S1x5120.size a ≤ S16384x5120.size a)
theorem k0_off50_inb : ∀ (v476 : BitVec 32) (k0_hw18 : k0_chk18 v476), ∀ a, (k0_off50 v476) a + S1x5120.size a ≤ S16384x5120.size a := fun v476 k0_hw18 => k0_hw18

@[reducible] def k0_t2_loop (v0 : BitVec 32) : Scf.Loop 32 :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_25 : BitVec 32 := 1#32
  ⟨c0_i32_23, v26, c1_i32_25⟩

@[reducible] def k0_t3_loop : Scf.Loop 32 :=
  let c0_i32_36 : BitVec 32 := 0#32
  let c256_i32 : BitVec 32 := 256#32
  let v38 : BitVec 32 := Scalar.addi c0_i32_36 c256_i32
  let c1_i32_37 : BitVec 32 := 1#32
  ⟨c0_i32_36, v38, c1_i32_37⟩
def k0_off51 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  ![v37.toNat]
def k0_off52 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let c0_i32_89 : BitVec 32 := 0#32
  let c0_i32_90 : BitVec 32 := 0#32
  ![v37.toNat, 0, 0]
def k0_off53 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  ![v37.toNat]
def k0_off54 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let c0_i32_40 : BitVec 32 := 0#32
  let c0_i32_41 : BitVec 32 := 0#32
  ![v37.toNat, 0, 0]
@[reducible] def k0_t4_loop : Scf.Loop 32 :=
  let c0_i32_92 : BitVec 32 := 0#32
  let c16_i32_93 : BitVec 32 := 16#32
  let v147 : BitVec 32 := Scalar.addi c0_i32_92 c16_i32_93
  let c1_i32_94 : BitVec 32 := 1#32
  ⟨c0_i32_92, v147, c1_i32_94⟩
def k0_off55 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_100 : BitVec 32 := 256#32
  let v154 : BitVec 32 := Scalar.muli v145 c256_i32_100
  let c0_i32_92 : BitVec 32 := 0#32
  let c1_i32_94 : BitVec 32 := 1#32
  let arg19 : BitVec 32 := Scf.iv c0_i32_92 c1_i32_94 k0_t4
  let c16_i32_101 : BitVec 32 := 16#32
  let v155 : BitVec 32 := Scalar.muli arg19 c16_i32_101
  let v156 : BitVec 32 := Scalar.addi v154 v155
  let c0_i32_102 : BitVec 32 := 0#32
  let v157 : BitVec 32 := Scalar.addi v156 c0_i32_102
  let v158 : Index := Scalar.indexCast v157
  ![v158.toNat]
def k0_cond1 (v0 : BitVec 32) (k0_t2 : Fin (k0_t2_loop v0).trips) : BitVec 1 :=
  let c0_i32_23 : BitVec 32 := 0#32
  let c1_i32_25 : BitVec 32 := 1#32
  let arg18 : BitVec 32 := Scf.iv c0_i32_23 c1_i32_25 k0_t2
  let c1_i32_44 : BitVec 32 := 1#32
  let v45 : BitVec 32 := Scalar.addi arg18 c1_i32_44
  let v46 : BitVec 1 := Scalar.cmpi .slt v45 v0
  let v47 : BitVec 32 := Scalar.extui v46
  let c0_i32_45 : BitVec 32 := 0#32
  let v48 : BitVec 1 := Scalar.cmpi .ne v47 c0_i32_45
  v48

def k0_off56 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off57 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_103 : BitVec 32 := 16#32
  let v160 : BitVec 32 := Scalar.muli arg19 c16_i32_103
  let c0_i32_104 : BitVec 32 := 0#32
  let v161 : BitVec 32 := Scalar.addi v160 c0_i32_104
  let c0_i32_112 : BitVec 32 := 0#32
  ![v146.toNat, v161.toNat, 0]
def k0_off58 (v159 : BitVec 32) : Fin 2 → Nat :=
  let c0_i32_106 : BitVec 32 := 0#32
  let v163 : BitVec 1 := Scalar.cmpi .sgt v159 c0_i32_106
  let v164 : BitVec 32 := Scalar.extui v163
  let c0_i32_107 : BitVec 32 := 0#32
  let v165 : BitVec 1 := Scalar.cmpi .slt v159 c0_i32_107
  let v166 : BitVec 32 := Scalar.extui v165
  let v167 : BitVec 32 := Scalar.subi v164 v166
  let c2_i32_105 : BitVec 32 := 2#32
  let c0_i32_108 : BitVec 32 := 0#32
  let v168 : BitVec 1 := Scalar.cmpi .sgt c2_i32_105 c0_i32_108
  let v169 : BitVec 32 := Scalar.extui v168
  let c0_i32_109 : BitVec 32 := 0#32
  let v170 : BitVec 1 := Scalar.cmpi .slt c2_i32_105 c0_i32_109
  let v171 : BitVec 32 := Scalar.extui v170
  let v172 : BitVec 32 := Scalar.subi v169 v171
  let v173 : BitVec 1 := Scalar.cmpi .ne v167 v172
  let v174 : BitVec 32 := Scalar.remsi v159 c2_i32_105
  let c0_i32_110 : BitVec 32 := 0#32
  let v175 : BitVec 1 := Scalar.cmpi .ne v174 c0_i32_110
  let v176 : BitVec 1 := Scalar.andi v173 v175
  let v162 : BitVec 32 := Scalar.divsi v159 c2_i32_105
  let c1_i32_111 : BitVec 32 := 1#32
  let v177 : BitVec 32 := Scalar.subi v162 c1_i32_111
  let v178 : BitVec 32 := Scalar.select v176 v177 v162
  let c0_i32_113 : BitVec 32 := 0#32
  ![v178.toNat, 0]

def k0_chk20 (v0 : BitVec 32) (k0_t2 : Fin (k0_t2_loop v0).trips) (v159 : BitVec 32) : Prop :=
  (∀ (k0_h1 : k0_cond1 v0 k0_t2 = 1#1), ∀ a, (k0_off58 v159) a + S1x5120.size a ≤ S16384x5120.size a)
theorem k0_off58_inb : ∀ (v0 : BitVec 32) (k0_t2 : Fin (k0_t2_loop v0).trips) (v159 : BitVec 32) (k0_hw20 : k0_chk20 v0 k0_t2 v159), ∀ (k0_h1 : k0_cond1 v0 k0_t2 = 1#1), ∀ a, (k0_off58 v159) a + S1x5120.size a ≤ S16384x5120.size a := fun v0 k0_t2 v159 k0_hw20 k0_h1 => k0_hw20 k0_h1

def k0_off59 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_114 : BitVec 32 := 256#32
  let v184 : BitVec 32 := Scalar.muli v145 c256_i32_114
  let c0_i32_92 : BitVec 32 := 0#32
  let c1_i32_94 : BitVec 32 := 1#32
  let arg19 : BitVec 32 := Scf.iv c0_i32_92 c1_i32_94 k0_t4
  let c16_i32_115 : BitVec 32 := 16#32
  let v185 : BitVec 32 := Scalar.muli arg19 c16_i32_115
  let v186 : BitVec 32 := Scalar.addi v184 v185
  let c1_i32_116 : BitVec 32 := 1#32
  let v187 : BitVec 32 := Scalar.addi v186 c1_i32_116
  let v188 : Index := Scalar.indexCast v187
  ![v188.toNat]
def k0_off60 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off61 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_117 : BitVec 32 := 16#32
  let v190 : BitVec 32 := Scalar.muli arg19 c16_i32_117
  let c8_i32 : BitVec 32 := 8#32
  let v191 : BitVec 32 := Scalar.addi v190 c8_i32
  let c0_i32_125 : BitVec 32 := 0#32
  ![v146.toNat, v191.toNat, 0]
def k0_off62 (v189 : BitVec 32) : Fin 2 → Nat :=
  let c0_i32_119 : BitVec 32 := 0#32
  let v193 : BitVec 1 := Scalar.cmpi .sgt v189 c0_i32_119
  let v194 : BitVec 32 := Scalar.extui v193
  let c0_i32_120 : BitVec 32 := 0#32
  let v195 : BitVec 1 := Scalar.cmpi .slt v189 c0_i32_120
  let v196 : BitVec 32 := Scalar.extui v195
  let v197 : BitVec 32 := Scalar.subi v194 v196
  let c2_i32_118 : BitVec 32 := 2#32
  let c0_i32_121 : BitVec 32 := 0#32
  let v198 : BitVec 1 := Scalar.cmpi .sgt c2_i32_118 c0_i32_121
  let v199 : BitVec 32 := Scalar.extui v198
  let c0_i32_122 : BitVec 32 := 0#32
  let v200 : BitVec 1 := Scalar.cmpi .slt c2_i32_118 c0_i32_122
  let v201 : BitVec 32 := Scalar.extui v200
  let v202 : BitVec 32 := Scalar.subi v199 v201
  let v203 : BitVec 1 := Scalar.cmpi .ne v197 v202
  let v204 : BitVec 32 := Scalar.remsi v189 c2_i32_118
  let c0_i32_123 : BitVec 32 := 0#32
  let v205 : BitVec 1 := Scalar.cmpi .ne v204 c0_i32_123
  let v206 : BitVec 1 := Scalar.andi v203 v205
  let v192 : BitVec 32 := Scalar.divsi v189 c2_i32_118
  let c1_i32_124 : BitVec 32 := 1#32
  let v207 : BitVec 32 := Scalar.subi v192 c1_i32_124
  let v208 : BitVec 32 := Scalar.select v206 v207 v192
  let c0_i32_126 : BitVec 32 := 0#32
  ![v208.toNat, 0]

def k0_chk21 (v0 : BitVec 32) (k0_t2 : Fin (k0_t2_loop v0).trips) (v189 : BitVec 32) : Prop :=
  (∀ (k0_h1 : k0_cond1 v0 k0_t2 = 1#1), ∀ a, (k0_off62 v189) a + S1x5120.size a ≤ S16384x5120.size a)
theorem k0_off62_inb : ∀ (v0 : BitVec 32) (k0_t2 : Fin (k0_t2_loop v0).trips) (v189 : BitVec 32) (k0_hw21 : k0_chk21 v0 k0_t2 v189), ∀ (k0_h1 : k0_cond1 v0 k0_t2 = 1#1), ∀ a, (k0_off62 v189) a + S1x5120.size a ≤ S16384x5120.size a := fun v0 k0_t2 v189 k0_hw21 k0_h1 => k0_hw21 k0_h1

def k0_off63 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_127 : BitVec 32 := 256#32
  let v214 : BitVec 32 := Scalar.muli v145 c256_i32_127
  let c0_i32_92 : BitVec 32 := 0#32
  let c1_i32_94 : BitVec 32 := 1#32
  let arg19 : BitVec 32 := Scf.iv c0_i32_92 c1_i32_94 k0_t4
  let c16_i32_128 : BitVec 32 := 16#32
  let v215 : BitVec 32 := Scalar.muli arg19 c16_i32_128
  let v216 : BitVec 32 := Scalar.addi v214 v215
  let c2_i32_129 : BitVec 32 := 2#32
  let v217 : BitVec 32 := Scalar.addi v216 c2_i32_129
  let v218 : Index := Scalar.indexCast v217
  ![v218.toNat]
def k0_off64 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off65 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_130 : BitVec 32 := 16#32
  let v220 : BitVec 32 := Scalar.muli arg19 c16_i32_130
  let c1_i32_131 : BitVec 32 := 1#32
  let v221 : BitVec 32 := Scalar.addi v220 c1_i32_131
  let c0_i32_139 : BitVec 32 := 0#32
  ![v146.toNat, v221.toNat, 0]
def k0_off66 (v219 : BitVec 32) : Fin 2 → Nat :=
  let c0_i32_133 : BitVec 32 := 0#32
  let v223 : BitVec 1 := Scalar.cmpi .sgt v219 c0_i32_133
  let v224 : BitVec 32 := Scalar.extui v223
  let c0_i32_134 : BitVec 32 := 0#32
  let v225 : BitVec 1 := Scalar.cmpi .slt v219 c0_i32_134
  let v226 : BitVec 32 := Scalar.extui v225
  let v227 : BitVec 32 := Scalar.subi v224 v226
  let c2_i32_132 : BitVec 32 := 2#32
  let c0_i32_135 : BitVec 32 := 0#32
  let v228 : BitVec 1 := Scalar.cmpi .sgt c2_i32_132 c0_i32_135
  let v229 : BitVec 32 := Scalar.extui v228
  let c0_i32_136 : BitVec 32 := 0#32
  let v230 : BitVec 1 := Scalar.cmpi .slt c2_i32_132 c0_i32_136
  let v231 : BitVec 32 := Scalar.extui v230
  let v232 : BitVec 32 := Scalar.subi v229 v231
  let v233 : BitVec 1 := Scalar.cmpi .ne v227 v232
  let v234 : BitVec 32 := Scalar.remsi v219 c2_i32_132
  let c0_i32_137 : BitVec 32 := 0#32
  let v235 : BitVec 1 := Scalar.cmpi .ne v234 c0_i32_137
  let v236 : BitVec 1 := Scalar.andi v233 v235
  let v222 : BitVec 32 := Scalar.divsi v219 c2_i32_132
  let c1_i32_138 : BitVec 32 := 1#32
  let v237 : BitVec 32 := Scalar.subi v222 c1_i32_138
  let v238 : BitVec 32 := Scalar.select v236 v237 v222
  let c0_i32_140 : BitVec 32 := 0#32
  ![v238.toNat, 0]

def k0_chk22 (v0 : BitVec 32) (k0_t2 : Fin (k0_t2_loop v0).trips) (v219 : BitVec 32) : Prop :=
  (∀ (k0_h1 : k0_cond1 v0 k0_t2 = 1#1), ∀ a, (k0_off66 v219) a + S1x5120.size a ≤ S16384x5120.size a)
theorem k0_off66_inb : ∀ (v0 : BitVec 32) (k0_t2 : Fin (k0_t2_loop v0).trips) (v219 : BitVec 32) (k0_hw22 : k0_chk22 v0 k0_t2 v219), ∀ (k0_h1 : k0_cond1 v0 k0_t2 = 1#1), ∀ a, (k0_off66 v219) a + S1x5120.size a ≤ S16384x5120.size a := fun v0 k0_t2 v219 k0_hw22 k0_h1 => k0_hw22 k0_h1

def k0_off67 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_141 : BitVec 32 := 256#32
  let v244 : BitVec 32 := Scalar.muli v145 c256_i32_141
  let c0_i32_92 : BitVec 32 := 0#32
  let c1_i32_94 : BitVec 32 := 1#32
  let arg19 : BitVec 32 := Scf.iv c0_i32_92 c1_i32_94 k0_t4
  let c16_i32_142 : BitVec 32 := 16#32
  let v245 : BitVec 32 := Scalar.muli arg19 c16_i32_142
  let v246 : BitVec 32 := Scalar.addi v244 v245
  let c3_i32 : BitVec 32 := 3#32
  let v247 : BitVec 32 := Scalar.addi v246 c3_i32
  let v248 : Index := Scalar.indexCast v247
  ![v248.toNat]
def k0_off68 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off69 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_143 : BitVec 32 := 16#32
  let v250 : BitVec 32 := Scalar.muli arg19 c16_i32_143
  let c9_i32 : BitVec 32 := 9#32
  let v251 : BitVec 32 := Scalar.addi v250 c9_i32
  let c0_i32_151 : BitVec 32 := 0#32
  ![v146.toNat, v251.toNat, 0]
def k0_off70 (v249 : BitVec 32) : Fin 2 → Nat :=
  let c0_i32_145 : BitVec 32 := 0#32
  let v253 : BitVec 1 := Scalar.cmpi .sgt v249 c0_i32_145
  let v254 : BitVec 32 := Scalar.extui v253
  let c0_i32_146 : BitVec 32 := 0#32
  let v255 : BitVec 1 := Scalar.cmpi .slt v249 c0_i32_146
  let v256 : BitVec 32 := Scalar.extui v255
  let v257 : BitVec 32 := Scalar.subi v254 v256
  let c2_i32_144 : BitVec 32 := 2#32
  let c0_i32_147 : BitVec 32 := 0#32
  let v258 : BitVec 1 := Scalar.cmpi .sgt c2_i32_144 c0_i32_147
  let v259 : BitVec 32 := Scalar.extui v258
  let c0_i32_148 : BitVec 32 := 0#32
  let v260 : BitVec 1 := Scalar.cmpi .slt c2_i32_144 c0_i32_148
  let v261 : BitVec 32 := Scalar.extui v260
  let v262 : BitVec 32 := Scalar.subi v259 v261
  let v263 : BitVec 1 := Scalar.cmpi .ne v257 v262
  let v264 : BitVec 32 := Scalar.remsi v249 c2_i32_144
  let c0_i32_149 : BitVec 32 := 0#32
  let v265 : BitVec 1 := Scalar.cmpi .ne v264 c0_i32_149
  let v266 : BitVec 1 := Scalar.andi v263 v265
  let v252 : BitVec 32 := Scalar.divsi v249 c2_i32_144
  let c1_i32_150 : BitVec 32 := 1#32
  let v267 : BitVec 32 := Scalar.subi v252 c1_i32_150
  let v268 : BitVec 32 := Scalar.select v266 v267 v252
  let c0_i32_152 : BitVec 32 := 0#32
  ![v268.toNat, 0]

def k0_chk23 (v0 : BitVec 32) (k0_t2 : Fin (k0_t2_loop v0).trips) (v249 : BitVec 32) : Prop :=
  (∀ (k0_h1 : k0_cond1 v0 k0_t2 = 1#1), ∀ a, (k0_off70 v249) a + S1x5120.size a ≤ S16384x5120.size a)
theorem k0_off70_inb : ∀ (v0 : BitVec 32) (k0_t2 : Fin (k0_t2_loop v0).trips) (v249 : BitVec 32) (k0_hw23 : k0_chk23 v0 k0_t2 v249), ∀ (k0_h1 : k0_cond1 v0 k0_t2 = 1#1), ∀ a, (k0_off70 v249) a + S1x5120.size a ≤ S16384x5120.size a := fun v0 k0_t2 v249 k0_hw23 k0_h1 => k0_hw23 k0_h1

def k0_off71 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_153 : BitVec 32 := 256#32
  let v274 : BitVec 32 := Scalar.muli v145 c256_i32_153
  let c0_i32_92 : BitVec 32 := 0#32
  let c1_i32_94 : BitVec 32 := 1#32
  let arg19 : BitVec 32 := Scf.iv c0_i32_92 c1_i32_94 k0_t4
  let c16_i32_154 : BitVec 32 := 16#32
  let v275 : BitVec 32 := Scalar.muli arg19 c16_i32_154
  let v276 : BitVec 32 := Scalar.addi v274 v275
  let c4_i32_155 : BitVec 32 := 4#32
  let v277 : BitVec 32 := Scalar.addi v276 c4_i32_155
  let v278 : Index := Scalar.indexCast v277
  ![v278.toNat]
def k0_off72 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off73 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_156 : BitVec 32 := 16#32
  let v280 : BitVec 32 := Scalar.muli arg19 c16_i32_156
  let c2_i32_157 : BitVec 32 := 2#32
  let v281 : BitVec 32 := Scalar.addi v280 c2_i32_157
  let c0_i32_165 : BitVec 32 := 0#32
  ![v146.toNat, v281.toNat, 0]
def k0_off74 (v279 : BitVec 32) : Fin 2 → Nat :=
  let c0_i32_159 : BitVec 32 := 0#32
  let v283 : BitVec 1 := Scalar.cmpi .sgt v279 c0_i32_159
  let v284 : BitVec 32 := Scalar.extui v283
  let c0_i32_160 : BitVec 32 := 0#32
  let v285 : BitVec 1 := Scalar.cmpi .slt v279 c0_i32_160
  let v286 : BitVec 32 := Scalar.extui v285
  let v287 : BitVec 32 := Scalar.subi v284 v286
  let c2_i32_158 : BitVec 32 := 2#32
  let c0_i32_161 : BitVec 32 := 0#32
  let v288 : BitVec 1 := Scalar.cmpi .sgt c2_i32_158 c0_i32_161
  let v289 : BitVec 32 := Scalar.extui v288
  let c0_i32_162 : BitVec 32 := 0#32
  let v290 : BitVec 1 := Scalar.cmpi .slt c2_i32_158 c0_i32_162
  let v291 : BitVec 32 := Scalar.extui v290
  let v292 : BitVec 32 := Scalar.subi v289 v291
  let v293 : BitVec 1 := Scalar.cmpi .ne v287 v292
  let v294 : BitVec 32 := Scalar.remsi v279 c2_i32_158
  let c0_i32_163 : BitVec 32 := 0#32
  let v295 : BitVec 1 := Scalar.cmpi .ne v294 c0_i32_163
  let v296 : BitVec 1 := Scalar.andi v293 v295
  let v282 : BitVec 32 := Scalar.divsi v279 c2_i32_158
  let c1_i32_164 : BitVec 32 := 1#32
  let v297 : BitVec 32 := Scalar.subi v282 c1_i32_164
  let v298 : BitVec 32 := Scalar.select v296 v297 v282
  let c0_i32_166 : BitVec 32 := 0#32
  ![v298.toNat, 0]

def k0_chk24 (v0 : BitVec 32) (k0_t2 : Fin (k0_t2_loop v0).trips) (v279 : BitVec 32) : Prop :=
  (∀ (k0_h1 : k0_cond1 v0 k0_t2 = 1#1), ∀ a, (k0_off74 v279) a + S1x5120.size a ≤ S16384x5120.size a)
theorem k0_off74_inb : ∀ (v0 : BitVec 32) (k0_t2 : Fin (k0_t2_loop v0).trips) (v279 : BitVec 32) (k0_hw24 : k0_chk24 v0 k0_t2 v279), ∀ (k0_h1 : k0_cond1 v0 k0_t2 = 1#1), ∀ a, (k0_off74 v279) a + S1x5120.size a ≤ S16384x5120.size a := fun v0 k0_t2 v279 k0_hw24 k0_h1 => k0_hw24 k0_h1

def k0_off75 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_167 : BitVec 32 := 256#32
  let v304 : BitVec 32 := Scalar.muli v145 c256_i32_167
  let c0_i32_92 : BitVec 32 := 0#32
  let c1_i32_94 : BitVec 32 := 1#32
  let arg19 : BitVec 32 := Scf.iv c0_i32_92 c1_i32_94 k0_t4
  let c16_i32_168 : BitVec 32 := 16#32
  let v305 : BitVec 32 := Scalar.muli arg19 c16_i32_168
  let v306 : BitVec 32 := Scalar.addi v304 v305
  let c5_i32 : BitVec 32 := 5#32
  let v307 : BitVec 32 := Scalar.addi v306 c5_i32
  let v308 : Index := Scalar.indexCast v307
  ![v308.toNat]
def k0_off76 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off77 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_169 : BitVec 32 := 16#32
  let v310 : BitVec 32 := Scalar.muli arg19 c16_i32_169
  let c10_i32 : BitVec 32 := 10#32
  let v311 : BitVec 32 := Scalar.addi v310 c10_i32
  let c0_i32_177 : BitVec 32 := 0#32
  ![v146.toNat, v311.toNat, 0]
def k0_off78 (v309 : BitVec 32) : Fin 2 → Nat :=
  let c0_i32_171 : BitVec 32 := 0#32
  let v313 : BitVec 1 := Scalar.cmpi .sgt v309 c0_i32_171
  let v314 : BitVec 32 := Scalar.extui v313
  let c0_i32_172 : BitVec 32 := 0#32
  let v315 : BitVec 1 := Scalar.cmpi .slt v309 c0_i32_172
  let v316 : BitVec 32 := Scalar.extui v315
  let v317 : BitVec 32 := Scalar.subi v314 v316
  let c2_i32_170 : BitVec 32 := 2#32
  let c0_i32_173 : BitVec 32 := 0#32
  let v318 : BitVec 1 := Scalar.cmpi .sgt c2_i32_170 c0_i32_173
  let v319 : BitVec 32 := Scalar.extui v318
  let c0_i32_174 : BitVec 32 := 0#32
  let v320 : BitVec 1 := Scalar.cmpi .slt c2_i32_170 c0_i32_174
  let v321 : BitVec 32 := Scalar.extui v320
  let v322 : BitVec 32 := Scalar.subi v319 v321
  let v323 : BitVec 1 := Scalar.cmpi .ne v317 v322
  let v324 : BitVec 32 := Scalar.remsi v309 c2_i32_170
  let c0_i32_175 : BitVec 32 := 0#32
  let v325 : BitVec 1 := Scalar.cmpi .ne v324 c0_i32_175
  let v326 : BitVec 1 := Scalar.andi v323 v325
  let v312 : BitVec 32 := Scalar.divsi v309 c2_i32_170
  let c1_i32_176 : BitVec 32 := 1#32
  let v327 : BitVec 32 := Scalar.subi v312 c1_i32_176
  let v328 : BitVec 32 := Scalar.select v326 v327 v312
  let c0_i32_178 : BitVec 32 := 0#32
  ![v328.toNat, 0]

def k0_chk25 (v0 : BitVec 32) (k0_t2 : Fin (k0_t2_loop v0).trips) (v309 : BitVec 32) : Prop :=
  (∀ (k0_h1 : k0_cond1 v0 k0_t2 = 1#1), ∀ a, (k0_off78 v309) a + S1x5120.size a ≤ S16384x5120.size a)
theorem k0_off78_inb : ∀ (v0 : BitVec 32) (k0_t2 : Fin (k0_t2_loop v0).trips) (v309 : BitVec 32) (k0_hw25 : k0_chk25 v0 k0_t2 v309), ∀ (k0_h1 : k0_cond1 v0 k0_t2 = 1#1), ∀ a, (k0_off78 v309) a + S1x5120.size a ≤ S16384x5120.size a := fun v0 k0_t2 v309 k0_hw25 k0_h1 => k0_hw25 k0_h1

def k0_off79 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_179 : BitVec 32 := 256#32
  let v334 : BitVec 32 := Scalar.muli v145 c256_i32_179
  let c0_i32_92 : BitVec 32 := 0#32
  let c1_i32_94 : BitVec 32 := 1#32
  let arg19 : BitVec 32 := Scf.iv c0_i32_92 c1_i32_94 k0_t4
  let c16_i32_180 : BitVec 32 := 16#32
  let v335 : BitVec 32 := Scalar.muli arg19 c16_i32_180
  let v336 : BitVec 32 := Scalar.addi v334 v335
  let c6_i32 : BitVec 32 := 6#32
  let v337 : BitVec 32 := Scalar.addi v336 c6_i32
  let v338 : Index := Scalar.indexCast v337
  ![v338.toNat]
def k0_off80 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off81 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_181 : BitVec 32 := 16#32
  let v340 : BitVec 32 := Scalar.muli arg19 c16_i32_181
  let c3_i32_182 : BitVec 32 := 3#32
  let v341 : BitVec 32 := Scalar.addi v340 c3_i32_182
  let c0_i32_190 : BitVec 32 := 0#32
  ![v146.toNat, v341.toNat, 0]
def k0_off82 (v339 : BitVec 32) : Fin 2 → Nat :=
  let c0_i32_184 : BitVec 32 := 0#32
  let v343 : BitVec 1 := Scalar.cmpi .sgt v339 c0_i32_184
  let v344 : BitVec 32 := Scalar.extui v343
  let c0_i32_185 : BitVec 32 := 0#32
  let v345 : BitVec 1 := Scalar.cmpi .slt v339 c0_i32_185
  let v346 : BitVec 32 := Scalar.extui v345
  let v347 : BitVec 32 := Scalar.subi v344 v346
  let c2_i32_183 : BitVec 32 := 2#32
  let c0_i32_186 : BitVec 32 := 0#32
  let v348 : BitVec 1 := Scalar.cmpi .sgt c2_i32_183 c0_i32_186
  let v349 : BitVec 32 := Scalar.extui v348
  let c0_i32_187 : BitVec 32 := 0#32
  let v350 : BitVec 1 := Scalar.cmpi .slt c2_i32_183 c0_i32_187
  let v351 : BitVec 32 := Scalar.extui v350
  let v352 : BitVec 32 := Scalar.subi v349 v351
  let v353 : BitVec 1 := Scalar.cmpi .ne v347 v352
  let v354 : BitVec 32 := Scalar.remsi v339 c2_i32_183
  let c0_i32_188 : BitVec 32 := 0#32
  let v355 : BitVec 1 := Scalar.cmpi .ne v354 c0_i32_188
  let v356 : BitVec 1 := Scalar.andi v353 v355
  let v342 : BitVec 32 := Scalar.divsi v339 c2_i32_183
  let c1_i32_189 : BitVec 32 := 1#32
  let v357 : BitVec 32 := Scalar.subi v342 c1_i32_189
  let v358 : BitVec 32 := Scalar.select v356 v357 v342
  let c0_i32_191 : BitVec 32 := 0#32
  ![v358.toNat, 0]

def k0_chk26 (v0 : BitVec 32) (k0_t2 : Fin (k0_t2_loop v0).trips) (v339 : BitVec 32) : Prop :=
  (∀ (k0_h1 : k0_cond1 v0 k0_t2 = 1#1), ∀ a, (k0_off82 v339) a + S1x5120.size a ≤ S16384x5120.size a)
theorem k0_off82_inb : ∀ (v0 : BitVec 32) (k0_t2 : Fin (k0_t2_loop v0).trips) (v339 : BitVec 32) (k0_hw26 : k0_chk26 v0 k0_t2 v339), ∀ (k0_h1 : k0_cond1 v0 k0_t2 = 1#1), ∀ a, (k0_off82 v339) a + S1x5120.size a ≤ S16384x5120.size a := fun v0 k0_t2 v339 k0_hw26 k0_h1 => k0_hw26 k0_h1

def k0_off83 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_192 : BitVec 32 := 256#32
  let v364 : BitVec 32 := Scalar.muli v145 c256_i32_192
  let c0_i32_92 : BitVec 32 := 0#32
  let c1_i32_94 : BitVec 32 := 1#32
  let arg19 : BitVec 32 := Scf.iv c0_i32_92 c1_i32_94 k0_t4
  let c16_i32_193 : BitVec 32 := 16#32
  let v365 : BitVec 32 := Scalar.muli arg19 c16_i32_193
  let v366 : BitVec 32 := Scalar.addi v364 v365
  let c7_i32 : BitVec 32 := 7#32
  let v367 : BitVec 32 := Scalar.addi v366 c7_i32
  let v368 : Index := Scalar.indexCast v367
  ![v368.toNat]
def k0_off84 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off85 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_194 : BitVec 32 := 16#32
  let v370 : BitVec 32 := Scalar.muli arg19 c16_i32_194
  let c11_i32 : BitVec 32 := 11#32
  let v371 : BitVec 32 := Scalar.addi v370 c11_i32
  let c0_i32_202 : BitVec 32 := 0#32
  ![v146.toNat, v371.toNat, 0]
def k0_off86 (v369 : BitVec 32) : Fin 2 → Nat :=
  let c0_i32_196 : BitVec 32 := 0#32
  let v373 : BitVec 1 := Scalar.cmpi .sgt v369 c0_i32_196
  let v374 : BitVec 32 := Scalar.extui v373
  let c0_i32_197 : BitVec 32 := 0#32
  let v375 : BitVec 1 := Scalar.cmpi .slt v369 c0_i32_197
  let v376 : BitVec 32 := Scalar.extui v375
  let v377 : BitVec 32 := Scalar.subi v374 v376
  let c2_i32_195 : BitVec 32 := 2#32
  let c0_i32_198 : BitVec 32 := 0#32
  let v378 : BitVec 1 := Scalar.cmpi .sgt c2_i32_195 c0_i32_198
  let v379 : BitVec 32 := Scalar.extui v378
  let c0_i32_199 : BitVec 32 := 0#32
  let v380 : BitVec 1 := Scalar.cmpi .slt c2_i32_195 c0_i32_199
  let v381 : BitVec 32 := Scalar.extui v380
  let v382 : BitVec 32 := Scalar.subi v379 v381
  let v383 : BitVec 1 := Scalar.cmpi .ne v377 v382
  let v384 : BitVec 32 := Scalar.remsi v369 c2_i32_195
  let c0_i32_200 : BitVec 32 := 0#32
  let v385 : BitVec 1 := Scalar.cmpi .ne v384 c0_i32_200
  let v386 : BitVec 1 := Scalar.andi v383 v385
  let v372 : BitVec 32 := Scalar.divsi v369 c2_i32_195
  let c1_i32_201 : BitVec 32 := 1#32
  let v387 : BitVec 32 := Scalar.subi v372 c1_i32_201
  let v388 : BitVec 32 := Scalar.select v386 v387 v372
  let c0_i32_203 : BitVec 32 := 0#32
  ![v388.toNat, 0]

def k0_chk27 (v0 : BitVec 32) (k0_t2 : Fin (k0_t2_loop v0).trips) (v369 : BitVec 32) : Prop :=
  (∀ (k0_h1 : k0_cond1 v0 k0_t2 = 1#1), ∀ a, (k0_off86 v369) a + S1x5120.size a ≤ S16384x5120.size a)
theorem k0_off86_inb : ∀ (v0 : BitVec 32) (k0_t2 : Fin (k0_t2_loop v0).trips) (v369 : BitVec 32) (k0_hw27 : k0_chk27 v0 k0_t2 v369), ∀ (k0_h1 : k0_cond1 v0 k0_t2 = 1#1), ∀ a, (k0_off86 v369) a + S1x5120.size a ≤ S16384x5120.size a := fun v0 k0_t2 v369 k0_hw27 k0_h1 => k0_hw27 k0_h1

def k0_off87 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_204 : BitVec 32 := 256#32
  let v394 : BitVec 32 := Scalar.muli v145 c256_i32_204
  let c0_i32_92 : BitVec 32 := 0#32
  let c1_i32_94 : BitVec 32 := 1#32
  let arg19 : BitVec 32 := Scf.iv c0_i32_92 c1_i32_94 k0_t4
  let c16_i32_205 : BitVec 32 := 16#32
  let v395 : BitVec 32 := Scalar.muli arg19 c16_i32_205
  let v396 : BitVec 32 := Scalar.addi v394 v395
  let c8_i32_206 : BitVec 32 := 8#32
  let v397 : BitVec 32 := Scalar.addi v396 c8_i32_206
  let v398 : Index := Scalar.indexCast v397
  ![v398.toNat]
def k0_off88 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off89 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_207 : BitVec 32 := 16#32
  let v400 : BitVec 32 := Scalar.muli arg19 c16_i32_207
  let c4_i32_208 : BitVec 32 := 4#32
  let v401 : BitVec 32 := Scalar.addi v400 c4_i32_208
  let c0_i32_216 : BitVec 32 := 0#32
  ![v146.toNat, v401.toNat, 0]
def k0_off90 (v399 : BitVec 32) : Fin 2 → Nat :=
  let c0_i32_210 : BitVec 32 := 0#32
  let v403 : BitVec 1 := Scalar.cmpi .sgt v399 c0_i32_210
  let v404 : BitVec 32 := Scalar.extui v403
  let c0_i32_211 : BitVec 32 := 0#32
  let v405 : BitVec 1 := Scalar.cmpi .slt v399 c0_i32_211
  let v406 : BitVec 32 := Scalar.extui v405
  let v407 : BitVec 32 := Scalar.subi v404 v406
  let c2_i32_209 : BitVec 32 := 2#32
  let c0_i32_212 : BitVec 32 := 0#32
  let v408 : BitVec 1 := Scalar.cmpi .sgt c2_i32_209 c0_i32_212
  let v409 : BitVec 32 := Scalar.extui v408
  let c0_i32_213 : BitVec 32 := 0#32
  let v410 : BitVec 1 := Scalar.cmpi .slt c2_i32_209 c0_i32_213
  let v411 : BitVec 32 := Scalar.extui v410
  let v412 : BitVec 32 := Scalar.subi v409 v411
  let v413 : BitVec 1 := Scalar.cmpi .ne v407 v412
  let v414 : BitVec 32 := Scalar.remsi v399 c2_i32_209
  let c0_i32_214 : BitVec 32 := 0#32
  let v415 : BitVec 1 := Scalar.cmpi .ne v414 c0_i32_214
  let v416 : BitVec 1 := Scalar.andi v413 v415
  let v402 : BitVec 32 := Scalar.divsi v399 c2_i32_209
  let c1_i32_215 : BitVec 32 := 1#32
  let v417 : BitVec 32 := Scalar.subi v402 c1_i32_215
  let v418 : BitVec 32 := Scalar.select v416 v417 v402
  let c0_i32_217 : BitVec 32 := 0#32
  ![v418.toNat, 0]

def k0_chk28 (v0 : BitVec 32) (k0_t2 : Fin (k0_t2_loop v0).trips) (v399 : BitVec 32) : Prop :=
  (∀ (k0_h1 : k0_cond1 v0 k0_t2 = 1#1), ∀ a, (k0_off90 v399) a + S1x5120.size a ≤ S16384x5120.size a)
theorem k0_off90_inb : ∀ (v0 : BitVec 32) (k0_t2 : Fin (k0_t2_loop v0).trips) (v399 : BitVec 32) (k0_hw28 : k0_chk28 v0 k0_t2 v399), ∀ (k0_h1 : k0_cond1 v0 k0_t2 = 1#1), ∀ a, (k0_off90 v399) a + S1x5120.size a ≤ S16384x5120.size a := fun v0 k0_t2 v399 k0_hw28 k0_h1 => k0_hw28 k0_h1

def k0_off91 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_218 : BitVec 32 := 256#32
  let v424 : BitVec 32 := Scalar.muli v145 c256_i32_218
  let c0_i32_92 : BitVec 32 := 0#32
  let c1_i32_94 : BitVec 32 := 1#32
  let arg19 : BitVec 32 := Scf.iv c0_i32_92 c1_i32_94 k0_t4
  let c16_i32_219 : BitVec 32 := 16#32
  let v425 : BitVec 32 := Scalar.muli arg19 c16_i32_219
  let v426 : BitVec 32 := Scalar.addi v424 v425
  let c9_i32_220 : BitVec 32 := 9#32
  let v427 : BitVec 32 := Scalar.addi v426 c9_i32_220
  let v428 : Index := Scalar.indexCast v427
  ![v428.toNat]
def k0_off92 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off93 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_221 : BitVec 32 := 16#32
  let v430 : BitVec 32 := Scalar.muli arg19 c16_i32_221
  let c12_i32 : BitVec 32 := 12#32
  let v431 : BitVec 32 := Scalar.addi v430 c12_i32
  let c0_i32_229 : BitVec 32 := 0#32
  ![v146.toNat, v431.toNat, 0]
def k0_off94 (v429 : BitVec 32) : Fin 2 → Nat :=
  let c0_i32_223 : BitVec 32 := 0#32
  let v433 : BitVec 1 := Scalar.cmpi .sgt v429 c0_i32_223
  let v434 : BitVec 32 := Scalar.extui v433
  let c0_i32_224 : BitVec 32 := 0#32
  let v435 : BitVec 1 := Scalar.cmpi .slt v429 c0_i32_224
  let v436 : BitVec 32 := Scalar.extui v435
  let v437 : BitVec 32 := Scalar.subi v434 v436
  let c2_i32_222 : BitVec 32 := 2#32
  let c0_i32_225 : BitVec 32 := 0#32
  let v438 : BitVec 1 := Scalar.cmpi .sgt c2_i32_222 c0_i32_225
  let v439 : BitVec 32 := Scalar.extui v438
  let c0_i32_226 : BitVec 32 := 0#32
  let v440 : BitVec 1 := Scalar.cmpi .slt c2_i32_222 c0_i32_226
  let v441 : BitVec 32 := Scalar.extui v440
  let v442 : BitVec 32 := Scalar.subi v439 v441
  let v443 : BitVec 1 := Scalar.cmpi .ne v437 v442
  let v444 : BitVec 32 := Scalar.remsi v429 c2_i32_222
  let c0_i32_227 : BitVec 32 := 0#32
  let v445 : BitVec 1 := Scalar.cmpi .ne v444 c0_i32_227
  let v446 : BitVec 1 := Scalar.andi v443 v445
  let v432 : BitVec 32 := Scalar.divsi v429 c2_i32_222
  let c1_i32_228 : BitVec 32 := 1#32
  let v447 : BitVec 32 := Scalar.subi v432 c1_i32_228
  let v448 : BitVec 32 := Scalar.select v446 v447 v432
  let c0_i32_230 : BitVec 32 := 0#32
  ![v448.toNat, 0]

def k0_chk29 (v0 : BitVec 32) (k0_t2 : Fin (k0_t2_loop v0).trips) (v429 : BitVec 32) : Prop :=
  (∀ (k0_h1 : k0_cond1 v0 k0_t2 = 1#1), ∀ a, (k0_off94 v429) a + S1x5120.size a ≤ S16384x5120.size a)
theorem k0_off94_inb : ∀ (v0 : BitVec 32) (k0_t2 : Fin (k0_t2_loop v0).trips) (v429 : BitVec 32) (k0_hw29 : k0_chk29 v0 k0_t2 v429), ∀ (k0_h1 : k0_cond1 v0 k0_t2 = 1#1), ∀ a, (k0_off94 v429) a + S1x5120.size a ≤ S16384x5120.size a := fun v0 k0_t2 v429 k0_hw29 k0_h1 => k0_hw29 k0_h1

def k0_off95 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_231 : BitVec 32 := 256#32
  let v454 : BitVec 32 := Scalar.muli v145 c256_i32_231
  let c0_i32_92 : BitVec 32 := 0#32
  let c1_i32_94 : BitVec 32 := 1#32
  let arg19 : BitVec 32 := Scf.iv c0_i32_92 c1_i32_94 k0_t4
  let c16_i32_232 : BitVec 32 := 16#32
  let v455 : BitVec 32 := Scalar.muli arg19 c16_i32_232
  let v456 : BitVec 32 := Scalar.addi v454 v455
  let c10_i32_233 : BitVec 32 := 10#32
  let v457 : BitVec 32 := Scalar.addi v456 c10_i32_233
  let v458 : Index := Scalar.indexCast v457
  ![v458.toNat]
def k0_off96 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off97 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_234 : BitVec 32 := 16#32
  let v460 : BitVec 32 := Scalar.muli arg19 c16_i32_234
  let c5_i32_235 : BitVec 32 := 5#32
  let v461 : BitVec 32 := Scalar.addi v460 c5_i32_235
  let c0_i32_243 : BitVec 32 := 0#32
  ![v146.toNat, v461.toNat, 0]
def k0_off98 (v459 : BitVec 32) : Fin 2 → Nat :=
  let c0_i32_237 : BitVec 32 := 0#32
  let v463 : BitVec 1 := Scalar.cmpi .sgt v459 c0_i32_237
  let v464 : BitVec 32 := Scalar.extui v463
  let c0_i32_238 : BitVec 32 := 0#32
  let v465 : BitVec 1 := Scalar.cmpi .slt v459 c0_i32_238
  let v466 : BitVec 32 := Scalar.extui v465
  let v467 : BitVec 32 := Scalar.subi v464 v466
  let c2_i32_236 : BitVec 32 := 2#32
  let c0_i32_239 : BitVec 32 := 0#32
  let v468 : BitVec 1 := Scalar.cmpi .sgt c2_i32_236 c0_i32_239
  let v469 : BitVec 32 := Scalar.extui v468
  let c0_i32_240 : BitVec 32 := 0#32
  let v470 : BitVec 1 := Scalar.cmpi .slt c2_i32_236 c0_i32_240
  let v471 : BitVec 32 := Scalar.extui v470
  let v472 : BitVec 32 := Scalar.subi v469 v471
  let v473 : BitVec 1 := Scalar.cmpi .ne v467 v472
  let v474 : BitVec 32 := Scalar.remsi v459 c2_i32_236
  let c0_i32_241 : BitVec 32 := 0#32
  let v475 : BitVec 1 := Scalar.cmpi .ne v474 c0_i32_241
  let v476 : BitVec 1 := Scalar.andi v473 v475
  let v462 : BitVec 32 := Scalar.divsi v459 c2_i32_236
  let c1_i32_242 : BitVec 32 := 1#32
  let v477 : BitVec 32 := Scalar.subi v462 c1_i32_242
  let v478 : BitVec 32 := Scalar.select v476 v477 v462
  let c0_i32_244 : BitVec 32 := 0#32
  ![v478.toNat, 0]

def k0_chk30 (v0 : BitVec 32) (k0_t2 : Fin (k0_t2_loop v0).trips) (v459 : BitVec 32) : Prop :=
  (∀ (k0_h1 : k0_cond1 v0 k0_t2 = 1#1), ∀ a, (k0_off98 v459) a + S1x5120.size a ≤ S16384x5120.size a)
theorem k0_off98_inb : ∀ (v0 : BitVec 32) (k0_t2 : Fin (k0_t2_loop v0).trips) (v459 : BitVec 32) (k0_hw30 : k0_chk30 v0 k0_t2 v459), ∀ (k0_h1 : k0_cond1 v0 k0_t2 = 1#1), ∀ a, (k0_off98 v459) a + S1x5120.size a ≤ S16384x5120.size a := fun v0 k0_t2 v459 k0_hw30 k0_h1 => k0_hw30 k0_h1

def k0_off99 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_245 : BitVec 32 := 256#32
  let v484 : BitVec 32 := Scalar.muli v145 c256_i32_245
  let c0_i32_92 : BitVec 32 := 0#32
  let c1_i32_94 : BitVec 32 := 1#32
  let arg19 : BitVec 32 := Scf.iv c0_i32_92 c1_i32_94 k0_t4
  let c16_i32_246 : BitVec 32 := 16#32
  let v485 : BitVec 32 := Scalar.muli arg19 c16_i32_246
  let v486 : BitVec 32 := Scalar.addi v484 v485
  let c11_i32_247 : BitVec 32 := 11#32
  let v487 : BitVec 32 := Scalar.addi v486 c11_i32_247
  let v488 : Index := Scalar.indexCast v487
  ![v488.toNat]
def k0_off100 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off101 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_248 : BitVec 32 := 16#32
  let v490 : BitVec 32 := Scalar.muli arg19 c16_i32_248
  let c13_i32 : BitVec 32 := 13#32
  let v491 : BitVec 32 := Scalar.addi v490 c13_i32
  let c0_i32_256 : BitVec 32 := 0#32
  ![v146.toNat, v491.toNat, 0]
def k0_off102 (v489 : BitVec 32) : Fin 2 → Nat :=
  let c0_i32_250 : BitVec 32 := 0#32
  let v493 : BitVec 1 := Scalar.cmpi .sgt v489 c0_i32_250
  let v494 : BitVec 32 := Scalar.extui v493
  let c0_i32_251 : BitVec 32 := 0#32
  let v495 : BitVec 1 := Scalar.cmpi .slt v489 c0_i32_251
  let v496 : BitVec 32 := Scalar.extui v495
  let v497 : BitVec 32 := Scalar.subi v494 v496
  let c2_i32_249 : BitVec 32 := 2#32
  let c0_i32_252 : BitVec 32 := 0#32
  let v498 : BitVec 1 := Scalar.cmpi .sgt c2_i32_249 c0_i32_252
  let v499 : BitVec 32 := Scalar.extui v498
  let c0_i32_253 : BitVec 32 := 0#32
  let v500 : BitVec 1 := Scalar.cmpi .slt c2_i32_249 c0_i32_253
  let v501 : BitVec 32 := Scalar.extui v500
  let v502 : BitVec 32 := Scalar.subi v499 v501
  let v503 : BitVec 1 := Scalar.cmpi .ne v497 v502
  let v504 : BitVec 32 := Scalar.remsi v489 c2_i32_249
  let c0_i32_254 : BitVec 32 := 0#32
  let v505 : BitVec 1 := Scalar.cmpi .ne v504 c0_i32_254
  let v506 : BitVec 1 := Scalar.andi v503 v505
  let v492 : BitVec 32 := Scalar.divsi v489 c2_i32_249
  let c1_i32_255 : BitVec 32 := 1#32
  let v507 : BitVec 32 := Scalar.subi v492 c1_i32_255
  let v508 : BitVec 32 := Scalar.select v506 v507 v492
  let c0_i32_257 : BitVec 32 := 0#32
  ![v508.toNat, 0]

def k0_chk31 (v0 : BitVec 32) (k0_t2 : Fin (k0_t2_loop v0).trips) (v489 : BitVec 32) : Prop :=
  (∀ (k0_h1 : k0_cond1 v0 k0_t2 = 1#1), ∀ a, (k0_off102 v489) a + S1x5120.size a ≤ S16384x5120.size a)
theorem k0_off102_inb : ∀ (v0 : BitVec 32) (k0_t2 : Fin (k0_t2_loop v0).trips) (v489 : BitVec 32) (k0_hw31 : k0_chk31 v0 k0_t2 v489), ∀ (k0_h1 : k0_cond1 v0 k0_t2 = 1#1), ∀ a, (k0_off102 v489) a + S1x5120.size a ≤ S16384x5120.size a := fun v0 k0_t2 v489 k0_hw31 k0_h1 => k0_hw31 k0_h1

def k0_off103 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_258 : BitVec 32 := 256#32
  let v514 : BitVec 32 := Scalar.muli v145 c256_i32_258
  let c0_i32_92 : BitVec 32 := 0#32
  let c1_i32_94 : BitVec 32 := 1#32
  let arg19 : BitVec 32 := Scf.iv c0_i32_92 c1_i32_94 k0_t4
  let c16_i32_259 : BitVec 32 := 16#32
  let v515 : BitVec 32 := Scalar.muli arg19 c16_i32_259
  let v516 : BitVec 32 := Scalar.addi v514 v515
  let c12_i32_260 : BitVec 32 := 12#32
  let v517 : BitVec 32 := Scalar.addi v516 c12_i32_260
  let v518 : Index := Scalar.indexCast v517
  ![v518.toNat]
def k0_off104 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off105 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_261 : BitVec 32 := 16#32
  let v520 : BitVec 32 := Scalar.muli arg19 c16_i32_261
  let c6_i32_262 : BitVec 32 := 6#32
  let v521 : BitVec 32 := Scalar.addi v520 c6_i32_262
  let c0_i32_270 : BitVec 32 := 0#32
  ![v146.toNat, v521.toNat, 0]
def k0_off106 (v519 : BitVec 32) : Fin 2 → Nat :=
  let c0_i32_264 : BitVec 32 := 0#32
  let v523 : BitVec 1 := Scalar.cmpi .sgt v519 c0_i32_264
  let v524 : BitVec 32 := Scalar.extui v523
  let c0_i32_265 : BitVec 32 := 0#32
  let v525 : BitVec 1 := Scalar.cmpi .slt v519 c0_i32_265
  let v526 : BitVec 32 := Scalar.extui v525
  let v527 : BitVec 32 := Scalar.subi v524 v526
  let c2_i32_263 : BitVec 32 := 2#32
  let c0_i32_266 : BitVec 32 := 0#32
  let v528 : BitVec 1 := Scalar.cmpi .sgt c2_i32_263 c0_i32_266
  let v529 : BitVec 32 := Scalar.extui v528
  let c0_i32_267 : BitVec 32 := 0#32
  let v530 : BitVec 1 := Scalar.cmpi .slt c2_i32_263 c0_i32_267
  let v531 : BitVec 32 := Scalar.extui v530
  let v532 : BitVec 32 := Scalar.subi v529 v531
  let v533 : BitVec 1 := Scalar.cmpi .ne v527 v532
  let v534 : BitVec 32 := Scalar.remsi v519 c2_i32_263
  let c0_i32_268 : BitVec 32 := 0#32
  let v535 : BitVec 1 := Scalar.cmpi .ne v534 c0_i32_268
  let v536 : BitVec 1 := Scalar.andi v533 v535
  let v522 : BitVec 32 := Scalar.divsi v519 c2_i32_263
  let c1_i32_269 : BitVec 32 := 1#32
  let v537 : BitVec 32 := Scalar.subi v522 c1_i32_269
  let v538 : BitVec 32 := Scalar.select v536 v537 v522
  let c0_i32_271 : BitVec 32 := 0#32
  ![v538.toNat, 0]

def k0_chk32 (v0 : BitVec 32) (k0_t2 : Fin (k0_t2_loop v0).trips) (v519 : BitVec 32) : Prop :=
  (∀ (k0_h1 : k0_cond1 v0 k0_t2 = 1#1), ∀ a, (k0_off106 v519) a + S1x5120.size a ≤ S16384x5120.size a)
theorem k0_off106_inb : ∀ (v0 : BitVec 32) (k0_t2 : Fin (k0_t2_loop v0).trips) (v519 : BitVec 32) (k0_hw32 : k0_chk32 v0 k0_t2 v519), ∀ (k0_h1 : k0_cond1 v0 k0_t2 = 1#1), ∀ a, (k0_off106 v519) a + S1x5120.size a ≤ S16384x5120.size a := fun v0 k0_t2 v519 k0_hw32 k0_h1 => k0_hw32 k0_h1

def k0_off107 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_272 : BitVec 32 := 256#32
  let v544 : BitVec 32 := Scalar.muli v145 c256_i32_272
  let c0_i32_92 : BitVec 32 := 0#32
  let c1_i32_94 : BitVec 32 := 1#32
  let arg19 : BitVec 32 := Scf.iv c0_i32_92 c1_i32_94 k0_t4
  let c16_i32_273 : BitVec 32 := 16#32
  let v545 : BitVec 32 := Scalar.muli arg19 c16_i32_273
  let v546 : BitVec 32 := Scalar.addi v544 v545
  let c13_i32_274 : BitVec 32 := 13#32
  let v547 : BitVec 32 := Scalar.addi v546 c13_i32_274
  let v548 : Index := Scalar.indexCast v547
  ![v548.toNat]
def k0_off108 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off109 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_275 : BitVec 32 := 16#32
  let v550 : BitVec 32 := Scalar.muli arg19 c16_i32_275
  let c14_i32 : BitVec 32 := 14#32
  let v551 : BitVec 32 := Scalar.addi v550 c14_i32
  let c0_i32_283 : BitVec 32 := 0#32
  ![v146.toNat, v551.toNat, 0]
def k0_off110 (v549 : BitVec 32) : Fin 2 → Nat :=
  let c0_i32_277 : BitVec 32 := 0#32
  let v553 : BitVec 1 := Scalar.cmpi .sgt v549 c0_i32_277
  let v554 : BitVec 32 := Scalar.extui v553
  let c0_i32_278 : BitVec 32 := 0#32
  let v555 : BitVec 1 := Scalar.cmpi .slt v549 c0_i32_278
  let v556 : BitVec 32 := Scalar.extui v555
  let v557 : BitVec 32 := Scalar.subi v554 v556
  let c2_i32_276 : BitVec 32 := 2#32
  let c0_i32_279 : BitVec 32 := 0#32
  let v558 : BitVec 1 := Scalar.cmpi .sgt c2_i32_276 c0_i32_279
  let v559 : BitVec 32 := Scalar.extui v558
  let c0_i32_280 : BitVec 32 := 0#32
  let v560 : BitVec 1 := Scalar.cmpi .slt c2_i32_276 c0_i32_280
  let v561 : BitVec 32 := Scalar.extui v560
  let v562 : BitVec 32 := Scalar.subi v559 v561
  let v563 : BitVec 1 := Scalar.cmpi .ne v557 v562
  let v564 : BitVec 32 := Scalar.remsi v549 c2_i32_276
  let c0_i32_281 : BitVec 32 := 0#32
  let v565 : BitVec 1 := Scalar.cmpi .ne v564 c0_i32_281
  let v566 : BitVec 1 := Scalar.andi v563 v565
  let v552 : BitVec 32 := Scalar.divsi v549 c2_i32_276
  let c1_i32_282 : BitVec 32 := 1#32
  let v567 : BitVec 32 := Scalar.subi v552 c1_i32_282
  let v568 : BitVec 32 := Scalar.select v566 v567 v552
  let c0_i32_284 : BitVec 32 := 0#32
  ![v568.toNat, 0]

def k0_chk33 (v0 : BitVec 32) (k0_t2 : Fin (k0_t2_loop v0).trips) (v549 : BitVec 32) : Prop :=
  (∀ (k0_h1 : k0_cond1 v0 k0_t2 = 1#1), ∀ a, (k0_off110 v549) a + S1x5120.size a ≤ S16384x5120.size a)
theorem k0_off110_inb : ∀ (v0 : BitVec 32) (k0_t2 : Fin (k0_t2_loop v0).trips) (v549 : BitVec 32) (k0_hw33 : k0_chk33 v0 k0_t2 v549), ∀ (k0_h1 : k0_cond1 v0 k0_t2 = 1#1), ∀ a, (k0_off110 v549) a + S1x5120.size a ≤ S16384x5120.size a := fun v0 k0_t2 v549 k0_hw33 k0_h1 => k0_hw33 k0_h1

def k0_off111 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_285 : BitVec 32 := 256#32
  let v574 : BitVec 32 := Scalar.muli v145 c256_i32_285
  let c0_i32_92 : BitVec 32 := 0#32
  let c1_i32_94 : BitVec 32 := 1#32
  let arg19 : BitVec 32 := Scf.iv c0_i32_92 c1_i32_94 k0_t4
  let c16_i32_286 : BitVec 32 := 16#32
  let v575 : BitVec 32 := Scalar.muli arg19 c16_i32_286
  let v576 : BitVec 32 := Scalar.addi v574 v575
  let c14_i32_287 : BitVec 32 := 14#32
  let v577 : BitVec 32 := Scalar.addi v576 c14_i32_287
  let v578 : Index := Scalar.indexCast v577
  ![v578.toNat]
def k0_off112 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off113 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_288 : BitVec 32 := 16#32
  let v580 : BitVec 32 := Scalar.muli arg19 c16_i32_288
  let c7_i32_289 : BitVec 32 := 7#32
  let v581 : BitVec 32 := Scalar.addi v580 c7_i32_289
  let c0_i32_297 : BitVec 32 := 0#32
  ![v146.toNat, v581.toNat, 0]
def k0_off114 (v579 : BitVec 32) : Fin 2 → Nat :=
  let c0_i32_291 : BitVec 32 := 0#32
  let v583 : BitVec 1 := Scalar.cmpi .sgt v579 c0_i32_291
  let v584 : BitVec 32 := Scalar.extui v583
  let c0_i32_292 : BitVec 32 := 0#32
  let v585 : BitVec 1 := Scalar.cmpi .slt v579 c0_i32_292
  let v586 : BitVec 32 := Scalar.extui v585
  let v587 : BitVec 32 := Scalar.subi v584 v586
  let c2_i32_290 : BitVec 32 := 2#32
  let c0_i32_293 : BitVec 32 := 0#32
  let v588 : BitVec 1 := Scalar.cmpi .sgt c2_i32_290 c0_i32_293
  let v589 : BitVec 32 := Scalar.extui v588
  let c0_i32_294 : BitVec 32 := 0#32
  let v590 : BitVec 1 := Scalar.cmpi .slt c2_i32_290 c0_i32_294
  let v591 : BitVec 32 := Scalar.extui v590
  let v592 : BitVec 32 := Scalar.subi v589 v591
  let v593 : BitVec 1 := Scalar.cmpi .ne v587 v592
  let v594 : BitVec 32 := Scalar.remsi v579 c2_i32_290
  let c0_i32_295 : BitVec 32 := 0#32
  let v595 : BitVec 1 := Scalar.cmpi .ne v594 c0_i32_295
  let v596 : BitVec 1 := Scalar.andi v593 v595
  let v582 : BitVec 32 := Scalar.divsi v579 c2_i32_290
  let c1_i32_296 : BitVec 32 := 1#32
  let v597 : BitVec 32 := Scalar.subi v582 c1_i32_296
  let v598 : BitVec 32 := Scalar.select v596 v597 v582
  let c0_i32_298 : BitVec 32 := 0#32
  ![v598.toNat, 0]

def k0_chk34 (v0 : BitVec 32) (k0_t2 : Fin (k0_t2_loop v0).trips) (v579 : BitVec 32) : Prop :=
  (∀ (k0_h1 : k0_cond1 v0 k0_t2 = 1#1), ∀ a, (k0_off114 v579) a + S1x5120.size a ≤ S16384x5120.size a)
theorem k0_off114_inb : ∀ (v0 : BitVec 32) (k0_t2 : Fin (k0_t2_loop v0).trips) (v579 : BitVec 32) (k0_hw34 : k0_chk34 v0 k0_t2 v579), ∀ (k0_h1 : k0_cond1 v0 k0_t2 = 1#1), ∀ a, (k0_off114 v579) a + S1x5120.size a ≤ S16384x5120.size a := fun v0 k0_t2 v579 k0_hw34 k0_h1 => k0_hw34 k0_h1

def k0_off115 (v0 : BitVec 32) (k0_t2 : Fin (k0_t2_loop v0).trips) (k0_t4 : Fin k0_t4_loop.trips) : Fin 1 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c256_i32_299 : BitVec 32 := 256#32
  let v604 : BitVec 32 := Scalar.muli v145 c256_i32_299
  let c0_i32_92 : BitVec 32 := 0#32
  let c1_i32_94 : BitVec 32 := 1#32
  let arg19 : BitVec 32 := Scf.iv c0_i32_92 c1_i32_94 k0_t4
  let c16_i32_300 : BitVec 32 := 16#32
  let v605 : BitVec 32 := Scalar.muli arg19 c16_i32_300
  let v606 : BitVec 32 := Scalar.addi v604 v605
  let c15_i32 : BitVec 32 := 15#32
  let v607 : BitVec 32 := Scalar.addi v606 c15_i32
  let v608 : Index := Scalar.indexCast v607
  ![v608.toNat]
def k0_off116 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off117 (v0 : BitVec 32) (k0_t2 : Fin (k0_t2_loop v0).trips) (k0_t4 : Fin k0_t4_loop.trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t4
  let c16_i32_301 : BitVec 32 := 16#32
  let v610 : BitVec 32 := Scalar.muli arg19 c16_i32_301
  let c15_i32_302 : BitVec 32 := 15#32
  let v611 : BitVec 32 := Scalar.addi v610 c15_i32_302
  let c0_i32_310 : BitVec 32 := 0#32
  ![v146.toNat, v611.toNat, 0]
def k0_off118 (v609 : BitVec 32) : Fin 2 → Nat :=
  let c0_i32_304 : BitVec 32 := 0#32
  let v613 : BitVec 1 := Scalar.cmpi .sgt v609 c0_i32_304
  let v614 : BitVec 32 := Scalar.extui v613
  let c0_i32_305 : BitVec 32 := 0#32
  let v615 : BitVec 1 := Scalar.cmpi .slt v609 c0_i32_305
  let v616 : BitVec 32 := Scalar.extui v615
  let v617 : BitVec 32 := Scalar.subi v614 v616
  let c2_i32_303 : BitVec 32 := 2#32
  let c0_i32_306 : BitVec 32 := 0#32
  let v618 : BitVec 1 := Scalar.cmpi .sgt c2_i32_303 c0_i32_306
  let v619 : BitVec 32 := Scalar.extui v618
  let c0_i32_307 : BitVec 32 := 0#32
  let v620 : BitVec 1 := Scalar.cmpi .slt c2_i32_303 c0_i32_307
  let v621 : BitVec 32 := Scalar.extui v620
  let v622 : BitVec 32 := Scalar.subi v619 v621
  let v623 : BitVec 1 := Scalar.cmpi .ne v617 v622
  let v624 : BitVec 32 := Scalar.remsi v609 c2_i32_303
  let c0_i32_308 : BitVec 32 := 0#32
  let v625 : BitVec 1 := Scalar.cmpi .ne v624 c0_i32_308
  let v626 : BitVec 1 := Scalar.andi v623 v625
  let v612 : BitVec 32 := Scalar.divsi v609 c2_i32_303
  let c1_i32_309 : BitVec 32 := 1#32
  let v627 : BitVec 32 := Scalar.subi v612 c1_i32_309
  let v628 : BitVec 32 := Scalar.select v626 v627 v612
  let c0_i32_311 : BitVec 32 := 0#32
  ![v628.toNat, 0]

def k0_chk35 (v0 : BitVec 32) (k0_t2 : Fin (k0_t2_loop v0).trips) (v609 : BitVec 32) : Prop :=
  (∀ (k0_h1 : k0_cond1 v0 k0_t2 = 1#1), ∀ a, (k0_off118 v609) a + S1x5120.size a ≤ S16384x5120.size a)
theorem k0_off118_inb : ∀ (v0 : BitVec 32) (k0_t2 : Fin (k0_t2_loop v0).trips) (v609 : BitVec 32) (k0_hw35 : k0_chk35 v0 k0_t2 v609), ∀ (k0_h1 : k0_cond1 v0 k0_t2 = 1#1), ∀ a, (k0_off118 v609) a + S1x5120.size a ≤ S16384x5120.size a := fun v0 k0_t2 v609 k0_hw35 k0_h1 => k0_hw35 k0_h1

def k0_off119 (v0 : BitVec 32) (k0_t2 : Fin (k0_t2_loop v0).trips) : Fin 1 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  ![v146.toNat]
def k0_off120 (v0 : BitVec 32) (k0_t2 : Fin (k0_t2_loop v0).trips) : Fin 3 → Nat :=
  let c1_i32_90 : BitVec 32 := 1#32
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : BitVec 32 := Scalar.subi c1_i32_90 v37
  let c0_i32_96 : BitVec 32 := 0#32
  let c0_i32_97 : BitVec 32 := 0#32
  ![v146.toNat, 0, 0]
def k0_off121 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_89 : BitVec 32 := 1#32
  let v145 : BitVec 32 := Scalar.addi arg18 c1_i32_89
  let c0_i32_98 : BitVec 32 := 0#32
  let c0_i32_99 : BitVec 32 := 0#32
  ![v145.toNat, 0, 0]
def k0_off122 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v49 : Index := Scalar.indexCast v37
  let c0_46 : Index := 0#32
  let c0_47 : Index := 0#32
  ![v49.toNat, 0, 0]
@[reducible] def k0_t5_loop : Scf.Loop 32 :=
  let c0_i32_49 : BitVec 32 := 0#32
  let c40_i32 : BitVec 32 := 40#32
  let v57 : BitVec 32 := Scalar.addi c0_i32_49 c40_i32
  let c1_i32_50 : BitVec 32 := 1#32
  ⟨c0_i32_49, v57, c1_i32_50⟩
def k0_off123 (v0 : BitVec 32) (k0_t2 : Fin (k0_t2_loop v0).trips) (k0_t5 : Fin k0_t5_loop.trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v146 : Index := Scalar.indexCast v37
  let c0_89 : Index := 0#32
  let c0_i32_49 : BitVec 32 := 0#32
  let c1_i32_50 : BitVec 32 := 1#32
  let arg19 : BitVec 32 := Scf.iv c0_i32_49 c1_i32_50 k0_t5
  let c128_i32 : BitVec 32 := 128#32
  let v145 : BitVec 32 := Scalar.muli arg19 c128_i32
  let v147 : Index := Scalar.indexCast v145
  ![v146.toNat, 0, v147.toNat]
def k0_off124 (k0_t5 : Fin k0_t5_loop.trips) : Fin 2 → Nat :=
  let c0_91 : Index := 0#32
  let c0_i32_49 : BitVec 32 := 0#32
  let c1_i32_50 : BitVec 32 := 1#32
  let arg19 : BitVec 32 := Scf.iv c0_i32_49 c1_i32_50 k0_t5
  let c128_i32 : BitVec 32 := 128#32
  let v145 : BitVec 32 := Scalar.muli arg19 c128_i32
  let v163 : Index := Scalar.indexCast v145
  ![0, v163.toNat]
def k0_cond2 (v0 : BitVec 32) (k0_t2 : Fin (k0_t2_loop v0).trips) : BitVec 1 :=
  let c0_i32_23 : BitVec 32 := 0#32
  let c1_i32_25 : BitVec 32 := 1#32
  let arg18 : BitVec 32 := Scf.iv c0_i32_23 c1_i32_25 k0_t2
  let c2_i32_52 : BitVec 32 := 2#32
  let v58 : BitVec 1 := Scalar.cmpi .sge arg18 c2_i32_52
  let v59 : BitVec 32 := Scalar.extui v58
  let c0_i32_53 : BitVec 32 := 0#32
  let v60 : BitVec 1 := Scalar.cmpi .ne v59 c0_i32_53
  v60

def k0_off125 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  ![v37.toNat]
def k0_off126 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let c0_i32_91 : BitVec 32 := 0#32
  let c0_i32_92 : BitVec 32 := 0#32
  ![v37.toNat, 0, 0]
def k0_off127 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let v61 : Index := Scalar.indexCast arg18
  ![v61.toNat]
def k0_off128 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_54 : BitVec 32 := 1#32
  let v63 : BitVec 32 := Scalar.subi arg18 c1_i32_54
  let c0_i32_55 : BitVec 32 := 0#32
  let v64 : BitVec 32 := Scalar.maxsi v63 c0_i32_55
  let v65 : Index := Scalar.indexCast v64
  ![v65.toNat]
def k0_off129 (v62 : BitVec 32) : Fin 3 → Nat :=
  let c0_i32_93 : BitVec 32 := 0#32
  let c0_i32_94 : BitVec 32 := 0#32
  ![v62.toNat, 0, 0]
def k0_cond3 (v0 : BitVec 32) (k0_t2 : Fin (k0_t2_loop v0).trips) (v62 : BitVec 32) (v66 : BitVec 32) : BitVec 1 :=
  let c0_i32_23 : BitVec 32 := 0#32
  let c1_i32_25 : BitVec 32 := 1#32
  let arg18 : BitVec 32 := Scf.iv c0_i32_23 c1_i32_25 k0_t2
  let c0_i32_56 : BitVec 32 := 0#32
  let v67 : BitVec 1 := Scalar.cmpi .eq arg18 c0_i32_56
  let v68 : BitVec 1 := Scalar.cmpi .ne v62 v66
  let v69 : BitVec 1 := Scalar.ori v67 v68
  let v70 : BitVec 32 := Scalar.extui v69
  let c0_i32_57 : BitVec 32 := 0#32
  let v71 : BitVec 1 := Scalar.cmpi .ne v70 c0_i32_57
  v71

def k0_chk36 (v0 : BitVec 32) (k0_t2 : Fin (k0_t2_loop v0).trips) (v62 : BitVec 32) (v66 : BitVec 32) : Prop :=
  (∀ (k0_h3 : k0_cond3 v0 k0_t2 v62 v66 = 1#1), ∀ a, (k0_off129 v62) a + S1x5120x1536.size a ≤ S8x5120x1536.size a) ∧
  (∀ (k0_h3 : k0_cond3 v0 k0_t2 v62 v66 = 1#1), ∀ (hinb : ∀ a, (k0_off129 v62) a + S1x5120x1536.size a ≤ S8x5120x1536.size a), (Rect.unit (s := S8x5120x1536) (k0_off129 v62) S1x5120x1536.size hinb).WholeWords (EltTy.packing .bf16))
theorem k0_off129_inb : ∀ (v0 : BitVec 32) (k0_t2 : Fin (k0_t2_loop v0).trips) (v62 : BitVec 32) (v66 : BitVec 32) (k0_hw36 : k0_chk36 v0 k0_t2 v62 v66), ∀ (k0_h3 : k0_cond3 v0 k0_t2 v62 v66 = 1#1), ∀ a, (k0_off129 v62) a + S1x5120x1536.size a ≤ S8x5120x1536.size a := fun v0 k0_t2 v62 v66 k0_hw36 k0_h3 => k0_hw36.1 k0_h3
theorem k0_off129_wordsbf16 : ∀ (v0 : BitVec 32) (k0_t2 : Fin (k0_t2_loop v0).trips) (v62 : BitVec 32) (v66 : BitVec 32) (k0_hw36 : k0_chk36 v0 k0_t2 v62 v66), ∀ (k0_h3 : k0_cond3 v0 k0_t2 v62 v66 = 1#1), (Rect.unit (s := S8x5120x1536) (k0_off129 v62) S1x5120x1536.size (k0_off129_inb v0 k0_t2 v62 v66 k0_hw36 k0_h3)).WholeWords (EltTy.packing .bf16) := fun v0 k0_t2 v62 v66 k0_hw36 k0_h3 => k0_hw36.2 k0_h3 (k0_off129_inb v0 k0_t2 v62 v66 k0_hw36 k0_h3)

def k0_off130 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_63 : BitVec 32 := 1#32
  let v76 : BitVec 32 := Scalar.addi arg18 c1_i32_63
  let c1_i32_64 : BitVec 32 := 1#32
  let v77 : BitVec 32 := Scalar.subi v0 c1_i32_64
  let v78 : BitVec 32 := Scalar.minsi v76 v77
  let v79 : Index := Scalar.indexCast v78
  ![v79.toNat]
def k0_off131 (v80 : BitVec 32) : Fin 3 → Nat :=
  let c0_i32_93 : BitVec 32 := 0#32
  let c0_i32_94 : BitVec 32 := 0#32
  ![v80.toNat, 0, 0]
def k0_cond4 (v62 : BitVec 32) (v80 : BitVec 32) : BitVec 1 :=
  let v81 : BitVec 1 := Scalar.cmpi .ne v80 v62
  let v82 : BitVec 32 := Scalar.extui v81
  let c0_i32_65 : BitVec 32 := 0#32
  let v83 : BitVec 1 := Scalar.cmpi .ne v82 c0_i32_65
  v83

def k0_chk37 (v62 : BitVec 32) (v80 : BitVec 32) : Prop :=
  (∀ (k0_h4 : k0_cond4 v62 v80 = 1#1), ∀ a, (k0_off131 v80) a + S1x5120x1536.size a ≤ S8x5120x1536.size a) ∧
  (∀ (k0_h4 : k0_cond4 v62 v80 = 1#1), ∀ (hinb : ∀ a, (k0_off131 v80) a + S1x5120x1536.size a ≤ S8x5120x1536.size a), (Rect.unit (s := S8x5120x1536) (k0_off131 v80) S1x5120x1536.size hinb).WholeWords (EltTy.packing .bf16))
theorem k0_off131_inb : ∀ (v62 : BitVec 32) (v80 : BitVec 32) (k0_hw37 : k0_chk37 v62 v80), ∀ (k0_h4 : k0_cond4 v62 v80 = 1#1), ∀ a, (k0_off131 v80) a + S1x5120x1536.size a ≤ S8x5120x1536.size a := fun v62 v80 k0_hw37 k0_h4 => k0_hw37.1 k0_h4
theorem k0_off131_wordsbf16 : ∀ (v62 : BitVec 32) (v80 : BitVec 32) (k0_hw37 : k0_chk37 v62 v80), ∀ (k0_h4 : k0_cond4 v62 v80 = 1#1), (Rect.unit (s := S8x5120x1536) (k0_off131 v80) S1x5120x1536.size (k0_off131_inb v62 v80 k0_hw37 k0_h4)).WholeWords (EltTy.packing .bf16) := fun v62 v80 k0_hw37 k0_h4 => k0_hw37.2 k0_h4 (k0_off131_inb v62 v80 k0_hw37 k0_h4)

def k0_off132 (v62 : BitVec 32) : Fin 3 → Nat :=
  let v84 : Index := Scalar.indexCast v62
  let c0_66 : Index := 0#32
  let c0_67 : Index := 0#32
  ![v84.toNat, 0, 0]

def k0_chk38 (v62 : BitVec 32) : Prop :=
  (∀ a, (k0_off132 v62) a + S1x1x1536.size a ≤ S8x1x1536.size a)
theorem k0_off132_inb : ∀ (v62 : BitVec 32) (k0_hw38 : k0_chk38 v62), ∀ a, (k0_off132 v62) a + S1x1x1536.size a ≤ S8x1x1536.size a := fun v62 k0_hw38 => k0_hw38

def k0_off133 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v96 : Index := Scalar.indexCast v37
  let c0_68 : Index := 0#32
  let c0_69 : Index := 0#32
  ![v96.toNat, 0, 0]
def k0_off134 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let v100 : Index := Scalar.indexCast arg18
  ![v100.toNat]
def k0_off135 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_70 : BitVec 32 := 1#32
  let v102 : BitVec 32 := Scalar.subi arg18 c1_i32_70
  let c0_i32_71 : BitVec 32 := 0#32
  let v103 : BitVec 32 := Scalar.maxsi v102 c0_i32_71
  let v104 : Index := Scalar.indexCast v103
  ![v104.toNat]
def k0_off136 (v101 : BitVec 32) : Fin 3 → Nat :=
  let c0_i32_93 : BitVec 32 := 0#32
  let c0_i32_94 : BitVec 32 := 0#32
  ![v101.toNat, 0, 0]
def k0_cond5 (v0 : BitVec 32) (k0_t2 : Fin (k0_t2_loop v0).trips) (v101 : BitVec 32) (v105 : BitVec 32) : BitVec 1 :=
  let c0_i32_23 : BitVec 32 := 0#32
  let c1_i32_25 : BitVec 32 := 1#32
  let arg18 : BitVec 32 := Scf.iv c0_i32_23 c1_i32_25 k0_t2
  let c0_i32_72 : BitVec 32 := 0#32
  let v106 : BitVec 1 := Scalar.cmpi .eq arg18 c0_i32_72
  let v107 : BitVec 1 := Scalar.cmpi .ne v101 v105
  let v108 : BitVec 1 := Scalar.ori v106 v107
  let v109 : BitVec 32 := Scalar.extui v108
  let c0_i32_73 : BitVec 32 := 0#32
  let v110 : BitVec 1 := Scalar.cmpi .ne v109 c0_i32_73
  v110

def k0_chk39 (v0 : BitVec 32) (k0_t2 : Fin (k0_t2_loop v0).trips) (v101 : BitVec 32) (v105 : BitVec 32) : Prop :=
  (∀ (k0_h5 : k0_cond5 v0 k0_t2 v101 v105 = 1#1), ∀ a, (k0_off136 v101) a + S1x5120x1536.size a ≤ S8x5120x1536.size a) ∧
  (∀ (k0_h5 : k0_cond5 v0 k0_t2 v101 v105 = 1#1), ∀ (hinb : ∀ a, (k0_off136 v101) a + S1x5120x1536.size a ≤ S8x5120x1536.size a), (Rect.unit (s := S8x5120x1536) (k0_off136 v101) S1x5120x1536.size hinb).WholeWords (EltTy.packing .bf16))
theorem k0_off136_inb : ∀ (v0 : BitVec 32) (k0_t2 : Fin (k0_t2_loop v0).trips) (v101 : BitVec 32) (v105 : BitVec 32) (k0_hw39 : k0_chk39 v0 k0_t2 v101 v105), ∀ (k0_h5 : k0_cond5 v0 k0_t2 v101 v105 = 1#1), ∀ a, (k0_off136 v101) a + S1x5120x1536.size a ≤ S8x5120x1536.size a := fun v0 k0_t2 v101 v105 k0_hw39 k0_h5 => k0_hw39.1 k0_h5
theorem k0_off136_wordsbf16 : ∀ (v0 : BitVec 32) (k0_t2 : Fin (k0_t2_loop v0).trips) (v101 : BitVec 32) (v105 : BitVec 32) (k0_hw39 : k0_chk39 v0 k0_t2 v101 v105), ∀ (k0_h5 : k0_cond5 v0 k0_t2 v101 v105 = 1#1), (Rect.unit (s := S8x5120x1536) (k0_off136 v101) S1x5120x1536.size (k0_off136_inb v0 k0_t2 v101 v105 k0_hw39 k0_h5)).WholeWords (EltTy.packing .bf16) := fun v0 k0_t2 v101 v105 k0_hw39 k0_h5 => k0_hw39.2 k0_h5 (k0_off136_inb v0 k0_t2 v101 v105 k0_hw39 k0_h5)

def k0_off137 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_79 : BitVec 32 := 1#32
  let v115 : BitVec 32 := Scalar.addi arg18 c1_i32_79
  let c1_i32_80 : BitVec 32 := 1#32
  let v116 : BitVec 32 := Scalar.subi v0 c1_i32_80
  let v117 : BitVec 32 := Scalar.minsi v115 v116
  let v118 : Index := Scalar.indexCast v117
  ![v118.toNat]
def k0_off138 (v119 : BitVec 32) : Fin 3 → Nat :=
  let c0_i32_93 : BitVec 32 := 0#32
  let c0_i32_94 : BitVec 32 := 0#32
  ![v119.toNat, 0, 0]
def k0_cond6 (v101 : BitVec 32) (v119 : BitVec 32) : BitVec 1 :=
  let v120 : BitVec 1 := Scalar.cmpi .ne v119 v101
  let v121 : BitVec 32 := Scalar.extui v120
  let c0_i32_81 : BitVec 32 := 0#32
  let v122 : BitVec 1 := Scalar.cmpi .ne v121 c0_i32_81
  v122

def k0_chk40 (v101 : BitVec 32) (v119 : BitVec 32) : Prop :=
  (∀ (k0_h6 : k0_cond6 v101 v119 = 1#1), ∀ a, (k0_off138 v119) a + S1x5120x1536.size a ≤ S8x5120x1536.size a) ∧
  (∀ (k0_h6 : k0_cond6 v101 v119 = 1#1), ∀ (hinb : ∀ a, (k0_off138 v119) a + S1x5120x1536.size a ≤ S8x5120x1536.size a), (Rect.unit (s := S8x5120x1536) (k0_off138 v119) S1x5120x1536.size hinb).WholeWords (EltTy.packing .bf16))
theorem k0_off138_inb : ∀ (v101 : BitVec 32) (v119 : BitVec 32) (k0_hw40 : k0_chk40 v101 v119), ∀ (k0_h6 : k0_cond6 v101 v119 = 1#1), ∀ a, (k0_off138 v119) a + S1x5120x1536.size a ≤ S8x5120x1536.size a := fun v101 v119 k0_hw40 k0_h6 => k0_hw40.1 k0_h6
theorem k0_off138_wordsbf16 : ∀ (v101 : BitVec 32) (v119 : BitVec 32) (k0_hw40 : k0_chk40 v101 v119), ∀ (k0_h6 : k0_cond6 v101 v119 = 1#1), (Rect.unit (s := S8x5120x1536) (k0_off138 v119) S1x5120x1536.size (k0_off138_inb v101 v119 k0_hw40 k0_h6)).WholeWords (EltTy.packing .bf16) := fun v101 v119 k0_hw40 k0_h6 => k0_hw40.2 k0_h6 (k0_off138_inb v101 v119 k0_hw40 k0_h6)

def k0_off139 (v101 : BitVec 32) : Fin 3 → Nat :=
  let v123 : Index := Scalar.indexCast v101
  let c0_82 : Index := 0#32
  let c0_83 : Index := 0#32
  ![v123.toNat, 0, 0]

def k0_chk41 (v101 : BitVec 32) : Prop :=
  (∀ a, (k0_off139 v101) a + S1x1x1536.size a ≤ S8x1x1536.size a)
theorem k0_off139_inb : ∀ (v101 : BitVec 32) (k0_hw41 : k0_chk41 v101), ∀ a, (k0_off139 v101) a + S1x1x1536.size a ≤ S8x1x1536.size a := fun v101 k0_hw41 => k0_hw41

def k0_off140 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let v135 : Index := Scalar.indexCast v37
  let c0_84 : Index := 0#32
  let c768 : Index := 768#32
  ![v135.toNat, 0, 768]
def k0_off141 (v0 : BitVec 32) (k0_t2 : Fin (k0_t2_loop v0).trips) : Fin 1 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  ![v37.toNat]
def k0_off142 (v0 : BitVec 32) (k0_t2 : Fin (k0_t2_loop v0).trips) : Fin 2 → Nat :=
  let c0_i32_23 : BitVec 32 := 0#32
  let c1_i32_25 : BitVec 32 := 1#32
  let arg18 : BitVec 32 := Scf.iv c0_i32_23 c1_i32_25 k0_t2
  let c256_i32_85 : BitVec 32 := 256#32
  let v139 : BitVec 32 := Scalar.muli arg18 c256_i32_85
  let c0_i32_86 : BitVec 32 := 0#32
  ![v139.toNat, 0]
def k0_off143 (v0 : BitVec 32) (k0_t2 : Fin (k0_t2_loop v0).trips) : Fin 3 → Nat :=
  let c0_i32_23 : BitVec 32 := 0#32
  let c1_i32_25 : BitVec 32 := 1#32
  let arg18 : BitVec 32 := Scf.iv c0_i32_23 c1_i32_25 k0_t2
  let c1_i32_34 : BitVec 32 := 1#32
  let v37 : BitVec 32 := Scalar.andi arg18 c1_i32_34
  let c0_i32_87 : BitVec 32 := 0#32
  let c0_i32_88 : BitVec 32 := 0#32
  ![v37.toNat, 0, 0]
@[reducible] def k0_t6_loop (v0 : BitVec 32) : Scf.Loop 32 :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let v23 : BitVec 32 := Scalar.addi c0_i32_23 v22
  let c1_i32_26 : BitVec 32 := 1#32
  ⟨v26, v23, c1_i32_26⟩
@[reducible] def k0_t7_loop : Scf.Loop 32 :=
  let c0_i32_36 : BitVec 32 := 0#32
  let c256_i32 : BitVec 32 := 256#32
  let v38 : BitVec 32 := Scalar.addi c0_i32_36 c256_i32
  let c1_i32_37 : BitVec 32 := 1#32
  ⟨c0_i32_36, v38, c1_i32_37⟩
def k0_off144 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  ![v37.toNat]
def k0_off145 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let c0_i32_89 : BitVec 32 := 0#32
  let c0_i32_90 : BitVec 32 := 0#32
  ![v37.toNat, 0, 0]
def k0_off146 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  ![v37.toNat]
def k0_off147 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let c0_i32_40 : BitVec 32 := 0#32
  let c0_i32_41 : BitVec 32 := 0#32
  ![v37.toNat, 0, 0]
@[reducible] def k0_t8_loop : Scf.Loop 32 :=
  let c0_i32_92 : BitVec 32 := 0#32
  let c16_i32_93 : BitVec 32 := 16#32
  let v147 : BitVec 32 := Scalar.addi c0_i32_92 c16_i32_93
  let c1_i32_94 : BitVec 32 := 1#32
  ⟨c0_i32_92, v147, c1_i32_94⟩
def k0_off148 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_100 : BitVec 32 := 256#32
  let v154 : BitVec 32 := Scalar.muli v145 c256_i32_100
  let c0_i32_92 : BitVec 32 := 0#32
  let c1_i32_94 : BitVec 32 := 1#32
  let arg19 : BitVec 32 := Scf.iv c0_i32_92 c1_i32_94 k0_t8
  let c16_i32_101 : BitVec 32 := 16#32
  let v155 : BitVec 32 := Scalar.muli arg19 c16_i32_101
  let v156 : BitVec 32 := Scalar.addi v154 v155
  let c0_i32_102 : BitVec 32 := 0#32
  let v157 : BitVec 32 := Scalar.addi v156 c0_i32_102
  let v158 : Index := Scalar.indexCast v157
  ![v158.toNat]
def k0_cond7 (v0 : BitVec 32) (k0_t6 : Fin (k0_t6_loop v0).trips) : BitVec 1 :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_44 : BitVec 32 := 1#32
  let v45 : BitVec 32 := Scalar.addi arg18 c1_i32_44
  let v46 : BitVec 1 := Scalar.cmpi .slt v45 v0
  let v47 : BitVec 32 := Scalar.extui v46
  let c0_i32_45 : BitVec 32 := 0#32
  let v48 : BitVec 1 := Scalar.cmpi .ne v47 c0_i32_45
  v48

def k0_off149 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off150 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_103 : BitVec 32 := 16#32
  let v160 : BitVec 32 := Scalar.muli arg19 c16_i32_103
  let c0_i32_104 : BitVec 32 := 0#32
  let v161 : BitVec 32 := Scalar.addi v160 c0_i32_104
  let c0_i32_112 : BitVec 32 := 0#32
  ![v146.toNat, v161.toNat, 0]
def k0_off151 (v159 : BitVec 32) : Fin 2 → Nat :=
  let c0_i32_106 : BitVec 32 := 0#32
  let v163 : BitVec 1 := Scalar.cmpi .sgt v159 c0_i32_106
  let v164 : BitVec 32 := Scalar.extui v163
  let c0_i32_107 : BitVec 32 := 0#32
  let v165 : BitVec 1 := Scalar.cmpi .slt v159 c0_i32_107
  let v166 : BitVec 32 := Scalar.extui v165
  let v167 : BitVec 32 := Scalar.subi v164 v166
  let c2_i32_105 : BitVec 32 := 2#32
  let c0_i32_108 : BitVec 32 := 0#32
  let v168 : BitVec 1 := Scalar.cmpi .sgt c2_i32_105 c0_i32_108
  let v169 : BitVec 32 := Scalar.extui v168
  let c0_i32_109 : BitVec 32 := 0#32
  let v170 : BitVec 1 := Scalar.cmpi .slt c2_i32_105 c0_i32_109
  let v171 : BitVec 32 := Scalar.extui v170
  let v172 : BitVec 32 := Scalar.subi v169 v171
  let v173 : BitVec 1 := Scalar.cmpi .ne v167 v172
  let v174 : BitVec 32 := Scalar.remsi v159 c2_i32_105
  let c0_i32_110 : BitVec 32 := 0#32
  let v175 : BitVec 1 := Scalar.cmpi .ne v174 c0_i32_110
  let v176 : BitVec 1 := Scalar.andi v173 v175
  let v162 : BitVec 32 := Scalar.divsi v159 c2_i32_105
  let c1_i32_111 : BitVec 32 := 1#32
  let v177 : BitVec 32 := Scalar.subi v162 c1_i32_111
  let v178 : BitVec 32 := Scalar.select v176 v177 v162
  let c0_i32_113 : BitVec 32 := 0#32
  ![v178.toNat, 0]

def k0_chk42 (v0 : BitVec 32) (k0_t6 : Fin (k0_t6_loop v0).trips) (v159 : BitVec 32) : Prop :=
  (∀ (k0_h7 : k0_cond7 v0 k0_t6 = 1#1), ∀ a, (k0_off151 v159) a + S1x5120.size a ≤ S16384x5120.size a)
theorem k0_off151_inb : ∀ (v0 : BitVec 32) (k0_t6 : Fin (k0_t6_loop v0).trips) (v159 : BitVec 32) (k0_hw42 : k0_chk42 v0 k0_t6 v159), ∀ (k0_h7 : k0_cond7 v0 k0_t6 = 1#1), ∀ a, (k0_off151 v159) a + S1x5120.size a ≤ S16384x5120.size a := fun v0 k0_t6 v159 k0_hw42 k0_h7 => k0_hw42 k0_h7

def k0_off152 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_114 : BitVec 32 := 256#32
  let v184 : BitVec 32 := Scalar.muli v145 c256_i32_114
  let c0_i32_92 : BitVec 32 := 0#32
  let c1_i32_94 : BitVec 32 := 1#32
  let arg19 : BitVec 32 := Scf.iv c0_i32_92 c1_i32_94 k0_t8
  let c16_i32_115 : BitVec 32 := 16#32
  let v185 : BitVec 32 := Scalar.muli arg19 c16_i32_115
  let v186 : BitVec 32 := Scalar.addi v184 v185
  let c1_i32_116 : BitVec 32 := 1#32
  let v187 : BitVec 32 := Scalar.addi v186 c1_i32_116
  let v188 : Index := Scalar.indexCast v187
  ![v188.toNat]
def k0_off153 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off154 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_117 : BitVec 32 := 16#32
  let v190 : BitVec 32 := Scalar.muli arg19 c16_i32_117
  let c8_i32 : BitVec 32 := 8#32
  let v191 : BitVec 32 := Scalar.addi v190 c8_i32
  let c0_i32_125 : BitVec 32 := 0#32
  ![v146.toNat, v191.toNat, 0]
def k0_off155 (v189 : BitVec 32) : Fin 2 → Nat :=
  let c0_i32_119 : BitVec 32 := 0#32
  let v193 : BitVec 1 := Scalar.cmpi .sgt v189 c0_i32_119
  let v194 : BitVec 32 := Scalar.extui v193
  let c0_i32_120 : BitVec 32 := 0#32
  let v195 : BitVec 1 := Scalar.cmpi .slt v189 c0_i32_120
  let v196 : BitVec 32 := Scalar.extui v195
  let v197 : BitVec 32 := Scalar.subi v194 v196
  let c2_i32_118 : BitVec 32 := 2#32
  let c0_i32_121 : BitVec 32 := 0#32
  let v198 : BitVec 1 := Scalar.cmpi .sgt c2_i32_118 c0_i32_121
  let v199 : BitVec 32 := Scalar.extui v198
  let c0_i32_122 : BitVec 32 := 0#32
  let v200 : BitVec 1 := Scalar.cmpi .slt c2_i32_118 c0_i32_122
  let v201 : BitVec 32 := Scalar.extui v200
  let v202 : BitVec 32 := Scalar.subi v199 v201
  let v203 : BitVec 1 := Scalar.cmpi .ne v197 v202
  let v204 : BitVec 32 := Scalar.remsi v189 c2_i32_118
  let c0_i32_123 : BitVec 32 := 0#32
  let v205 : BitVec 1 := Scalar.cmpi .ne v204 c0_i32_123
  let v206 : BitVec 1 := Scalar.andi v203 v205
  let v192 : BitVec 32 := Scalar.divsi v189 c2_i32_118
  let c1_i32_124 : BitVec 32 := 1#32
  let v207 : BitVec 32 := Scalar.subi v192 c1_i32_124
  let v208 : BitVec 32 := Scalar.select v206 v207 v192
  let c0_i32_126 : BitVec 32 := 0#32
  ![v208.toNat, 0]

def k0_chk43 (v0 : BitVec 32) (k0_t6 : Fin (k0_t6_loop v0).trips) (v189 : BitVec 32) : Prop :=
  (∀ (k0_h7 : k0_cond7 v0 k0_t6 = 1#1), ∀ a, (k0_off155 v189) a + S1x5120.size a ≤ S16384x5120.size a)
theorem k0_off155_inb : ∀ (v0 : BitVec 32) (k0_t6 : Fin (k0_t6_loop v0).trips) (v189 : BitVec 32) (k0_hw43 : k0_chk43 v0 k0_t6 v189), ∀ (k0_h7 : k0_cond7 v0 k0_t6 = 1#1), ∀ a, (k0_off155 v189) a + S1x5120.size a ≤ S16384x5120.size a := fun v0 k0_t6 v189 k0_hw43 k0_h7 => k0_hw43 k0_h7

def k0_off156 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_127 : BitVec 32 := 256#32
  let v214 : BitVec 32 := Scalar.muli v145 c256_i32_127
  let c0_i32_92 : BitVec 32 := 0#32
  let c1_i32_94 : BitVec 32 := 1#32
  let arg19 : BitVec 32 := Scf.iv c0_i32_92 c1_i32_94 k0_t8
  let c16_i32_128 : BitVec 32 := 16#32
  let v215 : BitVec 32 := Scalar.muli arg19 c16_i32_128
  let v216 : BitVec 32 := Scalar.addi v214 v215
  let c2_i32_129 : BitVec 32 := 2#32
  let v217 : BitVec 32 := Scalar.addi v216 c2_i32_129
  let v218 : Index := Scalar.indexCast v217
  ![v218.toNat]
def k0_off157 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off158 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_130 : BitVec 32 := 16#32
  let v220 : BitVec 32 := Scalar.muli arg19 c16_i32_130
  let c1_i32_131 : BitVec 32 := 1#32
  let v221 : BitVec 32 := Scalar.addi v220 c1_i32_131
  let c0_i32_139 : BitVec 32 := 0#32
  ![v146.toNat, v221.toNat, 0]
def k0_off159 (v219 : BitVec 32) : Fin 2 → Nat :=
  let c0_i32_133 : BitVec 32 := 0#32
  let v223 : BitVec 1 := Scalar.cmpi .sgt v219 c0_i32_133
  let v224 : BitVec 32 := Scalar.extui v223
  let c0_i32_134 : BitVec 32 := 0#32
  let v225 : BitVec 1 := Scalar.cmpi .slt v219 c0_i32_134
  let v226 : BitVec 32 := Scalar.extui v225
  let v227 : BitVec 32 := Scalar.subi v224 v226
  let c2_i32_132 : BitVec 32 := 2#32
  let c0_i32_135 : BitVec 32 := 0#32
  let v228 : BitVec 1 := Scalar.cmpi .sgt c2_i32_132 c0_i32_135
  let v229 : BitVec 32 := Scalar.extui v228
  let c0_i32_136 : BitVec 32 := 0#32
  let v230 : BitVec 1 := Scalar.cmpi .slt c2_i32_132 c0_i32_136
  let v231 : BitVec 32 := Scalar.extui v230
  let v232 : BitVec 32 := Scalar.subi v229 v231
  let v233 : BitVec 1 := Scalar.cmpi .ne v227 v232
  let v234 : BitVec 32 := Scalar.remsi v219 c2_i32_132
  let c0_i32_137 : BitVec 32 := 0#32
  let v235 : BitVec 1 := Scalar.cmpi .ne v234 c0_i32_137
  let v236 : BitVec 1 := Scalar.andi v233 v235
  let v222 : BitVec 32 := Scalar.divsi v219 c2_i32_132
  let c1_i32_138 : BitVec 32 := 1#32
  let v237 : BitVec 32 := Scalar.subi v222 c1_i32_138
  let v238 : BitVec 32 := Scalar.select v236 v237 v222
  let c0_i32_140 : BitVec 32 := 0#32
  ![v238.toNat, 0]

def k0_chk44 (v0 : BitVec 32) (k0_t6 : Fin (k0_t6_loop v0).trips) (v219 : BitVec 32) : Prop :=
  (∀ (k0_h7 : k0_cond7 v0 k0_t6 = 1#1), ∀ a, (k0_off159 v219) a + S1x5120.size a ≤ S16384x5120.size a)
theorem k0_off159_inb : ∀ (v0 : BitVec 32) (k0_t6 : Fin (k0_t6_loop v0).trips) (v219 : BitVec 32) (k0_hw44 : k0_chk44 v0 k0_t6 v219), ∀ (k0_h7 : k0_cond7 v0 k0_t6 = 1#1), ∀ a, (k0_off159 v219) a + S1x5120.size a ≤ S16384x5120.size a := fun v0 k0_t6 v219 k0_hw44 k0_h7 => k0_hw44 k0_h7

def k0_off160 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_141 : BitVec 32 := 256#32
  let v244 : BitVec 32 := Scalar.muli v145 c256_i32_141
  let c0_i32_92 : BitVec 32 := 0#32
  let c1_i32_94 : BitVec 32 := 1#32
  let arg19 : BitVec 32 := Scf.iv c0_i32_92 c1_i32_94 k0_t8
  let c16_i32_142 : BitVec 32 := 16#32
  let v245 : BitVec 32 := Scalar.muli arg19 c16_i32_142
  let v246 : BitVec 32 := Scalar.addi v244 v245
  let c3_i32 : BitVec 32 := 3#32
  let v247 : BitVec 32 := Scalar.addi v246 c3_i32
  let v248 : Index := Scalar.indexCast v247
  ![v248.toNat]
def k0_off161 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off162 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_143 : BitVec 32 := 16#32
  let v250 : BitVec 32 := Scalar.muli arg19 c16_i32_143
  let c9_i32 : BitVec 32 := 9#32
  let v251 : BitVec 32 := Scalar.addi v250 c9_i32
  let c0_i32_151 : BitVec 32 := 0#32
  ![v146.toNat, v251.toNat, 0]
def k0_off163 (v249 : BitVec 32) : Fin 2 → Nat :=
  let c0_i32_145 : BitVec 32 := 0#32
  let v253 : BitVec 1 := Scalar.cmpi .sgt v249 c0_i32_145
  let v254 : BitVec 32 := Scalar.extui v253
  let c0_i32_146 : BitVec 32 := 0#32
  let v255 : BitVec 1 := Scalar.cmpi .slt v249 c0_i32_146
  let v256 : BitVec 32 := Scalar.extui v255
  let v257 : BitVec 32 := Scalar.subi v254 v256
  let c2_i32_144 : BitVec 32 := 2#32
  let c0_i32_147 : BitVec 32 := 0#32
  let v258 : BitVec 1 := Scalar.cmpi .sgt c2_i32_144 c0_i32_147
  let v259 : BitVec 32 := Scalar.extui v258
  let c0_i32_148 : BitVec 32 := 0#32
  let v260 : BitVec 1 := Scalar.cmpi .slt c2_i32_144 c0_i32_148
  let v261 : BitVec 32 := Scalar.extui v260
  let v262 : BitVec 32 := Scalar.subi v259 v261
  let v263 : BitVec 1 := Scalar.cmpi .ne v257 v262
  let v264 : BitVec 32 := Scalar.remsi v249 c2_i32_144
  let c0_i32_149 : BitVec 32 := 0#32
  let v265 : BitVec 1 := Scalar.cmpi .ne v264 c0_i32_149
  let v266 : BitVec 1 := Scalar.andi v263 v265
  let v252 : BitVec 32 := Scalar.divsi v249 c2_i32_144
  let c1_i32_150 : BitVec 32 := 1#32
  let v267 : BitVec 32 := Scalar.subi v252 c1_i32_150
  let v268 : BitVec 32 := Scalar.select v266 v267 v252
  let c0_i32_152 : BitVec 32 := 0#32
  ![v268.toNat, 0]

def k0_chk45 (v0 : BitVec 32) (k0_t6 : Fin (k0_t6_loop v0).trips) (v249 : BitVec 32) : Prop :=
  (∀ (k0_h7 : k0_cond7 v0 k0_t6 = 1#1), ∀ a, (k0_off163 v249) a + S1x5120.size a ≤ S16384x5120.size a)
theorem k0_off163_inb : ∀ (v0 : BitVec 32) (k0_t6 : Fin (k0_t6_loop v0).trips) (v249 : BitVec 32) (k0_hw45 : k0_chk45 v0 k0_t6 v249), ∀ (k0_h7 : k0_cond7 v0 k0_t6 = 1#1), ∀ a, (k0_off163 v249) a + S1x5120.size a ≤ S16384x5120.size a := fun v0 k0_t6 v249 k0_hw45 k0_h7 => k0_hw45 k0_h7

def k0_off164 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_153 : BitVec 32 := 256#32
  let v274 : BitVec 32 := Scalar.muli v145 c256_i32_153
  let c0_i32_92 : BitVec 32 := 0#32
  let c1_i32_94 : BitVec 32 := 1#32
  let arg19 : BitVec 32 := Scf.iv c0_i32_92 c1_i32_94 k0_t8
  let c16_i32_154 : BitVec 32 := 16#32
  let v275 : BitVec 32 := Scalar.muli arg19 c16_i32_154
  let v276 : BitVec 32 := Scalar.addi v274 v275
  let c4_i32_155 : BitVec 32 := 4#32
  let v277 : BitVec 32 := Scalar.addi v276 c4_i32_155
  let v278 : Index := Scalar.indexCast v277
  ![v278.toNat]
def k0_off165 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off166 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_156 : BitVec 32 := 16#32
  let v280 : BitVec 32 := Scalar.muli arg19 c16_i32_156
  let c2_i32_157 : BitVec 32 := 2#32
  let v281 : BitVec 32 := Scalar.addi v280 c2_i32_157
  let c0_i32_165 : BitVec 32 := 0#32
  ![v146.toNat, v281.toNat, 0]
def k0_off167 (v279 : BitVec 32) : Fin 2 → Nat :=
  let c0_i32_159 : BitVec 32 := 0#32
  let v283 : BitVec 1 := Scalar.cmpi .sgt v279 c0_i32_159
  let v284 : BitVec 32 := Scalar.extui v283
  let c0_i32_160 : BitVec 32 := 0#32
  let v285 : BitVec 1 := Scalar.cmpi .slt v279 c0_i32_160
  let v286 : BitVec 32 := Scalar.extui v285
  let v287 : BitVec 32 := Scalar.subi v284 v286
  let c2_i32_158 : BitVec 32 := 2#32
  let c0_i32_161 : BitVec 32 := 0#32
  let v288 : BitVec 1 := Scalar.cmpi .sgt c2_i32_158 c0_i32_161
  let v289 : BitVec 32 := Scalar.extui v288
  let c0_i32_162 : BitVec 32 := 0#32
  let v290 : BitVec 1 := Scalar.cmpi .slt c2_i32_158 c0_i32_162
  let v291 : BitVec 32 := Scalar.extui v290
  let v292 : BitVec 32 := Scalar.subi v289 v291
  let v293 : BitVec 1 := Scalar.cmpi .ne v287 v292
  let v294 : BitVec 32 := Scalar.remsi v279 c2_i32_158
  let c0_i32_163 : BitVec 32 := 0#32
  let v295 : BitVec 1 := Scalar.cmpi .ne v294 c0_i32_163
  let v296 : BitVec 1 := Scalar.andi v293 v295
  let v282 : BitVec 32 := Scalar.divsi v279 c2_i32_158
  let c1_i32_164 : BitVec 32 := 1#32
  let v297 : BitVec 32 := Scalar.subi v282 c1_i32_164
  let v298 : BitVec 32 := Scalar.select v296 v297 v282
  let c0_i32_166 : BitVec 32 := 0#32
  ![v298.toNat, 0]

def k0_chk46 (v0 : BitVec 32) (k0_t6 : Fin (k0_t6_loop v0).trips) (v279 : BitVec 32) : Prop :=
  (∀ (k0_h7 : k0_cond7 v0 k0_t6 = 1#1), ∀ a, (k0_off167 v279) a + S1x5120.size a ≤ S16384x5120.size a)
theorem k0_off167_inb : ∀ (v0 : BitVec 32) (k0_t6 : Fin (k0_t6_loop v0).trips) (v279 : BitVec 32) (k0_hw46 : k0_chk46 v0 k0_t6 v279), ∀ (k0_h7 : k0_cond7 v0 k0_t6 = 1#1), ∀ a, (k0_off167 v279) a + S1x5120.size a ≤ S16384x5120.size a := fun v0 k0_t6 v279 k0_hw46 k0_h7 => k0_hw46 k0_h7

def k0_off168 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_167 : BitVec 32 := 256#32
  let v304 : BitVec 32 := Scalar.muli v145 c256_i32_167
  let c0_i32_92 : BitVec 32 := 0#32
  let c1_i32_94 : BitVec 32 := 1#32
  let arg19 : BitVec 32 := Scf.iv c0_i32_92 c1_i32_94 k0_t8
  let c16_i32_168 : BitVec 32 := 16#32
  let v305 : BitVec 32 := Scalar.muli arg19 c16_i32_168
  let v306 : BitVec 32 := Scalar.addi v304 v305
  let c5_i32 : BitVec 32 := 5#32
  let v307 : BitVec 32 := Scalar.addi v306 c5_i32
  let v308 : Index := Scalar.indexCast v307
  ![v308.toNat]
def k0_off169 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off170 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_169 : BitVec 32 := 16#32
  let v310 : BitVec 32 := Scalar.muli arg19 c16_i32_169
  let c10_i32 : BitVec 32 := 10#32
  let v311 : BitVec 32 := Scalar.addi v310 c10_i32
  let c0_i32_177 : BitVec 32 := 0#32
  ![v146.toNat, v311.toNat, 0]
def k0_off171 (v309 : BitVec 32) : Fin 2 → Nat :=
  let c0_i32_171 : BitVec 32 := 0#32
  let v313 : BitVec 1 := Scalar.cmpi .sgt v309 c0_i32_171
  let v314 : BitVec 32 := Scalar.extui v313
  let c0_i32_172 : BitVec 32 := 0#32
  let v315 : BitVec 1 := Scalar.cmpi .slt v309 c0_i32_172
  let v316 : BitVec 32 := Scalar.extui v315
  let v317 : BitVec 32 := Scalar.subi v314 v316
  let c2_i32_170 : BitVec 32 := 2#32
  let c0_i32_173 : BitVec 32 := 0#32
  let v318 : BitVec 1 := Scalar.cmpi .sgt c2_i32_170 c0_i32_173
  let v319 : BitVec 32 := Scalar.extui v318
  let c0_i32_174 : BitVec 32 := 0#32
  let v320 : BitVec 1 := Scalar.cmpi .slt c2_i32_170 c0_i32_174
  let v321 : BitVec 32 := Scalar.extui v320
  let v322 : BitVec 32 := Scalar.subi v319 v321
  let v323 : BitVec 1 := Scalar.cmpi .ne v317 v322
  let v324 : BitVec 32 := Scalar.remsi v309 c2_i32_170
  let c0_i32_175 : BitVec 32 := 0#32
  let v325 : BitVec 1 := Scalar.cmpi .ne v324 c0_i32_175
  let v326 : BitVec 1 := Scalar.andi v323 v325
  let v312 : BitVec 32 := Scalar.divsi v309 c2_i32_170
  let c1_i32_176 : BitVec 32 := 1#32
  let v327 : BitVec 32 := Scalar.subi v312 c1_i32_176
  let v328 : BitVec 32 := Scalar.select v326 v327 v312
  let c0_i32_178 : BitVec 32 := 0#32
  ![v328.toNat, 0]

def k0_chk47 (v0 : BitVec 32) (k0_t6 : Fin (k0_t6_loop v0).trips) (v309 : BitVec 32) : Prop :=
  (∀ (k0_h7 : k0_cond7 v0 k0_t6 = 1#1), ∀ a, (k0_off171 v309) a + S1x5120.size a ≤ S16384x5120.size a)
theorem k0_off171_inb : ∀ (v0 : BitVec 32) (k0_t6 : Fin (k0_t6_loop v0).trips) (v309 : BitVec 32) (k0_hw47 : k0_chk47 v0 k0_t6 v309), ∀ (k0_h7 : k0_cond7 v0 k0_t6 = 1#1), ∀ a, (k0_off171 v309) a + S1x5120.size a ≤ S16384x5120.size a := fun v0 k0_t6 v309 k0_hw47 k0_h7 => k0_hw47 k0_h7

def k0_off172 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_179 : BitVec 32 := 256#32
  let v334 : BitVec 32 := Scalar.muli v145 c256_i32_179
  let c0_i32_92 : BitVec 32 := 0#32
  let c1_i32_94 : BitVec 32 := 1#32
  let arg19 : BitVec 32 := Scf.iv c0_i32_92 c1_i32_94 k0_t8
  let c16_i32_180 : BitVec 32 := 16#32
  let v335 : BitVec 32 := Scalar.muli arg19 c16_i32_180
  let v336 : BitVec 32 := Scalar.addi v334 v335
  let c6_i32 : BitVec 32 := 6#32
  let v337 : BitVec 32 := Scalar.addi v336 c6_i32
  let v338 : Index := Scalar.indexCast v337
  ![v338.toNat]
def k0_off173 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off174 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_181 : BitVec 32 := 16#32
  let v340 : BitVec 32 := Scalar.muli arg19 c16_i32_181
  let c3_i32_182 : BitVec 32 := 3#32
  let v341 : BitVec 32 := Scalar.addi v340 c3_i32_182
  let c0_i32_190 : BitVec 32 := 0#32
  ![v146.toNat, v341.toNat, 0]
def k0_off175 (v339 : BitVec 32) : Fin 2 → Nat :=
  let c0_i32_184 : BitVec 32 := 0#32
  let v343 : BitVec 1 := Scalar.cmpi .sgt v339 c0_i32_184
  let v344 : BitVec 32 := Scalar.extui v343
  let c0_i32_185 : BitVec 32 := 0#32
  let v345 : BitVec 1 := Scalar.cmpi .slt v339 c0_i32_185
  let v346 : BitVec 32 := Scalar.extui v345
  let v347 : BitVec 32 := Scalar.subi v344 v346
  let c2_i32_183 : BitVec 32 := 2#32
  let c0_i32_186 : BitVec 32 := 0#32
  let v348 : BitVec 1 := Scalar.cmpi .sgt c2_i32_183 c0_i32_186
  let v349 : BitVec 32 := Scalar.extui v348
  let c0_i32_187 : BitVec 32 := 0#32
  let v350 : BitVec 1 := Scalar.cmpi .slt c2_i32_183 c0_i32_187
  let v351 : BitVec 32 := Scalar.extui v350
  let v352 : BitVec 32 := Scalar.subi v349 v351
  let v353 : BitVec 1 := Scalar.cmpi .ne v347 v352
  let v354 : BitVec 32 := Scalar.remsi v339 c2_i32_183
  let c0_i32_188 : BitVec 32 := 0#32
  let v355 : BitVec 1 := Scalar.cmpi .ne v354 c0_i32_188
  let v356 : BitVec 1 := Scalar.andi v353 v355
  let v342 : BitVec 32 := Scalar.divsi v339 c2_i32_183
  let c1_i32_189 : BitVec 32 := 1#32
  let v357 : BitVec 32 := Scalar.subi v342 c1_i32_189
  let v358 : BitVec 32 := Scalar.select v356 v357 v342
  let c0_i32_191 : BitVec 32 := 0#32
  ![v358.toNat, 0]

def k0_chk48 (v0 : BitVec 32) (k0_t6 : Fin (k0_t6_loop v0).trips) (v339 : BitVec 32) : Prop :=
  (∀ (k0_h7 : k0_cond7 v0 k0_t6 = 1#1), ∀ a, (k0_off175 v339) a + S1x5120.size a ≤ S16384x5120.size a)
theorem k0_off175_inb : ∀ (v0 : BitVec 32) (k0_t6 : Fin (k0_t6_loop v0).trips) (v339 : BitVec 32) (k0_hw48 : k0_chk48 v0 k0_t6 v339), ∀ (k0_h7 : k0_cond7 v0 k0_t6 = 1#1), ∀ a, (k0_off175 v339) a + S1x5120.size a ≤ S16384x5120.size a := fun v0 k0_t6 v339 k0_hw48 k0_h7 => k0_hw48 k0_h7

def k0_off176 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_192 : BitVec 32 := 256#32
  let v364 : BitVec 32 := Scalar.muli v145 c256_i32_192
  let c0_i32_92 : BitVec 32 := 0#32
  let c1_i32_94 : BitVec 32 := 1#32
  let arg19 : BitVec 32 := Scf.iv c0_i32_92 c1_i32_94 k0_t8
  let c16_i32_193 : BitVec 32 := 16#32
  let v365 : BitVec 32 := Scalar.muli arg19 c16_i32_193
  let v366 : BitVec 32 := Scalar.addi v364 v365
  let c7_i32 : BitVec 32 := 7#32
  let v367 : BitVec 32 := Scalar.addi v366 c7_i32
  let v368 : Index := Scalar.indexCast v367
  ![v368.toNat]
def k0_off177 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off178 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_194 : BitVec 32 := 16#32
  let v370 : BitVec 32 := Scalar.muli arg19 c16_i32_194
  let c11_i32 : BitVec 32 := 11#32
  let v371 : BitVec 32 := Scalar.addi v370 c11_i32
  let c0_i32_202 : BitVec 32 := 0#32
  ![v146.toNat, v371.toNat, 0]
def k0_off179 (v369 : BitVec 32) : Fin 2 → Nat :=
  let c0_i32_196 : BitVec 32 := 0#32
  let v373 : BitVec 1 := Scalar.cmpi .sgt v369 c0_i32_196
  let v374 : BitVec 32 := Scalar.extui v373
  let c0_i32_197 : BitVec 32 := 0#32
  let v375 : BitVec 1 := Scalar.cmpi .slt v369 c0_i32_197
  let v376 : BitVec 32 := Scalar.extui v375
  let v377 : BitVec 32 := Scalar.subi v374 v376
  let c2_i32_195 : BitVec 32 := 2#32
  let c0_i32_198 : BitVec 32 := 0#32
  let v378 : BitVec 1 := Scalar.cmpi .sgt c2_i32_195 c0_i32_198
  let v379 : BitVec 32 := Scalar.extui v378
  let c0_i32_199 : BitVec 32 := 0#32
  let v380 : BitVec 1 := Scalar.cmpi .slt c2_i32_195 c0_i32_199
  let v381 : BitVec 32 := Scalar.extui v380
  let v382 : BitVec 32 := Scalar.subi v379 v381
  let v383 : BitVec 1 := Scalar.cmpi .ne v377 v382
  let v384 : BitVec 32 := Scalar.remsi v369 c2_i32_195
  let c0_i32_200 : BitVec 32 := 0#32
  let v385 : BitVec 1 := Scalar.cmpi .ne v384 c0_i32_200
  let v386 : BitVec 1 := Scalar.andi v383 v385
  let v372 : BitVec 32 := Scalar.divsi v369 c2_i32_195
  let c1_i32_201 : BitVec 32 := 1#32
  let v387 : BitVec 32 := Scalar.subi v372 c1_i32_201
  let v388 : BitVec 32 := Scalar.select v386 v387 v372
  let c0_i32_203 : BitVec 32 := 0#32
  ![v388.toNat, 0]

def k0_chk49 (v0 : BitVec 32) (k0_t6 : Fin (k0_t6_loop v0).trips) (v369 : BitVec 32) : Prop :=
  (∀ (k0_h7 : k0_cond7 v0 k0_t6 = 1#1), ∀ a, (k0_off179 v369) a + S1x5120.size a ≤ S16384x5120.size a)
theorem k0_off179_inb : ∀ (v0 : BitVec 32) (k0_t6 : Fin (k0_t6_loop v0).trips) (v369 : BitVec 32) (k0_hw49 : k0_chk49 v0 k0_t6 v369), ∀ (k0_h7 : k0_cond7 v0 k0_t6 = 1#1), ∀ a, (k0_off179 v369) a + S1x5120.size a ≤ S16384x5120.size a := fun v0 k0_t6 v369 k0_hw49 k0_h7 => k0_hw49 k0_h7

def k0_off180 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_204 : BitVec 32 := 256#32
  let v394 : BitVec 32 := Scalar.muli v145 c256_i32_204
  let c0_i32_92 : BitVec 32 := 0#32
  let c1_i32_94 : BitVec 32 := 1#32
  let arg19 : BitVec 32 := Scf.iv c0_i32_92 c1_i32_94 k0_t8
  let c16_i32_205 : BitVec 32 := 16#32
  let v395 : BitVec 32 := Scalar.muli arg19 c16_i32_205
  let v396 : BitVec 32 := Scalar.addi v394 v395
  let c8_i32_206 : BitVec 32 := 8#32
  let v397 : BitVec 32 := Scalar.addi v396 c8_i32_206
  let v398 : Index := Scalar.indexCast v397
  ![v398.toNat]
def k0_off181 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off182 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_207 : BitVec 32 := 16#32
  let v400 : BitVec 32 := Scalar.muli arg19 c16_i32_207
  let c4_i32_208 : BitVec 32 := 4#32
  let v401 : BitVec 32 := Scalar.addi v400 c4_i32_208
  let c0_i32_216 : BitVec 32 := 0#32
  ![v146.toNat, v401.toNat, 0]
def k0_off183 (v399 : BitVec 32) : Fin 2 → Nat :=
  let c0_i32_210 : BitVec 32 := 0#32
  let v403 : BitVec 1 := Scalar.cmpi .sgt v399 c0_i32_210
  let v404 : BitVec 32 := Scalar.extui v403
  let c0_i32_211 : BitVec 32 := 0#32
  let v405 : BitVec 1 := Scalar.cmpi .slt v399 c0_i32_211
  let v406 : BitVec 32 := Scalar.extui v405
  let v407 : BitVec 32 := Scalar.subi v404 v406
  let c2_i32_209 : BitVec 32 := 2#32
  let c0_i32_212 : BitVec 32 := 0#32
  let v408 : BitVec 1 := Scalar.cmpi .sgt c2_i32_209 c0_i32_212
  let v409 : BitVec 32 := Scalar.extui v408
  let c0_i32_213 : BitVec 32 := 0#32
  let v410 : BitVec 1 := Scalar.cmpi .slt c2_i32_209 c0_i32_213
  let v411 : BitVec 32 := Scalar.extui v410
  let v412 : BitVec 32 := Scalar.subi v409 v411
  let v413 : BitVec 1 := Scalar.cmpi .ne v407 v412
  let v414 : BitVec 32 := Scalar.remsi v399 c2_i32_209
  let c0_i32_214 : BitVec 32 := 0#32
  let v415 : BitVec 1 := Scalar.cmpi .ne v414 c0_i32_214
  let v416 : BitVec 1 := Scalar.andi v413 v415
  let v402 : BitVec 32 := Scalar.divsi v399 c2_i32_209
  let c1_i32_215 : BitVec 32 := 1#32
  let v417 : BitVec 32 := Scalar.subi v402 c1_i32_215
  let v418 : BitVec 32 := Scalar.select v416 v417 v402
  let c0_i32_217 : BitVec 32 := 0#32
  ![v418.toNat, 0]

def k0_chk50 (v0 : BitVec 32) (k0_t6 : Fin (k0_t6_loop v0).trips) (v399 : BitVec 32) : Prop :=
  (∀ (k0_h7 : k0_cond7 v0 k0_t6 = 1#1), ∀ a, (k0_off183 v399) a + S1x5120.size a ≤ S16384x5120.size a)
theorem k0_off183_inb : ∀ (v0 : BitVec 32) (k0_t6 : Fin (k0_t6_loop v0).trips) (v399 : BitVec 32) (k0_hw50 : k0_chk50 v0 k0_t6 v399), ∀ (k0_h7 : k0_cond7 v0 k0_t6 = 1#1), ∀ a, (k0_off183 v399) a + S1x5120.size a ≤ S16384x5120.size a := fun v0 k0_t6 v399 k0_hw50 k0_h7 => k0_hw50 k0_h7

def k0_off184 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_218 : BitVec 32 := 256#32
  let v424 : BitVec 32 := Scalar.muli v145 c256_i32_218
  let c0_i32_92 : BitVec 32 := 0#32
  let c1_i32_94 : BitVec 32 := 1#32
  let arg19 : BitVec 32 := Scf.iv c0_i32_92 c1_i32_94 k0_t8
  let c16_i32_219 : BitVec 32 := 16#32
  let v425 : BitVec 32 := Scalar.muli arg19 c16_i32_219
  let v426 : BitVec 32 := Scalar.addi v424 v425
  let c9_i32_220 : BitVec 32 := 9#32
  let v427 : BitVec 32 := Scalar.addi v426 c9_i32_220
  let v428 : Index := Scalar.indexCast v427
  ![v428.toNat]
def k0_off185 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off186 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_221 : BitVec 32 := 16#32
  let v430 : BitVec 32 := Scalar.muli arg19 c16_i32_221
  let c12_i32 : BitVec 32 := 12#32
  let v431 : BitVec 32 := Scalar.addi v430 c12_i32
  let c0_i32_229 : BitVec 32 := 0#32
  ![v146.toNat, v431.toNat, 0]
def k0_off187 (v429 : BitVec 32) : Fin 2 → Nat :=
  let c0_i32_223 : BitVec 32 := 0#32
  let v433 : BitVec 1 := Scalar.cmpi .sgt v429 c0_i32_223
  let v434 : BitVec 32 := Scalar.extui v433
  let c0_i32_224 : BitVec 32 := 0#32
  let v435 : BitVec 1 := Scalar.cmpi .slt v429 c0_i32_224
  let v436 : BitVec 32 := Scalar.extui v435
  let v437 : BitVec 32 := Scalar.subi v434 v436
  let c2_i32_222 : BitVec 32 := 2#32
  let c0_i32_225 : BitVec 32 := 0#32
  let v438 : BitVec 1 := Scalar.cmpi .sgt c2_i32_222 c0_i32_225
  let v439 : BitVec 32 := Scalar.extui v438
  let c0_i32_226 : BitVec 32 := 0#32
  let v440 : BitVec 1 := Scalar.cmpi .slt c2_i32_222 c0_i32_226
  let v441 : BitVec 32 := Scalar.extui v440
  let v442 : BitVec 32 := Scalar.subi v439 v441
  let v443 : BitVec 1 := Scalar.cmpi .ne v437 v442
  let v444 : BitVec 32 := Scalar.remsi v429 c2_i32_222
  let c0_i32_227 : BitVec 32 := 0#32
  let v445 : BitVec 1 := Scalar.cmpi .ne v444 c0_i32_227
  let v446 : BitVec 1 := Scalar.andi v443 v445
  let v432 : BitVec 32 := Scalar.divsi v429 c2_i32_222
  let c1_i32_228 : BitVec 32 := 1#32
  let v447 : BitVec 32 := Scalar.subi v432 c1_i32_228
  let v448 : BitVec 32 := Scalar.select v446 v447 v432
  let c0_i32_230 : BitVec 32 := 0#32
  ![v448.toNat, 0]

def k0_chk51 (v0 : BitVec 32) (k0_t6 : Fin (k0_t6_loop v0).trips) (v429 : BitVec 32) : Prop :=
  (∀ (k0_h7 : k0_cond7 v0 k0_t6 = 1#1), ∀ a, (k0_off187 v429) a + S1x5120.size a ≤ S16384x5120.size a)
theorem k0_off187_inb : ∀ (v0 : BitVec 32) (k0_t6 : Fin (k0_t6_loop v0).trips) (v429 : BitVec 32) (k0_hw51 : k0_chk51 v0 k0_t6 v429), ∀ (k0_h7 : k0_cond7 v0 k0_t6 = 1#1), ∀ a, (k0_off187 v429) a + S1x5120.size a ≤ S16384x5120.size a := fun v0 k0_t6 v429 k0_hw51 k0_h7 => k0_hw51 k0_h7

def k0_off188 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_231 : BitVec 32 := 256#32
  let v454 : BitVec 32 := Scalar.muli v145 c256_i32_231
  let c0_i32_92 : BitVec 32 := 0#32
  let c1_i32_94 : BitVec 32 := 1#32
  let arg19 : BitVec 32 := Scf.iv c0_i32_92 c1_i32_94 k0_t8
  let c16_i32_232 : BitVec 32 := 16#32
  let v455 : BitVec 32 := Scalar.muli arg19 c16_i32_232
  let v456 : BitVec 32 := Scalar.addi v454 v455
  let c10_i32_233 : BitVec 32 := 10#32
  let v457 : BitVec 32 := Scalar.addi v456 c10_i32_233
  let v458 : Index := Scalar.indexCast v457
  ![v458.toNat]
def k0_off189 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off190 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_234 : BitVec 32 := 16#32
  let v460 : BitVec 32 := Scalar.muli arg19 c16_i32_234
  let c5_i32_235 : BitVec 32 := 5#32
  let v461 : BitVec 32 := Scalar.addi v460 c5_i32_235
  let c0_i32_243 : BitVec 32 := 0#32
  ![v146.toNat, v461.toNat, 0]
def k0_off191 (v459 : BitVec 32) : Fin 2 → Nat :=
  let c0_i32_237 : BitVec 32 := 0#32
  let v463 : BitVec 1 := Scalar.cmpi .sgt v459 c0_i32_237
  let v464 : BitVec 32 := Scalar.extui v463
  let c0_i32_238 : BitVec 32 := 0#32
  let v465 : BitVec 1 := Scalar.cmpi .slt v459 c0_i32_238
  let v466 : BitVec 32 := Scalar.extui v465
  let v467 : BitVec 32 := Scalar.subi v464 v466
  let c2_i32_236 : BitVec 32 := 2#32
  let c0_i32_239 : BitVec 32 := 0#32
  let v468 : BitVec 1 := Scalar.cmpi .sgt c2_i32_236 c0_i32_239
  let v469 : BitVec 32 := Scalar.extui v468
  let c0_i32_240 : BitVec 32 := 0#32
  let v470 : BitVec 1 := Scalar.cmpi .slt c2_i32_236 c0_i32_240
  let v471 : BitVec 32 := Scalar.extui v470
  let v472 : BitVec 32 := Scalar.subi v469 v471
  let v473 : BitVec 1 := Scalar.cmpi .ne v467 v472
  let v474 : BitVec 32 := Scalar.remsi v459 c2_i32_236
  let c0_i32_241 : BitVec 32 := 0#32
  let v475 : BitVec 1 := Scalar.cmpi .ne v474 c0_i32_241
  let v476 : BitVec 1 := Scalar.andi v473 v475
  let v462 : BitVec 32 := Scalar.divsi v459 c2_i32_236
  let c1_i32_242 : BitVec 32 := 1#32
  let v477 : BitVec 32 := Scalar.subi v462 c1_i32_242
  let v478 : BitVec 32 := Scalar.select v476 v477 v462
  let c0_i32_244 : BitVec 32 := 0#32
  ![v478.toNat, 0]

def k0_chk52 (v0 : BitVec 32) (k0_t6 : Fin (k0_t6_loop v0).trips) (v459 : BitVec 32) : Prop :=
  (∀ (k0_h7 : k0_cond7 v0 k0_t6 = 1#1), ∀ a, (k0_off191 v459) a + S1x5120.size a ≤ S16384x5120.size a)
theorem k0_off191_inb : ∀ (v0 : BitVec 32) (k0_t6 : Fin (k0_t6_loop v0).trips) (v459 : BitVec 32) (k0_hw52 : k0_chk52 v0 k0_t6 v459), ∀ (k0_h7 : k0_cond7 v0 k0_t6 = 1#1), ∀ a, (k0_off191 v459) a + S1x5120.size a ≤ S16384x5120.size a := fun v0 k0_t6 v459 k0_hw52 k0_h7 => k0_hw52 k0_h7

def k0_off192 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_245 : BitVec 32 := 256#32
  let v484 : BitVec 32 := Scalar.muli v145 c256_i32_245
  let c0_i32_92 : BitVec 32 := 0#32
  let c1_i32_94 : BitVec 32 := 1#32
  let arg19 : BitVec 32 := Scf.iv c0_i32_92 c1_i32_94 k0_t8
  let c16_i32_246 : BitVec 32 := 16#32
  let v485 : BitVec 32 := Scalar.muli arg19 c16_i32_246
  let v486 : BitVec 32 := Scalar.addi v484 v485
  let c11_i32_247 : BitVec 32 := 11#32
  let v487 : BitVec 32 := Scalar.addi v486 c11_i32_247
  let v488 : Index := Scalar.indexCast v487
  ![v488.toNat]
def k0_off193 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off194 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_248 : BitVec 32 := 16#32
  let v490 : BitVec 32 := Scalar.muli arg19 c16_i32_248
  let c13_i32 : BitVec 32 := 13#32
  let v491 : BitVec 32 := Scalar.addi v490 c13_i32
  let c0_i32_256 : BitVec 32 := 0#32
  ![v146.toNat, v491.toNat, 0]
def k0_off195 (v489 : BitVec 32) : Fin 2 → Nat :=
  let c0_i32_250 : BitVec 32 := 0#32
  let v493 : BitVec 1 := Scalar.cmpi .sgt v489 c0_i32_250
  let v494 : BitVec 32 := Scalar.extui v493
  let c0_i32_251 : BitVec 32 := 0#32
  let v495 : BitVec 1 := Scalar.cmpi .slt v489 c0_i32_251
  let v496 : BitVec 32 := Scalar.extui v495
  let v497 : BitVec 32 := Scalar.subi v494 v496
  let c2_i32_249 : BitVec 32 := 2#32
  let c0_i32_252 : BitVec 32 := 0#32
  let v498 : BitVec 1 := Scalar.cmpi .sgt c2_i32_249 c0_i32_252
  let v499 : BitVec 32 := Scalar.extui v498
  let c0_i32_253 : BitVec 32 := 0#32
  let v500 : BitVec 1 := Scalar.cmpi .slt c2_i32_249 c0_i32_253
  let v501 : BitVec 32 := Scalar.extui v500
  let v502 : BitVec 32 := Scalar.subi v499 v501
  let v503 : BitVec 1 := Scalar.cmpi .ne v497 v502
  let v504 : BitVec 32 := Scalar.remsi v489 c2_i32_249
  let c0_i32_254 : BitVec 32 := 0#32
  let v505 : BitVec 1 := Scalar.cmpi .ne v504 c0_i32_254
  let v506 : BitVec 1 := Scalar.andi v503 v505
  let v492 : BitVec 32 := Scalar.divsi v489 c2_i32_249
  let c1_i32_255 : BitVec 32 := 1#32
  let v507 : BitVec 32 := Scalar.subi v492 c1_i32_255
  let v508 : BitVec 32 := Scalar.select v506 v507 v492
  let c0_i32_257 : BitVec 32 := 0#32
  ![v508.toNat, 0]

def k0_chk53 (v0 : BitVec 32) (k0_t6 : Fin (k0_t6_loop v0).trips) (v489 : BitVec 32) : Prop :=
  (∀ (k0_h7 : k0_cond7 v0 k0_t6 = 1#1), ∀ a, (k0_off195 v489) a + S1x5120.size a ≤ S16384x5120.size a)
theorem k0_off195_inb : ∀ (v0 : BitVec 32) (k0_t6 : Fin (k0_t6_loop v0).trips) (v489 : BitVec 32) (k0_hw53 : k0_chk53 v0 k0_t6 v489), ∀ (k0_h7 : k0_cond7 v0 k0_t6 = 1#1), ∀ a, (k0_off195 v489) a + S1x5120.size a ≤ S16384x5120.size a := fun v0 k0_t6 v489 k0_hw53 k0_h7 => k0_hw53 k0_h7

def k0_off196 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_258 : BitVec 32 := 256#32
  let v514 : BitVec 32 := Scalar.muli v145 c256_i32_258
  let c0_i32_92 : BitVec 32 := 0#32
  let c1_i32_94 : BitVec 32 := 1#32
  let arg19 : BitVec 32 := Scf.iv c0_i32_92 c1_i32_94 k0_t8
  let c16_i32_259 : BitVec 32 := 16#32
  let v515 : BitVec 32 := Scalar.muli arg19 c16_i32_259
  let v516 : BitVec 32 := Scalar.addi v514 v515
  let c12_i32_260 : BitVec 32 := 12#32
  let v517 : BitVec 32 := Scalar.addi v516 c12_i32_260
  let v518 : Index := Scalar.indexCast v517
  ![v518.toNat]
def k0_off197 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off198 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_261 : BitVec 32 := 16#32
  let v520 : BitVec 32 := Scalar.muli arg19 c16_i32_261
  let c6_i32_262 : BitVec 32 := 6#32
  let v521 : BitVec 32 := Scalar.addi v520 c6_i32_262
  let c0_i32_270 : BitVec 32 := 0#32
  ![v146.toNat, v521.toNat, 0]
def k0_off199 (v519 : BitVec 32) : Fin 2 → Nat :=
  let c0_i32_264 : BitVec 32 := 0#32
  let v523 : BitVec 1 := Scalar.cmpi .sgt v519 c0_i32_264
  let v524 : BitVec 32 := Scalar.extui v523
  let c0_i32_265 : BitVec 32 := 0#32
  let v525 : BitVec 1 := Scalar.cmpi .slt v519 c0_i32_265
  let v526 : BitVec 32 := Scalar.extui v525
  let v527 : BitVec 32 := Scalar.subi v524 v526
  let c2_i32_263 : BitVec 32 := 2#32
  let c0_i32_266 : BitVec 32 := 0#32
  let v528 : BitVec 1 := Scalar.cmpi .sgt c2_i32_263 c0_i32_266
  let v529 : BitVec 32 := Scalar.extui v528
  let c0_i32_267 : BitVec 32 := 0#32
  let v530 : BitVec 1 := Scalar.cmpi .slt c2_i32_263 c0_i32_267
  let v531 : BitVec 32 := Scalar.extui v530
  let v532 : BitVec 32 := Scalar.subi v529 v531
  let v533 : BitVec 1 := Scalar.cmpi .ne v527 v532
  let v534 : BitVec 32 := Scalar.remsi v519 c2_i32_263
  let c0_i32_268 : BitVec 32 := 0#32
  let v535 : BitVec 1 := Scalar.cmpi .ne v534 c0_i32_268
  let v536 : BitVec 1 := Scalar.andi v533 v535
  let v522 : BitVec 32 := Scalar.divsi v519 c2_i32_263
  let c1_i32_269 : BitVec 32 := 1#32
  let v537 : BitVec 32 := Scalar.subi v522 c1_i32_269
  let v538 : BitVec 32 := Scalar.select v536 v537 v522
  let c0_i32_271 : BitVec 32 := 0#32
  ![v538.toNat, 0]

def k0_chk54 (v0 : BitVec 32) (k0_t6 : Fin (k0_t6_loop v0).trips) (v519 : BitVec 32) : Prop :=
  (∀ (k0_h7 : k0_cond7 v0 k0_t6 = 1#1), ∀ a, (k0_off199 v519) a + S1x5120.size a ≤ S16384x5120.size a)
theorem k0_off199_inb : ∀ (v0 : BitVec 32) (k0_t6 : Fin (k0_t6_loop v0).trips) (v519 : BitVec 32) (k0_hw54 : k0_chk54 v0 k0_t6 v519), ∀ (k0_h7 : k0_cond7 v0 k0_t6 = 1#1), ∀ a, (k0_off199 v519) a + S1x5120.size a ≤ S16384x5120.size a := fun v0 k0_t6 v519 k0_hw54 k0_h7 => k0_hw54 k0_h7

def k0_off200 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_272 : BitVec 32 := 256#32
  let v544 : BitVec 32 := Scalar.muli v145 c256_i32_272
  let c0_i32_92 : BitVec 32 := 0#32
  let c1_i32_94 : BitVec 32 := 1#32
  let arg19 : BitVec 32 := Scf.iv c0_i32_92 c1_i32_94 k0_t8
  let c16_i32_273 : BitVec 32 := 16#32
  let v545 : BitVec 32 := Scalar.muli arg19 c16_i32_273
  let v546 : BitVec 32 := Scalar.addi v544 v545
  let c13_i32_274 : BitVec 32 := 13#32
  let v547 : BitVec 32 := Scalar.addi v546 c13_i32_274
  let v548 : Index := Scalar.indexCast v547
  ![v548.toNat]
def k0_off201 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off202 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_275 : BitVec 32 := 16#32
  let v550 : BitVec 32 := Scalar.muli arg19 c16_i32_275
  let c14_i32 : BitVec 32 := 14#32
  let v551 : BitVec 32 := Scalar.addi v550 c14_i32
  let c0_i32_283 : BitVec 32 := 0#32
  ![v146.toNat, v551.toNat, 0]
def k0_off203 (v549 : BitVec 32) : Fin 2 → Nat :=
  let c0_i32_277 : BitVec 32 := 0#32
  let v553 : BitVec 1 := Scalar.cmpi .sgt v549 c0_i32_277
  let v554 : BitVec 32 := Scalar.extui v553
  let c0_i32_278 : BitVec 32 := 0#32
  let v555 : BitVec 1 := Scalar.cmpi .slt v549 c0_i32_278
  let v556 : BitVec 32 := Scalar.extui v555
  let v557 : BitVec 32 := Scalar.subi v554 v556
  let c2_i32_276 : BitVec 32 := 2#32
  let c0_i32_279 : BitVec 32 := 0#32
  let v558 : BitVec 1 := Scalar.cmpi .sgt c2_i32_276 c0_i32_279
  let v559 : BitVec 32 := Scalar.extui v558
  let c0_i32_280 : BitVec 32 := 0#32
  let v560 : BitVec 1 := Scalar.cmpi .slt c2_i32_276 c0_i32_280
  let v561 : BitVec 32 := Scalar.extui v560
  let v562 : BitVec 32 := Scalar.subi v559 v561
  let v563 : BitVec 1 := Scalar.cmpi .ne v557 v562
  let v564 : BitVec 32 := Scalar.remsi v549 c2_i32_276
  let c0_i32_281 : BitVec 32 := 0#32
  let v565 : BitVec 1 := Scalar.cmpi .ne v564 c0_i32_281
  let v566 : BitVec 1 := Scalar.andi v563 v565
  let v552 : BitVec 32 := Scalar.divsi v549 c2_i32_276
  let c1_i32_282 : BitVec 32 := 1#32
  let v567 : BitVec 32 := Scalar.subi v552 c1_i32_282
  let v568 : BitVec 32 := Scalar.select v566 v567 v552
  let c0_i32_284 : BitVec 32 := 0#32
  ![v568.toNat, 0]

def k0_chk55 (v0 : BitVec 32) (k0_t6 : Fin (k0_t6_loop v0).trips) (v549 : BitVec 32) : Prop :=
  (∀ (k0_h7 : k0_cond7 v0 k0_t6 = 1#1), ∀ a, (k0_off203 v549) a + S1x5120.size a ≤ S16384x5120.size a)
theorem k0_off203_inb : ∀ (v0 : BitVec 32) (k0_t6 : Fin (k0_t6_loop v0).trips) (v549 : BitVec 32) (k0_hw55 : k0_chk55 v0 k0_t6 v549), ∀ (k0_h7 : k0_cond7 v0 k0_t6 = 1#1), ∀ a, (k0_off203 v549) a + S1x5120.size a ≤ S16384x5120.size a := fun v0 k0_t6 v549 k0_hw55 k0_h7 => k0_hw55 k0_h7

def k0_off204 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_285 : BitVec 32 := 256#32
  let v574 : BitVec 32 := Scalar.muli v145 c256_i32_285
  let c0_i32_92 : BitVec 32 := 0#32
  let c1_i32_94 : BitVec 32 := 1#32
  let arg19 : BitVec 32 := Scf.iv c0_i32_92 c1_i32_94 k0_t8
  let c16_i32_286 : BitVec 32 := 16#32
  let v575 : BitVec 32 := Scalar.muli arg19 c16_i32_286
  let v576 : BitVec 32 := Scalar.addi v574 v575
  let c14_i32_287 : BitVec 32 := 14#32
  let v577 : BitVec 32 := Scalar.addi v576 c14_i32_287
  let v578 : Index := Scalar.indexCast v577
  ![v578.toNat]
def k0_off205 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off206 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_288 : BitVec 32 := 16#32
  let v580 : BitVec 32 := Scalar.muli arg19 c16_i32_288
  let c7_i32_289 : BitVec 32 := 7#32
  let v581 : BitVec 32 := Scalar.addi v580 c7_i32_289
  let c0_i32_297 : BitVec 32 := 0#32
  ![v146.toNat, v581.toNat, 0]
def k0_off207 (v579 : BitVec 32) : Fin 2 → Nat :=
  let c0_i32_291 : BitVec 32 := 0#32
  let v583 : BitVec 1 := Scalar.cmpi .sgt v579 c0_i32_291
  let v584 : BitVec 32 := Scalar.extui v583
  let c0_i32_292 : BitVec 32 := 0#32
  let v585 : BitVec 1 := Scalar.cmpi .slt v579 c0_i32_292
  let v586 : BitVec 32 := Scalar.extui v585
  let v587 : BitVec 32 := Scalar.subi v584 v586
  let c2_i32_290 : BitVec 32 := 2#32
  let c0_i32_293 : BitVec 32 := 0#32
  let v588 : BitVec 1 := Scalar.cmpi .sgt c2_i32_290 c0_i32_293
  let v589 : BitVec 32 := Scalar.extui v588
  let c0_i32_294 : BitVec 32 := 0#32
  let v590 : BitVec 1 := Scalar.cmpi .slt c2_i32_290 c0_i32_294
  let v591 : BitVec 32 := Scalar.extui v590
  let v592 : BitVec 32 := Scalar.subi v589 v591
  let v593 : BitVec 1 := Scalar.cmpi .ne v587 v592
  let v594 : BitVec 32 := Scalar.remsi v579 c2_i32_290
  let c0_i32_295 : BitVec 32 := 0#32
  let v595 : BitVec 1 := Scalar.cmpi .ne v594 c0_i32_295
  let v596 : BitVec 1 := Scalar.andi v593 v595
  let v582 : BitVec 32 := Scalar.divsi v579 c2_i32_290
  let c1_i32_296 : BitVec 32 := 1#32
  let v597 : BitVec 32 := Scalar.subi v582 c1_i32_296
  let v598 : BitVec 32 := Scalar.select v596 v597 v582
  let c0_i32_298 : BitVec 32 := 0#32
  ![v598.toNat, 0]

def k0_chk56 (v0 : BitVec 32) (k0_t6 : Fin (k0_t6_loop v0).trips) (v579 : BitVec 32) : Prop :=
  (∀ (k0_h7 : k0_cond7 v0 k0_t6 = 1#1), ∀ a, (k0_off207 v579) a + S1x5120.size a ≤ S16384x5120.size a)
theorem k0_off207_inb : ∀ (v0 : BitVec 32) (k0_t6 : Fin (k0_t6_loop v0).trips) (v579 : BitVec 32) (k0_hw56 : k0_chk56 v0 k0_t6 v579), ∀ (k0_h7 : k0_cond7 v0 k0_t6 = 1#1), ∀ a, (k0_off207 v579) a + S1x5120.size a ≤ S16384x5120.size a := fun v0 k0_t6 v579 k0_hw56 k0_h7 => k0_hw56 k0_h7

def k0_off208 (v0 : BitVec 32) (k0_t6 : Fin (k0_t6_loop v0).trips) (k0_t8 : Fin k0_t8_loop.trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c256_i32_299 : BitVec 32 := 256#32
  let v604 : BitVec 32 := Scalar.muli v145 c256_i32_299
  let c0_i32_92 : BitVec 32 := 0#32
  let c1_i32_94 : BitVec 32 := 1#32
  let arg19 : BitVec 32 := Scf.iv c0_i32_92 c1_i32_94 k0_t8
  let c16_i32_300 : BitVec 32 := 16#32
  let v605 : BitVec 32 := Scalar.muli arg19 c16_i32_300
  let v606 : BitVec 32 := Scalar.addi v604 v605
  let c15_i32 : BitVec 32 := 15#32
  let v607 : BitVec 32 := Scalar.addi v606 c15_i32
  let v608 : Index := Scalar.indexCast v607
  ![v608.toNat]
def k0_off209 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off210 (v0 : BitVec 32) (k0_t6 : Fin (k0_t6_loop v0).trips) (k0_t8 : Fin k0_t8_loop.trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_92 : BitVec 32 := 0#32
  let c1_i32_94 : BitVec 32 := 1#32
  let arg19 : BitVec 32 := Scf.iv c0_i32_92 c1_i32_94 k0_t8
  let c16_i32_301 : BitVec 32 := 16#32
  let v610 : BitVec 32 := Scalar.muli arg19 c16_i32_301
  let c15_i32_302 : BitVec 32 := 15#32
  let v611 : BitVec 32 := Scalar.addi v610 c15_i32_302
  let c0_i32_310 : BitVec 32 := 0#32
  ![v146.toNat, v611.toNat, 0]
def k0_off211 (v609 : BitVec 32) : Fin 2 → Nat :=
  let c0_i32_304 : BitVec 32 := 0#32
  let v613 : BitVec 1 := Scalar.cmpi .sgt v609 c0_i32_304
  let v614 : BitVec 32 := Scalar.extui v613
  let c0_i32_305 : BitVec 32 := 0#32
  let v615 : BitVec 1 := Scalar.cmpi .slt v609 c0_i32_305
  let v616 : BitVec 32 := Scalar.extui v615
  let v617 : BitVec 32 := Scalar.subi v614 v616
  let c2_i32_303 : BitVec 32 := 2#32
  let c0_i32_306 : BitVec 32 := 0#32
  let v618 : BitVec 1 := Scalar.cmpi .sgt c2_i32_303 c0_i32_306
  let v619 : BitVec 32 := Scalar.extui v618
  let c0_i32_307 : BitVec 32 := 0#32
  let v620 : BitVec 1 := Scalar.cmpi .slt c2_i32_303 c0_i32_307
  let v621 : BitVec 32 := Scalar.extui v620
  let v622 : BitVec 32 := Scalar.subi v619 v621
  let v623 : BitVec 1 := Scalar.cmpi .ne v617 v622
  let v624 : BitVec 32 := Scalar.remsi v609 c2_i32_303
  let c0_i32_308 : BitVec 32 := 0#32
  let v625 : BitVec 1 := Scalar.cmpi .ne v624 c0_i32_308
  let v626 : BitVec 1 := Scalar.andi v623 v625
  let v612 : BitVec 32 := Scalar.divsi v609 c2_i32_303
  let c1_i32_309 : BitVec 32 := 1#32
  let v627 : BitVec 32 := Scalar.subi v612 c1_i32_309
  let v628 : BitVec 32 := Scalar.select v626 v627 v612
  let c0_i32_311 : BitVec 32 := 0#32
  ![v628.toNat, 0]

def k0_chk57 (v0 : BitVec 32) (k0_t6 : Fin (k0_t6_loop v0).trips) (v609 : BitVec 32) : Prop :=
  (∀ (k0_h7 : k0_cond7 v0 k0_t6 = 1#1), ∀ a, (k0_off211 v609) a + S1x5120.size a ≤ S16384x5120.size a)
theorem k0_off211_inb : ∀ (v0 : BitVec 32) (k0_t6 : Fin (k0_t6_loop v0).trips) (v609 : BitVec 32) (k0_hw57 : k0_chk57 v0 k0_t6 v609), ∀ (k0_h7 : k0_cond7 v0 k0_t6 = 1#1), ∀ a, (k0_off211 v609) a + S1x5120.size a ≤ S16384x5120.size a := fun v0 k0_t6 v609 k0_hw57 k0_h7 => k0_hw57 k0_h7

def k0_off212 (v0 : BitVec 32) (k0_t6 : Fin (k0_t6_loop v0).trips) : Fin 1 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  ![v146.toNat]
def k0_off213 (v0 : BitVec 32) (k0_t6 : Fin (k0_t6_loop v0).trips) : Fin 3 → Nat :=
  let c1_i32_90 : BitVec 32 := 1#32
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : BitVec 32 := Scalar.subi c1_i32_90 v37
  let c0_i32_96 : BitVec 32 := 0#32
  let c0_i32_97 : BitVec 32 := 0#32
  ![v146.toNat, 0, 0]
def k0_off214 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_89 : BitVec 32 := 1#32
  let v145 : BitVec 32 := Scalar.addi arg18 c1_i32_89
  let c0_i32_98 : BitVec 32 := 0#32
  let c0_i32_99 : BitVec 32 := 0#32
  ![v145.toNat, 0, 0]
def k0_off215 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v49 : Index := Scalar.indexCast v37
  let c0_46 : Index := 0#32
  let c0_47 : Index := 0#32
  ![v49.toNat, 0, 0]
@[reducible] def k0_t9_loop : Scf.Loop 32 :=
  let c0_i32_49 : BitVec 32 := 0#32
  let c40_i32 : BitVec 32 := 40#32
  let v57 : BitVec 32 := Scalar.addi c0_i32_49 c40_i32
  let c1_i32_50 : BitVec 32 := 1#32
  ⟨c0_i32_49, v57, c1_i32_50⟩
def k0_off216 (v0 : BitVec 32) (k0_t6 : Fin (k0_t6_loop v0).trips) (k0_t9 : Fin k0_t9_loop.trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v146 : Index := Scalar.indexCast v37
  let c0_89 : Index := 0#32
  let c0_i32_49 : BitVec 32 := 0#32
  let c1_i32_50 : BitVec 32 := 1#32
  let arg19 : BitVec 32 := Scf.iv c0_i32_49 c1_i32_50 k0_t9
  let c128_i32 : BitVec 32 := 128#32
  let v145 : BitVec 32 := Scalar.muli arg19 c128_i32
  let v147 : Index := Scalar.indexCast v145
  ![v146.toNat, 0, v147.toNat]
def k0_off217 (k0_t9 : Fin k0_t9_loop.trips) : Fin 2 → Nat :=
  let c0_91 : Index := 0#32
  let c0_i32_49 : BitVec 32 := 0#32
  let c1_i32_50 : BitVec 32 := 1#32
  let arg19 : BitVec 32 := Scf.iv c0_i32_49 c1_i32_50 k0_t9
  let c128_i32 : BitVec 32 := 128#32
  let v145 : BitVec 32 := Scalar.muli arg19 c128_i32
  let v163 : Index := Scalar.indexCast v145
  ![0, v163.toNat]
def k0_off218 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  ![v37.toNat]
def k0_cond8 (v0 : BitVec 32) (k0_t6 : Fin (k0_t6_loop v0).trips) : BitVec 1 :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c2_i32_52 : BitVec 32 := 2#32
  let v58 : BitVec 1 := Scalar.cmpi .sge arg18 c2_i32_52
  let v59 : BitVec 32 := Scalar.extui v58
  let c0_i32_53 : BitVec 32 := 0#32
  let v60 : BitVec 1 := Scalar.cmpi .ne v59 c0_i32_53
  v60

def k0_off219 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let c0_i32_91 : BitVec 32 := 0#32
  let c0_i32_92 : BitVec 32 := 0#32
  ![v37.toNat, 0, 0]
def k0_off220 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let v61 : Index := Scalar.indexCast arg18
  ![v61.toNat]
def k0_off221 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_54 : BitVec 32 := 1#32
  let v63 : BitVec 32 := Scalar.subi arg18 c1_i32_54
  let c0_i32_55 : BitVec 32 := 0#32
  let v64 : BitVec 32 := Scalar.maxsi v63 c0_i32_55
  let v65 : Index := Scalar.indexCast v64
  ![v65.toNat]
def k0_off222 (v62 : BitVec 32) : Fin 3 → Nat :=
  let c0_i32_93 : BitVec 32 := 0#32
  let c0_i32_94 : BitVec 32 := 0#32
  ![v62.toNat, 0, 0]
def k0_cond9 (v0 : BitVec 32) (k0_t6 : Fin (k0_t6_loop v0).trips) (v62 : BitVec 32) (v66 : BitVec 32) : BitVec 1 :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c0_i32_56 : BitVec 32 := 0#32
  let v67 : BitVec 1 := Scalar.cmpi .eq arg18 c0_i32_56
  let v68 : BitVec 1 := Scalar.cmpi .ne v62 v66
  let v69 : BitVec 1 := Scalar.ori v67 v68
  let v70 : BitVec 32 := Scalar.extui v69
  let c0_i32_57 : BitVec 32 := 0#32
  let v71 : BitVec 1 := Scalar.cmpi .ne v70 c0_i32_57
  v71

def k0_chk58 (v0 : BitVec 32) (k0_t6 : Fin (k0_t6_loop v0).trips) (v62 : BitVec 32) (v66 : BitVec 32) : Prop :=
  (∀ (k0_h9 : k0_cond9 v0 k0_t6 v62 v66 = 1#1), ∀ a, (k0_off222 v62) a + S1x5120x1536.size a ≤ S8x5120x1536.size a) ∧
  (∀ (k0_h9 : k0_cond9 v0 k0_t6 v62 v66 = 1#1), ∀ (hinb : ∀ a, (k0_off222 v62) a + S1x5120x1536.size a ≤ S8x5120x1536.size a), (Rect.unit (s := S8x5120x1536) (k0_off222 v62) S1x5120x1536.size hinb).WholeWords (EltTy.packing .bf16))
theorem k0_off222_inb : ∀ (v0 : BitVec 32) (k0_t6 : Fin (k0_t6_loop v0).trips) (v62 : BitVec 32) (v66 : BitVec 32) (k0_hw58 : k0_chk58 v0 k0_t6 v62 v66), ∀ (k0_h9 : k0_cond9 v0 k0_t6 v62 v66 = 1#1), ∀ a, (k0_off222 v62) a + S1x5120x1536.size a ≤ S8x5120x1536.size a := fun v0 k0_t6 v62 v66 k0_hw58 k0_h9 => k0_hw58.1 k0_h9
theorem k0_off222_wordsbf16 : ∀ (v0 : BitVec 32) (k0_t6 : Fin (k0_t6_loop v0).trips) (v62 : BitVec 32) (v66 : BitVec 32) (k0_hw58 : k0_chk58 v0 k0_t6 v62 v66), ∀ (k0_h9 : k0_cond9 v0 k0_t6 v62 v66 = 1#1), (Rect.unit (s := S8x5120x1536) (k0_off222 v62) S1x5120x1536.size (k0_off222_inb v0 k0_t6 v62 v66 k0_hw58 k0_h9)).WholeWords (EltTy.packing .bf16) := fun v0 k0_t6 v62 v66 k0_hw58 k0_h9 => k0_hw58.2 k0_h9 (k0_off222_inb v0 k0_t6 v62 v66 k0_hw58 k0_h9)

def k0_off223 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_63 : BitVec 32 := 1#32
  let v76 : BitVec 32 := Scalar.addi arg18 c1_i32_63
  let c1_i32_64 : BitVec 32 := 1#32
  let v77 : BitVec 32 := Scalar.subi v0 c1_i32_64
  let v78 : BitVec 32 := Scalar.minsi v76 v77
  let v79 : Index := Scalar.indexCast v78
  ![v79.toNat]
def k0_off224 (v80 : BitVec 32) : Fin 3 → Nat :=
  let c0_i32_93 : BitVec 32 := 0#32
  let c0_i32_94 : BitVec 32 := 0#32
  ![v80.toNat, 0, 0]
def k0_cond10 (v62 : BitVec 32) (v80 : BitVec 32) : BitVec 1 :=
  let v81 : BitVec 1 := Scalar.cmpi .ne v80 v62
  let v82 : BitVec 32 := Scalar.extui v81
  let c0_i32_65 : BitVec 32 := 0#32
  let v83 : BitVec 1 := Scalar.cmpi .ne v82 c0_i32_65
  v83

def k0_chk59 (v62 : BitVec 32) (v80 : BitVec 32) : Prop :=
  (∀ (k0_h10 : k0_cond10 v62 v80 = 1#1), ∀ a, (k0_off224 v80) a + S1x5120x1536.size a ≤ S8x5120x1536.size a) ∧
  (∀ (k0_h10 : k0_cond10 v62 v80 = 1#1), ∀ (hinb : ∀ a, (k0_off224 v80) a + S1x5120x1536.size a ≤ S8x5120x1536.size a), (Rect.unit (s := S8x5120x1536) (k0_off224 v80) S1x5120x1536.size hinb).WholeWords (EltTy.packing .bf16))
theorem k0_off224_inb : ∀ (v62 : BitVec 32) (v80 : BitVec 32) (k0_hw59 : k0_chk59 v62 v80), ∀ (k0_h10 : k0_cond10 v62 v80 = 1#1), ∀ a, (k0_off224 v80) a + S1x5120x1536.size a ≤ S8x5120x1536.size a := fun v62 v80 k0_hw59 k0_h10 => k0_hw59.1 k0_h10
theorem k0_off224_wordsbf16 : ∀ (v62 : BitVec 32) (v80 : BitVec 32) (k0_hw59 : k0_chk59 v62 v80), ∀ (k0_h10 : k0_cond10 v62 v80 = 1#1), (Rect.unit (s := S8x5120x1536) (k0_off224 v80) S1x5120x1536.size (k0_off224_inb v62 v80 k0_hw59 k0_h10)).WholeWords (EltTy.packing .bf16) := fun v62 v80 k0_hw59 k0_h10 => k0_hw59.2 k0_h10 (k0_off224_inb v62 v80 k0_hw59 k0_h10)

def k0_off225 (v62 : BitVec 32) : Fin 3 → Nat :=
  let v84 : Index := Scalar.indexCast v62
  let c0_66 : Index := 0#32
  let c0_67 : Index := 0#32
  ![v84.toNat, 0, 0]

def k0_chk60 (v62 : BitVec 32) : Prop :=
  (∀ a, (k0_off225 v62) a + S1x1x1536.size a ≤ S8x1x1536.size a)
theorem k0_off225_inb : ∀ (v62 : BitVec 32) (k0_hw60 : k0_chk60 v62), ∀ a, (k0_off225 v62) a + S1x1x1536.size a ≤ S8x1x1536.size a := fun v62 k0_hw60 => k0_hw60

def k0_off226 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v96 : Index := Scalar.indexCast v37
  let c0_68 : Index := 0#32
  let c0_69 : Index := 0#32
  ![v96.toNat, 0, 0]
def k0_off227 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let v100 : Index := Scalar.indexCast arg18
  ![v100.toNat]
def k0_off228 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_70 : BitVec 32 := 1#32
  let v102 : BitVec 32 := Scalar.subi arg18 c1_i32_70
  let c0_i32_71 : BitVec 32 := 0#32
  let v103 : BitVec 32 := Scalar.maxsi v102 c0_i32_71
  let v104 : Index := Scalar.indexCast v103
  ![v104.toNat]
def k0_off229 (v101 : BitVec 32) : Fin 3 → Nat :=
  let c0_i32_93 : BitVec 32 := 0#32
  let c0_i32_94 : BitVec 32 := 0#32
  ![v101.toNat, 0, 0]
def k0_cond11 (v0 : BitVec 32) (k0_t6 : Fin (k0_t6_loop v0).trips) (v101 : BitVec 32) (v105 : BitVec 32) : BitVec 1 :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c0_i32_72 : BitVec 32 := 0#32
  let v106 : BitVec 1 := Scalar.cmpi .eq arg18 c0_i32_72
  let v107 : BitVec 1 := Scalar.cmpi .ne v101 v105
  let v108 : BitVec 1 := Scalar.ori v106 v107
  let v109 : BitVec 32 := Scalar.extui v108
  let c0_i32_73 : BitVec 32 := 0#32
  let v110 : BitVec 1 := Scalar.cmpi .ne v109 c0_i32_73
  v110

def k0_chk61 (v0 : BitVec 32) (k0_t6 : Fin (k0_t6_loop v0).trips) (v101 : BitVec 32) (v105 : BitVec 32) : Prop :=
  (∀ (k0_h11 : k0_cond11 v0 k0_t6 v101 v105 = 1#1), ∀ a, (k0_off229 v101) a + S1x5120x1536.size a ≤ S8x5120x1536.size a) ∧
  (∀ (k0_h11 : k0_cond11 v0 k0_t6 v101 v105 = 1#1), ∀ (hinb : ∀ a, (k0_off229 v101) a + S1x5120x1536.size a ≤ S8x5120x1536.size a), (Rect.unit (s := S8x5120x1536) (k0_off229 v101) S1x5120x1536.size hinb).WholeWords (EltTy.packing .bf16))
theorem k0_off229_inb : ∀ (v0 : BitVec 32) (k0_t6 : Fin (k0_t6_loop v0).trips) (v101 : BitVec 32) (v105 : BitVec 32) (k0_hw61 : k0_chk61 v0 k0_t6 v101 v105), ∀ (k0_h11 : k0_cond11 v0 k0_t6 v101 v105 = 1#1), ∀ a, (k0_off229 v101) a + S1x5120x1536.size a ≤ S8x5120x1536.size a := fun v0 k0_t6 v101 v105 k0_hw61 k0_h11 => k0_hw61.1 k0_h11
theorem k0_off229_wordsbf16 : ∀ (v0 : BitVec 32) (k0_t6 : Fin (k0_t6_loop v0).trips) (v101 : BitVec 32) (v105 : BitVec 32) (k0_hw61 : k0_chk61 v0 k0_t6 v101 v105), ∀ (k0_h11 : k0_cond11 v0 k0_t6 v101 v105 = 1#1), (Rect.unit (s := S8x5120x1536) (k0_off229 v101) S1x5120x1536.size (k0_off229_inb v0 k0_t6 v101 v105 k0_hw61 k0_h11)).WholeWords (EltTy.packing .bf16) := fun v0 k0_t6 v101 v105 k0_hw61 k0_h11 => k0_hw61.2 k0_h11 (k0_off229_inb v0 k0_t6 v101 v105 k0_hw61 k0_h11)

def k0_off230 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_79 : BitVec 32 := 1#32
  let v115 : BitVec 32 := Scalar.addi arg18 c1_i32_79
  let c1_i32_80 : BitVec 32 := 1#32
  let v116 : BitVec 32 := Scalar.subi v0 c1_i32_80
  let v117 : BitVec 32 := Scalar.minsi v115 v116
  let v118 : Index := Scalar.indexCast v117
  ![v118.toNat]
def k0_off231 (v119 : BitVec 32) : Fin 3 → Nat :=
  let c0_i32_93 : BitVec 32 := 0#32
  let c0_i32_94 : BitVec 32 := 0#32
  ![v119.toNat, 0, 0]
def k0_cond12 (v101 : BitVec 32) (v119 : BitVec 32) : BitVec 1 :=
  let v120 : BitVec 1 := Scalar.cmpi .ne v119 v101
  let v121 : BitVec 32 := Scalar.extui v120
  let c0_i32_81 : BitVec 32 := 0#32
  let v122 : BitVec 1 := Scalar.cmpi .ne v121 c0_i32_81
  v122

def k0_chk62 (v101 : BitVec 32) (v119 : BitVec 32) : Prop :=
  (∀ (k0_h12 : k0_cond12 v101 v119 = 1#1), ∀ a, (k0_off231 v119) a + S1x5120x1536.size a ≤ S8x5120x1536.size a) ∧
  (∀ (k0_h12 : k0_cond12 v101 v119 = 1#1), ∀ (hinb : ∀ a, (k0_off231 v119) a + S1x5120x1536.size a ≤ S8x5120x1536.size a), (Rect.unit (s := S8x5120x1536) (k0_off231 v119) S1x5120x1536.size hinb).WholeWords (EltTy.packing .bf16))
theorem k0_off231_inb : ∀ (v101 : BitVec 32) (v119 : BitVec 32) (k0_hw62 : k0_chk62 v101 v119), ∀ (k0_h12 : k0_cond12 v101 v119 = 1#1), ∀ a, (k0_off231 v119) a + S1x5120x1536.size a ≤ S8x5120x1536.size a := fun v101 v119 k0_hw62 k0_h12 => k0_hw62.1 k0_h12
theorem k0_off231_wordsbf16 : ∀ (v101 : BitVec 32) (v119 : BitVec 32) (k0_hw62 : k0_chk62 v101 v119), ∀ (k0_h12 : k0_cond12 v101 v119 = 1#1), (Rect.unit (s := S8x5120x1536) (k0_off231 v119) S1x5120x1536.size (k0_off231_inb v101 v119 k0_hw62 k0_h12)).WholeWords (EltTy.packing .bf16) := fun v101 v119 k0_hw62 k0_h12 => k0_hw62.2 k0_h12 (k0_off231_inb v101 v119 k0_hw62 k0_h12)

def k0_off232 (v101 : BitVec 32) : Fin 3 → Nat :=
  let v123 : Index := Scalar.indexCast v101
  let c0_82 : Index := 0#32
  let c0_83 : Index := 0#32
  ![v123.toNat, 0, 0]

def k0_chk63 (v101 : BitVec 32) : Prop :=
  (∀ a, (k0_off232 v101) a + S1x1x1536.size a ≤ S8x1x1536.size a)
theorem k0_off232_inb : ∀ (v101 : BitVec 32) (k0_hw63 : k0_chk63 v101), ∀ a, (k0_off232 v101) a + S1x1x1536.size a ≤ S8x1x1536.size a := fun v101 k0_hw63 => k0_hw63

def k0_off233 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let v135 : Index := Scalar.indexCast v37
  let c0_84 : Index := 0#32
  let c768 : Index := 768#32
  ![v135.toNat, 0, 768]
def k0_off234 (v0 : BitVec 32) (k0_t6 : Fin (k0_t6_loop v0).trips) : Fin 1 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  ![v37.toNat]
def k0_off235 (v0 : BitVec 32) (k0_t6 : Fin (k0_t6_loop v0).trips) : Fin 2 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c256_i32_85 : BitVec 32 := 256#32
  let v139 : BitVec 32 := Scalar.muli arg18 c256_i32_85
  let c0_i32_86 : BitVec 32 := 0#32
  ![v139.toNat, 0]
def k0_off236 (v0 : BitVec 32) (k0_t6 : Fin (k0_t6_loop v0).trips) : Fin 3 → Nat :=
  let c0_i32_23 : BitVec 32 := 0#32
  let v22 : BitVec 32 := Scalar.subi v0 c0_i32_23
  let c1_i32_24 : BitVec 32 := 1#32
  let v24 : BitVec 32 := Scalar.divsi v22 c1_i32_24
  let v25 : BitVec 32 := Scalar.muli v24 c1_i32_24
  let v26 : BitVec 32 := Scalar.addi c0_i32_23 v25
  let c1_i32_26 : BitVec 32 := 1#32
  let arg18 : BitVec 32 := Scf.iv v26 c1_i32_26 k0_t6
  let c1_i32_34 : BitVec 32 := 1#32
  let v37 : BitVec 32 := Scalar.andi arg18 c1_i32_34
  let c0_i32_87 : BitVec 32 := 0#32
  let c0_i32_88 : BitVec 32 := 0#32
  ![v37.toNat, 0, 0]
def k0_off237 (v0 : BitVec 32) : Fin 1 → Nat :=
  let c1_i32_34 : BitVec 32 := 1#32
  let v37 : BitVec 32 := Scalar.andi v0 c1_i32_34
  ![v37.toNat]
def k0_cond13 (v0 : BitVec 32) : BitVec 1 :=
  let c2_i32 : BitVec 32 := 2#32
  let v27 : BitVec 1 := Scalar.cmpi .sge v0 c2_i32
  let v28 : BitVec 32 := Scalar.extui v27
  let c0_i32_27 : BitVec 32 := 0#32
  let v29 : BitVec 1 := Scalar.cmpi .ne v28 c0_i32_27
  v29

def k0_off238 (v0 : BitVec 32) : Fin 3 → Nat :=
  let c1_i32_34 : BitVec 32 := 1#32
  let v37 : BitVec 32 := Scalar.andi v0 c1_i32_34
  let c0_i32_37 : BitVec 32 := 0#32
  let c0_i32_38 : BitVec 32 := 0#32
  ![v37.toNat, 0, 0]
def k0_off239 (v0 : BitVec 32) : Fin 1 → Nat :=
  let c1_i32_28 : BitVec 32 := 1#32
  let v30 : BitVec 32 := Scalar.subi v0 c1_i32_28
  let c1_i32_29 : BitVec 32 := 1#32
  let v31 : BitVec 32 := Scalar.andi v30 c1_i32_29
  ![v31.toNat]
def k0_off240 (v0 : BitVec 32) : Fin 3 → Nat :=
  let c1_i32_28 : BitVec 32 := 1#32
  let v30 : BitVec 32 := Scalar.subi v0 c1_i32_28
  let c1_i32_29 : BitVec 32 := 1#32
  let v31 : BitVec 32 := Scalar.andi v30 c1_i32_29
  let c0_i32_32 : BitVec 32 := 0#32
  let c0_i32_33 : BitVec 32 := 0#32
  ![v31.toNat, 0, 0]

def k0_chk19_0 (v0 : BitVec 32) : Prop :=
  ((k0_t2_loop v0).OK) ∧
  (∀ k0_t2 : Fin (k0_t2_loop v0).trips, ∀ a, (k0_off51 v0 k0_t2) a + S1.size a ≤ S2.size a) ∧
  (∀ k0_t2 : Fin (k0_t2_loop v0).trips, ∀ a, (k0_off52 v0 k0_t2) a + S1x1x5120.size a ≤ S2x256x5120.size a) ∧
  (∀ k0_t2 : Fin (k0_t2_loop v0).trips, ∀ a, (k0_off53 v0 k0_t2) a + S1.size a ≤ S2.size a) ∧
  (∀ k0_t2 : Fin (k0_t2_loop v0).trips, ∀ a, (k0_off54 v0 k0_t2) a + S1x1x256.size a ≤ S2x1x256.size a) ∧
  (∀ (k0_t2 : Fin (k0_t2_loop v0).trips) (k0_t4 : Fin k0_t4_loop.trips), ∀ (k0_h1 : k0_cond1 v0 k0_t2 = 1#1), ∀ a, (k0_off55 v0 k0_t2 k0_t4) a + S1.size a ≤ S41984.size a) ∧
  (∀ k0_t2 : Fin (k0_t2_loop v0).trips, ∀ (k0_h1 : k0_cond1 v0 k0_t2 = 1#1), ∀ a, (k0_off56 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off57 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off59 v0 k0_t2 k0_t4) a + S1.size a ≤ S41984.size a) ∧
  (∀ k0_t2 : Fin (k0_t2_loop v0).trips, ∀ (k0_h1 : k0_cond1 v0 k0_t2 = 1#1), ∀ a, (k0_off60 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off61 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off63 v0 k0_t2 k0_t4) a + S1.size a ≤ S41984.size a) ∧
  (∀ k0_t2 : Fin (k0_t2_loop v0).trips, ∀ (k0_h1 : k0_cond1 v0 k0_t2 = 1#1), ∀ a, (k0_off64 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off65 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off67 v0 k0_t2 k0_t4) a + S1.size a ≤ S41984.size a) ∧
  (∀ k0_t2 : Fin (k0_t2_loop v0).trips, ∀ (k0_h1 : k0_cond1 v0 k0_t2 = 1#1), ∀ a, (k0_off68 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off69 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off71 v0 k0_t2 k0_t4) a + S1.size a ≤ S41984.size a) ∧
  (∀ k0_t2 : Fin (k0_t2_loop v0).trips, ∀ (k0_h1 : k0_cond1 v0 k0_t2 = 1#1), ∀ a, (k0_off72 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off73 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off75 v0 k0_t2 k0_t4) a + S1.size a ≤ S41984.size a) ∧
  (∀ k0_t2 : Fin (k0_t2_loop v0).trips, ∀ (k0_h1 : k0_cond1 v0 k0_t2 = 1#1), ∀ a, (k0_off76 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off77 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off79 v0 k0_t2 k0_t4) a + S1.size a ≤ S41984.size a) ∧
  (∀ k0_t2 : Fin (k0_t2_loop v0).trips, ∀ (k0_h1 : k0_cond1 v0 k0_t2 = 1#1), ∀ a, (k0_off80 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off81 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off83 v0 k0_t2 k0_t4) a + S1.size a ≤ S41984.size a) ∧
  (∀ k0_t2 : Fin (k0_t2_loop v0).trips, ∀ (k0_h1 : k0_cond1 v0 k0_t2 = 1#1), ∀ a, (k0_off84 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off85 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off87 v0 k0_t2 k0_t4) a + S1.size a ≤ S41984.size a) ∧
  (∀ k0_t2 : Fin (k0_t2_loop v0).trips, ∀ (k0_h1 : k0_cond1 v0 k0_t2 = 1#1), ∀ a, (k0_off88 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off89 v0 k0_t2 k0_t4) a + S1x1x5120.size a ≤ S2x256x5120.size a)
def k0_chk19_1 (v0 : BitVec 32) : Prop :=
  (∀ (k0_t2 : Fin (k0_t2_loop v0).trips) (k0_t4 : Fin k0_t4_loop.trips), ∀ (k0_h1 : k0_cond1 v0 k0_t2 = 1#1), ∀ a, (k0_off91 v0 k0_t2 k0_t4) a + S1.size a ≤ S41984.size a) ∧
  (∀ k0_t2 : Fin (k0_t2_loop v0).trips, ∀ (k0_h1 : k0_cond1 v0 k0_t2 = 1#1), ∀ a, (k0_off92 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off93 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off95 v0 k0_t2 k0_t4) a + S1.size a ≤ S41984.size a) ∧
  (∀ k0_t2 : Fin (k0_t2_loop v0).trips, ∀ (k0_h1 : k0_cond1 v0 k0_t2 = 1#1), ∀ a, (k0_off96 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off97 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off99 v0 k0_t2 k0_t4) a + S1.size a ≤ S41984.size a) ∧
  (∀ k0_t2 : Fin (k0_t2_loop v0).trips, ∀ (k0_h1 : k0_cond1 v0 k0_t2 = 1#1), ∀ a, (k0_off100 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off101 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off103 v0 k0_t2 k0_t4) a + S1.size a ≤ S41984.size a) ∧
  (∀ k0_t2 : Fin (k0_t2_loop v0).trips, ∀ (k0_h1 : k0_cond1 v0 k0_t2 = 1#1), ∀ a, (k0_off104 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off105 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off107 v0 k0_t2 k0_t4) a + S1.size a ≤ S41984.size a) ∧
  (∀ k0_t2 : Fin (k0_t2_loop v0).trips, ∀ (k0_h1 : k0_cond1 v0 k0_t2 = 1#1), ∀ a, (k0_off108 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off109 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off111 v0 k0_t2 k0_t4) a + S1.size a ≤ S41984.size a) ∧
  (∀ k0_t2 : Fin (k0_t2_loop v0).trips, ∀ (k0_h1 : k0_cond1 v0 k0_t2 = 1#1), ∀ a, (k0_off112 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off113 v0 k0_t2 k0_t4) a + S1x1x5120.size a ≤ S2x256x5120.size a) ∧
  (∀ (k0_t2 : Fin (k0_t2_loop v0).trips) (k0_t4 : Fin k0_t4_loop.trips), ∀ (k0_h1 : k0_cond1 v0 k0_t2 = 1#1), ∀ a, (k0_off115 v0 k0_t2 k0_t4) a + S1.size a ≤ S41984.size a) ∧
  (∀ k0_t2 : Fin (k0_t2_loop v0).trips, ∀ (k0_h1 : k0_cond1 v0 k0_t2 = 1#1), ∀ a, (k0_off116 v0 k0_t2) a + S1.size a ≤ S2.size a) ∧
  (∀ (k0_t2 : Fin (k0_t2_loop v0).trips) (k0_t4 : Fin k0_t4_loop.trips), ∀ (k0_h1 : k0_cond1 v0 k0_t2 = 1#1), ∀ a, (k0_off117 v0 k0_t2 k0_t4) a + S1x1x5120.size a ≤ S2x256x5120.size a) ∧
  (∀ k0_t2 : Fin (k0_t2_loop v0).trips, ∀ (k0_h1 : k0_cond1 v0 k0_t2 = 1#1), ∀ a, (k0_off119 v0 k0_t2) a + S1.size a ≤ S2.size a) ∧
  (∀ k0_t2 : Fin (k0_t2_loop v0).trips, ∀ (k0_h1 : k0_cond1 v0 k0_t2 = 1#1), ∀ a, (k0_off120 v0 k0_t2) a + S1x1x256.size a ≤ S2x1x256.size a) ∧
  (∀ k0_t2 : Fin (k0_t2_loop v0).trips, ∀ (k0_h1 : k0_cond1 v0 k0_t2 = 1#1), ∀ a, (k0_off121 v0 k0_t2) a + S1x1x256.size a ≤ S164x1x256.size a) ∧
  (∀ k0_t2 : Fin (k0_t2_loop v0).trips, ∀ a, (k0_off122 v0 k0_t2) a + S1x1x256.size a ≤ S2x1x256.size a) ∧
  (∀ (k0_t2 : Fin (k0_t2_loop v0).trips) (k0_t5 : Fin k0_t5_loop.trips), ∀ a, (k0_off123 v0 k0_t2 k0_t5) a + S1x256x128.size a ≤ S2x256x5120.size a) ∧
  (∀ k0_t2 : Fin (k0_t2_loop v0).trips, ∀ (k0_h2 : k0_cond2 v0 k0_t2 = 1#1), ∀ a, (k0_off125 v0 k0_t2) a + S1.size a ≤ S2.size a) ∧
  (∀ k0_t2 : Fin (k0_t2_loop v0).trips, ∀ (k0_h2 : k0_cond2 v0 k0_t2 = 1#1), ∀ a, (k0_off126 v0 k0_t2) a + S1x256x1536.size a ≤ S2x256x1536.size a) ∧
  (∀ k0_t2 : Fin (k0_t2_loop v0).trips, ∀ (k0_h2 : k0_cond2 v0 k0_t2 = 1#1), ∀ (hinb : ∀ a, (k0_off126 v0 k0_t2) a + S1x256x1536.size a ≤ S2x256x1536.size a), (Rect.unit (s := S2x256x1536) (k0_off126 v0 k0_t2) S1x256x1536.size hinb).WholeWords (EltTy.packing .bf16)) ∧
  (∀ k0_t2 : Fin (k0_t2_loop v0).trips, ∀ a, (k0_off127 v0 k0_t2) a + S1.size a ≤ S164.size a) ∧
  (∀ k0_t2 : Fin (k0_t2_loop v0).trips, ∀ a, (k0_off128 v0 k0_t2) a + S1.size a ≤ S164.size a) ∧
  (∀ k0_t2 : Fin (k0_t2_loop v0).trips, ∀ a, (k0_off130 v0 k0_t2) a + S1.size a ≤ S164.size a)
def k0_chk19_2 (v0 : BitVec 32) : Prop :=
  (∀ k0_t2 : Fin (k0_t2_loop v0).trips, ∀ a, (k0_off133 v0 k0_t2) a + S1x256x768.size a ≤ S2x256x1536.size a) ∧
  (∀ k0_t2 : Fin (k0_t2_loop v0).trips, ∀ (hinb : ∀ a, (k0_off133 v0 k0_t2) a + S1x256x768.size a ≤ S2x256x1536.size a), (Rect.unit (s := S2x256x1536) (k0_off133 v0 k0_t2) S1x256x768.size hinb).PackedRows (EltTy.packing .bf16)) ∧
  (∀ k0_t2 : Fin (k0_t2_loop v0).trips, ∀ a, (k0_off134 v0 k0_t2) a + S1.size a ≤ S164.size a) ∧
  (∀ k0_t2 : Fin (k0_t2_loop v0).trips, ∀ a, (k0_off135 v0 k0_t2) a + S1.size a ≤ S164.size a) ∧
  (∀ k0_t2 : Fin (k0_t2_loop v0).trips, ∀ a, (k0_off137 v0 k0_t2) a + S1.size a ≤ S164.size a) ∧
  (∀ k0_t2 : Fin (k0_t2_loop v0).trips, ∀ a, (k0_off140 v0 k0_t2) a + S1x256x768.size a ≤ S2x256x1536.size a) ∧
  (∀ k0_t2 : Fin (k0_t2_loop v0).trips, ∀ (hinb : ∀ a, (k0_off140 v0 k0_t2) a + S1x256x768.size a ≤ S2x256x1536.size a), (Rect.unit (s := S2x256x1536) (k0_off140 v0 k0_t2) S1x256x768.size hinb).PackedRows (EltTy.packing .bf16)) ∧
  (∀ k0_t2 : Fin (k0_t2_loop v0).trips, ∀ a, (k0_off141 v0 k0_t2) a + S1.size a ≤ S2.size a) ∧
  (∀ k0_t2 : Fin (k0_t2_loop v0).trips, ∀ a, (k0_off142 v0 k0_t2) a + S256x1536.size a ≤ S41984x1536.size a) ∧
  (∀ k0_t2 : Fin (k0_t2_loop v0).trips, ∀ a, (k0_off143 v0 k0_t2) a + S1x256x1536.size a ≤ S2x256x1536.size a) ∧
  (∀ k0_t2 : Fin (k0_t2_loop v0).trips, ∀ (hinb : ∀ a, (k0_off143 v0 k0_t2) a + S1x256x1536.size a ≤ S2x256x1536.size a), (Rect.unit (s := S2x256x1536) (k0_off143 v0 k0_t2) S1x256x1536.size hinb).WholeWords (EltTy.packing .bf16)) ∧
  (∀ k0_t2 : Fin (k0_t2_loop v0).trips, ∀ (hinb : ∀ a, (k0_off142 v0 k0_t2) a + S256x1536.size a ≤ S41984x1536.size a), (Rect.unit (s := S41984x1536) (k0_off142 v0 k0_t2) S256x1536.size hinb).WholeWords (EltTy.packing .bf16)) ∧
  ((k0_t6_loop v0).OK) ∧
  (∀ k0_t6 : Fin (k0_t6_loop v0).trips, ∀ a, (k0_off144 v0 k0_t6) a + S1.size a ≤ S2.size a) ∧
  (∀ k0_t6 : Fin (k0_t6_loop v0).trips, ∀ a, (k0_off145 v0 k0_t6) a + S1x1x5120.size a ≤ S2x256x5120.size a) ∧
  (∀ k0_t6 : Fin (k0_t6_loop v0).trips, ∀ a, (k0_off146 v0 k0_t6) a + S1.size a ≤ S2.size a) ∧
  (∀ k0_t6 : Fin (k0_t6_loop v0).trips, ∀ a, (k0_off147 v0 k0_t6) a + S1x1x256.size a ≤ S2x1x256.size a) ∧
  (∀ (k0_t6 : Fin (k0_t6_loop v0).trips) (k0_t8 : Fin k0_t8_loop.trips), ∀ (k0_h7 : k0_cond7 v0 k0_t6 = 1#1), ∀ a, (k0_off148 v0 k0_t6 k0_t8) a + S1.size a ≤ S41984.size a) ∧
  (∀ k0_t6 : Fin (k0_t6_loop v0).trips, ∀ (k0_h7 : k0_cond7 v0 k0_t6 = 1#1), ∀ a, (k0_off149 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off150 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off152 v0 k0_t6 k0_t8) a + S1.size a ≤ S41984.size a) ∧
  (∀ k0_t6 : Fin (k0_t6_loop v0).trips, ∀ (k0_h7 : k0_cond7 v0 k0_t6 = 1#1), ∀ a, (k0_off153 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off154 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off156 v0 k0_t6 k0_t8) a + S1.size a ≤ S41984.size a) ∧
  (∀ k0_t6 : Fin (k0_t6_loop v0).trips, ∀ (k0_h7 : k0_cond7 v0 k0_t6 = 1#1), ∀ a, (k0_off157 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off158 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off160 v0 k0_t6 k0_t8) a + S1.size a ≤ S41984.size a) ∧
  (∀ k0_t6 : Fin (k0_t6_loop v0).trips, ∀ (k0_h7 : k0_cond7 v0 k0_t6 = 1#1), ∀ a, (k0_off161 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off162 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off164 v0 k0_t6 k0_t8) a + S1.size a ≤ S41984.size a) ∧
  (∀ k0_t6 : Fin (k0_t6_loop v0).trips, ∀ (k0_h7 : k0_cond7 v0 k0_t6 = 1#1), ∀ a, (k0_off165 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off166 v0 k0_t6 k0_t8) a + S1x1x5120.size a ≤ S2x256x5120.size a)
def k0_chk19_3 (v0 : BitVec 32) : Prop :=
  (∀ (k0_t6 : Fin (k0_t6_loop v0).trips) (k0_t8 : Fin k0_t8_loop.trips), ∀ (k0_h7 : k0_cond7 v0 k0_t6 = 1#1), ∀ a, (k0_off168 v0 k0_t6 k0_t8) a + S1.size a ≤ S41984.size a) ∧
  (∀ k0_t6 : Fin (k0_t6_loop v0).trips, ∀ (k0_h7 : k0_cond7 v0 k0_t6 = 1#1), ∀ a, (k0_off169 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off170 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off172 v0 k0_t6 k0_t8) a + S1.size a ≤ S41984.size a) ∧
  (∀ k0_t6 : Fin (k0_t6_loop v0).trips, ∀ (k0_h7 : k0_cond7 v0 k0_t6 = 1#1), ∀ a, (k0_off173 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off174 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off176 v0 k0_t6 k0_t8) a + S1.size a ≤ S41984.size a) ∧
  (∀ k0_t6 : Fin (k0_t6_loop v0).trips, ∀ (k0_h7 : k0_cond7 v0 k0_t6 = 1#1), ∀ a, (k0_off177 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off178 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off180 v0 k0_t6 k0_t8) a + S1.size a ≤ S41984.size a) ∧
  (∀ k0_t6 : Fin (k0_t6_loop v0).trips, ∀ (k0_h7 : k0_cond7 v0 k0_t6 = 1#1), ∀ a, (k0_off181 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off182 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off184 v0 k0_t6 k0_t8) a + S1.size a ≤ S41984.size a) ∧
  (∀ k0_t6 : Fin (k0_t6_loop v0).trips, ∀ (k0_h7 : k0_cond7 v0 k0_t6 = 1#1), ∀ a, (k0_off185 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off186 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off188 v0 k0_t6 k0_t8) a + S1.size a ≤ S41984.size a) ∧
  (∀ k0_t6 : Fin (k0_t6_loop v0).trips, ∀ (k0_h7 : k0_cond7 v0 k0_t6 = 1#1), ∀ a, (k0_off189 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off190 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off192 v0 k0_t6 k0_t8) a + S1.size a ≤ S41984.size a) ∧
  (∀ k0_t6 : Fin (k0_t6_loop v0).trips, ∀ (k0_h7 : k0_cond7 v0 k0_t6 = 1#1), ∀ a, (k0_off193 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off194 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off196 v0 k0_t6 k0_t8) a + S1.size a ≤ S41984.size a) ∧
  (∀ k0_t6 : Fin (k0_t6_loop v0).trips, ∀ (k0_h7 : k0_cond7 v0 k0_t6 = 1#1), ∀ a, (k0_off197 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off198 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off200 v0 k0_t6 k0_t8) a + S1.size a ≤ S41984.size a) ∧
  (∀ k0_t6 : Fin (k0_t6_loop v0).trips, ∀ (k0_h7 : k0_cond7 v0 k0_t6 = 1#1), ∀ a, (k0_off201 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off202 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off204 v0 k0_t6 k0_t8) a + S1.size a ≤ S41984.size a) ∧
  (∀ k0_t6 : Fin (k0_t6_loop v0).trips, ∀ (k0_h7 : k0_cond7 v0 k0_t6 = 1#1), ∀ a, (k0_off205 v0 k0_t6) a + S1.size a ≤ S2.size a) ∧
  (∀ (k0_t6 : Fin (k0_t6_loop v0).trips) (k0_t8 : Fin k0_t8_loop.trips), ∀ (k0_h7 : k0_cond7 v0 k0_t6 = 1#1), ∀ a, (k0_off206 v0 k0_t6 k0_t8) a + S1x1x5120.size a ≤ S2x256x5120.size a) ∧
  (∀ (k0_t6 : Fin (k0_t6_loop v0).trips) (k0_t8 : Fin k0_t8_loop.trips), ∀ (k0_h7 : k0_cond7 v0 k0_t6 = 1#1), ∀ a, (k0_off208 v0 k0_t6 k0_t8) a + S1.size a ≤ S41984.size a) ∧
  (∀ k0_t6 : Fin (k0_t6_loop v0).trips, ∀ (k0_h7 : k0_cond7 v0 k0_t6 = 1#1), ∀ a, (k0_off209 v0 k0_t6) a + S1.size a ≤ S2.size a)
def k0_chk19_4 (v0 : BitVec 32) : Prop :=
  (∀ (k0_t6 : Fin (k0_t6_loop v0).trips) (k0_t8 : Fin k0_t8_loop.trips), ∀ (k0_h7 : k0_cond7 v0 k0_t6 = 1#1), ∀ a, (k0_off210 v0 k0_t6 k0_t8) a + S1x1x5120.size a ≤ S2x256x5120.size a) ∧
  (∀ k0_t6 : Fin (k0_t6_loop v0).trips, ∀ (k0_h7 : k0_cond7 v0 k0_t6 = 1#1), ∀ a, (k0_off212 v0 k0_t6) a + S1.size a ≤ S2.size a) ∧
  (∀ k0_t6 : Fin (k0_t6_loop v0).trips, ∀ (k0_h7 : k0_cond7 v0 k0_t6 = 1#1), ∀ a, (k0_off213 v0 k0_t6) a + S1x1x256.size a ≤ S2x1x256.size a) ∧
  (∀ k0_t6 : Fin (k0_t6_loop v0).trips, ∀ (k0_h7 : k0_cond7 v0 k0_t6 = 1#1), ∀ a, (k0_off214 v0 k0_t6) a + S1x1x256.size a ≤ S164x1x256.size a) ∧
  (∀ k0_t6 : Fin (k0_t6_loop v0).trips, ∀ a, (k0_off215 v0 k0_t6) a + S1x1x256.size a ≤ S2x1x256.size a) ∧
  (∀ (k0_t6 : Fin (k0_t6_loop v0).trips) (k0_t9 : Fin k0_t9_loop.trips), ∀ a, (k0_off216 v0 k0_t6 k0_t9) a + S1x256x128.size a ≤ S2x256x5120.size a) ∧
  (∀ k0_t6 : Fin (k0_t6_loop v0).trips, ∀ (k0_h8 : k0_cond8 v0 k0_t6 = 1#1), ∀ a, (k0_off218 v0 k0_t6) a + S1.size a ≤ S2.size a) ∧
  (∀ k0_t6 : Fin (k0_t6_loop v0).trips, ∀ (k0_h8 : k0_cond8 v0 k0_t6 = 1#1), ∀ a, (k0_off219 v0 k0_t6) a + S1x256x1536.size a ≤ S2x256x1536.size a) ∧
  (∀ k0_t6 : Fin (k0_t6_loop v0).trips, ∀ (k0_h8 : k0_cond8 v0 k0_t6 = 1#1), ∀ (hinb : ∀ a, (k0_off219 v0 k0_t6) a + S1x256x1536.size a ≤ S2x256x1536.size a), (Rect.unit (s := S2x256x1536) (k0_off219 v0 k0_t6) S1x256x1536.size hinb).WholeWords (EltTy.packing .bf16)) ∧
  (∀ k0_t6 : Fin (k0_t6_loop v0).trips, ∀ a, (k0_off220 v0 k0_t6) a + S1.size a ≤ S164.size a) ∧
  (∀ k0_t6 : Fin (k0_t6_loop v0).trips, ∀ a, (k0_off221 v0 k0_t6) a + S1.size a ≤ S164.size a) ∧
  (∀ k0_t6 : Fin (k0_t6_loop v0).trips, ∀ a, (k0_off223 v0 k0_t6) a + S1.size a ≤ S164.size a) ∧
  (∀ k0_t6 : Fin (k0_t6_loop v0).trips, ∀ a, (k0_off226 v0 k0_t6) a + S1x256x768.size a ≤ S2x256x1536.size a) ∧
  (∀ k0_t6 : Fin (k0_t6_loop v0).trips, ∀ (hinb : ∀ a, (k0_off226 v0 k0_t6) a + S1x256x768.size a ≤ S2x256x1536.size a), (Rect.unit (s := S2x256x1536) (k0_off226 v0 k0_t6) S1x256x768.size hinb).PackedRows (EltTy.packing .bf16)) ∧
  (∀ k0_t6 : Fin (k0_t6_loop v0).trips, ∀ a, (k0_off227 v0 k0_t6) a + S1.size a ≤ S164.size a) ∧
  (∀ k0_t6 : Fin (k0_t6_loop v0).trips, ∀ a, (k0_off228 v0 k0_t6) a + S1.size a ≤ S164.size a) ∧
  (∀ k0_t6 : Fin (k0_t6_loop v0).trips, ∀ a, (k0_off230 v0 k0_t6) a + S1.size a ≤ S164.size a) ∧
  (∀ k0_t6 : Fin (k0_t6_loop v0).trips, ∀ a, (k0_off233 v0 k0_t6) a + S1x256x768.size a ≤ S2x256x1536.size a) ∧
  (∀ k0_t6 : Fin (k0_t6_loop v0).trips, ∀ (hinb : ∀ a, (k0_off233 v0 k0_t6) a + S1x256x768.size a ≤ S2x256x1536.size a), (Rect.unit (s := S2x256x1536) (k0_off233 v0 k0_t6) S1x256x768.size hinb).PackedRows (EltTy.packing .bf16)) ∧
  (∀ k0_t6 : Fin (k0_t6_loop v0).trips, ∀ a, (k0_off234 v0 k0_t6) a + S1.size a ≤ S2.size a) ∧
  (∀ k0_t6 : Fin (k0_t6_loop v0).trips, ∀ a, (k0_off235 v0 k0_t6) a + S256x1536.size a ≤ S41984x1536.size a) ∧
  (∀ k0_t6 : Fin (k0_t6_loop v0).trips, ∀ a, (k0_off236 v0 k0_t6) a + S1x256x1536.size a ≤ S2x256x1536.size a) ∧
  (∀ k0_t6 : Fin (k0_t6_loop v0).trips, ∀ (hinb : ∀ a, (k0_off236 v0 k0_t6) a + S1x256x1536.size a ≤ S2x256x1536.size a), (Rect.unit (s := S2x256x1536) (k0_off236 v0 k0_t6) S1x256x1536.size hinb).WholeWords (EltTy.packing .bf16)) ∧
  (∀ k0_t6 : Fin (k0_t6_loop v0).trips, ∀ (hinb : ∀ a, (k0_off235 v0 k0_t6) a + S256x1536.size a ≤ S41984x1536.size a), (Rect.unit (s := S41984x1536) (k0_off235 v0 k0_t6) S256x1536.size hinb).WholeWords (EltTy.packing .bf16)) ∧
  (∀ (k0_h13 : k0_cond13 v0 = 1#1), ∀ a, (k0_off237 v0) a + S1.size a ≤ S2.size a) ∧
  (∀ (k0_h13 : k0_cond13 v0 = 1#1), ∀ a, (k0_off238 v0) a + S1x256x1536.size a ≤ S2x256x1536.size a) ∧
  (∀ (k0_h13 : k0_cond13 v0 = 1#1), ∀ (hinb : ∀ a, (k0_off238 v0) a + S1x256x1536.size a ≤ S2x256x1536.size a), (Rect.unit (s := S2x256x1536) (k0_off238 v0) S1x256x1536.size hinb).WholeWords (EltTy.packing .bf16)) ∧
  (∀ a, (k0_off239 v0) a + S1.size a ≤ S2.size a) ∧
  (∀ a, (k0_off240 v0) a + S1x256x1536.size a ≤ S2x256x1536.size a) ∧
  (∀ (hinb : ∀ a, (k0_off240 v0) a + S1x256x1536.size a ≤ S2x256x1536.size a), (Rect.unit (s := S2x256x1536) (k0_off240 v0) S1x256x1536.size hinb).WholeWords (EltTy.packing .bf16))
def k0_chk19 (v0 : BitVec 32) : Prop :=
  k0_chk19_0 v0 ∧
  k0_chk19_1 v0 ∧
  k0_chk19_2 v0 ∧
  k0_chk19_3 v0 ∧
  k0_chk19_4 v0
theorem k0_t2_ok : ∀ (v0 : BitVec 32) (k0_hw19 : k0_chk19 v0), (k0_t2_loop v0).OK := fun v0 k0_hw19 => k0_hw19.1.1
theorem k0_off51_inb : ∀ (v0 : BitVec 32) (k0_hw19 : k0_chk19 v0) (k0_t2 : Fin (k0_t2_loop v0).trips), ∀ a, (k0_off51 v0 k0_t2) a + S1.size a ≤ S2.size a := fun v0 k0_hw19 k0_t2 => k0_hw19.1.2.1 k0_t2
theorem k0_off52_inb : ∀ (v0 : BitVec 32) (k0_hw19 : k0_chk19 v0) (k0_t2 : Fin (k0_t2_loop v0).trips), ∀ a, (k0_off52 v0 k0_t2) a + S1x1x5120.size a ≤ S2x256x5120.size a := fun v0 k0_hw19 k0_t2 => k0_hw19.1.2.2.1 k0_t2
theorem k0_off53_inb : ∀ (v0 : BitVec 32) (k0_hw19 : k0_chk19 v0) (k0_t2 : Fin (k0_t2_loop v0).trips), ∀ a, (k0_off53 v0 k0_t2) a + S1.size a ≤ S2.size a := fun v0 k0_hw19 k0_t2 => k0_hw19.1.2.2.2.1 k0_t2
theorem k0_off54_inb : ∀ (v0 : BitVec 32) (k0_hw19 : k0_chk19 v0) (k0_t2 : Fin (k0_t2_loop v0).trips), ∀ a, (k0_off54 v0 k0_t2) a + S1x1x256.size a ≤ S2x1x256.size a := fun v0 k0_hw19 k0_t2 => k0_hw19.1.2.2.2.2.1 k0_t2
theorem k0_off55_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off55 v0 k0_t2 k0_t4) a + S1.size a ≤ S41984.size a := fun v0 k0_hw19 k0_t2 k0_t4 k0_h1 => k0_hw19.1.2.2.2.2.2.1 k0_t2 k0_t4 k0_h1
theorem k0_off56_inb : ∀ (v0 : BitVec 32) (k0_hw19 : k0_chk19 v0) (k0_t2 : Fin (k0_t2_loop v0).trips), ∀ (k0_h1 : k0_cond1 v0 k0_t2 = 1#1), ∀ a, (k0_off56 v0 k0_t2) a + S1.size a ≤ S2.size a := fun v0 k0_hw19 k0_t2 k0_h1 => k0_hw19.1.2.2.2.2.2.2.1 k0_t2 k0_h1
theorem k0_off57_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off57 v0 k0_t2 k0_t4) a + S1x1x5120.size a ≤ S2x256x5120.size a := fun v0 k0_hw19 k0_t2 k0_t4 k0_h1 => k0_hw19.1.2.2.2.2.2.2.2.1 k0_t2 k0_t4 k0_h1
theorem k0_off59_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off59 v0 k0_t2 k0_t4) a + S1.size a ≤ S41984.size a := fun v0 k0_hw19 k0_t2 k0_t4 k0_h1 => k0_hw19.1.2.2.2.2.2.2.2.2.1 k0_t2 k0_t4 k0_h1
theorem k0_off60_inb : ∀ (v0 : BitVec 32) (k0_hw19 : k0_chk19 v0) (k0_t2 : Fin (k0_t2_loop v0).trips), ∀ (k0_h1 : k0_cond1 v0 k0_t2 = 1#1), ∀ a, (k0_off60 v0 k0_t2) a + S1.size a ≤ S2.size a := fun v0 k0_hw19 k0_t2 k0_h1 => k0_hw19.1.2.2.2.2.2.2.2.2.2.1 k0_t2 k0_h1
theorem k0_off61_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off61 v0 k0_t2 k0_t4) a + S1x1x5120.size a ≤ S2x256x5120.size a := fun v0 k0_hw19 k0_t2 k0_t4 k0_h1 => k0_hw19.1.2.2.2.2.2.2.2.2.2.2.1 k0_t2 k0_t4 k0_h1
theorem k0_off63_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off63 v0 k0_t2 k0_t4) a + S1.size a ≤ S41984.size a := fun v0 k0_hw19 k0_t2 k0_t4 k0_h1 => k0_hw19.1.2.2.2.2.2.2.2.2.2.2.2.1 k0_t2 k0_t4 k0_h1
theorem k0_off64_inb : ∀ (v0 : BitVec 32) (k0_hw19 : k0_chk19 v0) (k0_t2 : Fin (k0_t2_loop v0).trips), ∀ (k0_h1 : k0_cond1 v0 k0_t2 = 1#1), ∀ a, (k0_off64 v0 k0_t2) a + S1.size a ≤ S2.size a := fun v0 k0_hw19 k0_t2 k0_h1 => k0_hw19.1.2.2.2.2.2.2.2.2.2.2.2.2.1 k0_t2 k0_h1
theorem k0_off65_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off65 v0 k0_t2 k0_t4) a + S1x1x5120.size a ≤ S2x256x5120.size a := fun v0 k0_hw19 k0_t2 k0_t4 k0_h1 => k0_hw19.1.2.2.2.2.2.2.2.2.2.2.2.2.2.1 k0_t2 k0_t4 k0_h1
theorem k0_off67_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off67 v0 k0_t2 k0_t4) a + S1.size a ≤ S41984.size a := fun v0 k0_hw19 k0_t2 k0_t4 k0_h1 => k0_hw19.1.2.2.2.2.2.2.2.2.2.2.2.2.2.2.1 k0_t2 k0_t4 k0_h1
theorem k0_off68_inb : ∀ (v0 : BitVec 32) (k0_hw19 : k0_chk19 v0) (k0_t2 : Fin (k0_t2_loop v0).trips), ∀ (k0_h1 : k0_cond1 v0 k0_t2 = 1#1), ∀ a, (k0_off68 v0 k0_t2) a + S1.size a ≤ S2.size a := fun v0 k0_hw19 k0_t2 k0_h1 => k0_hw19.1.2.2.2.2.2.2.2.2.2.2.2.2.2.2.2.1 k0_t2 k0_h1
theorem k0_off69_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off69 v0 k0_t2 k0_t4) a + S1x1x5120.size a ≤ S2x256x5120.size a := fun v0 k0_hw19 k0_t2 k0_t4 k0_h1 => k0_hw19.1.2.2.2.2.2.2.2.2.2.2.2.2.2.2.2.2.1 k0_t2 k0_t4 k0_h1
theorem k0_off71_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off71 v0 k0_t2 k0_t4) a + S1.size a ≤ S41984.size a := fun v0 k0_hw19 k0_t2 k0_t4 k0_h1 => k0_hw19.1.2.2.2.2.2.2.2.2.2.2.2.2.2.2.2.2.2.1 k0_t2 k0_t4 k0_h1
theorem k0_off72_inb : ∀ (v0 : BitVec 32) (k0_hw19 : k0_chk19 v0) (k0_t2 : Fin (k0_t2_loop v0).trips), ∀ (k0_h1 : k0_cond1 v0 k0_t2 = 1#1), ∀ a, (k0_off72 v0 k0_t2) a + S1.size a ≤ S2.size a := fun v0 k0_hw19 k0_t2 k0_h1 => k0_hw19.1.2.2.2.2.2.2.2.2.2.2.2.2.2.2.2.2.2.2.1 k0_t2 k0_h1
theorem k0_off73_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off73 v0 k0_t2 k0_t4) a + S1x1x5120.size a ≤ S2x256x5120.size a := fun v0 k0_hw19 k0_t2 k0_t4 k0_h1 => k0_hw19.1.2.2.2.2.2.2.2.2.2.2.2.2.2.2.2.2.2.2.2.1 k0_t2 k0_t4 k0_h1
theorem k0_off75_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off75 v0 k0_t2 k0_t4) a + S1.size a ≤ S41984.size a := fun v0 k0_hw19 k0_t2 k0_t4 k0_h1 => k0_hw19.1.2.2.2.2.2.2.2.2.2.2.2.2.2.2.2.2.2.2.2.2.1 k0_t2 k0_t4 k0_h1
theorem k0_off76_inb : ∀ (v0 : BitVec 32) (k0_hw19 : k0_chk19 v0) (k0_t2 : Fin (k0_t2_loop v0).trips), ∀ (k0_h1 : k0_cond1 v0 k0_t2 = 1#1), ∀ a, (k0_off76 v0 k0_t2) a + S1.size a ≤ S2.size a := fun v0 k0_hw19 k0_t2 k0_h1 => k0_hw19.1.2.2.2.2.2.2.2.2.2.2.2.2.2.2.2.2.2.2.2.2.2.1 k0_t2 k0_h1
theorem k0_off77_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off77 v0 k0_t2 k0_t4) a + S1x1x5120.size a ≤ S2x256x5120.size a := fun v0 k0_hw19 k0_t2 k0_t4 k0_h1 => k0_hw19.1.2.2.2.2.2.2.2.2.2.2.2.2.2.2.2.2.2.2.2.2.2.2.1 k0_t2 k0_t4 k0_h1
theorem k0_off79_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off79 v0 k0_t2 k0_t4) a + S1.size a ≤ S41984.size a := fun v0 k0_hw19 k0_t2 k0_t4 k0_h1 => k0_hw19.1.2.2.2.2.2.2.2.2.2.2.2.2.2.2.2.2.2.2.2.2.2.2.2.1 k0_t2 k0_t4 k0_h1
theorem k0_off80_inb : ∀ (v0 : BitVec 32) (k0_hw19 : k0_chk19 v0) (k0_t2 : Fin (k0_t2_loop v0).trips), ∀ (k0_h1 : k0_cond1 v0 k0_t2 = 1#1), ∀ a, (k0_off80 v0 k0_t2) a + S1.size a ≤ S2.size a := fun v0 k0_hw19 k0_t2 k0_h1 => k0_hw19.1.2.2.2.2.2.2.2.2.2.2.2.2.2.2.2.2.2.2.2.2.2.2.2.2.1 k0_t2 k0_h1
theorem k0_off81_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off81 v0 k0_t2 k0_t4) a + S1x1x5120.size a ≤ S2x256x5120.size a := fun v0 k0_hw19 k0_t2 k0_t4 k0_h1 => k0_hw19.1.2.2.2.2.2.2.2.2.2.2.2.2.2.2.2.2.2.2.2.2.2.2.2.2.2.1 k0_t2 k0_t4 k0_h1
theorem k0_off83_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off83 v0 k0_t2 k0_t4) a + S1.size a ≤ S41984.size a := fun v0 k0_hw19 k0_t2 k0_t4 k0_h1 => k0_hw19.1.2.2.2.2.2.2.2.2.2.2.2.2.2.2.2.2.2.2.2.2.2.2.2.2.2.2.1 k0_t2 k0_t4 k0_h1
theorem k0_off84_inb : ∀ (v0 : BitVec 32) (k0_hw19 : k0_chk19 v0) (k0_t2 : Fin (k0_t2_loop v0).trips), ∀ (k0_h1 : k0_cond1 v0 k0_t2 = 1#1), ∀ a, (k0_off84 v0 k0_t2) a + S1.size a ≤ S2.size a := fun v0 k0_hw19 k0_t2 k0_h1 => k0_hw19.1.2.2.2.2.2.2.2.2.2.2.2.2.2.2.2.2.2.2.2.2.2.2.2.2.2.2.2.1 k0_t2 k0_h1
theorem k0_off85_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off85 v0 k0_t2 k0_t4) a + S1x1x5120.size a ≤ S2x256x5120.size a := fun v0 k0_hw19 k0_t2 k0_t4 k0_h1 => k0_hw19.1.2.2.2.2.2.2.2.2.2.2.2.2.2.2.2.2.2.2.2.2.2.2.2.2.2.2.2.2.1 k0_t2 k0_t4 k0_h1
theorem k0_off87_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off87 v0 k0_t2 k0_t4) a + S1.size a ≤ S41984.size a := fun v0 k0_hw19 k0_t2 k0_t4 k0_h1 => k0_hw19.1.2.2.2.2.2.2.2.2.2.2.2.2.2.2.2.2.2.2.2.2.2.2.2.2.2.2.2.2.2.1 k0_t2 k0_t4 k0_h1
theorem k0_off88_inb : ∀ (v0 : BitVec 32) (k0_hw19 : k0_chk19 v0) (k0_t2 : Fin (k0_t2_loop v0).trips), ∀ (k0_h1 : k0_cond1 v0 k0_t2 = 1#1), ∀ a, (k0_off88 v0 k0_t2) a + S1.size a ≤ S2.size a := fun v0 k0_hw19 k0_t2 k0_h1 => k0_hw19.1.2.2.2.2.2.2.2.2.2.2.2.2.2.2.2.2.2.2.2.2.2.2.2.2.2.2.2.2.2.2.1 k0_t2 k0_h1
theorem k0_off89_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off89 v0 k0_t2 k0_t4) a + S1x1x5120.size a ≤ S2x256x5120.size a := fun v0 k0_hw19 k0_t2 k0_t4 k0_h1 => k0_hw19.1.2.2.2.2.2.2.2.2.2.2.2.2.2.2.2.2.2.2.2.2.2.2.2.2.2.2.2.2.2.2.2 k0_t2 k0_t4 k0_h1
theorem k0_off91_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off91 v0 k0_t2 k0_t4) a + S1.size a ≤ S41984.size a := fun v0 k0_hw19 k0_t2 k0_t4 k0_h1 => k0_hw19.2.1.1 k0_t2 k0_t4 k0_h1
theorem k0_off92_inb : ∀ (v0 : BitVec 32) (k0_hw19 : k0_chk19 v0) (k0_t2 : Fin (k0_t2_loop v0).trips), ∀ (k0_h1 : k0_cond1 v0 k0_t2 = 1#1), ∀ a, (k0_off92 v0 k0_t2) a + S1.size a ≤ S2.size a := fun v0 k0_hw19 k0_t2 k0_h1 => k0_hw19.2.1.2.1 k0_t2 k0_h1
theorem k0_off93_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off93 v0 k0_t2 k0_t4) a + S1x1x5120.size a ≤ S2x256x5120.size a := fun v0 k0_hw19 k0_t2 k0_t4 k0_h1 => k0_hw19.2.1.2.2.1 k0_t2 k0_t4 k0_h1
theorem k0_off95_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off95 v0 k0_t2 k0_t4) a + S1.size a ≤ S41984.size a := fun v0 k0_hw19 k0_t2 k0_t4 k0_h1 => k0_hw19.2.1.2.2.2.1 k0_t2 k0_t4 k0_h1
theorem k0_off96_inb : ∀ (v0 : BitVec 32) (k0_hw19 : k0_chk19 v0) (k0_t2 : Fin (k0_t2_loop v0).trips), ∀ (k0_h1 : k0_cond1 v0 k0_t2 = 1#1), ∀ a, (k0_off96 v0 k0_t2) a + S1.size a ≤ S2.size a := fun v0 k0_hw19 k0_t2 k0_h1 => k0_hw19.2.1.2.2.2.2.1 k0_t2 k0_h1
theorem k0_off97_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off97 v0 k0_t2 k0_t4) a + S1x1x5120.size a ≤ S2x256x5120.size a := fun v0 k0_hw19 k0_t2 k0_t4 k0_h1 => k0_hw19.2.1.2.2.2.2.2.1 k0_t2 k0_t4 k0_h1
theorem k0_off99_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off99 v0 k0_t2 k0_t4) a + S1.size a ≤ S41984.size a := fun v0 k0_hw19 k0_t2 k0_t4 k0_h1 => k0_hw19.2.1.2.2.2.2.2.2.1 k0_t2 k0_t4 k0_h1
theorem k0_off100_inb : ∀ (v0 : BitVec 32) (k0_hw19 : k0_chk19 v0) (k0_t2 : Fin (k0_t2_loop v0).trips), ∀ (k0_h1 : k0_cond1 v0 k0_t2 = 1#1), ∀ a, (k0_off100 v0 k0_t2) a + S1.size a ≤ S2.size a := fun v0 k0_hw19 k0_t2 k0_h1 => k0_hw19.2.1.2.2.2.2.2.2.2.1 k0_t2 k0_h1
theorem k0_off101_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off101 v0 k0_t2 k0_t4) a + S1x1x5120.size a ≤ S2x256x5120.size a := fun v0 k0_hw19 k0_t2 k0_t4 k0_h1 => k0_hw19.2.1.2.2.2.2.2.2.2.2.1 k0_t2 k0_t4 k0_h1
theorem k0_off103_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off103 v0 k0_t2 k0_t4) a + S1.size a ≤ S41984.size a := fun v0 k0_hw19 k0_t2 k0_t4 k0_h1 => k0_hw19.2.1.2.2.2.2.2.2.2.2.2.1 k0_t2 k0_t4 k0_h1
theorem k0_off104_inb : ∀ (v0 : BitVec 32) (k0_hw19 : k0_chk19 v0) (k0_t2 : Fin (k0_t2_loop v0).trips), ∀ (k0_h1 : k0_cond1 v0 k0_t2 = 1#1), ∀ a, (k0_off104 v0 k0_t2) a + S1.size a ≤ S2.size a := fun v0 k0_hw19 k0_t2 k0_h1 => k0_hw19.2.1.2.2.2.2.2.2.2.2.2.2.1 k0_t2 k0_h1
theorem k0_off105_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off105 v0 k0_t2 k0_t4) a + S1x1x5120.size a ≤ S2x256x5120.size a := fun v0 k0_hw19 k0_t2 k0_t4 k0_h1 => k0_hw19.2.1.2.2.2.2.2.2.2.2.2.2.2.1 k0_t2 k0_t4 k0_h1
theorem k0_off107_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off107 v0 k0_t2 k0_t4) a + S1.size a ≤ S41984.size a := fun v0 k0_hw19 k0_t2 k0_t4 k0_h1 => k0_hw19.2.1.2.2.2.2.2.2.2.2.2.2.2.2.1 k0_t2 k0_t4 k0_h1
theorem k0_off108_inb : ∀ (v0 : BitVec 32) (k0_hw19 : k0_chk19 v0) (k0_t2 : Fin (k0_t2_loop v0).trips), ∀ (k0_h1 : k0_cond1 v0 k0_t2 = 1#1), ∀ a, (k0_off108 v0 k0_t2) a + S1.size a ≤ S2.size a := fun v0 k0_hw19 k0_t2 k0_h1 => k0_hw19.2.1.2.2.2.2.2.2.2.2.2.2.2.2.2.1 k0_t2 k0_h1
theorem k0_off109_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off109 v0 k0_t2 k0_t4) a + S1x1x5120.size a ≤ S2x256x5120.size a := fun v0 k0_hw19 k0_t2 k0_t4 k0_h1 => k0_hw19.2.1.2.2.2.2.2.2.2.2.2.2.2.2.2.2.1 k0_t2 k0_t4 k0_h1
theorem k0_off111_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off111 v0 k0_t2 k0_t4) a + S1.size a ≤ S41984.size a := fun v0 k0_hw19 k0_t2 k0_t4 k0_h1 => k0_hw19.2.1.2.2.2.2.2.2.2.2.2.2.2.2.2.2.2.1 k0_t2 k0_t4 k0_h1
theorem k0_off112_inb : ∀ (v0 : BitVec 32) (k0_hw19 : k0_chk19 v0) (k0_t2 : Fin (k0_t2_loop v0).trips), ∀ (k0_h1 : k0_cond1 v0 k0_t2 = 1#1), ∀ a, (k0_off112 v0 k0_t2) a + S1.size a ≤ S2.size a := fun v0 k0_hw19 k0_t2 k0_h1 => k0_hw19.2.1.2.2.2.2.2.2.2.2.2.2.2.2.2.2.2.2.1 k0_t2 k0_h1
theorem k0_off113_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off113 v0 k0_t2 k0_t4) a + S1x1x5120.size a ≤ S2x256x5120.size a := fun v0 k0_hw19 k0_t2 k0_t4 k0_h1 => k0_hw19.2.1.2.2.2.2.2.2.2.2.2.2.2.2.2.2.2.2.2.1 k0_t2 k0_t4 k0_h1
theorem k0_off115_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off115 v0 k0_t2 k0_t4) a + S1.size a ≤ S41984.size a := fun v0 k0_hw19 k0_t2 k0_t4 k0_h1 => k0_hw19.2.1.2.2.2.2.2.2.2.2.2.2.2.2.2.2.2.2.2.2.1 k0_t2 k0_t4 k0_h1
theorem k0_off116_inb : ∀ (v0 : BitVec 32) (k0_hw19 : k0_chk19 v0) (k0_t2 : Fin (k0_t2_loop v0).trips), ∀ (k0_h1 : k0_cond1 v0 k0_t2 = 1#1), ∀ a, (k0_off116 v0 k0_t2) a + S1.size a ≤ S2.size a := fun v0 k0_hw19 k0_t2 k0_h1 => k0_hw19.2.1.2.2.2.2.2.2.2.2.2.2.2.2.2.2.2.2.2.2.2.1 k0_t2 k0_h1
theorem k0_off117_inb : ∀ (v0 : BitVec 32) (k0_hw19 : k0_chk19 v0) (k0_t2 : Fin (k0_t2_loop v0).trips) (k0_t4 : Fin k0_t4_loop.trips), ∀ (k0_h1 : k0_cond1 v0 k0_t2 = 1#1), ∀ a, (k0_off117 v0 k0_t2 k0_t4) a + S1x1x5120.size a ≤ S2x256x5120.size a := fun v0 k0_hw19 k0_t2 k0_t4 k0_h1 => k0_hw19.2.1.2.2.2.2.2.2.2.2.2.2.2.2.2.2.2.2.2.2.2.2.1 k0_t2 k0_t4 k0_h1
theorem k0_off119_inb : ∀ (v0 : BitVec 32) (k0_hw19 : k0_chk19 v0) (k0_t2 : Fin (k0_t2_loop v0).trips), ∀ (k0_h1 : k0_cond1 v0 k0_t2 = 1#1), ∀ a, (k0_off119 v0 k0_t2) a + S1.size a ≤ S2.size a := fun v0 k0_hw19 k0_t2 k0_h1 => k0_hw19.2.1.2.2.2.2.2.2.2.2.2.2.2.2.2.2.2.2.2.2.2.2.2.1 k0_t2 k0_h1
theorem k0_off120_inb : ∀ (v0 : BitVec 32) (k0_hw19 : k0_chk19 v0) (k0_t2 : Fin (k0_t2_loop v0).trips), ∀ (k0_h1 : k0_cond1 v0 k0_t2 = 1#1), ∀ a, (k0_off120 v0 k0_t2) a + S1x1x256.size a ≤ S2x1x256.size a := fun v0 k0_hw19 k0_t2 k0_h1 => k0_hw19.2.1.2.2.2.2.2.2.2.2.2.2.2.2.2.2.2.2.2.2.2.2.2.2.1 k0_t2 k0_h1
theorem k0_off121_inb : ∀ (v0 : BitVec 32) (k0_hw19 : k0_chk19 v0) (k0_t2 : Fin (k0_t2_loop v0).trips), ∀ (k0_h1 : k0_cond1 v0 k0_t2 = 1#1), ∀ a, (k0_off121 v0 k0_t2) a + S1x1x256.size a ≤ S164x1x256.size a := fun v0 k0_hw19 k0_t2 k0_h1 => k0_hw19.2.1.2.2.2.2.2.2.2.2.2.2.2.2.2.2.2.2.2.2.2.2.2.2.2.1 k0_t2 k0_h1
theorem k0_off122_inb : ∀ (v0 : BitVec 32) (k0_hw19 : k0_chk19 v0) (k0_t2 : Fin (k0_t2_loop v0).trips), ∀ a, (k0_off122 v0 k0_t2) a + S1x1x256.size a ≤ S2x1x256.size a := fun v0 k0_hw19 k0_t2 => k0_hw19.2.1.2.2.2.2.2.2.2.2.2.2.2.2.2.2.2.2.2.2.2.2.2.2.2.2.1 k0_t2
theorem k0_off123_inb : ∀ (v0 : BitVec 32) (k0_hw19 : k0_chk19 v0) (k0_t2 : Fin (k0_t2_loop v0).trips) (k0_t5 : Fin k0_t5_loop.trips), ∀ a, (k0_off123 v0 k0_t2 k0_t5) a + S1x256x128.size a ≤ S2x256x5120.size a := fun v0 k0_hw19 k0_t2 k0_t5 => k0_hw19.2.1.2.2.2.2.2.2.2.2.2.2.2.2.2.2.2.2.2.2.2.2.2.2.2.2.2.1 k0_t2 k0_t5
theorem k0_off125_inb : ∀ (v0 : BitVec 32) (k0_hw19 : k0_chk19 v0) (k0_t2 : Fin (k0_t2_loop v0).trips), ∀ (k0_h2 : k0_cond2 v0 k0_t2 = 1#1), ∀ a, (k0_off125 v0 k0_t2) a + S1.size a ≤ S2.size a := fun v0 k0_hw19 k0_t2 k0_h2 => k0_hw19.2.1.2.2.2.2.2.2.2.2.2.2.2.2.2.2.2.2.2.2.2.2.2.2.2.2.2.2.1 k0_t2 k0_h2
theorem k0_off126_inb : ∀ (v0 : BitVec 32) (k0_hw19 : k0_chk19 v0) (k0_t2 : Fin (k0_t2_loop v0).trips), ∀ (k0_h2 : k0_cond2 v0 k0_t2 = 1#1), ∀ a, (k0_off126 v0 k0_t2) a + S1x256x1536.size a ≤ S2x256x1536.size a := fun v0 k0_hw19 k0_t2 k0_h2 => k0_hw19.2.1.2.2.2.2.2.2.2.2.2.2.2.2.2.2.2.2.2.2.2.2.2.2.2.2.2.2.2.1 k0_t2 k0_h2
theorem k0_off126_wordsbf16 : ∀ (v0 : BitVec 32) (k0_hw19 : k0_chk19 v0) (k0_t2 : Fin (k0_t2_loop v0).trips), ∀ (k0_h2 : k0_cond2 v0 k0_t2 = 1#1), (Rect.unit (s := S2x256x1536) (k0_off126 v0 k0_t2) S1x256x1536.size (k0_off126_inb v0 k0_hw19 k0_t2 k0_h2)).WholeWords (EltTy.packing .bf16) := fun v0 k0_hw19 k0_t2 k0_h2 => k0_hw19.2.1.2.2.2.2.2.2.2.2.2.2.2.2.2.2.2.2.2.2.2.2.2.2.2.2.2.2.2.2.1 k0_t2 k0_h2 (k0_off126_inb v0 k0_hw19 k0_t2 k0_h2)
theorem k0_off127_inb : ∀ (v0 : BitVec 32) (k0_hw19 : k0_chk19 v0) (k0_t2 : Fin (k0_t2_loop v0).trips), ∀ a, (k0_off127 v0 k0_t2) a + S1.size a ≤ S164.size a := fun v0 k0_hw19 k0_t2 => k0_hw19.2.1.2.2.2.2.2.2.2.2.2.2.2.2.2.2.2.2.2.2.2.2.2.2.2.2.2.2.2.2.2.1 k0_t2
theorem k0_off128_inb : ∀ (v0 : BitVec 32) (k0_hw19 : k0_chk19 v0) (k0_t2 : Fin (k0_t2_loop v0).trips), ∀ a, (k0_off128 v0 k0_t2) a + S1.size a ≤ S164.size a := fun v0 k0_hw19 k0_t2 => k0_hw19.2.1.2.2.2.2.2.2.2.2.2.2.2.2.2.2.2.2.2.2.2.2.2.2.2.2.2.2.2.2.2.2.1 k0_t2
theorem k0_off130_inb : ∀ (v0 : BitVec 32) (k0_hw19 : k0_chk19 v0) (k0_t2 : Fin (k0_t2_loop v0).trips), ∀ a, (k0_off130 v0 k0_t2) a + S1.size a ≤ S164.size a := fun v0 k0_hw19 k0_t2 => k0_hw19.2.1.2.2.2.2.2.2.2.2.2.2.2.2.2.2.2.2.2.2.2.2.2.2.2.2.2.2.2.2.2.2.2 k0_t2
theorem k0_off133_inb : ∀ (v0 : BitVec 32) (k0_hw19 : k0_chk19 v0) (k0_t2 : Fin (k0_t2_loop v0).trips), ∀ a, (k0_off133 v0 k0_t2) a + S1x256x768.size a ≤ S2x256x1536.size a := fun v0 k0_hw19 k0_t2 => k0_hw19.2.2.1.1 k0_t2
theorem k0_off133_packedbf16 : ∀ (v0 : BitVec 32) (k0_hw19 : k0_chk19 v0) (k0_t2 : Fin (k0_t2_loop v0).trips), (Rect.unit (s := S2x256x1536) (k0_off133 v0 k0_t2) S1x256x768.size (k0_off133_inb v0 k0_hw19 k0_t2)).PackedRows (EltTy.packing .bf16) := fun v0 k0_hw19 k0_t2 => k0_hw19.2.2.1.2.1 k0_t2 (k0_off133_inb v0 k0_hw19 k0_t2)
theorem k0_off134_inb : ∀ (v0 : BitVec 32) (k0_hw19 : k0_chk19 v0) (k0_t2 : Fin (k0_t2_loop v0).trips), ∀ a, (k0_off134 v0 k0_t2) a + S1.size a ≤ S164.size a := fun v0 k0_hw19 k0_t2 => k0_hw19.2.2.1.2.2.1 k0_t2
theorem k0_off135_inb : ∀ (v0 : BitVec 32) (k0_hw19 : k0_chk19 v0) (k0_t2 : Fin (k0_t2_loop v0).trips), ∀ a, (k0_off135 v0 k0_t2) a + S1.size a ≤ S164.size a := fun v0 k0_hw19 k0_t2 => k0_hw19.2.2.1.2.2.2.1 k0_t2
theorem k0_off137_inb : ∀ (v0 : BitVec 32) (k0_hw19 : k0_chk19 v0) (k0_t2 : Fin (k0_t2_loop v0).trips), ∀ a, (k0_off137 v0 k0_t2) a + S1.size a ≤ S164.size a := fun v0 k0_hw19 k0_t2 => k0_hw19.2.2.1.2.2.2.2.1 k0_t2
theorem k0_off140_inb : ∀ (v0 : BitVec 32) (k0_hw19 : k0_chk19 v0) (k0_t2 : Fin (k0_t2_loop v0).trips), ∀ a, (k0_off140 v0 k0_t2) a + S1x256x768.size a ≤ S2x256x1536.size a := fun v0 k0_hw19 k0_t2 => k0_hw19.2.2.1.2.2.2.2.2.1 k0_t2
theorem k0_off140_packedbf16 : ∀ (v0 : BitVec 32) (k0_hw19 : k0_chk19 v0) (k0_t2 : Fin (k0_t2_loop v0).trips), (Rect.unit (s := S2x256x1536) (k0_off140 v0 k0_t2) S1x256x768.size (k0_off140_inb v0 k0_hw19 k0_t2)).PackedRows (EltTy.packing .bf16) := fun v0 k0_hw19 k0_t2 => k0_hw19.2.2.1.2.2.2.2.2.2.1 k0_t2 (k0_off140_inb v0 k0_hw19 k0_t2)
theorem k0_off141_inb : ∀ (v0 : BitVec 32) (k0_hw19 : k0_chk19 v0) (k0_t2 : Fin (k0_t2_loop v0).trips), ∀ a, (k0_off141 v0 k0_t2) a + S1.size a ≤ S2.size a := fun v0 k0_hw19 k0_t2 => k0_hw19.2.2.1.2.2.2.2.2.2.2.1 k0_t2
theorem k0_off142_inb : ∀ (v0 : BitVec 32) (k0_hw19 : k0_chk19 v0) (k0_t2 : Fin (k0_t2_loop v0).trips), ∀ a, (k0_off142 v0 k0_t2) a + S256x1536.size a ≤ S41984x1536.size a := fun v0 k0_hw19 k0_t2 => k0_hw19.2.2.1.2.2.2.2.2.2.2.2.1 k0_t2
theorem k0_off143_inb : ∀ (v0 : BitVec 32) (k0_hw19 : k0_chk19 v0) (k0_t2 : Fin (k0_t2_loop v0).trips), ∀ a, (k0_off143 v0 k0_t2) a + S1x256x1536.size a ≤ S2x256x1536.size a := fun v0 k0_hw19 k0_t2 => k0_hw19.2.2.1.2.2.2.2.2.2.2.2.2.1 k0_t2
theorem k0_off143_wordsbf16 : ∀ (v0 : BitVec 32) (k0_hw19 : k0_chk19 v0) (k0_t2 : Fin (k0_t2_loop v0).trips), (Rect.unit (s := S2x256x1536) (k0_off143 v0 k0_t2) S1x256x1536.size (k0_off143_inb v0 k0_hw19 k0_t2)).WholeWords (EltTy.packing .bf16) := fun v0 k0_hw19 k0_t2 => k0_hw19.2.2.1.2.2.2.2.2.2.2.2.2.2.1 k0_t2 (k0_off143_inb v0 k0_hw19 k0_t2)
theorem k0_off142_wordsbf16 : ∀ (v0 : BitVec 32) (k0_hw19 : k0_chk19 v0) (k0_t2 : Fin (k0_t2_loop v0).trips), (Rect.unit (s := S41984x1536) (k0_off142 v0 k0_t2) S256x1536.size (k0_off142_inb v0 k0_hw19 k0_t2)).WholeWords (EltTy.packing .bf16) := fun v0 k0_hw19 k0_t2 => k0_hw19.2.2.1.2.2.2.2.2.2.2.2.2.2.2.1 k0_t2 (k0_off142_inb v0 k0_hw19 k0_t2)
theorem k0_t6_ok : ∀ (v0 : BitVec 32) (k0_hw19 : k0_chk19 v0), (k0_t6_loop v0).OK := fun v0 k0_hw19 => k0_hw19.2.2.1.2.2.2.2.2.2.2.2.2.2.2.2.1
theorem k0_off144_inb : ∀ (v0 : BitVec 32) (k0_hw19 : k0_chk19 v0) (k0_t6 : Fin (k0_t6_loop v0).trips), ∀ a, (k0_off144 v0 k0_t6) a + S1.size a ≤ S2.size a := fun v0 k0_hw19 k0_t6 => k0_hw19.2.2.1.2.2.2.2.2.2.2.2.2.2.2.2.2.1 k0_t6
theorem k0_off145_inb : ∀ (v0 : BitVec 32) (k0_hw19 : k0_chk19 v0) (k0_t6 : Fin (k0_t6_loop v0).trips), ∀ a, (k0_off145 v0 k0_t6) a + S1x1x5120.size a ≤ S2x256x5120.size a := fun v0 k0_hw19 k0_t6 => k0_hw19.2.2.1.2.2.2.2.2.2.2.2.2.2.2.2.2.2.1 k0_t6
theorem k0_off146_inb : ∀ (v0 : BitVec 32) (k0_hw19 : k0_chk19 v0) (k0_t6 : Fin (k0_t6_loop v0).trips), ∀ a, (k0_off146 v0 k0_t6) a + S1.size a ≤ S2.size a := fun v0 k0_hw19 k0_t6 => k0_hw19.2.2.1.2.2.2.2.2.2.2.2.2.2.2.2.2.2.2.1 k0_t6
theorem k0_off147_inb : ∀ (v0 : BitVec 32) (k0_hw19 : k0_chk19 v0) (k0_t6 : Fin (k0_t6_loop v0).trips), ∀ a, (k0_off147 v0 k0_t6) a + S1x1x256.size a ≤ S2x1x256.size a := fun v0 k0_hw19 k0_t6 => k0_hw19.2.2.1.2.2.2.2.2.2.2.2.2.2.2.2.2.2.2.2.1 k0_t6
theorem k0_off148_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off148 v0 k0_t6 k0_t8) a + S1.size a ≤ S41984.size a := fun v0 k0_hw19 k0_t6 k0_t8 k0_h7 => k0_hw19.2.2.1.2.2.2.2.2.2.2.2.2.2.2.2.2.2.2.2.2.1 k0_t6 k0_t8 k0_h7
theorem k0_off149_inb : ∀ (v0 : BitVec 32) (k0_hw19 : k0_chk19 v0) (k0_t6 : Fin (k0_t6_loop v0).trips), ∀ (k0_h7 : k0_cond7 v0 k0_t6 = 1#1), ∀ a, (k0_off149 v0 k0_t6) a + S1.size a ≤ S2.size a := fun v0 k0_hw19 k0_t6 k0_h7 => k0_hw19.2.2.1.2.2.2.2.2.2.2.2.2.2.2.2.2.2.2.2.2.2.1 k0_t6 k0_h7
theorem k0_off150_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off150 v0 k0_t6 k0_t8) a + S1x1x5120.size a ≤ S2x256x5120.size a := fun v0 k0_hw19 k0_t6 k0_t8 k0_h7 => k0_hw19.2.2.1.2.2.2.2.2.2.2.2.2.2.2.2.2.2.2.2.2.2.2.1 k0_t6 k0_t8 k0_h7
theorem k0_off152_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off152 v0 k0_t6 k0_t8) a + S1.size a ≤ S41984.size a := fun v0 k0_hw19 k0_t6 k0_t8 k0_h7 => k0_hw19.2.2.1.2.2.2.2.2.2.2.2.2.2.2.2.2.2.2.2.2.2.2.2.1 k0_t6 k0_t8 k0_h7
theorem k0_off153_inb : ∀ (v0 : BitVec 32) (k0_hw19 : k0_chk19 v0) (k0_t6 : Fin (k0_t6_loop v0).trips), ∀ (k0_h7 : k0_cond7 v0 k0_t6 = 1#1), ∀ a, (k0_off153 v0 k0_t6) a + S1.size a ≤ S2.size a := fun v0 k0_hw19 k0_t6 k0_h7 => k0_hw19.2.2.1.2.2.2.2.2.2.2.2.2.2.2.2.2.2.2.2.2.2.2.2.2.1 k0_t6 k0_h7
theorem k0_off154_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off154 v0 k0_t6 k0_t8) a + S1x1x5120.size a ≤ S2x256x5120.size a := fun v0 k0_hw19 k0_t6 k0_t8 k0_h7 => k0_hw19.2.2.1.2.2.2.2.2.2.2.2.2.2.2.2.2.2.2.2.2.2.2.2.2.2.1 k0_t6 k0_t8 k0_h7
theorem k0_off156_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off156 v0 k0_t6 k0_t8) a + S1.size a ≤ S41984.size a := fun v0 k0_hw19 k0_t6 k0_t8 k0_h7 => k0_hw19.2.2.1.2.2.2.2.2.2.2.2.2.2.2.2.2.2.2.2.2.2.2.2.2.2.2.1 k0_t6 k0_t8 k0_h7
theorem k0_off157_inb : ∀ (v0 : BitVec 32) (k0_hw19 : k0_chk19 v0) (k0_t6 : Fin (k0_t6_loop v0).trips), ∀ (k0_h7 : k0_cond7 v0 k0_t6 = 1#1), ∀ a, (k0_off157 v0 k0_t6) a + S1.size a ≤ S2.size a := fun v0 k0_hw19 k0_t6 k0_h7 => k0_hw19.2.2.1.2.2.2.2.2.2.2.2.2.2.2.2.2.2.2.2.2.2.2.2.2.2.2.2.1 k0_t6 k0_h7
theorem k0_off158_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off158 v0 k0_t6 k0_t8) a + S1x1x5120.size a ≤ S2x256x5120.size a := fun v0 k0_hw19 k0_t6 k0_t8 k0_h7 => k0_hw19.2.2.1.2.2.2.2.2.2.2.2.2.2.2.2.2.2.2.2.2.2.2.2.2.2.2.2.2.1 k0_t6 k0_t8 k0_h7
theorem k0_off160_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off160 v0 k0_t6 k0_t8) a + S1.size a ≤ S41984.size a := fun v0 k0_hw19 k0_t6 k0_t8 k0_h7 => k0_hw19.2.2.1.2.2.2.2.2.2.2.2.2.2.2.2.2.2.2.2.2.2.2.2.2.2.2.2.2.2.1 k0_t6 k0_t8 k0_h7
theorem k0_off161_inb : ∀ (v0 : BitVec 32) (k0_hw19 : k0_chk19 v0) (k0_t6 : Fin (k0_t6_loop v0).trips), ∀ (k0_h7 : k0_cond7 v0 k0_t6 = 1#1), ∀ a, (k0_off161 v0 k0_t6) a + S1.size a ≤ S2.size a := fun v0 k0_hw19 k0_t6 k0_h7 => k0_hw19.2.2.1.2.2.2.2.2.2.2.2.2.2.2.2.2.2.2.2.2.2.2.2.2.2.2.2.2.2.2.1 k0_t6 k0_h7
theorem k0_off162_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off162 v0 k0_t6 k0_t8) a + S1x1x5120.size a ≤ S2x256x5120.size a := fun v0 k0_hw19 k0_t6 k0_t8 k0_h7 => k0_hw19.2.2.1.2.2.2.2.2.2.2.2.2.2.2.2.2.2.2.2.2.2.2.2.2.2.2.2.2.2.2.2.1 k0_t6 k0_t8 k0_h7
theorem k0_off164_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off164 v0 k0_t6 k0_t8) a + S1.size a ≤ S41984.size a := fun v0 k0_hw19 k0_t6 k0_t8 k0_h7 => k0_hw19.2.2.1.2.2.2.2.2.2.2.2.2.2.2.2.2.2.2.2.2.2.2.2.2.2.2.2.2.2.2.2.2.1 k0_t6 k0_t8 k0_h7
theorem k0_off165_inb : ∀ (v0 : BitVec 32) (k0_hw19 : k0_chk19 v0) (k0_t6 : Fin (k0_t6_loop v0).trips), ∀ (k0_h7 : k0_cond7 v0 k0_t6 = 1#1), ∀ a, (k0_off165 v0 k0_t6) a + S1.size a ≤ S2.size a := fun v0 k0_hw19 k0_t6 k0_h7 => k0_hw19.2.2.1.2.2.2.2.2.2.2.2.2.2.2.2.2.2.2.2.2.2.2.2.2.2.2.2.2.2.2.2.2.2.1 k0_t6 k0_h7
theorem k0_off166_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off166 v0 k0_t6 k0_t8) a + S1x1x5120.size a ≤ S2x256x5120.size a := fun v0 k0_hw19 k0_t6 k0_t8 k0_h7 => k0_hw19.2.2.1.2.2.2.2.2.2.2.2.2.2.2.2.2.2.2.2.2.2.2.2.2.2.2.2.2.2.2.2.2.2.2 k0_t6 k0_t8 k0_h7
theorem k0_off168_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off168 v0 k0_t6 k0_t8) a + S1.size a ≤ S41984.size a := fun v0 k0_hw19 k0_t6 k0_t8 k0_h7 => k0_hw19.2.2.2.1.1 k0_t6 k0_t8 k0_h7
theorem k0_off169_inb : ∀ (v0 : BitVec 32) (k0_hw19 : k0_chk19 v0) (k0_t6 : Fin (k0_t6_loop v0).trips), ∀ (k0_h7 : k0_cond7 v0 k0_t6 = 1#1), ∀ a, (k0_off169 v0 k0_t6) a + S1.size a ≤ S2.size a := fun v0 k0_hw19 k0_t6 k0_h7 => k0_hw19.2.2.2.1.2.1 k0_t6 k0_h7
theorem k0_off170_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off170 v0 k0_t6 k0_t8) a + S1x1x5120.size a ≤ S2x256x5120.size a := fun v0 k0_hw19 k0_t6 k0_t8 k0_h7 => k0_hw19.2.2.2.1.2.2.1 k0_t6 k0_t8 k0_h7
theorem k0_off172_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off172 v0 k0_t6 k0_t8) a + S1.size a ≤ S41984.size a := fun v0 k0_hw19 k0_t6 k0_t8 k0_h7 => k0_hw19.2.2.2.1.2.2.2.1 k0_t6 k0_t8 k0_h7
theorem k0_off173_inb : ∀ (v0 : BitVec 32) (k0_hw19 : k0_chk19 v0) (k0_t6 : Fin (k0_t6_loop v0).trips), ∀ (k0_h7 : k0_cond7 v0 k0_t6 = 1#1), ∀ a, (k0_off173 v0 k0_t6) a + S1.size a ≤ S2.size a := fun v0 k0_hw19 k0_t6 k0_h7 => k0_hw19.2.2.2.1.2.2.2.2.1 k0_t6 k0_h7
theorem k0_off174_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off174 v0 k0_t6 k0_t8) a + S1x1x5120.size a ≤ S2x256x5120.size a := fun v0 k0_hw19 k0_t6 k0_t8 k0_h7 => k0_hw19.2.2.2.1.2.2.2.2.2.1 k0_t6 k0_t8 k0_h7
theorem k0_off176_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off176 v0 k0_t6 k0_t8) a + S1.size a ≤ S41984.size a := fun v0 k0_hw19 k0_t6 k0_t8 k0_h7 => k0_hw19.2.2.2.1.2.2.2.2.2.2.1 k0_t6 k0_t8 k0_h7
theorem k0_off177_inb : ∀ (v0 : BitVec 32) (k0_hw19 : k0_chk19 v0) (k0_t6 : Fin (k0_t6_loop v0).trips), ∀ (k0_h7 : k0_cond7 v0 k0_t6 = 1#1), ∀ a, (k0_off177 v0 k0_t6) a + S1.size a ≤ S2.size a := fun v0 k0_hw19 k0_t6 k0_h7 => k0_hw19.2.2.2.1.2.2.2.2.2.2.2.1 k0_t6 k0_h7
theorem k0_off178_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off178 v0 k0_t6 k0_t8) a + S1x1x5120.size a ≤ S2x256x5120.size a := fun v0 k0_hw19 k0_t6 k0_t8 k0_h7 => k0_hw19.2.2.2.1.2.2.2.2.2.2.2.2.1 k0_t6 k0_t8 k0_h7
theorem k0_off180_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off180 v0 k0_t6 k0_t8) a + S1.size a ≤ S41984.size a := fun v0 k0_hw19 k0_t6 k0_t8 k0_h7 => k0_hw19.2.2.2.1.2.2.2.2.2.2.2.2.2.1 k0_t6 k0_t8 k0_h7
theorem k0_off181_inb : ∀ (v0 : BitVec 32) (k0_hw19 : k0_chk19 v0) (k0_t6 : Fin (k0_t6_loop v0).trips), ∀ (k0_h7 : k0_cond7 v0 k0_t6 = 1#1), ∀ a, (k0_off181 v0 k0_t6) a + S1.size a ≤ S2.size a := fun v0 k0_hw19 k0_t6 k0_h7 => k0_hw19.2.2.2.1.2.2.2.2.2.2.2.2.2.2.1 k0_t6 k0_h7
theorem k0_off182_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off182 v0 k0_t6 k0_t8) a + S1x1x5120.size a ≤ S2x256x5120.size a := fun v0 k0_hw19 k0_t6 k0_t8 k0_h7 => k0_hw19.2.2.2.1.2.2.2.2.2.2.2.2.2.2.2.1 k0_t6 k0_t8 k0_h7
theorem k0_off184_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off184 v0 k0_t6 k0_t8) a + S1.size a ≤ S41984.size a := fun v0 k0_hw19 k0_t6 k0_t8 k0_h7 => k0_hw19.2.2.2.1.2.2.2.2.2.2.2.2.2.2.2.2.1 k0_t6 k0_t8 k0_h7
theorem k0_off185_inb : ∀ (v0 : BitVec 32) (k0_hw19 : k0_chk19 v0) (k0_t6 : Fin (k0_t6_loop v0).trips), ∀ (k0_h7 : k0_cond7 v0 k0_t6 = 1#1), ∀ a, (k0_off185 v0 k0_t6) a + S1.size a ≤ S2.size a := fun v0 k0_hw19 k0_t6 k0_h7 => k0_hw19.2.2.2.1.2.2.2.2.2.2.2.2.2.2.2.2.2.1 k0_t6 k0_h7
theorem k0_off186_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off186 v0 k0_t6 k0_t8) a + S1x1x5120.size a ≤ S2x256x5120.size a := fun v0 k0_hw19 k0_t6 k0_t8 k0_h7 => k0_hw19.2.2.2.1.2.2.2.2.2.2.2.2.2.2.2.2.2.2.1 k0_t6 k0_t8 k0_h7
theorem k0_off188_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off188 v0 k0_t6 k0_t8) a + S1.size a ≤ S41984.size a := fun v0 k0_hw19 k0_t6 k0_t8 k0_h7 => k0_hw19.2.2.2.1.2.2.2.2.2.2.2.2.2.2.2.2.2.2.2.1 k0_t6 k0_t8 k0_h7
theorem k0_off189_inb : ∀ (v0 : BitVec 32) (k0_hw19 : k0_chk19 v0) (k0_t6 : Fin (k0_t6_loop v0).trips), ∀ (k0_h7 : k0_cond7 v0 k0_t6 = 1#1), ∀ a, (k0_off189 v0 k0_t6) a + S1.size a ≤ S2.size a := fun v0 k0_hw19 k0_t6 k0_h7 => k0_hw19.2.2.2.1.2.2.2.2.2.2.2.2.2.2.2.2.2.2.2.2.1 k0_t6 k0_h7
theorem k0_off190_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off190 v0 k0_t6 k0_t8) a + S1x1x5120.size a ≤ S2x256x5120.size a := fun v0 k0_hw19 k0_t6 k0_t8 k0_h7 => k0_hw19.2.2.2.1.2.2.2.2.2.2.2.2.2.2.2.2.2.2.2.2.2.1 k0_t6 k0_t8 k0_h7
theorem k0_off192_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off192 v0 k0_t6 k0_t8) a + S1.size a ≤ S41984.size a := fun v0 k0_hw19 k0_t6 k0_t8 k0_h7 => k0_hw19.2.2.2.1.2.2.2.2.2.2.2.2.2.2.2.2.2.2.2.2.2.2.1 k0_t6 k0_t8 k0_h7
theorem k0_off193_inb : ∀ (v0 : BitVec 32) (k0_hw19 : k0_chk19 v0) (k0_t6 : Fin (k0_t6_loop v0).trips), ∀ (k0_h7 : k0_cond7 v0 k0_t6 = 1#1), ∀ a, (k0_off193 v0 k0_t6) a + S1.size a ≤ S2.size a := fun v0 k0_hw19 k0_t6 k0_h7 => k0_hw19.2.2.2.1.2.2.2.2.2.2.2.2.2.2.2.2.2.2.2.2.2.2.2.1 k0_t6 k0_h7
theorem k0_off194_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off194 v0 k0_t6 k0_t8) a + S1x1x5120.size a ≤ S2x256x5120.size a := fun v0 k0_hw19 k0_t6 k0_t8 k0_h7 => k0_hw19.2.2.2.1.2.2.2.2.2.2.2.2.2.2.2.2.2.2.2.2.2.2.2.2.1 k0_t6 k0_t8 k0_h7
theorem k0_off196_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off196 v0 k0_t6 k0_t8) a + S1.size a ≤ S41984.size a := fun v0 k0_hw19 k0_t6 k0_t8 k0_h7 => k0_hw19.2.2.2.1.2.2.2.2.2.2.2.2.2.2.2.2.2.2.2.2.2.2.2.2.2.1 k0_t6 k0_t8 k0_h7
theorem k0_off197_inb : ∀ (v0 : BitVec 32) (k0_hw19 : k0_chk19 v0) (k0_t6 : Fin (k0_t6_loop v0).trips), ∀ (k0_h7 : k0_cond7 v0 k0_t6 = 1#1), ∀ a, (k0_off197 v0 k0_t6) a + S1.size a ≤ S2.size a := fun v0 k0_hw19 k0_t6 k0_h7 => k0_hw19.2.2.2.1.2.2.2.2.2.2.2.2.2.2.2.2.2.2.2.2.2.2.2.2.2.2.1 k0_t6 k0_h7
theorem k0_off198_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off198 v0 k0_t6 k0_t8) a + S1x1x5120.size a ≤ S2x256x5120.size a := fun v0 k0_hw19 k0_t6 k0_t8 k0_h7 => k0_hw19.2.2.2.1.2.2.2.2.2.2.2.2.2.2.2.2.2.2.2.2.2.2.2.2.2.2.2.1 k0_t6 k0_t8 k0_h7
theorem k0_off200_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off200 v0 k0_t6 k0_t8) a + S1.size a ≤ S41984.size a := fun v0 k0_hw19 k0_t6 k0_t8 k0_h7 => k0_hw19.2.2.2.1.2.2.2.2.2.2.2.2.2.2.2.2.2.2.2.2.2.2.2.2.2.2.2.2.1 k0_t6 k0_t8 k0_h7
theorem k0_off201_inb : ∀ (v0 : BitVec 32) (k0_hw19 : k0_chk19 v0) (k0_t6 : Fin (k0_t6_loop v0).trips), ∀ (k0_h7 : k0_cond7 v0 k0_t6 = 1#1), ∀ a, (k0_off201 v0 k0_t6) a + S1.size a ≤ S2.size a := fun v0 k0_hw19 k0_t6 k0_h7 => k0_hw19.2.2.2.1.2.2.2.2.2.2.2.2.2.2.2.2.2.2.2.2.2.2.2.2.2.2.2.2.2.1 k0_t6 k0_h7
theorem k0_off202_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off202 v0 k0_t6 k0_t8) a + S1x1x5120.size a ≤ S2x256x5120.size a := fun v0 k0_hw19 k0_t6 k0_t8 k0_h7 => k0_hw19.2.2.2.1.2.2.2.2.2.2.2.2.2.2.2.2.2.2.2.2.2.2.2.2.2.2.2.2.2.2.1 k0_t6 k0_t8 k0_h7
theorem k0_off204_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off204 v0 k0_t6 k0_t8) a + S1.size a ≤ S41984.size a := fun v0 k0_hw19 k0_t6 k0_t8 k0_h7 => k0_hw19.2.2.2.1.2.2.2.2.2.2.2.2.2.2.2.2.2.2.2.2.2.2.2.2.2.2.2.2.2.2.2.1 k0_t6 k0_t8 k0_h7
theorem k0_off205_inb : ∀ (v0 : BitVec 32) (k0_hw19 : k0_chk19 v0) (k0_t6 : Fin (k0_t6_loop v0).trips), ∀ (k0_h7 : k0_cond7 v0 k0_t6 = 1#1), ∀ a, (k0_off205 v0 k0_t6) a + S1.size a ≤ S2.size a := fun v0 k0_hw19 k0_t6 k0_h7 => k0_hw19.2.2.2.1.2.2.2.2.2.2.2.2.2.2.2.2.2.2.2.2.2.2.2.2.2.2.2.2.2.2.2.2.1 k0_t6 k0_h7
theorem k0_off206_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off206 v0 k0_t6 k0_t8) a + S1x1x5120.size a ≤ S2x256x5120.size a := fun v0 k0_hw19 k0_t6 k0_t8 k0_h7 => k0_hw19.2.2.2.1.2.2.2.2.2.2.2.2.2.2.2.2.2.2.2.2.2.2.2.2.2.2.2.2.2.2.2.2.2.1 k0_t6 k0_t8 k0_h7
theorem k0_off208_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off208 v0 k0_t6 k0_t8) a + S1.size a ≤ S41984.size a := fun v0 k0_hw19 k0_t6 k0_t8 k0_h7 => k0_hw19.2.2.2.1.2.2.2.2.2.2.2.2.2.2.2.2.2.2.2.2.2.2.2.2.2.2.2.2.2.2.2.2.2.2.1 k0_t6 k0_t8 k0_h7
theorem k0_off209_inb : ∀ (v0 : BitVec 32) (k0_hw19 : k0_chk19 v0) (k0_t6 : Fin (k0_t6_loop v0).trips), ∀ (k0_h7 : k0_cond7 v0 k0_t6 = 1#1), ∀ a, (k0_off209 v0 k0_t6) a + S1.size a ≤ S2.size a := fun v0 k0_hw19 k0_t6 k0_h7 => k0_hw19.2.2.2.1.2.2.2.2.2.2.2.2.2.2.2.2.2.2.2.2.2.2.2.2.2.2.2.2.2.2.2.2.2.2.2 k0_t6 k0_h7
theorem k0_off210_inb : ∀ (v0 : BitVec 32) (k0_hw19 : k0_chk19 v0) (k0_t6 : Fin (k0_t6_loop v0).trips) (k0_t8 : Fin k0_t8_loop.trips), ∀ (k0_h7 : k0_cond7 v0 k0_t6 = 1#1), ∀ a, (k0_off210 v0 k0_t6 k0_t8) a + S1x1x5120.size a ≤ S2x256x5120.size a := fun v0 k0_hw19 k0_t6 k0_t8 k0_h7 => k0_hw19.2.2.2.2.1 k0_t6 k0_t8 k0_h7
theorem k0_off212_inb : ∀ (v0 : BitVec 32) (k0_hw19 : k0_chk19 v0) (k0_t6 : Fin (k0_t6_loop v0).trips), ∀ (k0_h7 : k0_cond7 v0 k0_t6 = 1#1), ∀ a, (k0_off212 v0 k0_t6) a + S1.size a ≤ S2.size a := fun v0 k0_hw19 k0_t6 k0_h7 => k0_hw19.2.2.2.2.2.1 k0_t6 k0_h7
theorem k0_off213_inb : ∀ (v0 : BitVec 32) (k0_hw19 : k0_chk19 v0) (k0_t6 : Fin (k0_t6_loop v0).trips), ∀ (k0_h7 : k0_cond7 v0 k0_t6 = 1#1), ∀ a, (k0_off213 v0 k0_t6) a + S1x1x256.size a ≤ S2x1x256.size a := fun v0 k0_hw19 k0_t6 k0_h7 => k0_hw19.2.2.2.2.2.2.1 k0_t6 k0_h7
theorem k0_off214_inb : ∀ (v0 : BitVec 32) (k0_hw19 : k0_chk19 v0) (k0_t6 : Fin (k0_t6_loop v0).trips), ∀ (k0_h7 : k0_cond7 v0 k0_t6 = 1#1), ∀ a, (k0_off214 v0 k0_t6) a + S1x1x256.size a ≤ S164x1x256.size a := fun v0 k0_hw19 k0_t6 k0_h7 => k0_hw19.2.2.2.2.2.2.2.1 k0_t6 k0_h7
theorem k0_off215_inb : ∀ (v0 : BitVec 32) (k0_hw19 : k0_chk19 v0) (k0_t6 : Fin (k0_t6_loop v0).trips), ∀ a, (k0_off215 v0 k0_t6) a + S1x1x256.size a ≤ S2x1x256.size a := fun v0 k0_hw19 k0_t6 => k0_hw19.2.2.2.2.2.2.2.2.1 k0_t6
theorem k0_off216_inb : ∀ (v0 : BitVec 32) (k0_hw19 : k0_chk19 v0) (k0_t6 : Fin (k0_t6_loop v0).trips) (k0_t9 : Fin k0_t9_loop.trips), ∀ a, (k0_off216 v0 k0_t6 k0_t9) a + S1x256x128.size a ≤ S2x256x5120.size a := fun v0 k0_hw19 k0_t6 k0_t9 => k0_hw19.2.2.2.2.2.2.2.2.2.1 k0_t6 k0_t9
theorem k0_off218_inb : ∀ (v0 : BitVec 32) (k0_hw19 : k0_chk19 v0) (k0_t6 : Fin (k0_t6_loop v0).trips), ∀ (k0_h8 : k0_cond8 v0 k0_t6 = 1#1), ∀ a, (k0_off218 v0 k0_t6) a + S1.size a ≤ S2.size a := fun v0 k0_hw19 k0_t6 k0_h8 => k0_hw19.2.2.2.2.2.2.2.2.2.2.1 k0_t6 k0_h8
theorem k0_off219_inb : ∀ (v0 : BitVec 32) (k0_hw19 : k0_chk19 v0) (k0_t6 : Fin (k0_t6_loop v0).trips), ∀ (k0_h8 : k0_cond8 v0 k0_t6 = 1#1), ∀ a, (k0_off219 v0 k0_t6) a + S1x256x1536.size a ≤ S2x256x1536.size a := fun v0 k0_hw19 k0_t6 k0_h8 => k0_hw19.2.2.2.2.2.2.2.2.2.2.2.1 k0_t6 k0_h8
theorem k0_off219_wordsbf16 : ∀ (v0 : BitVec 32) (k0_hw19 : k0_chk19 v0) (k0_t6 : Fin (k0_t6_loop v0).trips), ∀ (k0_h8 : k0_cond8 v0 k0_t6 = 1#1), (Rect.unit (s := S2x256x1536) (k0_off219 v0 k0_t6) S1x256x1536.size (k0_off219_inb v0 k0_hw19 k0_t6 k0_h8)).WholeWords (EltTy.packing .bf16) := fun v0 k0_hw19 k0_t6 k0_h8 => k0_hw19.2.2.2.2.2.2.2.2.2.2.2.2.1 k0_t6 k0_h8 (k0_off219_inb v0 k0_hw19 k0_t6 k0_h8)
theorem k0_off220_inb : ∀ (v0 : BitVec 32) (k0_hw19 : k0_chk19 v0) (k0_t6 : Fin (k0_t6_loop v0).trips), ∀ a, (k0_off220 v0 k0_t6) a + S1.size a ≤ S164.size a := fun v0 k0_hw19 k0_t6 => k0_hw19.2.2.2.2.2.2.2.2.2.2.2.2.2.1 k0_t6
theorem k0_off221_inb : ∀ (v0 : BitVec 32) (k0_hw19 : k0_chk19 v0) (k0_t6 : Fin (k0_t6_loop v0).trips), ∀ a, (k0_off221 v0 k0_t6) a + S1.size a ≤ S164.size a := fun v0 k0_hw19 k0_t6 => k0_hw19.2.2.2.2.2.2.2.2.2.2.2.2.2.2.1 k0_t6
theorem k0_off223_inb : ∀ (v0 : BitVec 32) (k0_hw19 : k0_chk19 v0) (k0_t6 : Fin (k0_t6_loop v0).trips), ∀ a, (k0_off223 v0 k0_t6) a + S1.size a ≤ S164.size a := fun v0 k0_hw19 k0_t6 => k0_hw19.2.2.2.2.2.2.2.2.2.2.2.2.2.2.2.1 k0_t6
theorem k0_off226_inb : ∀ (v0 : BitVec 32) (k0_hw19 : k0_chk19 v0) (k0_t6 : Fin (k0_t6_loop v0).trips), ∀ a, (k0_off226 v0 k0_t6) a + S1x256x768.size a ≤ S2x256x1536.size a := fun v0 k0_hw19 k0_t6 => k0_hw19.2.2.2.2.2.2.2.2.2.2.2.2.2.2.2.2.1 k0_t6
theorem k0_off226_packedbf16 : ∀ (v0 : BitVec 32) (k0_hw19 : k0_chk19 v0) (k0_t6 : Fin (k0_t6_loop v0).trips), (Rect.unit (s := S2x256x1536) (k0_off226 v0 k0_t6) S1x256x768.size (k0_off226_inb v0 k0_hw19 k0_t6)).PackedRows (EltTy.packing .bf16) := fun v0 k0_hw19 k0_t6 => k0_hw19.2.2.2.2.2.2.2.2.2.2.2.2.2.2.2.2.2.1 k0_t6 (k0_off226_inb v0 k0_hw19 k0_t6)
theorem k0_off227_inb : ∀ (v0 : BitVec 32) (k0_hw19 : k0_chk19 v0) (k0_t6 : Fin (k0_t6_loop v0).trips), ∀ a, (k0_off227 v0 k0_t6) a + S1.size a ≤ S164.size a := fun v0 k0_hw19 k0_t6 => k0_hw19.2.2.2.2.2.2.2.2.2.2.2.2.2.2.2.2.2.2.1 k0_t6
theorem k0_off228_inb : ∀ (v0 : BitVec 32) (k0_hw19 : k0_chk19 v0) (k0_t6 : Fin (k0_t6_loop v0).trips), ∀ a, (k0_off228 v0 k0_t6) a + S1.size a ≤ S164.size a := fun v0 k0_hw19 k0_t6 => k0_hw19.2.2.2.2.2.2.2.2.2.2.2.2.2.2.2.2.2.2.2.1 k0_t6
theorem k0_off230_inb : ∀ (v0 : BitVec 32) (k0_hw19 : k0_chk19 v0) (k0_t6 : Fin (k0_t6_loop v0).trips), ∀ a, (k0_off230 v0 k0_t6) a + S1.size a ≤ S164.size a := fun v0 k0_hw19 k0_t6 => k0_hw19.2.2.2.2.2.2.2.2.2.2.2.2.2.2.2.2.2.2.2.2.1 k0_t6
theorem k0_off233_inb : ∀ (v0 : BitVec 32) (k0_hw19 : k0_chk19 v0) (k0_t6 : Fin (k0_t6_loop v0).trips), ∀ a, (k0_off233 v0 k0_t6) a + S1x256x768.size a ≤ S2x256x1536.size a := fun v0 k0_hw19 k0_t6 => k0_hw19.2.2.2.2.2.2.2.2.2.2.2.2.2.2.2.2.2.2.2.2.2.1 k0_t6
theorem k0_off233_packedbf16 : ∀ (v0 : BitVec 32) (k0_hw19 : k0_chk19 v0) (k0_t6 : Fin (k0_t6_loop v0).trips), (Rect.unit (s := S2x256x1536) (k0_off233 v0 k0_t6) S1x256x768.size (k0_off233_inb v0 k0_hw19 k0_t6)).PackedRows (EltTy.packing .bf16) := fun v0 k0_hw19 k0_t6 => k0_hw19.2.2.2.2.2.2.2.2.2.2.2.2.2.2.2.2.2.2.2.2.2.2.1 k0_t6 (k0_off233_inb v0 k0_hw19 k0_t6)
theorem k0_off234_inb : ∀ (v0 : BitVec 32) (k0_hw19 : k0_chk19 v0) (k0_t6 : Fin (k0_t6_loop v0).trips), ∀ a, (k0_off234 v0 k0_t6) a + S1.size a ≤ S2.size a := fun v0 k0_hw19 k0_t6 => k0_hw19.2.2.2.2.2.2.2.2.2.2.2.2.2.2.2.2.2.2.2.2.2.2.2.1 k0_t6
theorem k0_off235_inb : ∀ (v0 : BitVec 32) (k0_hw19 : k0_chk19 v0) (k0_t6 : Fin (k0_t6_loop v0).trips), ∀ a, (k0_off235 v0 k0_t6) a + S256x1536.size a ≤ S41984x1536.size a := fun v0 k0_hw19 k0_t6 => k0_hw19.2.2.2.2.2.2.2.2.2.2.2.2.2.2.2.2.2.2.2.2.2.2.2.2.1 k0_t6
theorem k0_off236_inb : ∀ (v0 : BitVec 32) (k0_hw19 : k0_chk19 v0) (k0_t6 : Fin (k0_t6_loop v0).trips), ∀ a, (k0_off236 v0 k0_t6) a + S1x256x1536.size a ≤ S2x256x1536.size a := fun v0 k0_hw19 k0_t6 => k0_hw19.2.2.2.2.2.2.2.2.2.2.2.2.2.2.2.2.2.2.2.2.2.2.2.2.2.1 k0_t6
theorem k0_off236_wordsbf16 : ∀ (v0 : BitVec 32) (k0_hw19 : k0_chk19 v0) (k0_t6 : Fin (k0_t6_loop v0).trips), (Rect.unit (s := S2x256x1536) (k0_off236 v0 k0_t6) S1x256x1536.size (k0_off236_inb v0 k0_hw19 k0_t6)).WholeWords (EltTy.packing .bf16) := fun v0 k0_hw19 k0_t6 => k0_hw19.2.2.2.2.2.2.2.2.2.2.2.2.2.2.2.2.2.2.2.2.2.2.2.2.2.2.1 k0_t6 (k0_off236_inb v0 k0_hw19 k0_t6)
theorem k0_off235_wordsbf16 : ∀ (v0 : BitVec 32) (k0_hw19 : k0_chk19 v0) (k0_t6 : Fin (k0_t6_loop v0).trips), (Rect.unit (s := S41984x1536) (k0_off235 v0 k0_t6) S256x1536.size (k0_off235_inb v0 k0_hw19 k0_t6)).WholeWords (EltTy.packing .bf16) := fun v0 k0_hw19 k0_t6 => k0_hw19.2.2.2.2.2.2.2.2.2.2.2.2.2.2.2.2.2.2.2.2.2.2.2.2.2.2.2.1 k0_t6 (k0_off235_inb v0 k0_hw19 k0_t6)
theorem k0_off237_inb : ∀ (v0 : BitVec 32) (k0_hw19 : k0_chk19 v0), ∀ (k0_h13 : k0_cond13 v0 = 1#1), ∀ a, (k0_off237 v0) a + S1.size a ≤ S2.size a := fun v0 k0_hw19 k0_h13 => k0_hw19.2.2.2.2.2.2.2.2.2.2.2.2.2.2.2.2.2.2.2.2.2.2.2.2.2.2.2.2.1 k0_h13
theorem k0_off238_inb : ∀ (v0 : BitVec 32) (k0_hw19 : k0_chk19 v0), ∀ (k0_h13 : k0_cond13 v0 = 1#1), ∀ a, (k0_off238 v0) a + S1x256x1536.size a ≤ S2x256x1536.size a := fun v0 k0_hw19 k0_h13 => k0_hw19.2.2.2.2.2.2.2.2.2.2.2.2.2.2.2.2.2.2.2.2.2.2.2.2.2.2.2.2.2.1 k0_h13
theorem k0_off238_wordsbf16 : ∀ (v0 : BitVec 32) (k0_hw19 : k0_chk19 v0), ∀ (k0_h13 : k0_cond13 v0 = 1#1), (Rect.unit (s := S2x256x1536) (k0_off238 v0) S1x256x1536.size (k0_off238_inb v0 k0_hw19 k0_h13)).WholeWords (EltTy.packing .bf16) := fun v0 k0_hw19 k0_h13 => k0_hw19.2.2.2.2.2.2.2.2.2.2.2.2.2.2.2.2.2.2.2.2.2.2.2.2.2.2.2.2.2.2.1 k0_h13 (k0_off238_inb v0 k0_hw19 k0_h13)
theorem k0_off239_inb : ∀ (v0 : BitVec 32) (k0_hw19 : k0_chk19 v0), ∀ a, (k0_off239 v0) a + S1.size a ≤ S2.size a := fun v0 k0_hw19 => k0_hw19.2.2.2.2.2.2.2.2.2.2.2.2.2.2.2.2.2.2.2.2.2.2.2.2.2.2.2.2.2.2.2.1
theorem k0_off240_inb : ∀ (v0 : BitVec 32) (k0_hw19 : k0_chk19 v0), ∀ a, (k0_off240 v0) a + S1x256x1536.size a ≤ S2x256x1536.size a := fun v0 k0_hw19 => k0_hw19.2.2.2.2.2.2.2.2.2.2.2.2.2.2.2.2.2.2.2.2.2.2.2.2.2.2.2.2.2.2.2.2.1
theorem k0_off240_wordsbf16 : ∀ (v0 : BitVec 32) (k0_hw19 : k0_chk19 v0), (Rect.unit (s := S2x256x1536) (k0_off240 v0) S1x256x1536.size (k0_off240_inb v0 k0_hw19)).WholeWords (EltTy.packing .bf16) := fun v0 k0_hw19 => k0_hw19.2.2.2.2.2.2.2.2.2.2.2.2.2.2.2.2.2.2.2.2.2.2.2.2.2.2.2.2.2.2.2.2.2 (k0_off240_inb v0 k0_hw19)

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S41984 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S164 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S164 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1 : Shape := ⟨1, ![1]⟩
abbrev S41984 : Shape := ⟨1, ![41984]⟩
abbrev S164 : Shape := ⟨1, ![164]⟩
abbrev S16384x5120 : Shape := ⟨2, ![16384, 5120]⟩
abbrev S8x5120x1536 : Shape := ⟨3, ![8, 5120, 1536]⟩
abbrev S8x1536 : Shape := ⟨2, ![8, 1536]⟩
abbrev S_ : Shape := ⟨0, ![]⟩
abbrev S16384x1x5120 : Shape := ⟨3, ![16384, 1, 5120]⟩
abbrev S16384x2x5120 : Shape := ⟨3, ![16384, 2, 5120]⟩
abbrev S32768x5120 : Shape := ⟨2, ![32768, 5120]⟩
abbrev S41984x1 : Shape := ⟨2, ![41984, 1]⟩
abbrev S41984x5120 : Shape := ⟨2, ![41984, 5120]⟩
abbrev S164x256x5120 : Shape := ⟨3, ![164, 256, 5120]⟩
abbrev S164x1 : Shape := ⟨2, ![164, 1]⟩
abbrev S164x5120x1536 : Shape := ⟨3, ![164, 5120, 1536]⟩
abbrev S164x1536 : Shape := ⟨2, ![164, 1536]⟩
abbrev S164x256x1536 : Shape := ⟨3, ![164, 256, 1536]⟩
abbrev S164x1x1536 : Shape := ⟨3, ![164, 1, 1536]⟩
abbrev S164x256x768 : Shape := ⟨3, ![164, 256, 768]⟩
abbrev S41984x1536 : Shape := ⟨2, ![41984, 1536]⟩

abbrev nBuf : Space → Nat
  | .hbm => 105
  | .vmem => 0
  | .smem => 0
  | _ => 0

abbrev bufTy : (tb : Table) → Fin (tcTables nBuf tb) → BufTy
  | .hbm, ⟨0, _⟩ => ⟨S1, .i32⟩
  | .hbm, ⟨1, _⟩ => ⟨S41984, .i32⟩
  | .hbm, ⟨2, _⟩ => ⟨S164, .i32⟩
  | .hbm, ⟨3, _⟩ => ⟨S164, .i32⟩
  | .hbm, ⟨4, _⟩ => ⟨S16384x5120, .i32⟩
  | .hbm, ⟨5, _⟩ => ⟨S8x5120x1536, .bf16⟩
  | .hbm, ⟨6, _⟩ => ⟨S8x1536, .bf16⟩
  | .hbm, ⟨7, _⟩ => ⟨S_, .i32⟩
  | .hbm, ⟨8, _⟩ => ⟨S16384x5120, .i32⟩
  | .hbm, ⟨9, _⟩ => ⟨S16384x5120, .i32⟩
  | .hbm, ⟨10, _⟩ => ⟨S16384x5120, .i16⟩
  | .hbm, ⟨11, _⟩ => ⟨S16384x5120, .bf16⟩
  | .hbm, ⟨12, _⟩ => ⟨S_, .i32⟩
  | .hbm, ⟨13, _⟩ => ⟨S16384x5120, .i32⟩
  | .hbm, ⟨14, _⟩ => ⟨S16384x5120, .i32⟩
  | .hbm, ⟨15, _⟩ => ⟨S16384x5120, .i16⟩
  | .hbm, ⟨16, _⟩ => ⟨S16384x5120, .bf16⟩
  | .hbm, ⟨17, _⟩ => ⟨S16384x1x5120, .bf16⟩
  | .hbm, ⟨18, _⟩ => ⟨S16384x1x5120, .bf16⟩
  | .hbm, ⟨19, _⟩ => ⟨S16384x2x5120, .bf16⟩
  | .hbm, ⟨20, _⟩ => ⟨S32768x5120, .bf16⟩
  | .hbm, ⟨21, _⟩ => ⟨S_, .i32⟩
  | .hbm, ⟨22, _⟩ => ⟨S41984, .i32⟩
  | .hbm, ⟨23, _⟩ => ⟨S41984, .i1⟩
  | .hbm, ⟨24, _⟩ => ⟨S_, .i32⟩
  | .hbm, ⟨25, _⟩ => ⟨S41984, .i32⟩
  | .hbm, ⟨26, _⟩ => ⟨S41984, .i32⟩
  | .hbm, ⟨27, _⟩ => ⟨S41984, .i32⟩
  | .hbm, ⟨28, _⟩ => ⟨S41984x1, .i32⟩
  | .hbm, ⟨29, _⟩ => ⟨S41984x5120, .bf16⟩
  | .hbm, ⟨30, _⟩ => ⟨S164x256x5120, .bf16⟩
  | .hbm, ⟨31, _⟩ => ⟨S_, .i32⟩
  | .hbm, ⟨32, _⟩ => ⟨S164, .i32⟩
  | .hbm, ⟨33, _⟩ => ⟨S164, .i1⟩
  | .hbm, ⟨34, _⟩ => ⟨S_, .i32⟩
  | .hbm, ⟨35, _⟩ => ⟨S164, .i32⟩
  | .hbm, ⟨36, _⟩ => ⟨S164, .i32⟩
  | .hbm, ⟨37, _⟩ => ⟨S164, .i32⟩
  | .hbm, ⟨38, _⟩ => ⟨S164x1, .i32⟩
  | .hbm, ⟨39, _⟩ => ⟨S164x5120x1536, .bf16⟩
  | .hbm, ⟨40, _⟩ => ⟨S_, .i32⟩
  | .hbm, ⟨41, _⟩ => ⟨S164, .i32⟩
  | .hbm, ⟨42, _⟩ => ⟨S164, .i1⟩
  | .hbm, ⟨43, _⟩ => ⟨S_, .i32⟩
  | .hbm, ⟨44, _⟩ => ⟨S164, .i32⟩
  | .hbm, ⟨45, _⟩ => ⟨S164, .i32⟩
  | .hbm, ⟨46, _⟩ => ⟨S164, .i32⟩
  | .hbm, ⟨47, _⟩ => ⟨S164x1, .i32⟩
  | .hbm, ⟨48, _⟩ => ⟨S164x1536, .bf16⟩
  | .hbm, ⟨49, _⟩ => ⟨S164x1536, .f32⟩
  | .hbm, ⟨50, _⟩ => ⟨S164x256x1536, .f32⟩
  | .hbm, ⟨51, _⟩ => ⟨S164x1x1536, .f32⟩
  | .hbm, ⟨52, _⟩ => ⟨S164x256x1536, .f32⟩
  | .hbm, ⟨53, _⟩ => ⟨S164x256x1536, .f32⟩
  | .hbm, ⟨54, _⟩ => ⟨S164x256x768, .f32⟩
  | .hbm, ⟨55, _⟩ => ⟨S164x256x768, .f32⟩
  | .hbm, ⟨56, _⟩ => ⟨S164x256x768, .f32⟩
  | .hbm, ⟨57, _⟩ => ⟨S_, .f32⟩
  | .hbm, ⟨58, _⟩ => ⟨S164x256x768, .f32⟩
  | .hbm, ⟨59, _⟩ => ⟨S164x256x768, .f32⟩
  | .hbm, ⟨60, _⟩ => ⟨S_, .f32⟩
  | .hbm, ⟨61, _⟩ => ⟨S164x256x768, .f32⟩
  | .hbm, ⟨62, _⟩ => ⟨S164x256x768, .f32⟩
  | .hbm, ⟨63, _⟩ => ⟨S164x256x768, .f32⟩
  | .hbm, ⟨64, _⟩ => ⟨S164x256x768, .f32⟩
  | .hbm, ⟨65, _⟩ => ⟨S164x256x768, .f32⟩
  | .hbm, ⟨66, _⟩ => ⟨S164x256x768, .bf16⟩
  | .hbm, ⟨67, _⟩ => ⟨S_, .i32⟩
  | .hbm, ⟨68, _⟩ => ⟨S164, .i32⟩
  | .hbm, ⟨69, _⟩ => ⟨S164, .i1⟩
  | .hbm, ⟨70, _⟩ => ⟨S_, .i32⟩
  | .hbm, ⟨71, _⟩ => ⟨S164, .i32⟩
  | .hbm, ⟨72, _⟩ => ⟨S164, .i32⟩
  | .hbm, ⟨73, _⟩ => ⟨S164, .i32⟩
  | .hbm, ⟨74, _⟩ => ⟨S164x1, .i32⟩
  | .hbm, ⟨75, _⟩ => ⟨S164x5120x1536, .bf16⟩
  | .hbm, ⟨76, _⟩ => ⟨S_, .i32⟩
  | .hbm, ⟨77, _⟩ => ⟨S164, .i32⟩
  | .hbm, ⟨78, _⟩ => ⟨S164, .i1⟩
  | .hbm, ⟨79, _⟩ => ⟨S_, .i32⟩
  | .hbm, ⟨80, _⟩ => ⟨S164, .i32⟩
  | .hbm, ⟨81, _⟩ => ⟨S164, .i32⟩
  | .hbm, ⟨82, _⟩ => ⟨S164, .i32⟩
  | .hbm, ⟨83, _⟩ => ⟨S164x1, .i32⟩
  | .hbm, ⟨84, _⟩ => ⟨S164x1536, .bf16⟩
  | .hbm, ⟨85, _⟩ => ⟨S164x1536, .f32⟩
  | .hbm, ⟨86, _⟩ => ⟨S164x256x1536, .f32⟩
  | .hbm, ⟨87, _⟩ => ⟨S164x1x1536, .f32⟩
  | .hbm, ⟨88, _⟩ => ⟨S164x256x1536, .f32⟩
  | .hbm, ⟨89, _⟩ => ⟨S164x256x1536, .f32⟩
  | .hbm, ⟨90, _⟩ => ⟨S164x256x768, .f32⟩
  | .hbm, ⟨91, _⟩ => ⟨S164x256x768, .f32⟩
  | .hbm, ⟨92, _⟩ => ⟨S164x256x768, .f32⟩
  | .hbm, ⟨93, _⟩ => ⟨S_, .f32⟩
  | .hbm, ⟨94, _⟩ => ⟨S164x256x768, .f32⟩
  | .hbm, ⟨95, _⟩ => ⟨S164x256x768, .f32⟩
  | .hbm, ⟨96, _⟩ => ⟨S_, .f32⟩
  | .hbm, ⟨97, _⟩ => ⟨S164x256x768, .f32⟩
  | .hbm, ⟨98, _⟩ => ⟨S164x256x768, .f32⟩
  | .hbm, ⟨99, _⟩ => ⟨S164x256x768, .f32⟩
  | .hbm, ⟨100, _⟩ => ⟨S164x256x768, .f32⟩
  | .hbm, ⟨101, _⟩ => ⟨S164x256x768, .f32⟩
  | .hbm, ⟨102, _⟩ => ⟨S164x256x768, .bf16⟩
  | .hbm, ⟨103, _⟩ => ⟨S164x256x1536, .bf16⟩
  | .hbm, ⟨104, _⟩ => ⟨S41984x1536, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Decode.lean ====
abbrev S8x1536x2560 : Shape := ⟨3, ![8, 1536, 2560]⟩
abbrev S8x1536x160 : Shape := ⟨3, ![8, 1536, 160]⟩
abbrev S8x160x1536 : Shape := ⟨3, ![8, 160, 1536]⟩
abbrev S_ : Shape := ⟨0, ![]⟩
abbrev S8x5120x1536 : Shape := ⟨3, ![8, 5120, 1536]⟩
abbrev S1x256x1280 : Shape := ⟨3, ![1, 256, 1280]⟩
abbrev S1x80x256 : Shape := ⟨3, ![1, 80, 256]⟩
abbrev S1x2560x256 : Shape := ⟨3, ![1, 2560, 256]⟩
abbrev S256x1280 : Shape := ⟨2, ![256, 1280]⟩
abbrev S64x1280 : Shape := ⟨2, ![64, 1280]⟩
abbrev S1280x256 : Shape := ⟨2, ![1280, 256]⟩
abbrev S80x256 : Shape := ⟨2, ![80, 256]⟩
abbrev S80x1x256 : Shape := ⟨3, ![80, 1, 256]⟩
abbrev S80x16x256 : Shape := ⟨3, ![80, 16, 256]⟩
abbrev S2560x256 : Shape := ⟨2, ![2560, 256]⟩

abbrev nBuf : Space → Nat
  | .hbm => 12
  | .vmem => 6
  | .smem => 0
  | _ => 0

abbrev bufTy : (tb : Table) → Fin (tcTables nBuf tb) → BufTy
  | .hbm, ⟨0, _⟩ => ⟨S8x1536x2560, .i8⟩
  | .hbm, ⟨1, _⟩ => ⟨S8x1536x160, .i8⟩
  | .hbm, ⟨2, _⟩ => ⟨S8x160x1536, .i8⟩
  | .hbm, ⟨3, _⟩ => ⟨S8x160x1536, .i32⟩
  | .hbm, ⟨4, _⟩ => ⟨S_, .i32⟩
  | .hbm, ⟨5, _⟩ => ⟨S8x160x1536, .i32⟩
  | .hbm, ⟨6, _⟩ => ⟨S8x160x1536, .i32⟩
  | .hbm, ⟨7, _⟩ => ⟨S_, .i32⟩
  | .hbm, ⟨8, _⟩ => ⟨S8x160x1536, .i32⟩
  | .hbm, ⟨9, _⟩ => ⟨S8x160x1536, .i32⟩
  | .hbm, ⟨10, _⟩ => ⟨S8x160x1536, .i32⟩
  | .hbm, ⟨11, _⟩ => ⟨S8x5120x1536, .bf16⟩
  | .local _ .vmem, ⟨0, _⟩ => ⟨S1x256x1280, .i8⟩
  | .local _ .vmem, ⟨1, _⟩ => ⟨S1x256x1280, .i8⟩
  | .local _ .vmem, ⟨2, _⟩ => ⟨S1x80x256, .i32⟩
  | .local _ .vmem, ⟨3, _⟩ => ⟨S1x80x256, .i32⟩
  | .local _ .vmem, ⟨4, _⟩ => ⟨S1x2560x256, .bf16⟩
  | .local _ .vmem, ⟨5, _⟩ => ⟨S1x2560x256, .bf16⟩
  | _, _ => ⟨S8x1536x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![8, 6, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x80x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DecodeIdeal.lean ====
variable {F : FTy → Type} [FloatOps F]
-- ==== DecodedIdeal.lean ====
abbrev S8x1536x2560 : Shape := ⟨3, ![8, 1536, 2560]⟩
abbrev S8x1536x160 : Shape := ⟨3, ![8, 1536, 160]⟩
abbrev S8x2560x1536 : Shape := ⟨3, ![8, 2560, 1536]⟩
abbrev S8x160x1536 : Shape := ⟨3, ![8, 160, 1536]⟩
abbrev S_ : Shape := ⟨0, ![]⟩
abbrev S8x2560x1x1536 : Shape := ⟨4, ![8, 2560, 1, 1536]⟩
abbrev S8x2560x2x1536 : Shape := ⟨4, ![8, 2560, 2, 1536]⟩
abbrev S8x160x32x1536 : Shape := ⟨4, ![8, 160, 32, 1536]⟩
abbrev S8x160x1x1536 : Shape := ⟨4, ![8, 160, 1, 1536]⟩
abbrev S8x5120x1536 : Shape := ⟨3, ![8, 5120, 1536]⟩

abbrev nBuf : Space → Nat
  | .hbm => 126
  | .vmem => 0
  | .smem => 0
  | _ => 0

abbrev bufTy : (tb : Table) → Fin (tcTables nBuf tb) → BufTy
  | .hbm, ⟨0, _⟩ => ⟨S8x1536x2560, .i8⟩
  | .hbm, ⟨1, _⟩ => ⟨S8x1536x160, .i8⟩
  | .hbm, ⟨2, _⟩ => ⟨S8x2560x1536, .i8⟩
  | .hbm, ⟨3, _⟩ => ⟨S8x2560x1536, .i32⟩
  | .hbm, ⟨4, _⟩ => ⟨S8x160x1536, .i8⟩
  | .hbm, ⟨5, _⟩ => ⟨S8x160x1536, .i32⟩
  | .hbm, ⟨6, _⟩ => ⟨S_, .i32⟩
  | .hbm, ⟨7, _⟩ => ⟨S8x160x1536, .i32⟩
  | .hbm, ⟨8, _⟩ => ⟨S8x160x1536, .i32⟩
  | .hbm, ⟨9, _⟩ => ⟨S8x160x1536, .f32⟩
  | .hbm, ⟨10, _⟩ => ⟨S_, .f32⟩
  | .hbm, ⟨11, _⟩ => ⟨S8x160x1536, .f32⟩
  | .hbm, ⟨12, _⟩ => ⟨S8x160x1536, .f32⟩
  | .hbm, ⟨13, _⟩ => ⟨S8x160x1536, .bf16⟩
  | .hbm, ⟨14, _⟩ => ⟨S_, .i32⟩
  | .hbm, ⟨15, _⟩ => ⟨S8x2560x1536, .i32⟩
  | .hbm, ⟨16, _⟩ => ⟨S8x2560x1536, .i32⟩
  | .hbm, ⟨17, _⟩ => ⟨S_, .i32⟩
  | .hbm, ⟨18, _⟩ => ⟨S8x2560x1536, .i32⟩
  | .hbm, ⟨19, _⟩ => ⟨S8x2560x1536, .i32⟩
  | .hbm, ⟨20, _⟩ => ⟨S_, .i32⟩
  | .hbm, ⟨21, _⟩ => ⟨S8x2560x1536, .i32⟩
  | .hbm, ⟨22, _⟩ => ⟨S8x2560x1536, .i1⟩
  | .hbm, ⟨23, _⟩ => ⟨S_, .i32⟩
  | .hbm, ⟨24, _⟩ => ⟨S8x2560x1536, .i32⟩
  | .hbm, ⟨25, _⟩ => ⟨S8x2560x1536, .i32⟩
  | .hbm, ⟨26, _⟩ => ⟨S_, .i32⟩
  | .hbm, ⟨27, _⟩ => ⟨S8x2560x1536, .i32⟩
  | .hbm, ⟨28, _⟩ => ⟨S8x2560x1536, .i1⟩
  | .hbm, ⟨29, _⟩ => ⟨S_, .i32⟩
  | .hbm, ⟨30, _⟩ => ⟨S8x2560x1536, .i32⟩
  | .hbm, ⟨31, _⟩ => ⟨S8x2560x1536, .i32⟩
  | .hbm, ⟨32, _⟩ => ⟨S_, .i32⟩
  | .hbm, ⟨33, _⟩ => ⟨S8x2560x1536, .i32⟩
  | .hbm, ⟨34, _⟩ => ⟨S8x2560x1536, .i1⟩
  | .hbm, ⟨35, _⟩ => ⟨S_, .i32⟩
  | .hbm, ⟨36, _⟩ => ⟨S8x2560x1536, .i32⟩
  | .hbm, ⟨37, _⟩ => ⟨S8x2560x1536, .i32⟩
  | .hbm, ⟨38, _⟩ => ⟨S_, .i32⟩
  | .hbm, ⟨39, _⟩ => ⟨S8x2560x1536, .i32⟩
  | .hbm, ⟨40, _⟩ => ⟨S8x2560x1536, .i1⟩
  | .hbm, ⟨41, _⟩ => ⟨S_, .bf16⟩
  | .hbm, ⟨42, _⟩ => ⟨S_, .bf16⟩
  | .hbm, ⟨43, _⟩ => ⟨S8x2560x1536, .bf16⟩
  | .hbm, ⟨44, _⟩ => ⟨S8x2560x1536, .bf16⟩
  | .hbm, ⟨45, _⟩ => ⟨S8x2560x1536, .bf16⟩
  | .hbm, ⟨46, _⟩ => ⟨S_, .bf16⟩
  | .hbm, ⟨47, _⟩ => ⟨S_, .bf16⟩
  | .hbm, ⟨48, _⟩ => ⟨S8x2560x1536, .bf16⟩
  | .hbm, ⟨49, _⟩ => ⟨S8x2560x1536, .bf16⟩
  | .hbm, ⟨50, _⟩ => ⟨S8x2560x1536, .bf16⟩
  | .hbm, ⟨51, _⟩ => ⟨S8x2560x1536, .bf16⟩
  | .hbm, ⟨52, _⟩ => ⟨S_, .bf16⟩
  | .hbm, ⟨53, _⟩ => ⟨S_, .bf16⟩
  | .hbm, ⟨54, _⟩ => ⟨S8x2560x1536, .bf16⟩
  | .hbm, ⟨55, _⟩ => ⟨S8x2560x1536, .bf16⟩
  | .hbm, ⟨56, _⟩ => ⟨S8x2560x1536, .bf16⟩
  | .hbm, ⟨57, _⟩ => ⟨S_, .bf16⟩
  | .hbm, ⟨58, _⟩ => ⟨S_, .bf16⟩
  | .hbm, ⟨59, _⟩ => ⟨S8x2560x1536, .bf16⟩
  | .hbm, ⟨60, _⟩ => ⟨S8x2560x1536, .bf16⟩
  | .hbm, ⟨61, _⟩ => ⟨S8x2560x1536, .bf16⟩
  | .hbm, ⟨62, _⟩ => ⟨S8x2560x1536, .bf16⟩
  | .hbm, ⟨63, _⟩ => ⟨S8x2560x1536, .bf16⟩
  | .hbm, ⟨64, _⟩ => ⟨S8x2560x1536, .bf16⟩
  | .hbm, ⟨65, _⟩ => ⟨S8x2560x1536, .bf16⟩
  | .hbm, ⟨66, _⟩ => ⟨S_, .i32⟩
  | .hbm, ⟨67, _⟩ => ⟨S8x2560x1536, .i32⟩
  | .hbm, ⟨68, _⟩ => ⟨S8x2560x1536, .i32⟩
  | .hbm, ⟨69, _⟩ => ⟨S_, .i32⟩
  | .hbm, ⟨70, _⟩ => ⟨S8x2560x1536, .i32⟩
  | .hbm, ⟨71, _⟩ => ⟨S8x2560x1536, .i32⟩
  | .hbm, ⟨72, _⟩ => ⟨S_, .i32⟩
  | .hbm, ⟨73, _⟩ => ⟨S8x2560x1536, .i32⟩
  | .hbm, ⟨74, _⟩ => ⟨S8x2560x1536, .i1⟩
  | .hbm, ⟨75, _⟩ => ⟨S_, .i32⟩
  | .hbm, ⟨76, _⟩ => ⟨S8x2560x1536, .i32⟩
  | .hbm, ⟨77, _⟩ => ⟨S8x2560x1536, .i32⟩
  | .hbm, ⟨78, _⟩ => ⟨S_, .i32⟩
  | .hbm, ⟨79, _⟩ => ⟨S8x2560x1536, .i32⟩
  | .hbm, ⟨80, _⟩ => ⟨S8x2560x1536, .i1⟩
  | .hbm, ⟨81, _⟩ => ⟨S_, .i32⟩
  | .hbm, ⟨82, _⟩ => ⟨S8x2560x1536, .i32⟩
  | .hbm, ⟨83, _⟩ => ⟨S8x2560x1536, .i32⟩
  | .hbm, ⟨84, _⟩ => ⟨S_, .i32⟩
  | .hbm, ⟨85, _⟩ => ⟨S8x2560x1536, .i32⟩
  | .hbm, ⟨86, _⟩ => ⟨S8x2560x1536, .i1⟩
  | .hbm, ⟨87, _⟩ => ⟨S_, .i32⟩
  | .hbm, ⟨88, _⟩ => ⟨S8x2560x1536, .i32⟩
  | .hbm, ⟨89, _⟩ => ⟨S8x2560x1536, .i32⟩
  | .hbm, ⟨90, _⟩ => ⟨S_, .i32⟩
  | .hbm, ⟨91, _⟩ => ⟨S8x2560x1536, .i32⟩
  | .hbm, ⟨92, _⟩ => ⟨S8x2560x1536, .i1⟩
  | .hbm, ⟨93, _⟩ => ⟨S_, .bf16⟩
  | .hbm, ⟨94, _⟩ => ⟨S_, .bf16⟩
  | .hbm, ⟨95, _⟩ => ⟨S8x2560x1536, .bf16⟩
  | .hbm, ⟨96, _⟩ => ⟨S8x2560x1536, .bf16⟩
  | .hbm, ⟨97, _⟩ => ⟨S8x2560x1536, .bf16⟩
  | .hbm, ⟨98, _⟩ => ⟨S_, .bf16⟩
  | .hbm, ⟨99, _⟩ => ⟨S_, .bf16⟩
  | .hbm, ⟨100, _⟩ => ⟨S8x2560x1536, .bf16⟩
  | .hbm, ⟨101, _⟩ => ⟨S8x2560x1536, .bf16⟩
  | .hbm, ⟨102, _⟩ => ⟨S8x2560x1536, .bf16⟩
  | .hbm, ⟨103, _⟩ => ⟨S8x2560x1536, .bf16⟩
  | .hbm, ⟨104, _⟩ => ⟨S_, .bf16⟩
  | .hbm, ⟨105, _⟩ => ⟨S_, .bf16⟩
  | .hbm, ⟨106, _⟩ => ⟨S8x2560x1536, .bf16⟩
  | .hbm, ⟨107, _⟩ => ⟨S8x2560x1536, .bf16⟩
  | .hbm, ⟨108, _⟩ => ⟨S8x2560x1536, .bf16⟩
  | .hbm, ⟨109, _⟩ => ⟨S_, .bf16⟩
  | .hbm, ⟨110, _⟩ => ⟨S_, .bf16⟩
  | .hbm, ⟨111, _⟩ => ⟨S8x2560x1536, .bf16⟩
  | .hbm, ⟨112, _⟩ => ⟨S8x2560x1536, .bf16⟩
  | .hbm, ⟨113, _⟩ => ⟨S8x2560x1536, .bf16⟩
  | .hbm, ⟨114, _⟩ => ⟨S8x2560x1536, .bf16⟩
  | .hbm, ⟨115, _⟩ => ⟨S8x2560x1536, .bf16⟩
  | .hbm, ⟨116, _⟩ => ⟨S8x2560x1536, .bf16⟩
  | .hbm, ⟨117, _⟩ => ⟨S8x2560x1536, .bf16⟩
  | .hbm, ⟨118, _⟩ => ⟨S8x2560x1x1536, .bf16⟩
  | .hbm, ⟨119, _⟩ => ⟨S8x2560x1x1536, .bf16⟩
  | .hbm, ⟨120, _⟩ => ⟨S8x2560x2x1536, .bf16⟩
  | .hbm, ⟨121, _⟩ => ⟨S8x160x32x1536, .bf16⟩
  | .hbm, ⟨122, _⟩ => ⟨S8x160x1x1536, .bf16⟩
  | .hbm, ⟨123, _⟩ => ⟨S8x160x32x1536, .bf16⟩
  | .hbm, ⟨124, _⟩ => ⟨S8x160x32x1536, .bf16⟩
  | .hbm, ⟨125, _⟩ => ⟨S8x5120x1536, .bf16⟩
  | _, _ => ⟨S8x1536x2560, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_cst_10 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_cst_11 : Ref sig .tc := ⟨.hbm, 46, rfl⟩
abbrev main_cst_12 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_cst_13 : Ref sig .tc := ⟨.hbm, 52, rfl⟩
abbrev main_cst_14 : Ref sig .tc := ⟨.hbm, 53, rfl⟩
abbrev main_call3_v0 : Ref sig .tc := ⟨.hbm, 54, rfl⟩
abbrev main_call3_v1 : Ref sig .tc := ⟨.hbm, 55, rfl⟩
abbrev main_v31 : Ref sig .tc := ⟨.hbm, 56, rfl⟩
abbrev main_cst_15 : Ref sig .tc := ⟨.hbm, 57, rfl⟩
abbrev main_cst_16 : Ref sig .tc := ⟨.hbm, 58, rfl⟩
abbrev main_call4_v0 : Ref sig .tc := ⟨.hbm, 59, rfl⟩
abbrev main_call4_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_17 : Ref sig .tc := ⟨.hbm, 66, rfl⟩
abbrev main_v37 : Ref sig .tc := ⟨.hbm, 67, rfl⟩
abbrev main_v38 : Ref sig .tc := ⟨.hbm, 68, rfl⟩
abbrev main_c_18 : Ref sig .tc := ⟨.hbm, 69, rfl⟩
abbrev main_v39 : Ref sig .tc := ⟨.hbm, 70, rfl⟩
abbrev main_v40 : Ref sig .tc := ⟨.hbm, 71, rfl⟩
abbrev main_c_19 : Ref sig .tc := ⟨.hbm, 72, rfl⟩
abbrev main_v41 : Ref sig .tc := ⟨.hbm, 73, rfl⟩
abbrev main_v42 : Ref sig .tc := ⟨.hbm, 74, rfl⟩
abbrev main_c_20 : Ref sig .tc := ⟨.hbm, 75, rfl⟩
abbrev main_v43 : Ref sig .tc := ⟨.hbm, 76, rfl⟩
abbrev main_v44 : Ref sig .tc := ⟨.hbm, 77, rfl⟩
abbrev main_c_21 : Ref sig .tc := ⟨.hbm, 78, rfl⟩
abbrev main_v45 : Ref sig .tc := ⟨.hbm, 79, rfl⟩
abbrev main_v46 : Ref sig .tc := ⟨.hbm, 80, rfl⟩
abbrev main_c_22 : Ref sig .tc := ⟨.hbm, 81, rfl⟩
abbrev main_v47 : Ref sig .tc := ⟨.hbm, 82, rfl⟩
abbrev main_v48 : Ref sig .tc := ⟨.hbm, 83, rfl⟩
abbrev main_c_23 : Ref sig .tc := ⟨.hbm, 84, rfl⟩
abbrev main_v49 : Ref sig .tc := ⟨.hbm, 85, rfl⟩
abbrev main_v50 : Ref sig .tc := ⟨.hbm, 86, rfl⟩
abbrev main_c_24 : Ref sig .tc := ⟨.hbm, 87, rfl⟩
abbrev main_v51 : Ref sig .tc := ⟨.hbm, 88, rfl⟩
abbrev main_v52 : Ref sig .tc := ⟨.hbm, 89, rfl⟩
abbrev main_c_25 : Ref sig .tc := ⟨.hbm, 90, rfl⟩
abbrev main_v53 : Ref sig .tc := ⟨.hbm, 91, rfl⟩
abbrev main_v54 : Ref sig .tc := ⟨.hbm, 92, rfl⟩
abbrev main_cst_26 : Ref sig .tc := ⟨.hbm, 93, rfl⟩
abbrev main_cst_27 : Ref sig .tc := ⟨.hbm, 94, rfl⟩
abbrev main_call8_v0 : Ref sig .tc := ⟨.hbm, 95, rfl⟩
abbrev main_call8_v1 : Ref sig .tc := ⟨.hbm, 96, rfl⟩
abbrev main_v55 : Ref sig .tc := ⟨.hbm, 97, rfl⟩
abbrev main_cst_28 : Ref sig .tc := ⟨.hbm, 98, rfl⟩
abbrev main_cst_29 : Ref sig .tc := ⟨.hbm, 99, rfl⟩
abbrev main_call9_v0 : Ref sig .tc := ⟨.hbm, 100, rfl⟩
abbrev main_call9_v1 : Ref sig .tc := ⟨.hbm, 101, rfl⟩
abbrev main_v56 : Ref sig .tc := ⟨.hbm, 102, rfl⟩
abbrev main_v57 : Ref sig .tc := ⟨.hbm, 103, rfl⟩
abbrev main_cst_30 : Ref sig .tc := ⟨.hbm, 104, rfl⟩
abbrev main_cst_31 : Ref sig .tc := ⟨.hbm, 105, rfl⟩
abbrev main_call11_v0 : Ref sig .tc := ⟨.hbm, 106, rfl⟩
abbrev main_call11_v1 : Ref sig .tc := ⟨.hbm, 107, rfl⟩
abbrev main_v58 : Ref sig .tc := ⟨.hbm, 108, rfl⟩
abbrev main_cst_32 : Ref sig .tc := ⟨.hbm, 109, rfl⟩
abbrev main_cst_33 : Ref sig .tc := ⟨.hbm, 110, rfl⟩
abbrev main_call12_v0 : Ref sig .tc := ⟨.hbm, 111, rfl⟩
abbrev main_call12_v1 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩

abbrev nD : Nat := 1
abbrev τ : Topo := Topo.v7x

variable {F : FTy → Type} [FloatOps F]
-- ==== DecodeDown.lean ====
abbrev S8x5120x384 : Shape := ⟨3, ![8, 5120, 384]⟩
abbrev S8x5120x24 : Shape := ⟨3, ![8, 5120, 24]⟩
abbrev S8x24x5120 : Shape := ⟨3, ![8, 24, 5120]⟩
abbrev S_ : Shape := ⟨0, ![]⟩
abbrev S8x768x5120 : Shape := ⟨3, ![8, 768, 5120]⟩
abbrev S1x1024x384 : Shape := ⟨3, ![1, 1024, 384]⟩
abbrev S1x24x1024 : Shape := ⟨3, ![1, 24, 1024]⟩
abbrev S1x768x1024 : Shape := ⟨3, ![1, 768, 1024]⟩
abbrev S1024x384 : Shape := ⟨2, ![1024, 384]⟩
abbrev S256x384 : Shape := ⟨2, ![256, 384]⟩
abbrev S384x1024 : Shape := ⟨2, ![384, 1024]⟩
abbrev S24x1024 : Shape := ⟨2, ![24, 1024]⟩
abbrev S24x1x1024 : Shape := ⟨3, ![24, 1, 1024]⟩
abbrev S24x16x1024 : Shape := ⟨3, ![24, 16, 1024]⟩
abbrev S768x1024 : Shape := ⟨2, ![768, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8x5120x384, .i8⟩
  | .hbm, ⟨1, _⟩ => ⟨S8x5120x24, .i8⟩
  | .hbm, ⟨2, _⟩ => ⟨S8x24x5120, .i8⟩
  | .hbm, ⟨3, _⟩ => ⟨S8x24x5120, .i32⟩
  | .hbm, ⟨4, _⟩ => ⟨S_, .i32⟩
  | .hbm, ⟨5, _⟩ => ⟨S8x24x5120, .i32⟩
  | .hbm, ⟨6, _⟩ => ⟨S8x24x5120, .i32⟩
  | .hbm, ⟨7, _⟩ => ⟨S_, .i32⟩
  | .hbm, ⟨8, _⟩ => ⟨S8x24x5120, .i32⟩
  | .hbm, ⟨9, _⟩ => ⟨S8x24x5120, .i32⟩
  | .hbm, ⟨10, _⟩ => ⟨S8x24x5120, .i32⟩
  | .hbm, ⟨11, _⟩ => ⟨S8x768x5120, .bf16⟩
  | .local _ .vmem, ⟨0, _⟩ => ⟨S1x1024x384, .i8⟩
  | .local _ .vmem, ⟨1, _⟩ => ⟨S1x1024x384, .i8⟩
  | .local _ .vmem, ⟨2, _⟩ => ⟨S1x24x1024, .i32⟩
  | .local _ .vmem, ⟨3, _⟩ => ⟨S1x24x1024, .i32⟩
  | .local _ .vmem, ⟨4, _⟩ => ⟨S1x768x1024, .bf16⟩
  | .local _ .vmem, ⟨5, _⟩ => ⟨S1x768x1024, .bf16⟩
  | _, _ => ⟨S8x5120x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![8, 5, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x24x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DecodeDownIdeal.lean ====
variable {F : FTy → Type} [FloatOps F]
-- ==== DecodedDownIdeal.lean ====
abbrev S8x5120x384 : Shape := ⟨3, ![8, 5120, 384]⟩
abbrev S8x5120x24 : Shape := ⟨3, ![8, 5120, 24]⟩
abbrev S8x384x5120 : Shape := ⟨3, ![8, 384, 5120]⟩
abbrev S8x24x5120 : Shape := ⟨3, ![8, 24, 5120]⟩
abbrev S_ : Shape := ⟨0, ![]⟩
abbrev S8x384x1x5120 : Shape := ⟨4, ![8, 384, 1, 5120]⟩
abbrev S8x384x2x5120 : Shape := ⟨4, ![8, 384, 2, 5120]⟩
abbrev S8x24x32x5120 : Shape := ⟨4, ![8, 24, 32, 5120]⟩
abbrev S8x24x1x5120 : Shape := ⟨4, ![8, 24, 1, 5120]⟩
abbrev S8x768x5120 : Shape := ⟨3, ![8, 768, 5120]⟩

abbrev nBuf : Space → Nat
  | .hbm => 126
  | .vmem => 0
  | .smem => 0
  | _ => 0

abbrev bufTy : (tb : Table) → Fin (tcTables nBuf tb) → BufTy
  | .hbm, ⟨0, _⟩ => ⟨S8x5120x384, .i8⟩
  | .hbm, ⟨1, _⟩ => ⟨S8x5120x24, .i8⟩
  | .hbm, ⟨2, _⟩ => ⟨S8x384x5120, .i8⟩
  | .hbm, ⟨3, _⟩ => ⟨S8x384x5120, .i32⟩
  | .hbm, ⟨4, _⟩ => ⟨S8x24x5120, .i8⟩
  | .hbm, ⟨5, _⟩ => ⟨S8x24x5120, .i32⟩
  | .hbm, ⟨6, _⟩ => ⟨S_, .i32⟩
  | .hbm, ⟨7, _⟩ => ⟨S8x24x5120, .i32⟩
  | .hbm, ⟨8, _⟩ => ⟨S8x24x5120, .i32⟩
  | .hbm, ⟨9, _⟩ => ⟨S8x24x5120, .f32⟩
  | .hbm, ⟨10, _⟩ => ⟨S_, .f32⟩
  | .hbm, ⟨11, _⟩ => ⟨S8x24x5120, .f32⟩
  | .hbm, ⟨12, _⟩ => ⟨S8x24x5120, .f32⟩
  | .hbm, ⟨13, _⟩ => ⟨S8x24x5120, .bf16⟩
  | .hbm, ⟨14, _⟩ => ⟨S_, .i32⟩
  | .hbm, ⟨15, _⟩ => ⟨S8x384x5120, .i32⟩
  | .hbm, ⟨16, _⟩ => ⟨S8x384x5120, .i32⟩
  | .hbm, ⟨17, _⟩ => ⟨S_, .i32⟩
  | .hbm, ⟨18, _⟩ => ⟨S8x384x5120, .i32⟩
  | .hbm, ⟨19, _⟩ => ⟨S8x384x5120, .i32⟩
  | .hbm, ⟨20, _⟩ => ⟨S_, .i32⟩
  | .hbm, ⟨21, _⟩ => ⟨S8x384x5120, .i32⟩
  | .hbm, ⟨22, _⟩ => ⟨S8x384x5120, .i1⟩
  | .hbm, ⟨23, _⟩ => ⟨S_, .i32⟩
  | .hbm, ⟨24, _⟩ => ⟨S8x384x5120, .i32⟩
  | .hbm, ⟨25, _⟩ => ⟨S8x384x5120, .i32⟩
  | .hbm, ⟨26, _⟩ => ⟨S_, .i32⟩
  | .hbm, ⟨27, _⟩ => ⟨S8x384x5120, .i32⟩
  | .hbm, ⟨28, _⟩ => ⟨S8x384x5120, .i1⟩
  | .hbm, ⟨29, _⟩ => ⟨S_, .i32⟩
  | .hbm, ⟨30, _⟩ => ⟨S8x384x5120, .i32⟩
  | .hbm, ⟨31, _⟩ => ⟨S8x384x5120, .i32⟩
  | .hbm, ⟨32, _⟩ => ⟨S_, .i32⟩
  | .hbm, ⟨33, _⟩ => ⟨S8x384x5120, .i32⟩
  | .hbm, ⟨34, _⟩ => ⟨S8x384x5120, .i1⟩
  | .hbm, ⟨35, _⟩ => ⟨S_, .i32⟩
  | .hbm, ⟨36, _⟩ => ⟨S8x384x5120, .i32⟩
  | .hbm, ⟨37, _⟩ => ⟨S8x384x5120, .i32⟩
  | .hbm, ⟨38, _⟩ => ⟨S_, .i32⟩
  | .hbm, ⟨39, _⟩ => ⟨S8x384x5120, .i32⟩
  | .hbm, ⟨40, _⟩ => ⟨S8x384x5120, .i1⟩
  | .hbm, ⟨41, _⟩ => ⟨S_, .bf16⟩
  | .hbm, ⟨42, _⟩ => ⟨S_, .bf16⟩
  | .hbm, ⟨43, _⟩ => ⟨S8x384x5120, .bf16⟩
  | .hbm, ⟨44, _⟩ => ⟨S8x384x5120, .bf16⟩
  | .hbm, ⟨45, _⟩ => ⟨S8x384x5120, .bf16⟩
  | .hbm, ⟨46, _⟩ => ⟨S_, .bf16⟩
  | .hbm, ⟨47, _⟩ => ⟨S_, .bf16⟩
  | .hbm, ⟨48, _⟩ => ⟨S8x384x5120, .bf16⟩
  | .hbm, ⟨49, _⟩ => ⟨S8x384x5120, .bf16⟩
  | .hbm, ⟨50, _⟩ => ⟨S8x384x5120, .bf16⟩
  | .hbm, ⟨51, _⟩ => ⟨S8x384x5120, .bf16⟩
  | .hbm, ⟨52, _⟩ => ⟨S_, .bf16⟩
  | .hbm, ⟨53, _⟩ => ⟨S_, .bf16⟩
  | .hbm, ⟨54, _⟩ => ⟨S8x384x5120, .bf16⟩
  | .hbm, ⟨55, _⟩ => ⟨S8x384x5120, .bf16⟩
  | .hbm, ⟨56, _⟩ => ⟨S8x384x5120, .bf16⟩
  | .hbm, ⟨57, _⟩ => ⟨S_, .bf16⟩
  | .hbm, ⟨58, _⟩ => ⟨S_, .bf16⟩
  | .hbm, ⟨59, _⟩ => ⟨S8x384x5120, .bf16⟩
  | .hbm, ⟨60, _⟩ => ⟨S8x384x5120, .bf16⟩
  | .hbm, ⟨61, _⟩ => ⟨S8x384x5120, .bf16⟩
  | .hbm, ⟨62, _⟩ => ⟨S8x384x5120, .bf16⟩
  | .hbm, ⟨63, _⟩ => ⟨S8x384x5120, .bf16⟩
  | .hbm, ⟨64, _⟩ => ⟨S8x384x5120, .bf16⟩
  | .hbm, ⟨65, _⟩ => ⟨S8x384x5120, .bf16⟩
  | .hbm, ⟨66, _⟩ => ⟨S_, .i32⟩
  | .hbm, ⟨67, _⟩ => ⟨S8x384x5120, .i32⟩
  | .hbm, ⟨68, _⟩ => ⟨S8x384x5120, .i32⟩
  | .hbm, ⟨69, _⟩ => ⟨S_, .i32⟩
  | .hbm, ⟨70, _⟩ => ⟨S8x384x5120, .i32⟩
  | .hbm, ⟨71, _⟩ => ⟨S8x384x5120, .i32⟩
  | .hbm, ⟨72, _⟩ => ⟨S_, .i32⟩
  | .hbm, ⟨73, _⟩ => ⟨S8x384x5120, .i32⟩
  | .hbm, ⟨74, _⟩ => ⟨S8x384x5120, .i1⟩
  | .hbm, ⟨75, _⟩ => ⟨S_, .i32⟩
  | .hbm, ⟨76, _⟩ => ⟨S8x384x5120, .i32⟩
  | .hbm, ⟨77, _⟩ => ⟨S8x384x5120, .i32⟩
  | .hbm, ⟨78, _⟩ => ⟨S_, .i32⟩
  | .hbm, ⟨79, _⟩ => ⟨S8x384x5120, .i32⟩
  | .hbm, ⟨80, _⟩ => ⟨S8x384x5120, .i1⟩
  | .hbm, ⟨81, _⟩ => ⟨S_, .i32⟩
  | .hbm, ⟨82, _⟩ => ⟨S8x384x5120, .i32⟩
  | .hbm, ⟨83, _⟩ => ⟨S8x384x5120, .i32⟩
  | .hbm, ⟨84, _⟩ => ⟨S_, .i32⟩
  | .hbm, ⟨85, _⟩ => ⟨S8x384x5120, .i32⟩
  | .hbm, ⟨86, _⟩ => ⟨S8x384x5120, .i1⟩
  | .hbm, ⟨87, _⟩ => ⟨S_, .i32⟩
  | .hbm, ⟨88, _⟩ => ⟨S8x384x5120, .i32⟩
  | .hbm, ⟨89, _⟩ => ⟨S8x384x5120, .i32⟩
  | .hbm, ⟨90, _⟩ => ⟨S_, .i32⟩
  | .hbm, ⟨91, _⟩ => ⟨S8x384x5120, .i32⟩
  | .hbm, ⟨92, _⟩ => ⟨S8x384x5120, .i1⟩
  | .hbm, ⟨93, _⟩ => ⟨S_, .bf16⟩
  | .hbm, ⟨94, _⟩ => ⟨S_, .bf16⟩
  | .hbm, ⟨95, _⟩ => ⟨S8x384x5120, .bf16⟩
  | .hbm, ⟨96, _⟩ => ⟨S8x384x5120, .bf16⟩
  | .hbm, ⟨97, _⟩ => ⟨S8x384x5120, .bf16⟩
  | .hbm, ⟨98, _⟩ => ⟨S_, .bf16⟩
  | .hbm, ⟨99, _⟩ => ⟨S_, .bf16⟩
  | .hbm, ⟨100, _⟩ => ⟨S8x384x5120, .bf16⟩
  | .hbm, ⟨101, _⟩ => ⟨S8x384x5120, .bf16⟩
  | .hbm, ⟨102, _⟩ => ⟨S8x384x5120, .bf16⟩
  | .hbm, ⟨103, _⟩ => ⟨S8x384x5120, .bf16⟩
  | .hbm, ⟨104, _⟩ => ⟨S_, .bf16⟩
  | .hbm, ⟨105, _⟩ => ⟨S_, .bf16⟩
  | .hbm, ⟨106, _⟩ => ⟨S8x384x5120, .bf16⟩
  | .hbm, ⟨107, _⟩ => ⟨S8x384x5120, .bf16⟩
  | .hbm, ⟨108, _⟩ => ⟨S8x384x5120, .bf16⟩
  | .hbm, ⟨109, _⟩ => ⟨S_, .bf16⟩
  | .hbm, ⟨110, _⟩ => ⟨S_, .bf16⟩
  | .hbm, ⟨111, _⟩ => ⟨S8x384x5120, .bf16⟩
  | .hbm, ⟨112, _⟩ => ⟨S8x384x5120, .bf16⟩
  | .hbm, ⟨113, _⟩ => ⟨S8x384x5120, .bf16⟩
  | .hbm, ⟨114, _⟩ => ⟨S8x384x5120, .bf16⟩
  | .hbm, ⟨115, _⟩ => ⟨S8x384x5120, .bf16⟩
  | .hbm, ⟨116, _⟩ => ⟨S8x384x5120, .bf16⟩
  | .hbm, ⟨117, _⟩ => ⟨S8x384x5120, .bf16⟩
  | .hbm, ⟨118, _⟩ => ⟨S8x384x1x5120, .bf16⟩
  | .hbm, ⟨119, _⟩ => ⟨S8x384x1x5120, .bf16⟩
  | .hbm, ⟨120, _⟩ => ⟨S8x384x2x5120, .bf16⟩
  | .hbm, ⟨121, _⟩ => ⟨S8x24x32x5120, .bf16⟩
  | .hbm, ⟨122, _⟩ => ⟨S8x24x1x5120, .bf16⟩
  | .hbm, ⟨123, _⟩ => ⟨S8x24x32x5120, .bf16⟩
  | .hbm, ⟨124, _⟩ => ⟨S8x24x32x5120, .bf16⟩
  | .hbm, ⟨125, _⟩ => ⟨S8x768x5120, .bf16⟩
  | _, _ => ⟨S8x5120x384, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_cst_10 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_cst_11 : Ref sig .tc := ⟨.hbm, 46, rfl⟩
abbrev main_cst_12 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_cst_13 : Ref sig .tc := ⟨.hbm, 52, rfl⟩
abbrev main_cst_14 : Ref sig .tc := ⟨.hbm, 53, rfl⟩
abbrev main_call3_v0 : Ref sig .tc := ⟨.hbm, 54, rfl⟩
abbrev main_call3_v1 : Ref sig .tc := ⟨.hbm, 55, rfl⟩
abbrev main_v31 : Ref sig .tc := ⟨.hbm, 56, rfl⟩
abbrev main_cst_15 : Ref sig .tc := ⟨.hbm, 57, rfl⟩
abbrev main_cst_16 : Ref sig .tc := ⟨.hbm, 58, rfl⟩
abbrev main_call4_v0 : Ref sig .tc := ⟨.hbm, 59, rfl⟩
abbrev main_call4_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_17 : Ref sig .tc := ⟨.hbm, 66, rfl⟩
abbrev main_v37 : Ref sig .tc := ⟨.hbm, 67, rfl⟩
abbrev main_v38 : Ref sig .tc := ⟨.hbm, 68, rfl⟩
abbrev main_c_18 : Ref sig .tc := ⟨.hbm, 69, rfl⟩
abbrev main_v39 : Ref sig .tc := ⟨.hbm, 70, rfl⟩
abbrev main_v40 : Ref sig .tc := ⟨.hbm, 71, rfl⟩
abbrev main_c_19 : Ref sig .tc := ⟨.hbm, 72, rfl⟩
abbrev main_v41 : Ref sig .tc := ⟨.hbm, 73, rfl⟩
abbrev main_v42 : Ref sig .tc := ⟨.hbm, 74, rfl⟩
abbrev main_c_20 : Ref sig .tc := ⟨.hbm, 75, rfl⟩
abbrev main_v43 : Ref sig .tc := ⟨.hbm, 76, rfl⟩
abbrev main_v44 : Ref sig .tc := ⟨.hbm, 77, rfl⟩
abbrev main_c_21 : Ref sig .tc := ⟨.hbm, 78, rfl⟩
abbrev main_v45 : Ref sig .tc := ⟨.hbm, 79, rfl⟩
abbrev main_v46 : Ref sig .tc := ⟨.hbm, 80, rfl⟩
abbrev main_c_22 : Ref sig .tc := ⟨.hbm, 81, rfl⟩
abbrev main_v47 : Ref sig .tc := ⟨.hbm, 82, rfl⟩
abbrev main_v48 : Ref sig .tc := ⟨.hbm, 83, rfl⟩
abbrev main_c_23 : Ref sig .tc := ⟨.hbm, 84, rfl⟩
abbrev main_v49 : Ref sig .tc := ⟨.hbm, 85, rfl⟩
abbrev main_v50 : Ref sig .tc := ⟨.hbm, 86, rfl⟩
abbrev main_c_24 : Ref sig .tc := ⟨.hbm, 87, rfl⟩
abbrev main_v51 : Ref sig .tc := ⟨.hbm, 88, rfl⟩
abbrev main_v52 : Ref sig .tc := ⟨.hbm, 89, rfl⟩
abbrev main_c_25 : Ref sig .tc := ⟨.hbm, 90, rfl⟩
abbrev main_v53 : Ref sig .tc := ⟨.hbm, 91, rfl⟩
abbrev main_v54 : Ref sig .tc := ⟨.hbm, 92, rfl⟩
abbrev main_cst_26 : Ref sig .tc := ⟨.hbm, 93, rfl⟩
abbrev main_cst_27 : Ref sig .tc := ⟨.hbm, 94, rfl⟩
abbrev main_call8_v0 : Ref sig .tc := ⟨.hbm, 95, rfl⟩
abbrev main_call8_v1 : Ref sig .tc := ⟨.hbm, 96, rfl⟩
abbrev main_v55 : Ref sig .tc := ⟨.hbm, 97, rfl⟩
abbrev main_cst_28 : Ref sig .tc := ⟨.hbm, 98, rfl⟩
abbrev main_cst_29 : Ref sig .tc := ⟨.hbm, 99, rfl⟩
abbrev main_call9_v0 : Ref sig .tc := ⟨.hbm, 100, rfl⟩
abbrev main_call9_v1 : Ref sig .tc := ⟨.hbm, 101, rfl⟩
abbrev main_v56 : Ref sig .tc := ⟨.hbm, 102, rfl⟩
abbrev main_v57 : Ref sig .tc := ⟨.hbm, 103, rfl⟩
abbrev main_cst_30 : Ref sig .tc := ⟨.hbm, 104, rfl⟩
abbrev main_cst_31 : Ref sig .tc := ⟨.hbm, 105, rfl⟩
abbrev main_call11_v0 : Ref sig .tc := ⟨.hbm, 106, rfl⟩
abbrev main_call11_v1 : Ref sig .tc := ⟨.hbm, 107, rfl⟩
abbrev main_v58 : Ref sig .tc := ⟨.hbm, 108, rfl⟩
abbrev main_cst_32 : Ref sig .tc := ⟨.hbm, 109, rfl⟩
abbrev main_cst_33 : Ref sig .tc := ⟨.hbm, 110, rfl⟩
abbrev main_call12_v0 : Ref sig .tc := ⟨.hbm, 111, rfl⟩
abbrev main_call12_v1 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩

abbrev nD : Nat := 1
abbrev τ : Topo := Topo.v7x

variable {F : FTy → Type} [FloatOps F]
-- ==== Unpack.lean ====
abbrev S32768x2560 : Shape := ⟨2, ![32768, 2560]⟩
abbrev S32768x5120 : Shape := ⟨2, ![32768, 5120]⟩
abbrev S256x2560 : Shape := ⟨2, ![256, 2560]⟩
abbrev S256x5120 : Shape := ⟨2, ![256, 5120]⟩

abbrev nBuf : Space → Nat
  | .hbm => 2
  | .vmem => 4
  | .smem => 0
  | _ => 0

abbrev bufTy : (tb : Table) → Fin (tcTables nBuf tb) → BufTy
  | .hbm, ⟨0, _⟩ => ⟨S32768x2560, .i32⟩
  | .hbm, ⟨1, _⟩ => ⟨S32768x5120, .bf16⟩
  | .local _ .vmem, ⟨0, _⟩ => ⟨S256x2560, .i32⟩
  | .local _ .vmem, ⟨1, _⟩ => ⟨S256x2560, .i32⟩
  | .local _ .vmem, ⟨2, _⟩ => ⟨S256x5120, .bf16⟩
  | .local _ .vmem, ⟨3, _⟩ => ⟨S256x5120, .bf16⟩
  | _, _ => ⟨S32768x2560, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UnpackedIdeal.lean ====
abbrev S32768x2560 : Shape := ⟨2, ![32768, 2560]⟩
abbrev S_ : Shape := ⟨0, ![]⟩
abbrev S32768x5120 : Shape := ⟨2, ![32768, 5120]⟩

abbrev nBuf : Space → Nat
  | .hbm => 12
  | .vmem => 0
  | .smem => 0
  | _ => 0

abbrev bufTy : (tb : Table) → Fin (tcTables nBuf tb) → BufTy
  | .hbm, ⟨0, _⟩ => ⟨S32768x2560, .i32⟩
  | .hbm, ⟨1, _⟩ => ⟨S_, .i32⟩
  | .hbm, ⟨2, _⟩ => ⟨S32768x2560, .i32⟩
  | .hbm, ⟨3, _⟩ => ⟨S32768x2560, .i32⟩
  | .hbm, ⟨4, _⟩ => ⟨S32768x2560, .i16⟩
  | .hbm, ⟨5, _⟩ => ⟨S32768x2560, .bf16⟩
  | .hbm, ⟨6, _⟩ => ⟨S_, .i32⟩
  | .hbm, ⟨7, _⟩ => ⟨S32768x2560, .i32⟩
  | .hbm, ⟨8, _⟩ => ⟨S32768x2560, .i32⟩
  | .hbm, ⟨9, _⟩ => ⟨S32768x2560, .i16⟩
  | .hbm, ⟨10, _⟩ => ⟨S32768x2560, .bf16⟩
  | .hbm, ⟨11, _⟩ => ⟨S32768x5120, .bf16⟩
  | _, _ => ⟨S32768x2560, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Words.lean ====
/-
  The words the kernel computes with (trip numbers, slots, offsets, conditions) as natural numbers: one fact for each
  form in which the kernel writes an offset, stated for every trip.
-/
module

public import proofs.«01_k».proof.Proof.Gen.KernelIdeal

@[expose] public section

namespace Cert.Hand

open Cert.KernelIdeal Cert.KernelIdeal.Gen
open Idealize.ShloMosaic

/-- The count of used tiles is between 1 and 164. -/
structure InR (v0 : BitVec 32) : Prop where
  lo : 1 ≤ v0.toNat
  hi : v0.toNat ≤ 164

theorem slt_small {x y : BitVec 32} (hx : x.toNat < 2 ^ 31) (hy : y.toNat < 2 ^ 31) : x.slt y = decide (x.toNat < y.toNat) := by
  unfold BitVec.slt
  rw [BitVec.toInt_eq_toNat_of_lt (by omega), BitVec.toInt_eq_toNat_of_lt (by omega)]
  simp

theorem sle_small {x y : BitVec 32} (hx : x.toNat < 2 ^ 31) (hy : y.toNat < 2 ^ 31) : x.sle y = decide (x.toNat ≤ y.toNat) := by
  unfold BitVec.sle
  rw [BitVec.toInt_eq_toNat_of_lt (by omega), BitVec.toInt_eq_toNat_of_lt (by omega)]
  simp

theorem iv01 (k : ℕ) : Scf.iv 0#32 1#32 k = BitVec.ofNat 32 k := by
  simp [Scf.iv]

theorem w_iv (k : ℕ) (h : k < 2 ^ 31) : (Scf.iv 0#32 1#32 k).toNat = k := by
  rw [iv01, BitVec.toNat_ofNat]; omega

/-- A slot: the parity of the trip. -/
theorem w_slot (j : ℕ) (h : j < 2 ^ 31) : (Scalar.andi (Scf.iv 0#32 1#32 j) 1#32).toNat = j % 2 := by
  show (Scf.iv 0#32 1#32 j &&& 1#32).toNat = _
  rw [BitVec.toNat_and, w_iv j h]; exact Nat.and_one_is_mod j

/-- The other slot. -/
theorem w_other (j : ℕ) (h : j < 2 ^ 31) : (Scalar.subi 1#32 (Scalar.andi (Scf.iv 0#32 1#32 j) 1#32)).toNat = 1 - j % 2 := by
  show (1#32 - Scalar.andi (Scf.iv 0#32 1#32 j) 1#32).toNat = _
  rw [BitVec.toNat_sub, w_slot j h]; simp; omega

/-- A row of a group of sixteen. -/
theorem w_row (q : ℕ) (k : BitVec 32) (h : q < 16) (hk : k.toNat < 16) :
    (Scalar.addi (Scalar.muli (Scf.iv 0#32 1#32 q) 16#32) k).toNat = 16 * q + k.toNat := by
  show (Scf.iv 0#32 1#32 q * 16#32 + k).toNat = _
  rw [BitVec.toNat_add, BitVec.toNat_mul, w_iv q (by omega)]; simp; omega

/-- The position of a token word of the next tile. -/
theorem w_tok (j q : ℕ) (k : BitVec 32) (hj : j < 165) (h : q < 16) (hk : k.toNat < 16) :
    (Scalar.indexCast (Scalar.addi (Scalar.addi (Scalar.muli (Scalar.addi (Scf.iv 0#32 1#32 j) 1#32) 256#32)
      (Scalar.muli (Scf.iv 0#32 1#32 q) 16#32)) k)).toNat = 256 * (j + 1) + (16 * q + k.toNat) := by
  show ((Scf.iv 0#32 1#32 j + 1#32) * 256#32 + Scf.iv 0#32 1#32 q * 16#32 + k).toNat = _
  simp only [BitVec.toNat_add, BitVec.toNat_mul, w_iv q (by omega), w_iv j (by omega)]; simp; omega

theorem w_mul (j : ℕ) (k : BitVec 32) (hj : j < 165) (hk : k.toNat ≤ 256) : (Scalar.muli (Scf.iv 0#32 1#32 j) k).toNat = j * k.toNat := by
  show (Scf.iv 0#32 1#32 j * k).toNat = _
  rw [BitVec.toNat_mul, w_iv j (by omega)]
  have : j * k.toNat ≤ 164 * 256 := Nat.mul_le_mul (by omega) hk
  omega

theorem w_succ (j : ℕ) (hj : j < 165) : (Scalar.addi (Scf.iv 0#32 1#32 j) 1#32).toNat = j + 1 := by
  show (Scf.iv 0#32 1#32 j + 1#32).toNat = _
  rw [BitVec.toNat_add, w_iv j (by omega)]; simp; omega

/-- The previous tile, or the first. -/
theorem w_prev (j : ℕ) (hj : j < 165) : (Scalar.maxsi (Scalar.subi (Scf.iv 0#32 1#32 j) 1#32) 0#32).toNat = j - 1 := by
  rw [iv01]
  have : ∀ j < 165, (Scalar.maxsi (Scalar.subi (BitVec.ofNat 32 j) 1#32) 0#32).toNat = j - 1 := by decide
  exact this j hj

/-- The next tile, or the last. -/
theorem w_next (v0 : BitVec 32) (h0 : InR v0) (j : ℕ) (hj : j < 165) :
    (Scalar.minsi (Scalar.addi (Scf.iv 0#32 1#32 j) 1#32) (Scalar.subi v0 1#32)).toNat = min (j + 1) (v0.toNat - 1) := by
  have e1 := w_succ j hj
  have e2 : (Scalar.subi v0 1#32).toNat = v0.toNat - 1 := by
    show (v0 - 1#32).toNat = _
    have := h0.lo; have := h0.hi
    rw [BitVec.toNat_sub]; simp; omega
  have := h0.hi
  unfold Scalar.minsi IntOp.minsi
  rw [slt_small (by omega) (by omega), e1, e2]
  simp only [decide_eq_true_eq]
  split_ifs with h
  · rw [e1]; omega
  · rw [e2]; omega

theorem bit_ne0 (b : Bool) : Scalar.cmpi .ne (Scalar.extui (BitVec.ofBool b)) 0#32 = BitVec.ofBool b := by
  cases b <;> decide
theorem ofBool_one (b : Bool) : BitVec.ofBool b = 1#1 ↔ b = true := by cases b <;> decide

variable {v0 : BitVec 32} (h0 : InR v0)

include h0 in
theorem trips2 : (k0_t2_loop v0).trips = v0.toNat := by
  have hd : Scalar.divsi (Scalar.subi v0 0#32) 1#32 = v0 := by
    unfold Scalar.divsi IntOp.divsi IntOp.SDivCorner Scalar.subi IntOp.subi
    simp
  show Scf.trips 0#32 (Scalar.addi 0#32 (Scalar.muli (Scalar.divsi (Scalar.subi v0 0#32) 1#32) 1#32)) 1#32 = _
  rw [hd]
  have e : Scalar.addi 0#32 (Scalar.muli v0 1#32) = v0 := by
    unfold Scalar.addi IntOp.addi Scalar.muli IntOp.muli; simp
  rw [e]; unfold Scf.trips
  have := h0.hi
  rw [BitVec.toInt_eq_toNat_of_lt (x := v0) (by omega)]
  simp

include h0 in
theorem ok2 : (k0_t2_loop v0).OK := by
  have ht := trips2 h0
  refine ⟨by show 0 < (1#32).toInt; decide, ?_⟩
  show (0#32).toInt + ((k0_t2_loop v0).trips : ℤ) * (1#32).toInt < _
  rw [ht]
  have := h0.hi
  simp; omega

theorem end6 : (k0_t6_loop v0).lb = v0 ∧ (k0_t6_loop v0).ub = v0 := by
  have hd : Scalar.divsi (Scalar.subi v0 0#32) 1#32 = v0 := by
    unfold Scalar.divsi IntOp.divsi IntOp.SDivCorner Scalar.subi IntOp.subi
    simp
  constructor
  · show Scalar.addi 0#32 (Scalar.muli (Scalar.divsi (Scalar.subi v0 0#32) 1#32) 1#32) = _
    rw [hd]; unfold Scalar.addi IntOp.addi Scalar.muli IntOp.muli; simp
  · show Scalar.addi 0#32 (Scalar.subi v0 0#32) = v0
    unfold Scalar.addi IntOp.addi Scalar.subi IntOp.subi; simp

/-- The remainder copy of the tile loop has no trip. -/
theorem trips6 : (k0_t6_loop v0).trips = 0 := by
  obtain ⟨h1, h2⟩ := end6 (v0 := v0)
  show Scf.trips (k0_t6_loop v0).lb (k0_t6_loop v0).ub 1#32 = 0
  rw [h1, h2]; unfold Scf.trips; simp

include h0 in
theorem ok6 : (k0_t6_loop v0).OK := by
  refine ⟨by show 0 < (1#32).toInt; decide, ?_⟩
  show (k0_t6_loop v0).lb.toInt + ((k0_t6_loop v0).trips : ℤ) * (1#32).toInt < _
  rw [trips6, end6.1]
  have := h0.hi
  rw [BitVec.toInt_eq_toNat_of_lt (by omega)]; simp; omega

include h0 in
theorem t2_lt (t : Fin (k0_t2_loop v0).trips) : t.val < v0.toNat := (trips2 h0) ▸ t.isLt
include h0 in
theorem t2_lt' (t : Fin (k0_t2_loop v0).trips) : t.val < 164 := Nat.lt_of_lt_of_le (t2_lt h0 t) h0.hi
theorem no6 {P : Prop} (t : Fin (k0_t6_loop v0).trips) : P := absurd (Nat.lt_of_lt_of_eq t.isLt trips6) (Nat.not_lt_zero _)

include h0 in
theorem cond1_iff (t : Fin (k0_t2_loop v0).trips) : k0_cond1 v0 t = 1#1 ↔ t.val + 1 < v0.toNat := by
  have := t2_lt' h0 t; have := h0.hi
  show Scalar.cmpi .ne (Scalar.extui (BitVec.ofBool ((Scalar.addi (Scf.iv 0#32 1#32 t) 1#32).slt v0))) 0#32 = 1#1 ↔ _
  rw [bit_ne0, ofBool_one, slt_small (by rw [w_succ _ (by omega)]; omega) (by omega), w_succ _ (by omega)]
  simp

include h0 in
theorem cond2_iff (t : Fin (k0_t2_loop v0).trips) : k0_cond2 v0 t = 1#1 ↔ 2 ≤ t.val := by
  have := t2_lt' h0 t
  show Scalar.cmpi .ne (Scalar.extui (BitVec.ofBool ((2#32).sle (Scf.iv 0#32 1#32 t)))) 0#32 = 1#1 ↔ _
  rw [bit_ne0, ofBool_one, sle_small (by decide) (by rw [w_iv _ (by omega)]; omega), w_iv _ (by omega)]
  simp

include h0 in
theorem cond13_iff : k0_cond13 v0 = 1#1 ↔ 2 ≤ v0.toNat := by
  have := h0.hi
  show Scalar.cmpi .ne (Scalar.extui (BitVec.ofBool ((2#32).sle v0))) 0#32 = 1#1 ↔ _
  rw [bit_ne0, ofBool_one, sle_small (by decide) (by omega)]
  simp

/-- A slot of weights is fetched, and waited for, at the first tile and where the expert changes. -/
theorem cond3_iff (t : Fin (k0_t2_loop v0).trips) (h : t.val < 164) (a b : BitVec 32) : k0_cond3 v0 t a b = 1#1 ↔ t.val = 0 ∨ a ≠ b := by
  show Scalar.cmpi .ne (Scalar.extui (Scalar.ori (BitVec.ofBool (Scf.iv 0#32 1#32 t == 0#32)) (BitVec.ofBool (a != b)))) 0#32 = 1#1 ↔ _
  have e : (Scf.iv 0#32 1#32 t == 0#32) = decide (t.val = 0) := by
    rw [Bool.eq_iff_iff]
    simp only [beq_iff_eq, decide_eq_true_eq]
    rw [← BitVec.toNat_inj, w_iv _ (by omega)]; simp
  rw [e]
  have e2 : Scalar.ori (BitVec.ofBool (decide (t.val = 0))) (BitVec.ofBool (a != b)) = BitVec.ofBool (decide (t.val = 0) || (a != b)) := by
    cases decide (t.val = 0) <;> cases (a != b) <;> decide
  rw [e2, bit_ne0, ofBool_one]; simp

theorem cond4_iff (a b : BitVec 32) : k0_cond4 a b = 1#1 ↔ b ≠ a := by
  show Scalar.cmpi .ne (Scalar.extui (BitVec.ofBool (b != a))) 0#32 = 1#1 ↔ _
  rw [bit_ne0, ofBool_one]; simp

/-- A token number below 32768, halved (rounding down), is the pair of rows its row lies in. -/
theorem w_half (v : BitVec 32) (hv : v.toNat < 32768) : k0_off58 v = ![v.toNat / 2, 0] := by
  have hd : Scalar.divsi v 2#32 = v / 2#32 := by
    unfold Scalar.divsi IntOp.divsi
    rw [if_neg (by unfold IntOp.SDivCorner; simp), BitVec.sdiv_eq]
    have : v.msb = false := by rw [BitVec.msb_eq_decide]; simp; omega
    rw [this]; rfl
  have hr : Scalar.remsi v 2#32 = v % 2#32 := by
    unfold Scalar.remsi IntOp.remsi
    rw [if_neg (by unfold IntOp.SDivCorner; simp), BitVec.srem_eq]
    have : v.msb = false := by rw [BitVec.msb_eq_decide]; simp; omega
    rw [this]; rfl
  have hs : Scalar.cmpi .slt v 0#32 = 0#1 := by
    show BitVec.ofBool (v.slt 0#32) = _
    rw [slt_small (by omega) (by decide)]; simp
  have key : Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 2#32 0#32)) (Scalar.extui (Scalar.cmpi .slt 2#32 0#32))))
      (Scalar.cmpi .ne (Scalar.remsi v 2#32) 0#32)) (Scalar.subi (Scalar.divsi v 2#32) 1#32) (Scalar.divsi v 2#32) = v / 2#32 := by
    rw [hd, hr, hs]
    by_cases hz : v = 0#32
    · subst hz; decide
    · have hp : Scalar.cmpi .sgt v 0#32 = 1#1 := by
        show BitVec.ofBool ((0#32).slt v) = _
        rw [slt_small (by decide) (by omega)]
        have : v.toNat ≠ 0 := fun h => hz (BitVec.eq_of_toNat_eq (by simpa using h))
        have : decide ((0#32).toNat < v.toNat) = true := by simp; omega
        rw [this]; rfl
      rw [hp]
      have : Scalar.cmpi .ne (Scalar.subi (Scalar.extui 1#1) (Scalar.extui 0#1)) (Scalar.subi (Scalar.extui (Scalar.cmpi .sgt 2#32 0#32)) (Scalar.extui (Scalar.cmpi .slt 2#32 0#32))) = 0#1 := by decide
      rw [this]
      have : ∀ b : BitVec 1, Scalar.andi 0#1 b = 0#1 := by decide
      rw [this]; rfl
  show ![BitVec.toNat _, 0] = _
  refine congrArg (fun x : ℕ => ![x, 0]) ((congrArg BitVec.toNat key).trans ?_)
  rw [BitVec.toNat_udiv]; rfl

/-! Offsets as vectors of numbers, one fact for each form. -/

theorem in1 {o : Fin 1 → ℕ} {x k n : ℕ} (e : o = ![x]) (h : x + k ≤ n) : ∀ a, o a + ![k] a ≤ ![n] a := by
  subst e; intro a; fin_cases a; exact h
theorem in2 {o : Fin 2 → ℕ} {x y k l n m : ℕ} (e : o = ![x, y]) (h : x + k ≤ n) (h' : y + l ≤ m) : ∀ a, o a + ![k, l] a ≤ ![n, m] a := by
  subst e; intro a; fin_cases a; exacts [h, h']
theorem in3 {o : Fin 3 → ℕ} {x y z k l p n m q : ℕ} (e : o = ![x, y, z]) (h : x + k ≤ n) (h' : y + l ≤ m) (h'' : z + p ≤ q) :
    ∀ a, o a + ![k, l, p] a ≤ ![n, m, q] a := by
  subst e; intro a; fin_cases a; exacts [h, h', h'']

theorem o1 {x y : ℕ} (e : x = y) : ![x] = ![y] := by rw [e]
theorem o20 {x y : ℕ} (e : x = y) : ![x, 0] = ![y, 0] := by rw [e]
theorem o02 {x y : ℕ} (e : x = y) : ![0, x] = ![0, y] := by rw [e]
theorem o30 {x y : ℕ} (e : x = y) : ![x, 0, 0] = ![y, 0, 0] := by rw [e]
theorem o3c {x y c : ℕ} (e : x = y) : ![x, 0, c] = ![y, 0, c] := by rw [e]
theorem o32 {x y x' y' : ℕ} (e : x = y) (e' : x' = y') : ![x, x', 0] = ![y, y', 0] := by rw [e, e']
theorem o33 {x y x' y' : ℕ} (e : x = y) (e' : x' = y') : ![x, 0, x'] = ![y, 0, y'] := by rw [e, e']

theorem wwH {o : Fin 3 → ℕ} {x : ℕ} (e : o = ![x, 0, 0]) (h : ∀ a, o a + S1x256x1536.size a ≤ S2x256x1536.size a) :
    (Rect.unit (s := S2x256x1536) o S1x256x1536.size h).WholeWords (EltTy.packing .bf16) := by
  subst e
  exact (Rect.wholeWords_iff_at _ _).2 (Or.inr ⟨by decide, rfl, rfl, rfl⟩)
theorem wwW {o : Fin 3 → ℕ} {x : ℕ} (e : o = ![x, 0, 0]) (h : ∀ a, o a + S1x5120x1536.size a ≤ S8x5120x1536.size a) :
    (Rect.unit (s := S8x5120x1536) o S1x5120x1536.size h).WholeWords (EltTy.packing .bf16) := by
  subst e
  exact (Rect.wholeWords_iff_at _ _).2 (Or.inr ⟨by decide, rfl, rfl, rfl⟩)
theorem pkH {o : Fin 3 → ℕ} {x c : ℕ} (e : o = ![x, 0, c]) (h : ∀ a, o a + S1x256x768.size a ≤ S2x256x1536.size a) :
    (Rect.unit (s := S2x256x1536) o S1x256x768.size h).PackedRows (EltTy.packing .bf16) := by
  subst e
  exact (Rect.packedRows_iff_at _ _).2 (Or.inr ⟨by decide, rfl, Or.inl ⟨⟨0, rfl⟩, ⟨128, rfl⟩⟩⟩)
theorem wwO {o : Fin 2 → ℕ} {j : ℕ} (e : o = ![j * 256, 0]) (h : ∀ a, o a + S256x1536.size a ≤ S41984x1536.size a) :
    (Rect.unit (s := S41984x1536) o S256x1536.size h).WholeWords (EltTy.packing .bf16) := by
  subst e
  exact (Rect.wholeWords_iff_at _ _).2 (Or.inl (Or.inr ⟨by decide, rfl, Or.inl ⟨⟨j * 128, by show j * 256 = 2 * (j * 128); omega⟩, ⟨128, rfl⟩⟩⟩))

theorem w_end (w : BitVec 32) : (Scalar.andi w 1#32).toNat = w.toNat % 2 := by
  show (w &&& 1#32).toNat = _
  rw [BitVec.toNat_and]; exact Nat.and_one_is_mod _
include h0 in
theorem w_last : (Scalar.andi (Scalar.subi v0 1#32) 1#32).toNat = (v0.toNat - 1) % 2 := by
  rw [w_end]
  have : (Scalar.subi v0 1#32).toNat = v0.toNat - 1 := by
    show (v0 - 1#32).toNat = _
    have := h0.lo; have := h0.hi
    rw [BitVec.toNat_sub]; simp; omega
  rw [this]

section Chk
set_option maxHeartbeats 1000000
include h0

theorem chk19_0 : k0_chk19_0 v0 := by
  unfold k0_chk19_0
  refine ⟨ok2 h0, ?_⟩
  repeat' apply And.intro
  all_goals intro t
  all_goals have hj := t2_lt' h0 t
  all_goals have hn := h0.hi
  all_goals first
    | exact in1 (o1 (w_slot t.val (by omega))) (by omega)
    | exact in3 (o30 (w_slot t.val (by omega))) (by omega) (by omega) (by omega)
    | intro hc
      exact in1 (o1 (w_other t.val (by omega))) (by omega)
    | intro q hc
      have hq : q.val < 16 := q.isLt
      have hc' := (cond1_iff h0 t).1 hc
      first
        | exact in1 (o1 (w_tok t.val q.val _ (by omega) hq (by decide))) (by simp; omega)
        | exact in3 (o32 (w_other t.val (by omega)) (w_row q.val _ hq (by decide))) (by omega) (by simp; omega) (by omega)

theorem chk19_1 : k0_chk19_1 v0 := by
  unfold k0_chk19_1
  repeat' apply And.intro
  all_goals intro t
  all_goals have hj := t2_lt' h0 t
  all_goals have hn := h0.hi
  all_goals first
    | exact in1 (o1 (w_slot t.val (by omega))) (by omega)
    | exact in1 (o1 (w_iv t.val (by omega))) (by omega)
    | exact in1 (o1 (w_prev t.val (by omega))) (by omega)
    | exact in1 (o1 (w_next v0 h0 t.val (by omega))) (by omega)
    | exact in3 (o30 (w_slot t.val (by omega))) (by omega) (by omega) (by omega)
    | intro hc
      first
        | exact in1 (o1 (w_other t.val (by omega))) (by omega)
        | exact in1 (o1 (w_slot t.val (by omega))) (by omega)
        | exact in3 (o30 (w_slot t.val (by omega))) (by omega) (by omega) (by omega)
        | exact in3 (o30 (w_other t.val (by omega))) (by omega) (by omega) (by omega)
        | have hc' := (cond1_iff h0 t).1 hc
          exact in3 (o30 (w_succ t.val (by omega))) (by omega) (by omega) (by omega)
    | intro hc hb
      exact wwH (o30 (w_slot t.val (by omega))) hb
    | intro q hc
      have hq : q.val < 16 := q.isLt
      have hc' := (cond1_iff h0 t).1 hc
      first
        | exact in1 (o1 (w_tok t.val q.val _ (by omega) hq (by decide))) (by simp; omega)
        | exact in3 (o32 (w_other t.val (by omega)) (w_row q.val _ hq (by decide))) (by omega) (by simp; omega) (by omega)
    | intro q
      have hq : q.val < 40 := q.isLt
      exact in3 (o33 (w_slot t.val (by omega)) (w_mul q.val _ (by omega) (by decide))) (by omega) (by omega) (by simp; omega)

theorem chk19_2 : k0_chk19_2 v0 := by
  unfold k0_chk19_2
  have hn := h0.hi
  refine ⟨?_, ?_, ?_, ?_, ?_, ?_, ?_, ?_, ?_, ?_, ?_, ?_, ok6 h0, ?_⟩
  rotate_right
  · repeat' apply And.intro
    all_goals exact fun t => no6 t
  all_goals intro t
  all_goals have hj := t2_lt' h0 t
  all_goals first
    | exact fun hb => pkH (o3c (w_slot t.val (by omega))) hb
    | exact fun hb => wwH (o30 (w_slot t.val (by omega))) hb
    | exact fun hb => wwO (o20 (w_mul t.val _ (by omega) (by decide))) hb
    | exact in3 (o3c (w_slot t.val (by omega))) (by omega) (by omega) (by omega)
    | exact in2 (o20 (w_mul t.val _ (by omega) (by decide))) (by simp; omega) (by omega)
    | exact in1 (o1 (w_slot t.val (by omega))) (by omega)
    | exact in1 (o1 (w_iv t.val (by omega))) (by omega)
    | exact in1 (o1 (w_prev t.val (by omega))) (by omega)
    | exact in1 (o1 (w_next v0 h0 t.val (by omega))) (by omega)
    | (intro q hc
       have hq : q.val < 16 := q.isLt
       have hc' := (cond1_iff h0 t).1 hc
       first
         | exact in1 (o1 (w_tok t.val q.val _ (by omega) hq (by decide))) (by simp; omega)
         | exact in3 (o32 (w_other t.val (by omega)) (w_row q.val _ hq (by decide))) (by omega) (by simp; omega) (by omega))

theorem chk19_3 : k0_chk19_3 v0 := by
  unfold k0_chk19_3
  repeat' apply And.intro
  all_goals exact fun t => no6 t

theorem chk19_4 : k0_chk19_4 v0 := by
  unfold k0_chk19_4
  repeat' apply And.intro
  all_goals first
    | exact fun t => no6 t
    | exact fun _ => in1 (o1 (w_end v0)) (by omega)
    | exact fun _ => in3 (o30 (w_end v0)) (by omega) (by omega) (by omega)
    | exact fun _ hb => wwH (o30 (w_end v0)) hb
    | exact in1 (o1 (w_last h0)) (by omega)
    | exact in3 (o30 (w_last h0)) (by omega) (by omega) (by omega)
    | exact fun hb => wwH (o30 (w_last h0)) hb

/-- Every bound the kernel asks for at its first word holds when the count of tiles is in range. -/
theorem chk19 : k0_chk19 v0 := by
  unfold k0_chk19
  exact ⟨chk19_0 h0, chk19_1 h0, chk19_2 h0, chk19_3 h0, chk19_4 h0⟩

end Chk

theorem chkW (v : BitVec 32) (hv : v.toNat < 8) : k0_chk1 v :=
  ⟨in3 (x := v.toNat) (y := 0) (z := 0) rfl (by omega) (by omega) (by omega), fun hb => wwW (x := v.toNat) rfl hb⟩
theorem chkX (v : BitVec 32) (hv : v.toNat < 32768) : k0_chk3 v :=
  in2 (w_half v hv) (by omega) (by omega)
theorem chkB (v : BitVec 32) (hv : v.toNat < 8) : k0_chk38 v :=
  in3 (x := v.toNat) (y := 0) (z := 0) rfl (by omega) (by omega) (by omega)
theorem chk36 (t : Fin (k0_t2_loop v0).trips) (v w : BitVec 32) (hv : v.toNat < 8) : k0_chk36 v0 t v w :=
  ⟨fun _ => (chkW v hv).1, fun _ => (chkW v hv).2⟩
theorem chk39 (t : Fin (k0_t2_loop v0).trips) (v w : BitVec 32) (hv : v.toNat < 8) : k0_chk39 v0 t v w := chk36 t v w hv
theorem chk37 (v w : BitVec 32) (hw : w.toNat < 8) : k0_chk37 v w :=
  ⟨fun _ => (chkW w hw).1, fun _ => (chkW w hw).2⟩
theorem chk40 (v w : BitVec 32) (hw : w.toNat < 8) : k0_chk40 v w := chk37 v w hw
theorem chk20 (t : Fin (k0_t2_loop v0).trips) (v : BitVec 32) (hv : v.toNat < 32768) : k0_chk20 v0 t v := fun _ => chkX v hv
theorem chk35 (t : Fin (k0_t2_loop v0).trips) (v : BitVec 32) (hv : v.toNat < 32768) : k0_chk35 v0 t v := fun _ => chkX v hv

end Cert.Hand

end
-- ==== Proof.Basic.lean ====
/-
  The steps of the kernel in the form its proof takes them: a copy issued on a batch whose delivery names the final
  contents of the destination, a wait for one copy, a word read from scalar memory, and where a slice of one row or one
  slot of a buffer lies in that buffer.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Words
public import Idealize.ShloMosaic.Lib.Pipeline.FrameBody
public import Idealize.ShloMosaic.Lib.Batch
public import Idealize.ShloMosaic.Lib.Pipeline.ValueKit.Geometry
public import Idealize.ShloMosaic.Lib.Tactic
public import Idealize.ShloMosaic.Lib.ValueLayout

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

section Rules

variable {nD : Nat} {τ : Topo} {sig : RefSig} {Ix : Type} [DecidableEq Ix] {Val : EltTy → Type} {Name : Type} [DecidableEq Name]
variable {U : Type} [URA U] {Lvl : Type}
local notation "𝕄" => MT nD τ sig Ix Val Name U Lvl
variable (EC : UEmb Counters (MT nD τ sig Ix Val Name U Lvl))
variable [Preorder Lvl] {Λ : Labels} {defs : Defs nD τ sig Val Λ} (𝒱 : Variants) (c : Thread nD τ) (bd : Option 𝒱.V)
variable {sp sp' : Space} {s : Shape} {e : EltTy} {n : ℕ}

/-- A copy on a batch: the source is held on a set that includes what is read, the destination on a set that includes
    what is written; the delivery is both back, the destination at any contents `g` the written ones agree with there. -/
theorem wp_dmaB [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {Q : PUnit → sProp 𝕄} {q : PosShare TreeShare} {fs : Buf Val (src.view.loc c)} {Ss : Finset (Idx (src.view.loc c))}
    {Sd : Finset (Idx (dst.view.loc c))} {fd g : Buf Val (dst.view.loc c)}
    {D : Fin n → sProp 𝕄} {j u : ℕ}
    (ι : Ix) (N : ℕ) (hN : dst.view.amount sm = N) (hSs : src.view.set ⊆ Ss) (hSd : dst.view.set ⊆ Sd) (hj : j < n) (hu : u ≤ j * N)
    (hg : ∀ i ∈ Sd, dst.view.write Val fd (src.view.read Val fs) Finset.univ i = g i)
    (hD : iprop((dst.view.loc c ↦[Sd]{fullShare} g) ∗ (src.view.loc c ↦[Ss]{q} fs)) ⊢ D ⟨j, hj⟩) :
    iprop((src.view.loc c ↦[Ss]{q} fs) ∗ (dst.view.loc c ↦[Sd]{fullShare} fd) ∗ Batch EC c sm ι N D j u)
      ⊢ iprop((Batch EC c sm ι N D (j + 1) u -∗ Q ⟨⟩)
          -∗ wp frame (wpE defs 𝒱 c bd) Set.univ (Prog.lift (TpuEff.enqueueDma src (.here dst) sm hsrc hdst hsem)) Q) := by
  have hD' : iprop((src.view.loc c ↦[Ss \ src.view.set]{q} fs) ∗ ((dst.view.loc c ↦[Sd]{fullShare} (dst.view.write Val fd (ReadAs.same.apply (src.view.read Val fs)) Finset.univ))
      ∗ (src.view.loc c ↦[src.view.set]{q} fs))) ⊢ D ⟨j, hj⟩ := by
    refine BIBase.Entails.trans ?_ hD
    iintro ⟨Hr, Hd, Hs⟩
    isplitl [Hd]
    · iapply (show (dst.view.loc c ↦[Sd]{fullShare} (dst.view.write Val fd (src.view.read Val fs) Finset.univ) : sProp 𝕄) ⊢ (dst.view.loc c ↦[Sd]{fullShare} g)
        from Entails.of_eq (pointsTo_congr hg)) $$ Hd
    · iapply (pointsTo_split_subset hSs).2
      isplitl [Hs] <;> iassumption
  unfold Batch
  iintro ⟨Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hs' := (pointsTo_split_subset hSs).1 $$ Hs
  icases Hs' with ⟨Hs, Hr⟩
  iapply (wp_enqueueDmaAs 𝒱 c bd Set.univ ι N hN) $$ [Hs Hd] [Ht Hr]
  · isplitl [Hs]; · iexact Hs
    iapply (pointsTo_writeUpdate c hSd) $$ Hd
  · iapply (batch_creditUpdate_with EC ⟨j, hj⟩ hD')
    isplitr; · iexact Hinv
    isplitl [Ht]; · iexact Ht
    iexact Hr
  iintro Hcred'
  iapply (le_wp_ret frame (wpE defs 𝒱 c bd) Set.univ)
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-- A wait for one copy of a batch. -/
theorem wp_waitB [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} (ι : Ix) {N : ℕ} (hJ : dstw.view.dmaCredit = N)
    {D : Fin n → sProp 𝕄} {j u : ℕ} (hu : u + N ≤ N * j) :
    iprop(Batch EC c (.dma sem) ι N D j u ∗ (∃ W, owes c 0 W))
      ⊢ iprop((iprop(Batch EC c (.dma sem) ι N D j (u + N) ∗ (∃ W, owes c 0 W)) -∗ |={Set.univ}=> Q ⟨⟩)
          -∗ wp frame (wpE defs 𝒱 c bd) Set.univ (Prog.lift (TpuEff.waitDma2 sem srcw dstw hsrc hdst)) Q) := by
  iintro ⟨HB, %W, HW⟩ Hk
  have h := wp_waitBatchMul (defs := defs) EC 𝒱 c bd (hsrc := hsrc) (hdst := hdst) (k := .ret) (Q := Q) ι (srcw := srcw) (sem := sem) 1 (by rw [hJ, Nat.one_mul]) (D := D) (j := j) (u := u) (by rw [Nat.one_mul]; exact hu) (W := W)
  iapply h $$ [HB HW]
  · isplitl [HB] <;> iassumption
  iintro ⟨HB, HW⟩
  rw [show (Prog.ret (PUnit.unit) : Prog (TpuEff _ _ _ _ _ _) PUnit) = pure ⟨⟩ from rfl, wp_pure]
  iapply Hk
  rw [Nat.one_mul]
  isplitl [HB]; · iexact HB
  iexists _; iexact HW

variable (E : Set Name)

theorem wp_asm {P : Prop} {d : Decidable P} {Q : PLift P → sProp 𝕄} (h : P) :
    Q ⟨h⟩ ⊢ wp frame (wpE defs 𝒱 c bd) E (Prog.lift (TpuEff.assume P d)) Q :=
  BIBase.Entails.trans (le_wp_ret frame (wpE defs 𝒱 c bd) E (⟨h⟩ : PLift P) Q) (wp_assume 𝒱 c bd E h)

theorem wp_ld {cs : CoreSpace} {m : Memref sig c.2.kind cs s e} {r : Rect s} {hl : m.view.LoadsAt r.toLoadRect} {Q : (r.shape.Idx → Val e) → sProp 𝕄}
    {S : Finset (Idx (m.view.loc c))} {q : PosShare TreeShare} {f : Buf Val (m.view.loc c)} (hS : (m.access r).set ⊆ S) :
    (m.view.loc c ↦[S]{q} f)
      ⊢ iprop(((m.view.loc c ↦[S]{q} f) -∗ Q ((m.access r).read Val f))
        -∗ wp frame (wpE defs 𝒱 c bd) E (Prog.lift (TpuEff.load m r.toLoadRect hl)) Q) := by
  iintro H Hk
  iapply (wp_load_rect 𝒱 c bd E (hl := hl) (k := .ret) (Q := Q) (q := q) (f := f) hS) $$ H
  iintro H
  iapply (le_wp_ret frame (wpE defs 𝒱 c bd) E)
  iapply Hk $$ H

theorem wp_st {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1} {Q : PUnit → sProp 𝕄}
    {S : Finset (Idx (m.view.loc c))} {f : Buf Val (m.view.loc c)} (g : Buf Val (m.view.loc c)) (hS : (m.access r).set ⊆ S)
    (hg : ∀ i ∈ S, (m.access r).write Val f w Finset.univ i = g i) :
    (m.view.loc c ↦[S]{fullShare} f)
      ⊢ iprop(((m.view.loc c ↦[S]{fullShare} g) -∗ Q ⟨⟩)
        -∗ wp frame (wpE defs 𝒱 c bd) E (Prog.lift (TpuEff.store m r w Finset.univ hx hm)) Q) := by
  iintro H Hk
  iapply (wp_store 𝒱 c bd E (hx := hx) (hm := hm) (k := .ret) (Q := Q) (f := f) (by rwa [View.setOn_univ])) $$ H
  iintro H
  iapply (le_wp_ret frame (wpE defs 𝒱 c bd) E)
  iapply Hk
  iapply (show ((m.view.loc c ↦[S]{fullShare} ((m.access r).write Val f w Finset.univ)) : sProp 𝕄) ⊢ (m.view.loc c ↦[S]{fullShare} g)
        from Entails.of_eq (pointsTo_congr hg)) $$ H

/-- The word at position `i` of a vector in scalar memory. -/
theorem wp_word {n : ℕ} {m : Memref sig c.2.kind .smem ⟨1, ![n]⟩ .i32} {o : Fin 1 → ℕ} {h : ∀ a, o a + ![1] a ≤ ![n] a}
    {h1 : (Rect.unit (s := ⟨1, ![n]⟩) o ![1] h).shape.numel = 1} {hp : EltTy.i32.packing = 1}
    {Q : Val .i32 → sProp 𝕄} {q : PosShare TreeShare} {X : (⟨1, ![n]⟩ : Shape).Idx → Val .i32} {i : ℕ} (e : o = ![i]) (hi : i < n) :
    owns c m q X ⊢ iprop((owns c m q X -∗ Q (X (ix1 ⟨i, hi⟩)))
        -∗ wp frame (wpE defs 𝒱 c bd) E (smemLoad m (Rect.unit (s := ⟨1, ![n]⟩) o ![1] h) h1 hp) Q) := by
  subst e
  unfold owns smemLoad
  iintro ⟨%f, %hf, H⟩ Hk
  iapply (wp_smemLoadElt 𝒱 c bd E (m := m) (r := Rect.unit (s := ⟨1, ![n]⟩) ![i] ![1] h) (S := m.view.set) (k := .ret) (Q := Q) (q := q) (f := f) (View.set_slice_subset m.view (Rect.unit (s := ⟨1, ![n]⟩) ![i] ![1] h))) $$ H
  iintro H
  iapply (le_wp_ret frame (wpE defs 𝒱 c bd) E)
  have hv : (m.access (Rect.unit (s := ⟨1, ![n]⟩) ![i] ![1] h)).read Val f (Shape.Idx.first (h1.symm ▸ Nat.one_pos)) = X (ix1 ⟨i, hi⟩) := by
    rw [← hf]
    show m.view.read Val f _ = _
    congr 1
    funext a
    fin_cases a
    apply Fin.ext
    show i + 1 * (Shape.Idx.first (s := ⟨1, ![1]⟩) _ 0).val = i
    have := (Shape.Idx.first (s := ⟨1, ![1]⟩) (h1.symm ▸ Nat.one_pos) 0).isLt
    simp at this ⊢
  rw [hv]
  iapply Hk
  iexists f
  isplitr; · ipureintro; exact hf
  iexact H

end Rules

/-! Where slices lie. -/

section Geo
variable {sig : RefSig} {κ : Kind} {sp : Space} {e : EltTy}

theorem mem_set2 {b c : ℕ} (v : View sig κ sp ⟨2, ![b, c]⟩ e) (i : v.ty.Idx) : i ∈ v.set ↔ ∃ (x : Fin b) (y : Fin c), v.emb (ix2 x y) = i := by
  constructor
  · intro h
    obtain ⟨z, -, rfl⟩ := Finset.mem_map.mp h
    exact ⟨z 0, z 1, congrArg v.emb (eq_ix2 z).symm⟩
  · rintro ⟨x, y, rfl⟩
    exact Finset.mem_map.mpr ⟨_, Finset.mem_univ _, rfl⟩

/-- A copy of a matrix lands as `g` where reading `g` back there gives what the source read. -/
theorem land2 {sp' : Space} {Val : EltTy → Type} {b c : ℕ} (src : View sig κ sp' ⟨2, ![b, c]⟩ e) (dst : View sig κ sp ⟨2, ![b, c]⟩ e)
    (fs : src.ty.Contents Val) (fd g : dst.ty.Contents Val) {Sd : Finset dst.ty.Idx} (hS : ∀ i ∈ Sd, ∃ x y, dst.emb (ix2 x y) = i)
    (hv : ∀ x y, src.read Val fs (ix2 x y) = dst.read Val g (ix2 x y)) (i : dst.ty.Idx) (hi : i ∈ Sd) :
    dst.write Val fd (src.read Val fs) Finset.univ i = g i := by
  obtain ⟨x, y, rfl⟩ := hS i hi
  rw [View.write_emb_of_mem _ _ (Finset.mem_univ _), hv, View.read_apply, cast_cast, cast_eq]

/-- A slice of one slot, its slot axis dropped. -/
theorem emb_slot {A B C b c sl p r : ℕ} (m : Memref sig κ sp ⟨3, ![A, B, C]⟩ e) {o : Fin 3 → ℕ} (eo : o = ![sl, p, r])
    (h : ∀ a, o a + ![1, b, c] a ≤ ![A, B, C] a) (hs) (hq : (Rect.unit (s := ⟨3, ![A, B, C]⟩) o ![1, b, c] h).shape.Squeezes ⟨2, ![b, c]⟩)
    (h0 : sl < A) (h1 : p + b ≤ B) (h2 : r + c ≤ C) (x : Fin b) (y : Fin c) :
    ((m.slice (Rect.unit (s := ⟨3, ![A, B, C]⟩) o ![1, b, c] h) hs).squeeze ⟨2, ![b, c]⟩ hq).view.emb (ix2 x y)
      = m.view.emb (ix3 ⟨sl, h0⟩ ⟨p + x, by omega⟩ ⟨r + y, by omega⟩) := by
  subst eo
  show m.view.emb ((Rect.unit (s := ⟨3, ![A, B, C]⟩) ![sl, p, r] ![1, b, c] h).emb (Shape.reshapeEquiv _ (ix2 x y))) = _
  rw [reshapeEquiv_ix2_1ab]
  congr 1
  funext a
  apply Fin.ext
  rw [ValueKit.rect_emb_unit_val]
  fin_cases a <;> rfl

/-- A slice of a matrix. -/
theorem emb_rows {B C b c p r : ℕ} (m : Memref sig κ sp ⟨2, ![B, C]⟩ e) {o : Fin 2 → ℕ} (eo : o = ![p, r])
    (h : ∀ a, o a + ![b, c] a ≤ ![B, C] a) (hs) (h1 : p + b ≤ B) (h2 : r + c ≤ C) (x : Fin b) (y : Fin c) :
    (m.slice (Rect.unit (s := ⟨2, ![B, C]⟩) o ![b, c] h) hs).view.emb (ix2 x y)
      = m.view.emb (ix2 ⟨p + x, by omega⟩ ⟨r + y, by omega⟩) := by
  subst eo
  show m.view.emb ((Rect.unit (s := ⟨2, ![B, C]⟩) ![p, r] ![b, c] h).emb (ix2 x y)) = _
  congr 1
  funext a
  apply Fin.ext
  rw [ValueKit.rect_emb_unit_val]
  fin_cases a <;> rfl

/-- A block of a stack of matrices, as a load or a store takes it. -/
theorem emb_blk3 {A B C a b c x0 y0 z0 : ℕ} (m : Memref sig κ sp ⟨3, ![A, B, C]⟩ e) {o : Fin 3 → ℕ} (eo : o = ![x0, y0, z0])
    (h : ∀ i, o i + ![a, b, c] i ≤ ![A, B, C] i) (h0 : x0 + a ≤ A) (h1 : y0 + b ≤ B) (h2 : z0 + c ≤ C) (x : Fin a) (y : Fin b) (z : Fin c) :
    (m.access (Rect.unit (s := ⟨3, ![A, B, C]⟩) o ![a, b, c] h)).emb (ix3 x y z) = m.view.emb (ix3 ⟨x0 + x, by omega⟩ ⟨y0 + y, by omega⟩ ⟨z0 + z, by omega⟩) := by
  subst eo
  show m.view.emb ((Rect.unit (s := ⟨3, ![A, B, C]⟩) ![x0, y0, z0] ![a, b, c] h).emb (ix3 x y z)) = _
  congr 1
  funext i
  apply Fin.ext
  rw [ValueKit.rect_emb_unit_val]
  fin_cases i <;> rfl

/-- A block of a matrix, as a load or a store takes it. -/
theorem emb_blk2 {B C b c y0 z0 : ℕ} (m : Memref sig κ sp ⟨2, ![B, C]⟩ e) {o : Fin 2 → ℕ} (eo : o = ![y0, z0])
    (h : ∀ i, o i + ![b, c] i ≤ ![B, C] i) (h1 : y0 + b ≤ B) (h2 : z0 + c ≤ C) (y : Fin b) (z : Fin c) :
    (m.access (Rect.unit (s := ⟨2, ![B, C]⟩) o ![b, c] h)).emb (ix2 y z) = m.view.emb (ix2 ⟨y0 + y, by omega⟩ ⟨z0 + z, by omega⟩) := by
  subst eo
  show m.view.emb ((Rect.unit (s := ⟨2, ![B, C]⟩) ![y0, z0] ![b, c] h).emb (ix2 y z)) = _
  congr 1
  funext i
  apply Fin.ext
  rw [ValueKit.rect_emb_unit_val]
  fin_cases i <;> rfl

/-- A store leaves `g` where the block of `g` is what is stored and the rest agrees with it already. -/
theorem stLand {Val : EltTy → Type} {s : Shape} (v : View sig κ sp s e) (f g : v.ty.Contents Val) (w : s.Idx → Val e) {S : Finset v.ty.Idx}
    (hw : ∀ x, w x = v.read Val g x) (hS : ∀ i ∈ S, (∃ x, v.emb x = i) ∨ f i = g i) (i : v.ty.Idx) (hi : i ∈ S) :
    v.write Val f w Finset.univ i = g i := by
  by_cases hm : ∃ x, v.emb x = i
  · obtain ⟨x, rfl⟩ := hm
    rw [View.write_emb_of_mem _ _ (Finset.mem_univ _), hw, View.read_apply, cast_cast, cast_eq]
  · rw [View.write_of_not_mem _ _ _ (by simpa [View.setOn, View.set] using fun x hx => hm ⟨x, hx⟩)]
    exact (hS i hi).resolve_left hm

end Geo

end Cert.Hand

end
-- ==== Proof.Rows.lean ====
/-
  The gather of one tile's rows: 256 copies, one row of words each, on one semaphore.
-/
module

public import proofs.«01_k».proof.Proof.Basic

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

/-! The buffers of the kernel. -/

abbrev mP : Memref sig .tc .hbm S164x1x256 .i32 := Memref.whole main_v4
abbrev mX : Memref sig .tc .hbm S16384x5120 .i32 := Memref.whole main_arg4
abbrev mW : Memref sig .tc .hbm S8x5120x1536 .bf16 := Memref.whole main_arg5
abbrev mO : Memref sig .tc .hbm S41984x1536 .bf16 := Memref.whole main_v6
abbrev bW : Memref sig .tc .vmem S2x5120x1536 .bf16 := Memref.whole cc0_scratch0
abbrev bR : Memref sig .tc .vmem S2x256x5120 .i32 := Memref.whole cc0_scratch1
abbrev bX : Memref sig .tc .vmem S256x5120 .bf16 := Memref.whole cc0_scratch2
abbrev bH : Memref sig .tc .vmem S2x256x1536 .bf16 := Memref.whole cc0_scratch3
abbrev bP : Memref sig .tc .vmem S2x1x256 .i32 := Memref.whole cc0_scratch4

abbrev EC (F : FTy → Type) : UEmb Counters (MT nD τ sig Unit (Elt F) ℕ (Pipeline.UD sig nD τ) ℕ) := countersEmb (U := Pipeline.UD sig nD τ)

/-- What one transfer of a shape counts on its semaphore. -/
def crd (s : Shape) (e : EltTy) : ℕ := RefSig.tileCredit s e
theorem crd_amt {sp : Space} {s : Shape} {e : EltTy} (m : Memref sig .tc sp s e) (x : DmaSem sig) : m.view.amount (.dma x) = crd s e := rfl
theorem crd_w {sp : Space} {s : Shape} {e : EltTy} (m : Memref sig .tc sp s e) : m.view.dmaCredit = crd s e := rfl
theorem crd_pos (s : Shape) (e : EltTy) (h : 0 < s.numel) : 0 < crd s e := RefSig.tileCredit_pos s e h

/-- A slot's cell of a pair of semaphores. -/
def cell (a : DmaSems sig S2) (sl : ℕ) (h : sl < 2) : DmaSem sig :=
  ((a.slice (Rect.unit (s := S2) ![sl] S1.size (in1 rfl (by omega)))).squeeze S_ squeezes_S1_S_).sem

theorem cell_eq (a : DmaSems sig S2) {o : Fin 1 → ℕ} {sl : ℕ} (e : o = ![sl]) (h : sl < 2) (hb : ∀ x, o x + S1.size x ≤ S2.size x) (hq : S1.Squeezes S_) :
    ((a.slice (Rect.unit (s := S2) o S1.size hb)).squeeze S_ hq).sem = cell a sl h := by
  subst e; rfl

/-- The elements of row `p` of slot `sl` of the raw buffer. -/
def rowSet (sl p : ℕ) : Finset S2x256x5120.Idx := Finset.univ.filter fun i => (i 0).val = sl ∧ (i 1).val = p
theorem mem_rowSet {sl p : ℕ} {i : S2x256x5120.Idx} : i ∈ rowSet sl p ↔ (i 0).val = sl ∧ (i 1).val = p := by
  simp [rowSet]

/-- The row of the buffer the `t`-th copy of a tile lands in, and back. -/
def rowOf (t : ℕ) : ℕ := 16 * (t / 16) + ((t % 16) / 2 + 8 * (t % 2))
def srcOf (p : ℕ) : ℕ := 16 * (p / 16) + (2 * (p % 8) + (p % 16) / 8)
theorem srcOf_rowOf (t : ℕ) : srcOf (rowOf t) = t := by
  obtain ⟨a, b, hb, rfl⟩ : ∃ a b, b < 16 ∧ t = 16 * a + b := ⟨t / 16, t % 16, Nat.mod_lt _ (by decide), (Nat.div_add_mod t 16).symm⟩
  have e : rowOf (16 * a + b) = 16 * a + (b / 2 + 8 * (b % 2)) := by unfold rowOf; omega
  rw [e]; unfold srcOf
  interval_cases b <;> omega
theorem rowOf_lt (t : ℕ) (h : t < 256) : rowOf t < 256 := by unfold rowOf; omega
theorem rowOf_srcOf (p : ℕ) : rowOf (srcOf p) = p := by
  obtain ⟨a, b, hb, rfl⟩ : ∃ a b, b < 16 ∧ p = 16 * a + b := ⟨p / 16, p % 16, Nat.mod_lt _ (by decide), (Nat.div_add_mod p 16).symm⟩
  have e : srcOf (16 * a + b) = 16 * a + (2 * (b % 8) + b / 8) := by unfold srcOf; omega
  rw [e]; unfold rowOf
  interval_cases b <;> omega
theorem srcOf_lt (p : ℕ) (h : p < 256) : srcOf p < 256 := by unfold srcOf; omega

/-- The word of a vector of words at position `n`. -/
def wd {N : ℕ} (v : (⟨1, ![N]⟩ : Shape).Idx → Elt F .i32) (n : ℕ) : BitVec 32 := if h : n < N then v (ix1 ⟨n, h⟩) else 0#32
theorem wd_eq {N : ℕ} (v : (⟨1, ![N]⟩ : Shape).Idx → Elt F .i32) (n : ℕ) (h : n < N) : v (ix1 ⟨n, h⟩) = wd v n := by
  unfold wd; rw [dif_pos h]

/-- The raw words of tile `j`: row `rowOf t` holds the pair of rows that row `256 j + t` is gathered from. -/
def rawC (X : S16384x5120.Idx → Elt F .i32) (tok : S41984.Idx → Elt F .i32) (j : ℕ) : S2x256x5120.Idx → Elt F .i32 :=
  fun i => X (ix2 ⟨(wd tok (256 * j + srcOf (i 1).val)).toNat / 2 % 16384, Nat.mod_lt _ (by decide)⟩ (i 2))

variable (c : Dev nD) (X : S16384x5120.Idx → Elt F .i32) (tok : S41984.Idx → Elt F .i32)

/-- What the `t`-th row copy of tile `j` delivers. -/
def rowD (j sl : ℕ) (t : Fin 256) : sProp 𝕄 :=
  iprop((bR.view.loc (c : Thread nD τ) ↦[rowSet sl (rowOf t)]{fullShare} rawC X tok j) ∗ (mX.view.loc (c : Thread nD τ) ↦[Finset.univ]{shareTok fullShare 256 t} X))

/-- `k` of the row copies of tile `j` are issued: the rest of the slot's rows and of the read shares are at hand. -/
def gath (j sl : ℕ) (h : sl < 2) (f0 : S2x256x5120.Idx → Elt F .i32) (k : ℕ) : sProp 𝕄 :=
  iprop(Batch (EC F) (c : Thread nD τ) (.dma (cell cc0_scratch5 sl h)) () (crd S1x5120 .i32) (rowD c X tok j sl) k 0
    ∗ bigSep (pending k) (fun t : Fin 256 => iprop((bR.view.loc (c : Thread nD τ) ↦[rowSet sl (rowOf t)]{fullShare} f0) ∗ (mX.view.loc (c : Thread nD τ) ↦[Finset.univ]{shareTok fullShare 256 t} X))))

theorem wp_row {𝒱 : Variants} {bd : Option 𝒱.V} {j sl k : ℕ} (h : sl < 2) (f0 : S2x256x5120.Idx → Elt F .i32) {os : Fin 1 → ℕ} {o3 : Fin 3 → ℕ} {ox : Fin 2 → ℕ}
    (hk : k < 256) (es : os = ![sl]) (e3 : o3 = ![sl, rowOf k, 0]) (ex : ox = ![(wd tok (256 * j + k)).toNat / 2, 0]) (hx : (wd tok (256 * j + k)).toNat < 32768)
    {hb1} {hb3} {hbx} {hs3} {hsx} {hq} {hsrc} {hdst} {hsem} {Q : PUnit → sProp 𝕄} :
    gath c X tok j sl h f0 k ⊢ iprop((gath c X tok j sl h f0 (k + 1) -∗ Q ⟨⟩)
      -∗ wp frame (wpE (defs₀ (F := F)) 𝒱 (c : Thread nD τ) bd) Set.univ
        (Prog.lift (TpuEff.enqueueDma (mX.slice (Rect.unit (s := S16384x5120) ox S1x5120.size hbx) hsx)
          (.here ((bR.slice (Rect.unit (s := S2x256x5120) o3 S1x1x5120.size hb3) hs3).squeeze S1x5120 hq))
          (.dma ((cc0_scratch5.slice (Rect.unit (s := S2) os S1.size hb1)).squeeze S_ squeezes_S1_S_).sem) hsrc hdst hsem)) Q) := by
  have hr := rowOf_lt k hk
  unfold gath
  iintro ⟨HB, HR⟩ Hk
  ihave HR' := (Entails.of_eq (bigSep_pending_step _ k hk)) $$ HR
  icases HR' with ⟨⟨Hd, Hs⟩, HR⟩
  have hc := cell_eq cc0_scratch5 es h hb1 squeezes_S1_S_
  revert hsem
  rw [hc]
  intro hsem
  iapply (wp_dmaB (defs := defs₀ (F := F)) (src := mX.slice (Rect.unit (s := S16384x5120) ox S1x5120.size hbx) hsx)
    (dst := (bR.slice (Rect.unit (s := S2x256x5120) o3 S1x1x5120.size hb3) hs3).squeeze S1x5120 hq) (EC F) 𝒱 (c : Thread nD τ) bd () (crd S1x5120 .i32) (g := rawC X tok j) (D := rowD c X tok j sl) (j := k) (u := 0)
    (q := shareTok fullShare 256 ⟨k, hk⟩) (fs := X) (Ss := Finset.univ) (Sd := rowSet sl (rowOf k)) (fd := f0) (crd_amt _ _) (Finset.subset_univ _) ?_ hk (Nat.zero_le _) ?_ .rfl) $$ [HB Hd Hs]
  · intro i hi
    obtain ⟨x, y, rfl⟩ := (mem_set2 _ i).1 hi
    rw [emb_slot bR e3 hb3 hs3 hq h (by omega) (by omega)]
    refine mem_rowSet.2 ⟨rfl, ?_⟩
    show rowOf k + x.val = rowOf k
    omega
  · refine land2 (src := (mX.slice (Rect.unit (s := S16384x5120) ox S1x5120.size hbx) hsx).view)
      (dst := ((bR.slice (Rect.unit (s := S2x256x5120) o3 S1x1x5120.size hb3) hs3).squeeze S1x5120 hq).view) X f0 (rawC X tok j) ?_ ?_
    · intro i hi
      obtain ⟨h0, h1⟩ := mem_rowSet.1 hi
      refine ⟨(0 : Fin 1), (i 2 : Fin 5120), (emb_slot bR e3 hb3 hs3 hq h (by omega) (by omega) _ _).trans ?_⟩
      refine Eq.symm ((eq_ix3 i).trans (congr (congr (congrArg ix3 ?_) ?_) ?_))
      · exact Fin.ext h0
      · exact Fin.ext (by show (i 1).val = rowOf k + 0; omega)
      · exact Fin.ext (by show (i 2).val = 0 + (i 2).val; omega)
    · intro x y
      refine (congrArg X (emb_rows mX ex hbx hsx (by omega) (by omega) x y)).trans
        (Eq.trans ?_ (congrArg (rawC X tok j) (emb_slot bR e3 hb3 hs3 hq h (by omega) (by omega) x y)).symm)
      show X _ = X _
      refine congrArg X (congr (congrArg ix2 (Fin.ext ?_)) (Fin.ext rfl))
      show (wd tok (256 * j + k)).toNat / 2 + x.val = (wd tok (256 * j + srcOf (rowOf k + x.val))).toNat / 2 % 16384
      have hx0 : x.val = 0 := by omega
      rw [hx0, Nat.add_zero, Nat.add_zero, srcOf_rowOf]
      omega
  · isplitl [Hs]; · iexact Hs
    isplitl [Hd]; · iexact Hd
    iexact HB
  iintro HB
  iapply Hk
  isplitl [HB] <;> iassumption

end Cert.Hand

end
-- ==== Proof.Shots.lean ====
/-
  Copies that fly alone on their semaphore: the parities of a tile, an expert's weights, a finished tile of the result.
-/
module

public import proofs.«01_k».proof.Proof.Rows

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD)

/-- One transfer in flight on a cell, owing `D`. -/
def shot (x : DmaSem sig) (N : ℕ) (D : sProp 𝕄) : sProp 𝕄 :=
  Batch (EC F) (c : Thread nD τ) (.dma x) () N (fun _ : Fin 1 => D) 1 0

theorem wp_shot {𝒱 : Variants} {bd : Option 𝒱.V} {sp sp' : Space} {b d : ℕ} {e : EltTy}
    {src : Memref sig .tc sp ⟨2, ![b, d]⟩ e} {dst : Memref sig .tc sp' ⟨2, ![b, d]⟩ e} {x : DmaSem sig}
    {hsrc : src.view.WordExact} {hdst : dst.view.WordExact} {hsem}
    {Q : PUnit → sProp 𝕄} {q : PosShare TreeShare} {fs : Buf (Elt F) (src.view.loc (c : Thread nD τ))} {Ss : Finset (Idx (src.view.loc (c : Thread nD τ)))}
    {Sd : Finset (Idx (dst.view.loc (c : Thread nD τ)))} {fd g : Buf (Elt F) (dst.view.loc (c : Thread nD τ))}
    (hSs : ∀ x y, src.view.emb (ix2 x y) ∈ Ss) (hSd : ∀ x y, dst.view.emb (ix2 x y) ∈ Sd) (hS : ∀ i ∈ Sd, ∃ x y, dst.view.emb (ix2 x y) = i)
    (hv : ∀ x y, src.view.read (Elt F) fs (ix2 x y) = dst.view.read (Elt F) g (ix2 x y)) :
    iprop((src.view.loc (c : Thread nD τ) ↦[Ss]{q} fs) ∗ (dst.view.loc (c : Thread nD τ) ↦[Sd]{fullShare} fd) ∗ semVal ((c : Thread nD τ), .dma x) 0)
      ⊢ iprop((shot c x (crd ⟨2, ![b, d]⟩ e) iprop((dst.view.loc (c : Thread nD τ) ↦[Sd]{fullShare} g) ∗ (src.view.loc (c : Thread nD τ) ↦[Ss]{q} fs)) -∗ Q ⟨⟩)
          -∗ wp frame (wpE (defs₀ (F := F)) 𝒱 (c : Thread nD τ) bd) Set.univ (Prog.lift (TpuEff.enqueueDma src (.here dst) (.dma x) hsrc hdst hsem)) Q) := by
  iintro ⟨Hs, Hd, Hc⟩ Hk
  imod (Transfers.batch_alloc' (Lvl := ℕ) (EC F) (c : Thread nD τ) () (crd ⟨2, ![b, d]⟩ e)
    (fun _ : Fin 1 => iprop((dst.view.loc (c : Thread nD τ) ↦[Sd]{fullShare} g) ∗ (src.view.loc (c : Thread nD τ) ↦[Ss]{q} fs))) (sm := SemLoc.dma x) (E := Set.univ)) $$ Hc with HB
  iapply (wp_dmaB (defs := defs₀ (F := F)) (src := src) (dst := dst) (EC F) 𝒱 (c : Thread nD τ) bd () (crd ⟨2, ![b, d]⟩ e) (g := g) (D := fun _ : Fin 1 => iprop((dst.view.loc (c : Thread nD τ) ↦[Sd]{fullShare} g) ∗ (src.view.loc (c : Thread nD τ) ↦[Ss]{q} fs))) (j := 0) (u := 0) (fs := fs) (Ss := Ss) (Sd := Sd) (fd := fd)
    (crd_amt _ _) (fun i hi => by obtain ⟨x, y, rfl⟩ := (mem_set2 _ i).1 hi; exact hSs x y) (fun i hi => by obtain ⟨x, y, rfl⟩ := (mem_set2 _ i).1 hi; exact hSd x y)
    Nat.one_pos (Nat.zero_le _) (land2 src.view dst.view fs fd g hS hv) .rfl) $$ [Hs Hd HB]
  · isplitl [Hs]; · iexact Hs
    isplitl [Hd]; · iexact Hd
    iexact HB
  iintro HB
  iapply Hk
  unfold shot
  iexact HB

theorem wp_unshot {𝒱 : Variants} {bd : Option 𝒱.V} {sp sp' : Space} {s s' : Shape} {e e' : EltTy} {x : DmaSem sig}
    {srcw : Memref sig .tc sp' s' e'} {dstw : Memref sig .tc sp s e} {hsrc : srcw.view.WordExact} {hdst : dstw.view.WordExact}
    {Q : PUnit → sProp 𝕄} (hs : 0 < s.numel) {D : sProp 𝕄} :
    iprop(shot c x (crd s e) D ∗ (∃ W, owes (c : Thread nD τ) 0 W))
      ⊢ iprop((iprop(D ∗ semVal ((c : Thread nD τ), .dma x) 0 ∗ (∃ W, owes (c : Thread nD τ) 0 W)) -∗ Q ⟨⟩)
          -∗ wp frame (wpE (defs₀ (F := F)) 𝒱 (c : Thread nD τ) bd) Set.univ (Prog.lift (TpuEff.waitDma2 x srcw dstw hsrc hdst)) Q) := by
  unfold shot
  iintro ⟨HB, HW⟩ Hk
  iapply (wp_waitB (defs := defs₀ (F := F)) (EC F) 𝒱 (c : Thread nD τ) bd () (N := crd s e) (crd_w _) (j := 1) (u := 0) (by omega)) $$ [HB HW]
  · isplitl [HB] <;> iassumption
  iintro ⟨HB, HW⟩
  ihave HB' := (Entails.of_eq (show Batch (EC F) (c : Thread nD τ) (.dma x) () (crd s e) (fun _ : Fin 1 => D) 1 (0 + crd s e)
    = Batch (EC F) (c : Thread nD τ) (.dma x) () (crd s e) (fun _ : Fin 1 => D) 1 (crd s e * 1) by rw [Nat.zero_add, Nat.mul_one])) $$ HB
  imod (Transfers.batch_collect' (Lvl := ℕ) (EC F) (c : Thread nD τ) (n := 1) (N := crd s e) (crd_pos s e hs)) $$ HB' with ⟨HD, Hc⟩
  imodintro
  iapply Hk
  isplitl [HD]
  · iapply (Entails.of_eq (show bigSep (Finset.univ : Finset (Fin 1)) (fun _ => D) = D by rw [show (Finset.univ : Finset (Fin 1)) = {0} from rfl, bigSep_singleton])) $$ HD
  isplitl [Hc] <;> iassumption

end Cert.Hand

end
-- ==== Proof.T4.lean ====
/-
  One trip of the two gather loops: sixteen rows issued.
-/
module

public import proofs.«01_k».proof.Proof.Rows

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (X : S16384x5120.Idx → Elt F .i32) (tok : S41984.Idx → Elt F .i32)

/-- The words of `tok` below `n` name rows. -/
def TokOk (tok : S41984.Idx → Elt F .i32) (n : ℕ) : Prop := ∀ p, p < n → (wd tok p).toNat < 32768

theorem wp_tok {𝒱 : Variants} {bd : Option 𝒱.V} {a1 : Memref sig .tc .smem S41984 .i32} {o : Fin 1 → ℕ} {h : ∀ a, o a + S1.size a ≤ S41984.size a}
    {h1 : (Rect.unit (s := S41984) o S1.size h).shape.numel = 1} {hp : EltTy.i32.packing = 1}
    {Q : Elt F .i32 → sProp 𝕄} {q : PosShare TreeShare} {n : ℕ} (e : o = ![n]) (hn : n < 41984) :
    owns (c : Thread nD τ) a1 q tok ⊢ iprop((owns (c : Thread nD τ) a1 q tok -∗ Q (wd tok n))
      -∗ wp frame (wpE (defs₀ (F := F)) 𝒱 (c : Thread nD τ) bd) Set.univ (smemLoad a1 (Rect.unit (s := S41984) o S1.size h) h1 hp) Q) := by
  rw [← wd_eq tok n hn]
  exact wp_word 𝒱 (c : Thread nD τ) bd Set.univ e hn

theorem rowOf_at (q r : ℕ) (h : r < 16) : rowOf (16 * q + r) = 16 * q + (r / 2 + 8 * (r % 2)) := by unfold rowOf; omega

theorem tok_lt {v j q : ℕ} (k : BitVec 32) (hv : v ≤ 164) (hj : j + 1 < v) (hq : q < 16) (hk : k.toNat < 16) : 256 * (j + 1) + (16 * q + k.toNat) < 256 * v := by omega

/-- As `wp_row`, at the word as it was read. -/
theorem wp_rowq {𝒱 : Variants} {bd : Option 𝒱.V} {j sl n : ℕ} {v : BitVec 32} (h : sl < 2) (f0 : S2x256x5120.Idx → Elt F .i32) {os : Fin 1 → ℕ} {o3 : Fin 3 → ℕ} {ox : Fin 2 → ℕ}
    (hn : n < 256) (hv : v = wd tok (256 * j + n)) (es : os = ![sl]) (e3 : o3 = ![sl, rowOf n, 0]) (ex : ox = ![v.toNat / 2, 0]) (hx : v.toNat < 32768)
    {hb1} {hb3} {hbx} {hs3} {hsx} {hq'} {hsrc} {hdst} {hsem} {Q : PUnit → sProp 𝕄} :
    gath c X tok j sl h f0 n ⊢ iprop((gath c X tok j sl h f0 (n + 1) -∗ Q ⟨⟩)
      -∗ wp frame (wpE (defs₀ (F := F)) 𝒱 (c : Thread nD τ) bd) Set.univ
        (Prog.lift (TpuEff.enqueueDma (mX.slice (Rect.unit (s := S16384x5120) ox S1x5120.size hbx) hsx)
          (.here ((bR.slice (Rect.unit (s := S2x256x5120) o3 S1x1x5120.size hb3) hs3).squeeze S1x5120 hq'))
          (.dma ((cc0_scratch5.slice (Rect.unit (s := S2) os S1.size hb1)).squeeze S_ squeezes_S1_S_).sem) hsrc hdst hsem)) Q) := by
  subst hv
  exact wp_row c X tok h f0 hn es e3 ex hx

/-- A trip of the loop that gathers the next tile's rows. -/
theorem trip4 {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}
    (v0 : Elt F .i32) (hv : InR v0) (hw : k0_chk19 v0) (t : Fin (k0_t2_loop v0).trips) (hc : k0_cond1 v0 t = 1#1) (v145 : BitVec 32) (q : Fin k0_t4_loop.trips)
    {q1 : PosShare TreeShare} (htok : TokOk tok (256 * v0.toNat)) (f0 : S2x256x5120.Idx → Elt F .i32) (hs : 1 - t.val % 2 < 2) {Q : Unit → sProp 𝕄} :
    iprop(gath c X tok (t.val + 1) (1 - t.val % 2) hs f0 (16 * q.val) ∗ owns (c : Thread nD τ) a1 q1 tok)
      ⊢ iprop((iprop(gath c X tok (t.val + 1) (1 - t.val % 2) hs f0 (16 * (q.val + 1)) ∗ owns (c : Thread nD τ) a1 q1 tok) -∗ Q ⟨⟩)
        -∗ wp frame (wpE (defs₀ (F := F)) Variants.none (c : Thread nD τ) none) Set.univ
          (k0_t4_body a0 h0 a1 h1 a2 h2 a3 h3 mP hP mX hX mW hW a7 h7 mO hO bW hbW bR hbR bX hbX bH hbH bP hbP cc0_scratch5 cc0_scratch6 cc0_scratch7 cc0_scratch8 v0 hw 0#32 1#32 t hc v145 q ⟨⟩) Q) := by
  have hq : q.val < 16 := q.isLt
  have hj := t2_lt hv t
  have hj1 := (cond1_iff hv t).1 hc
  have hv1 := hv.hi
  unfold k0_t4_body
  simp only [k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part13_skel, k0_part14_skel, k0_part15_skel, k0_part16_skel, k0_part17_skel, k0_part18_skel, k0_part19_skel, k0_part20_skel, k0_part21_skel,
    k0_part22_skel, k0_part23_skel, k0_part24_skel, bind_assoc, pure_bind]
  iintro ⟨HG, HT⟩ Hk
  iterate 16
    rw [wp_bind]
    iapply (wp_tok c tok (o1 (w_tok t.val q.val _ (by omega) hq (by decide))) (lt_of_lt_of_le (tok_lt _ hv1 hj1 hq (by decide)) (by omega))) $$ HT
    iintro HT
    rw [wp_bind]
    iapply (wp_asm Variants.none (c : Thread nD τ) none Set.univ (chk20 t _ (htok _ (tok_lt _ hv1 hj1 hq (by decide)))))
    rw [wp_bind]
    iapply (wp_rowq c X tok hs f0 (by omega) (by rfl) (o1 (w_other t.val (by omega))) (o32 (w_other t.val (by omega)) ((w_row q.val _ hq (by decide)).trans (by unfold rowOf; simp; omega)))
      (w_half _ (htok _ (tok_lt _ hv1 hj1 hq (by decide)))) (htok _ (tok_lt _ hv1 hj1 hq (by decide)))) $$ HG
    iintro HG
  rw [wp_pure]
  imodintro
  iapply Hk
  isplitl [HG] <;> iassumption

/-- Where the first tile's words are. -/
theorem w_tok0 (q : ℕ) (k : BitVec 32) (h : q < 16) (hk : k.toNat < 16) :
    (Scalar.indexCast (Scalar.addi (Scalar.addi 0#32 (Scalar.muli (Scf.iv 0#32 1#32 q) 16#32)) k)).toNat = 256 * 0 + (16 * q + k.toNat) := by
  show (0#32 + Scf.iv 0#32 1#32 q * 16#32 + k).toNat = _
  simp only [BitVec.toNat_add, BitVec.toNat_mul, w_iv q (by omega)]; simp; omega

theorem tok_lt0 {q : ℕ} (k : BitVec 32) (hq : q < 16) (hk : k.toNat < 16) : 256 * 0 + (16 * q + k.toNat) < 256 := by omega

/-- A trip of the loop that gathers the first tile's rows. -/
theorem trip1 {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}
    (q : Fin k0_t1_loop.trips)
    {q1 : PosShare TreeShare} (htok : TokOk tok 256) (f0 : S2x256x5120.Idx → Elt F .i32) {Q : Unit → sProp 𝕄} :
    iprop(gath c X tok 0 0 (by decide) f0 (16 * q.val) ∗ owns (c : Thread nD τ) a1 q1 tok)
      ⊢ iprop((iprop(gath c X tok 0 0 (by decide) f0 (16 * (q.val + 1)) ∗ owns (c : Thread nD τ) a1 q1 tok) -∗ Q ⟨⟩)
        -∗ wp frame (wpE (defs₀ (F := F)) Variants.none (c : Thread nD τ) none) Set.univ
          (k0_t1_body a0 h0 a1 h1 a2 h2 a3 h3 mP hP mX hX mW hW a7 h7 mO hO bW hbW bR hbR bX hbX bH hbH bP hbP cc0_scratch5 cc0_scratch6 cc0_scratch7 cc0_scratch8 q ⟨⟩) Q) := by
  have hq : q.val < 16 := q.isLt
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton,
    k0_part1_skel, k0_part2_skel, k0_part3_skel, k0_part4_skel, k0_part5_skel, k0_part6_skel, k0_part7_skel, k0_part8_skel, k0_part9_skel, k0_part10_skel, k0_part11_skel, k0_part12_skel, bind_assoc, pure_bind]
  iintro ⟨HG, HT⟩ Hk
  iterate 16
    rw [wp_bind]
    iapply (wp_tok c tok (o1 (w_tok0 q.val _ hq (by decide))) (lt_of_lt_of_le (tok_lt0 _ hq (by decide)) (by omega))) $$ HT
    iintro HT
    rw [wp_bind]
    iapply (wp_asm Variants.none (c : Thread nD τ) none Set.univ (chkX _ (htok _ (tok_lt0 _ hq (by decide)))))
    rw [wp_bind]
    iapply (wp_rowq c X tok _ f0 (by omega) (by rfl) rfl (o32 rfl ((w_row q.val _ hq (by decide)).trans (by unfold rowOf; simp; omega)))
      (w_half _ (htok _ (tok_lt0 _ hq (by decide)))) (htok _ (tok_lt0 _ hq (by decide)))) $$ HG
    iintro HG
  rw [wp_pure]
  imodintro
  iapply Hk
  isplitl [HG] <;> iassumption

end Cert.Hand

end
-- ==== Proof.Tile.lean ====
/-
  What the kernel computes for one tile, and the copies of one tile.
-/
module

public import proofs.«01_k».proof.Proof.Shots
public import proofs.«01_k».proof.Proof.T4

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

/-- The contents the kernel starts from. -/
structure In (F : FTy → Type) where
  v0 : BitVec 32
  tok : S41984.Idx → Elt F .i32
  te : ℕ → S164.Idx → Elt F .i32
  P : S164x1x256.Idx → Elt F .i32
  X : S16384x5120.Idx → Elt F .i32
  W : S8x5120x1536.Idx → Elt F .bf16
  B : S8x1x1536.Idx → Elt F .bf16
  V : S41984x1536.Idx → Elt F .bf16

/-- The words the kernel reads name what is there. -/
structure In.Ok (I : In F) : Prop where
  n : InR I.v0
  tok : TokOk I.tok (256 * I.v0.toNat)
  te : ∀ s p, p < I.v0.toNat → (wd (I.te s) p).toNat < 8

variable (c : Dev nD) (I : In F)

/-- The expert of tile `j` for half `s`. -/
def ex (s j : ℕ) : ℕ := (wd (I.te s) j).toNat

def pvec (j : ℕ) : Vec F S1x1x256 .i32 := fun i => I.P (ix3 ⟨j % 164, Nat.mod_lt _ (by decide)⟩ 0 (i 2))
def rblk (j k : ℕ) : Vec F S1x256x128 .i32 := fun i => rawC I.X I.tok j (ix3 0 (i 1) ⟨(128 * k + (i 2).val) % 5120, Nat.mod_lt _ (by decide)⟩)
/-- The gathered rows of tile `j`. -/
def xbf (j : ℕ) : Vec F S256x5120 .bf16 := fun i => k0_pay1 (pvec I j) (rblk I j ((i 1).val / 128)) (ix2 (i 0) ⟨(i 1).val % 128, Nat.mod_lt _ (by decide)⟩)
def wvec (e : ℕ) : Vec F S1x5120x1536 .bf16 := fun i => I.W (ix3 ⟨e % 8, Nat.mod_lt _ (by decide)⟩ (i 1) (i 2))
def bvec (e : ℕ) : Vec F S1x1x1536 .bf16 := fun i => I.B (ix3 ⟨e % 8, Nat.mod_lt _ (by decide)⟩ 0 (i 2))
/-- Tile `j` of half `s`. -/
def half (s j : ℕ) : FVec F S1x256x768 .bf16 := k0_pay2 (xbf I j) (wvec I (ex I s j)) (bvec I (ex I s j))
def hT (j : ℕ) (r : Fin 256) (k : Fin 1536) : Elt F .bf16 :=
  if h : k.val < 768 then half I 0 j (ix3 0 r ⟨k.val, h⟩) else half I 1 j (ix3 0 r ⟨k.val - 768, by omega⟩)

/-! The buffers' contents: a slot's contents are given whatever the slot is. -/

def parC (j : ℕ) : S2x1x256.Idx → Elt F .i32 := fun i => I.P (ix3 ⟨j % 164, Nat.mod_lt _ (by decide)⟩ 0 (i 2))
def wC (e : ℕ) : S2x5120x1536.Idx → Elt F .bf16 := fun i => I.W (ix3 ⟨e % 8, Nat.mod_lt _ (by decide)⟩ (i 1) (i 2))
def hC (j : ℕ) : S2x256x1536.Idx → Elt F .bf16 := fun i => hT I j (i 1) (i 2)
/-- The result: the tiles in use, the rest as it was. -/
def G : S41984x1536.Idx → Elt F .bf16 := fun i =>
  if (i 0).val < 256 * I.v0.toNat then hT I ((i 0).val / 256) ⟨(i 0).val % 256, Nat.mod_lt _ (by decide)⟩ (i 1) else I.V i

/-- Slot `sl` of a buffer. -/
def slotS (A B C sl : ℕ) : Finset (⟨3, ![A, B, C]⟩ : Shape).Idx := Finset.univ.filter fun i => (i 0).val = sl
theorem mem_slotS {A B C sl : ℕ} {i : (⟨3, ![A, B, C]⟩ : Shape).Idx} : i ∈ slotS A B C sl ↔ (i 0).val = sl := by simp [slotS]
/-- The rows of the result from `a` up to `b`. -/
def rowsO (a b : ℕ) : Finset S41984x1536.Idx := Finset.univ.filter fun i => a ≤ (i 0).val ∧ (i 0).val < b
theorem mem_rowsO {a b : ℕ} {i : S41984x1536.Idx} : i ∈ rowsO a b ↔ a ≤ (i 0).val ∧ (i 0).val < b := by simp [rowsO]

/-- The parities of tile `j` in flight. -/
def parS (j sl : ℕ) (h : sl < 2) : sProp 𝕄 := shot c (cell cc0_scratch8 sl h) (crd S1x256 .i32)
  iprop((bP.view.loc (c : Thread nD τ) ↦[slotS 2 1 256 sl]{fullShare} parC I j) ∗ (mP.view.loc (c : Thread nD τ) ↦[Finset.univ]{fullShare} I.P))
/-- The weights of expert `e` in flight to slot `s`. -/
def wS (e s : ℕ) (h : s < 2) : sProp 𝕄 := shot c (cell cc0_scratch6 s h) (crd S5120x1536 .bf16)
  iprop((bW.view.loc (c : Thread nD τ) ↦[slotS 2 5120 1536 s]{fullShare} wC I e) ∗ (mW.view.loc (c : Thread nD τ) ↦[Finset.univ]{shareTok fullShare 2 ⟨s, h⟩} I.W))
/-- Tile `j` of the result in flight. -/
def hS (j sl : ℕ) (h : sl < 2) : sProp 𝕄 := shot c (cell cc0_scratch7 sl h) (crd S256x1536 .bf16)
  iprop((mO.view.loc (c : Thread nD τ) ↦[rowsO (256 * j) (256 * (j + 1))]{fullShare} G I) ∗ (bH.view.loc (c : Thread nD τ) ↦[slotS 2 256 1536 sl]{fullShare} hC I j))

variable {𝒱 : Variants} {bd : Option 𝒱.V}

theorem wp_par {j sl : ℕ} (h : sl < 2) (hj : j < 164) {os : Fin 1 → ℕ} {od op : Fin 3 → ℕ} {f0 : S2x1x256.Idx → Elt F .i32}
    (es : os = ![sl]) (ed : od = ![sl, 0, 0]) (ep : op = ![j, 0, 0]) {hb1} {hbd} {hbp} {hsd} {hsp} {hqd} {hqp} {hsrc} {hdst} {hsem} {Q : PUnit → sProp 𝕄} :
    iprop((mP.view.loc (c : Thread nD τ) ↦[Finset.univ]{fullShare} I.P) ∗ (bP.view.loc (c : Thread nD τ) ↦[slotS 2 1 256 sl]{fullShare} f0) ∗ semVal ((c : Thread nD τ), .dma (cell cc0_scratch8 sl h)) 0)
      ⊢ iprop((parS c I j sl h -∗ Q ⟨⟩) -∗ wp frame (wpE (defs₀ (F := F)) 𝒱 (c : Thread nD τ) bd) Set.univ
        (Prog.lift (TpuEff.enqueueDma ((mP.slice (Rect.unit (s := S164x1x256) op S1x1x256.size hbp) hsp).squeeze S1x256 hqp)
          (.here ((bP.slice (Rect.unit (s := S2x1x256) od S1x1x256.size hbd) hsd).squeeze S1x256 hqd))
          (.dma ((cc0_scratch8.slice (Rect.unit (s := S2) os S1.size hb1)).squeeze S_ squeezes_S1_S_).sem) hsrc hdst hsem)) Q) := by
  subst es
  refine wp_shot c (src := (mP.slice (Rect.unit (s := S164x1x256) op S1x1x256.size hbp) hsp).squeeze S1x256 hqp)
    (dst := (bP.slice (Rect.unit (s := S2x1x256) od S1x1x256.size hbd) hsd).squeeze S1x256 hqd) (x := cell cc0_scratch8 sl h) (fs := I.P) (Ss := Finset.univ)
    (Sd := slotS 2 1 256 sl) (fd := f0) (g := parC I j) (fun _ _ => Finset.mem_univ _) ?_ ?_ ?_
  · intro x y
    rw [emb_slot bP ed hbd hsd hqd h (by omega) (by omega)]
    exact mem_slotS.2 rfl
  · intro i hi
    refine ⟨(i 1 : Fin 1), (i 2 : Fin 256), (emb_slot bP ed hbd hsd hqd h (by omega) (by omega) _ _).trans ?_⟩
    refine Eq.symm ((eq_ix3 i).trans (congr (congr (congrArg ix3 ?_) ?_) ?_))
    · exact Fin.ext (mem_slotS.1 hi)
    · exact Fin.ext (by show (i 1).val = 0 + (i 1).val; omega)
    · exact Fin.ext (by show (i 2).val = 0 + (i 2).val; omega)
  · intro x y
    refine (congrArg I.P (emb_slot mP ep hbp hsp hqp hj (by omega) (by omega) x y)).trans
      (Eq.trans ?_ (congrArg (parC I j) (emb_slot bP ed hbd hsd hqd h (by omega) (by omega) x y)).symm)
    refine congrArg I.P (congr (congr (congrArg ix3 (Fin.ext ?_)) (Fin.ext ?_)) (Fin.ext rfl))
    · show j = j % 164; omega
    · show 0 + x.val = 0; omega

theorem wp_wcp {e s : ℕ} (h : s < 2) (he : e < 8) {os : Fin 1 → ℕ} {od op : Fin 3 → ℕ} {f0 : S2x5120x1536.Idx → Elt F .bf16}
    (es : os = ![s]) (ed : od = ![s, 0, 0]) (ep : op = ![e, 0, 0]) {hb1} {hbd} {hbp} {hsd} {hsp} {hqd} {hqp} {hsrc} {hdst} {hsem} {Q : PUnit → sProp 𝕄} :
    iprop((mW.view.loc (c : Thread nD τ) ↦[Finset.univ]{shareTok fullShare 2 ⟨s, h⟩} I.W) ∗ (bW.view.loc (c : Thread nD τ) ↦[slotS 2 5120 1536 s]{fullShare} f0) ∗ semVal ((c : Thread nD τ), .dma (cell cc0_scratch6 s h)) 0)
      ⊢ iprop((wS c I e s h -∗ Q ⟨⟩) -∗ wp frame (wpE (defs₀ (F := F)) 𝒱 (c : Thread nD τ) bd) Set.univ
        (Prog.lift (TpuEff.enqueueDma ((mW.slice (Rect.unit (s := S8x5120x1536) op S1x5120x1536.size hbp) hsp).squeeze S5120x1536 hqp)
          (.here ((bW.slice (Rect.unit (s := S2x5120x1536) od S1x5120x1536.size hbd) hsd).squeeze S5120x1536 hqd))
          (.dma ((cc0_scratch6.slice (Rect.unit (s := S2) os S1.size hb1)).squeeze S_ squeezes_S1_S_).sem) hsrc hdst hsem)) Q) := by
  subst es
  refine wp_shot c (src := (mW.slice (Rect.unit (s := S8x5120x1536) op S1x5120x1536.size hbp) hsp).squeeze S5120x1536 hqp)
    (dst := (bW.slice (Rect.unit (s := S2x5120x1536) od S1x5120x1536.size hbd) hsd).squeeze S5120x1536 hqd) (x := cell cc0_scratch6 s h) (fs := I.W) (Ss := Finset.univ)
    (Sd := slotS 2 5120 1536 s) (fd := f0) (g := wC I e) (fun _ _ => Finset.mem_univ _) ?_ ?_ ?_
  · intro x y
    rw [emb_slot bW ed hbd hsd hqd h (by omega) (by omega)]
    exact mem_slotS.2 rfl
  · intro i hi
    refine ⟨(i 1 : Fin 5120), (i 2 : Fin 1536), (emb_slot bW ed hbd hsd hqd h (by omega) (by omega) _ _).trans ?_⟩
    refine Eq.symm ((eq_ix3 i).trans (congr (congr (congrArg ix3 ?_) ?_) ?_))
    · exact Fin.ext (mem_slotS.1 hi)
    · exact Fin.ext (by show (i 1).val = 0 + (i 1).val; omega)
    · exact Fin.ext (by show (i 2).val = 0 + (i 2).val; omega)
  · intro x y
    refine (congrArg I.W (emb_slot mW ep hbp hsp hqp he (by omega) (by omega) x y)).trans
      (Eq.trans ?_ (congrArg (wC I e) (emb_slot bW ed hbd hsd hqd h (by omega) (by omega) x y)).symm)
    refine congrArg I.W (congr (congr (congrArg ix3 (Fin.ext ?_)) (Fin.ext rfl)) (Fin.ext rfl))
    show e = e % 8; omega

theorem wp_hcp {j sl : ℕ} (h : sl < 2) (hj : j < I.v0.toNat) (hn : I.v0.toNat ≤ 164) {os : Fin 1 → ℕ} {op : Fin 3 → ℕ} {od : Fin 2 → ℕ}
    (es : os = ![sl]) (ep : op = ![sl, 0, 0]) (ed : od = ![256 * j, 0]) {hb1} {hbd} {hbp} {hsd} {hsp} {hqp} {hsrc} {hdst} {hsem} {Q : PUnit → sProp 𝕄} :
    iprop((bH.view.loc (c : Thread nD τ) ↦[slotS 2 256 1536 sl]{fullShare} hC I j) ∗ (mO.view.loc (c : Thread nD τ) ↦[rowsO (256 * j) (256 * (j + 1))]{fullShare} I.V) ∗ semVal ((c : Thread nD τ), .dma (cell cc0_scratch7 sl h)) 0)
      ⊢ iprop((hS c I j sl h -∗ Q ⟨⟩) -∗ wp frame (wpE (defs₀ (F := F)) 𝒱 (c : Thread nD τ) bd) Set.univ
        (Prog.lift (TpuEff.enqueueDma ((bH.slice (Rect.unit (s := S2x256x1536) op S1x256x1536.size hbp) hsp).squeeze S256x1536 hqp)
          (.here (mO.slice (Rect.unit (s := S41984x1536) od S256x1536.size hbd) hsd))
          (.dma ((cc0_scratch7.slice (Rect.unit (s := S2) os S1.size hb1)).squeeze S_ squeezes_S1_S_).sem) hsrc hdst hsem)) Q) := by
  subst es
  refine wp_shot c (src := (bH.slice (Rect.unit (s := S2x256x1536) op S1x256x1536.size hbp) hsp).squeeze S256x1536 hqp)
    (dst := mO.slice (Rect.unit (s := S41984x1536) od S256x1536.size hbd) hsd) (x := cell cc0_scratch7 sl h) (fs := hC I j) (Ss := slotS 2 256 1536 sl)
    (Sd := rowsO (256 * j) (256 * (j + 1))) (fd := I.V) (g := G I) ?_ ?_ ?_ ?_
  · intro x y
    rw [emb_slot bH ep hbp hsp hqp h (by omega) (by omega)]
    exact mem_slotS.2 rfl
  · intro x y
    rw [emb_rows mO ed hbd hsd (by omega) (by omega)]
    refine mem_rowsO.2 ⟨?_, ?_⟩
    · show 256 * j ≤ 256 * j + x.val; omega
    · show 256 * j + x.val < 256 * (j + 1); omega
  · intro i hi
    have hi' := mem_rowsO.1 hi
    refine ⟨(⟨(i 0).val - 256 * j, by omega⟩ : Fin 256), (i 1 : Fin 1536), (emb_rows mO ed hbd hsd (by omega) (by omega) _ _).trans ?_⟩
    refine Eq.symm ((eq_ix2 i).trans (congr (congrArg ix2 ?_) ?_))
    · exact Fin.ext (by show (i 0).val = 256 * j + ((i 0).val - 256 * j); omega)
    · exact Fin.ext (by show (i 1).val = 0 + (i 1).val; omega)
  · intro x y
    refine (congrArg (hC I j) (emb_slot bH ep hbp hsp hqp h (by omega) (by omega) x y)).trans
      (Eq.trans ?_ (congrArg (G I) (emb_rows mO ed hbd hsd (by omega) (by omega) x y)).symm)
    show hT I j _ _ = if 256 * j + x.val < 256 * I.v0.toNat then hT I ((256 * j + x.val) / 256) _ _ else _
    rw [if_pos (by omega)]
    have e1 : j = (256 * j + x.val) / 256 := by omega
    refine congr (congr (congrArg (hT I) e1) (Fin.ext ?_)) (Fin.ext rfl)
    show 0 + x.val = (256 * j + x.val) % 256
    omega

/-- A wait for the one transfer of a slot's cell. -/
theorem wp_unslot {sp sp' : Space} {s s' : Shape} {e e' : EltTy} {a : DmaSems sig S2} {sl : ℕ} (h : sl < 2) {os : Fin 1 → ℕ} (es : os = ![sl]) {hb1}
    {srcw : Memref sig .tc sp' s' e'} {dstw : Memref sig .tc sp s e} {hsrc : srcw.view.WordExact} {hdst : dstw.view.WordExact}
    {Q : PUnit → sProp 𝕄} (hs : 0 < s.numel) {D : sProp 𝕄} :
    iprop(shot c (cell a sl h) (crd s e) D ∗ (∃ W, owes (c : Thread nD τ) 0 W))
      ⊢ iprop((iprop(D ∗ semVal ((c : Thread nD τ), .dma (cell a sl h)) 0 ∗ (∃ W, owes (c : Thread nD τ) 0 W)) -∗ Q ⟨⟩)
          -∗ wp frame (wpE (defs₀ (F := F)) 𝒱 (c : Thread nD τ) bd) Set.univ
            (Prog.lift (TpuEff.waitDma2 ((a.slice (Rect.unit (s := S2) os S1.size hb1)).squeeze S_ squeezes_S1_S_).sem srcw dstw hsrc hdst)) Q) := by
  subst es
  exact wp_unshot c hs

end Cert.Hand

end
-- ==== Proof.Inner.lean ====
/-
  The loops of one tile: the gather, the wait for it, and the extraction of its rows.
-/
module

public import proofs.«01_k».proof.Proof.Tile

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F) {𝒱 : Variants} {bd : Option 𝒱.V}

/-- A counted loop that carries nothing, by an invariant. -/
theorem wp_loop {l : Scf.Loop 32} {hok : l.OK} {body : Fin l.trips → Unit → Prog (TpuEff nD τ sig (Elt F) Λ₀ .tc) Unit} {Q : Unit → sProp 𝕄} (n : ℕ) (hn : l.trips = n) (J : ℕ → sProp 𝕄)
    (hb : ∀ k : Fin l.trips, J k.val ⊢ wp frame (wpE (defs₀ (F := F)) 𝒱 (c : Thread nD τ) bd) Set.univ (body k ⟨⟩) (fun _ => J (k.val + 1))) :
    J 0 ⊢ iprop((J n -∗ Q ⟨⟩) -∗ wp frame (wpE (defs₀ (F := F)) 𝒱 (c : Thread nD τ) bd) Set.univ (Scf.Loop.for l hok ⟨⟩ body) Q) := by
  subst hn
  iintro HJ Hk
  iapply (Scf.wp_for frame (wpE (defs₀ (F := F)) 𝒱 (c : Thread nD τ) bd) Set.univ l.lb l.ub l.st hok ⟨⟩ body (fun k _ => J k) (fun k _ => hb k))
  isplitl [HJ]; · iexact HJ
  iintro %_ H
  iapply Hk $$ H

/-- The read shares of the words, one per row copy. -/
def xs : sProp 𝕄 := bigSep (Finset.univ : Finset (Fin 256)) fun t => (mX.view.loc (c : Thread nD τ) ↦[Finset.univ]{shareTok fullShare 256 t} I.X)

theorem slot_rows (sl : ℕ) (f : S2x256x5120.Idx → Elt F .i32) :
    (bR.view.loc (c : Thread nD τ) ↦[slotS 2 256 5120 sl]{fullShare} f : sProp 𝕄) = bigSep (Finset.univ : Finset (Fin 256)) fun t => (bR.view.loc (c : Thread nD τ) ↦[rowSet sl (rowOf t)]{fullShare} f) := by
  have e : (slotS 2 256 5120 sl : Finset S2x256x5120.Idx) = (Finset.univ : Finset (Fin 256)).biUnion fun t => rowSet sl (rowOf t) := by
    ext i
    rw [Finset.mem_biUnion]
    constructor
    · intro hi
      have hb : (i 1).val < 256 := (i 1).isLt
      exact ⟨⟨srcOf (i 1).val, srcOf_lt _ hb⟩, Finset.mem_univ _, mem_rowSet.2 ⟨mem_slotS.1 hi, (rowOf_srcOf _).symm⟩⟩
    · rintro ⟨t, -, ht⟩
      exact mem_slotS.2 (mem_rowSet.1 ht).1
  refine (congrArg (fun S => (bR.view.loc (c : Thread nD τ) ↦[S]{fullShare} f : sProp 𝕄)) e).trans ?_
  refine pointsTo_biUnion (ℓ := bR.view.loc (c : Thread nD τ)) (Finset.univ : Finset (Fin 256)) (fun t => rowSet sl (rowOf t)) ?_
  intro t _ t' _ hne
  refine Finset.disjoint_left.2 fun i hi hi' => hne (Fin.ext ?_)
  have h1 := (mem_rowSet.1 hi).2
  have h2 := (mem_rowSet.1 hi').2
  rw [← srcOf_rowOf t.val, ← srcOf_rowOf t'.val, ← h1, ← h2]

theorem gath_start {j sl : ℕ} (h : sl < 2) (f0 : S2x256x5120.Idx → Elt F .i32) :
    iprop((bR.view.loc (c : Thread nD τ) ↦[slotS 2 256 5120 sl]{fullShare} f0) ∗ xs c I ∗ semVal ((c : Thread nD τ), .dma (cell cc0_scratch5 sl h)) 0)
      ⊢ (|={Set.univ}=> gath c I.X I.tok j sl h f0 0 : sProp 𝕄) := by
  have : ∀ t, Storable (upEmb : UEmb _ 𝕄) (rowD c I.X I.tok j sl t) := fun t => by unfold rowD; infer_instance
  iintro ⟨HR, HX, Hc⟩
  imod (Transfers.batch_alloc' (Lvl := ℕ) (EC F) (c : Thread nD τ) () (crd S1x5120 .i32) (rowD c I.X I.tok j sl) (sm := SemLoc.dma (cell cc0_scratch5 sl h)) (E := Set.univ)) $$ Hc with HB
  imodintro
  unfold gath
  isplitl [HB]; · iexact HB
  ihave HR' := (Entails.of_eq (slot_rows c sl f0)) $$ HR
  unfold xs
  rw [← bigSep_pending_zero]
  iapply (show iprop((bigSep (Finset.univ : Finset (Fin 256)) fun t => (bR.view.loc (c : Thread nD τ) ↦[rowSet sl (rowOf t)]{fullShare} f0 : sProp 𝕄))
    ∗ (bigSep (Finset.univ : Finset (Fin 256)) fun t => (mX.view.loc (c : Thread nD τ) ↦[Finset.univ]{shareTok fullShare 256 t} I.X))) ⊢ _
    from Entails.of_eq (bigSep_sep (Finset.univ : Finset (Fin 256)) _ _).symm)
  isplitl [HR'] <;> iassumption

/-- All rows of a tile in flight. -/
def gfl (j sl : ℕ) (h : sl < 2) (u : ℕ) : sProp 𝕄 :=
  Batch (EC F) (c : Thread nD τ) (.dma (cell cc0_scratch5 sl h)) () (crd S1x5120 .i32) (rowD c I.X I.tok j sl) 256 u

theorem gath_full {j sl : ℕ} (h : sl < 2) (f0 : S2x256x5120.Idx → Elt F .i32) : gath c I.X I.tok j sl h f0 256 ⊢ gfl c I j sl h 0 := by
  unfold gath gfl
  iintro ⟨HB, -⟩
  iexact HB

theorem gfl_end {j sl : ℕ} (h : sl < 2) : gfl c I j sl h (crd S1x5120 .i32 * 256)
    ⊢ (|={Set.univ}=> iprop((bR.view.loc (c : Thread nD τ) ↦[slotS 2 256 5120 sl]{fullShare} rawC I.X I.tok j) ∗ xs c I ∗ semVal ((c : Thread nD τ), .dma (cell cc0_scratch5 sl h)) 0) : sProp 𝕄) := by
  unfold gfl
  iintro HB
  imod (Transfers.batch_collect' (Lvl := ℕ) (EC F) (c : Thread nD τ) (n := 256) (N := crd S1x5120 .i32) (crd_pos _ _ (by decide))) $$ HB with ⟨HD, Hc⟩
  imodintro
  ihave HD' := (Entails.of_eq (show bigSep Finset.univ (rowD c I.X I.tok j sl) = iprop((bigSep (Finset.univ : Finset (Fin 256)) fun t => (bR.view.loc (c : Thread nD τ) ↦[rowSet sl (rowOf t)]{fullShare} rawC I.X I.tok j))
    ∗ (bigSep (Finset.univ : Finset (Fin 256)) fun t => (mX.view.loc (c : Thread nD τ) ↦[Finset.univ]{shareTok fullShare 256 t} I.X))) from bigSep_sep _ _ _)) $$ HD
  icases HD' with ⟨HR, HX⟩
  isplitl [HR]; · iapply (Entails.of_eq (slot_rows c sl (rawC I.X I.tok j)).symm) $$ HR
  isplitl [HX]; · unfold xs; iexact HX
  iexact Hc

/-! The loops, at the kernel's memory references. -/

section
variable {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}

/-- The first tile's rows are issued. -/
theorem loop1 (htok : TokOk I.tok 256) {q1 : PosShare TreeShare} (f0 : S2x256x5120.Idx → Elt F .i32) {hok} {Q : Unit → sProp 𝕄} :
    iprop(gath c I.X I.tok 0 0 (by decide) f0 0 ∗ owns (c : Thread nD τ) a1 q1 I.tok)
      ⊢ iprop((iprop(gath c I.X I.tok 0 0 (by decide) f0 256 ∗ owns (c : Thread nD τ) a1 q1 I.tok) -∗ Q ⟨⟩)
        -∗ wp frame (wpE (defs₀ (F := F)) Variants.none (c : Thread nD τ) none) Set.univ (Scf.Loop.for k0_t1_loop hok ⟨⟩
          (k0_t1_body a0 h0 a1 h1 a2 h2 a3 h3 mP hP mX hX mW hW a7 h7 mO hO bW hbW bR hbR bX hbX bH hbH bP hbP cc0_scratch5 cc0_scratch6 cc0_scratch7 cc0_scratch8)) Q) :=
  wp_loop c 16 rfl (fun k => iprop(gath c I.X I.tok 0 0 (by decide) f0 (16 * k) ∗ owns (c : Thread nD τ) a1 q1 I.tok)) fun k => by
    iintro H
    iapply (trip1 c I.X I.tok k htok f0) $$ H
    iintro H
    iexact H

/-- The next tile's rows are issued. -/
theorem loop4 (v0 : Elt F .i32) (hv : InR v0) (hw : k0_chk19 v0) (t : Fin (k0_t2_loop v0).trips) (hc : k0_cond1 v0 t = 1#1) (v145 : BitVec 32)
    (htok : TokOk I.tok (256 * v0.toNat)) {q1 : PosShare TreeShare} (f0 : S2x256x5120.Idx → Elt F .i32) (hs : 1 - t.val % 2 < 2) {hok} {Q : Unit → sProp 𝕄} :
    iprop(gath c I.X I.tok (t.val + 1) (1 - t.val % 2) hs f0 0 ∗ owns (c : Thread nD τ) a1 q1 I.tok)
      ⊢ iprop((iprop(gath c I.X I.tok (t.val + 1) (1 - t.val % 2) hs f0 256 ∗ owns (c : Thread nD τ) a1 q1 I.tok) -∗ Q ⟨⟩)
        -∗ wp frame (wpE (defs₀ (F := F)) Variants.none (c : Thread nD τ) none) Set.univ (Scf.Loop.for k0_t4_loop hok ⟨⟩
          (k0_t4_body a0 h0 a1 h1 a2 h2 a3 h3 mP hP mX hX mW hW a7 h7 mO hO bW hbW bR hbR bX hbX bH hbH bP hbP cc0_scratch5 cc0_scratch6 cc0_scratch7 cc0_scratch8 v0 hw 0#32 1#32 t hc v145)) Q) :=
  wp_loop c 16 rfl (fun k => iprop(gath c I.X I.tok (t.val + 1) (1 - t.val % 2) hs f0 (16 * k) ∗ owns (c : Thread nD τ) a1 q1 I.tok)) fun k => by
    iintro H
    iapply (trip4 c I.X I.tok v0 hv hw t hc v145 k htok f0 hs) $$ H
    iintro H
    iexact H

/-- Every row of the tile is waited for. -/
theorem loop3 (v0 : Elt F .i32) (hv : InR v0) (hw : k0_chk19 v0) (t : Fin (k0_t2_loop v0).trips) (hs : t.val % 2 < 2) {hok} {Q : Unit → sProp 𝕄} :
    iprop(gfl c I t.val (t.val % 2) hs 0 ∗ (∃ W, owes (c : Thread nD τ) 0 W))
      ⊢ iprop((iprop(gfl c I t.val (t.val % 2) hs (crd S1x5120 .i32 * 256) ∗ (∃ W, owes (c : Thread nD τ) 0 W)) -∗ Q ⟨⟩)
        -∗ wp frame (wpE (defs₀ (F := F)) Variants.none (c : Thread nD τ) none) Set.univ (Scf.Loop.for k0_t3_loop hok ⟨⟩
          (k0_t3_body a0 h0 a1 h1 a2 h2 a3 h3 mP hP mX hX mW hW a7 h7 mO hO bW hbW bR hbR bX hbX bH hbH bP hbP cc0_scratch5 cc0_scratch6 cc0_scratch7 cc0_scratch8 v0 hw 0#32 1#32 t)) Q) := by
  have hj := t2_lt' hv t
  have es : (k0_off51 v0 t) = ![t.val % 2] := o1 (w_slot t.val (by omega))
  refine BIBase.Entails.trans ?_ (wp_loop c 256 rfl (fun k => iprop(gfl c I t.val (t.val % 2) hs (crd S1x5120 .i32 * k) ∗ (∃ W, owes (c : Thread nD τ) 0 W))) fun k => ?_)
  · exact .rfl
  · have hk : k.val < 256 := k.isLt
    unfold k0_t3_body gfl
    have hc := cell_eq cc0_scratch5 es hs (k0_off51_inb v0 hw t) squeezes_S1_S_
    dsimp only
    rw [wp_bind, hc]
    iintro H
    iapply (wp_waitB (defs := defs₀ (F := F)) (EC F) Variants.none (c : Thread nD τ) none () (N := crd S1x5120 .i32) (crd_w _) (j := 256) (u := crd S1x5120 .i32 * k.val)
      (by rw [← Nat.mul_succ]; exact Nat.mul_le_mul_left _ hk)) $$ H
    iintro H
    rw [wp_pure]
    imodintro
    imodintro
    iexact H

end

end Cert.Hand

end
-- ==== Proof.Extract.lean ====
/-
  The extraction of a tile's rows from the words they were gathered as.
-/
module

public import proofs.«01_k».proof.Proof.Inner

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F) {𝒱 : Variants} {bd : Option 𝒱.V}

/-- What a load or a store of a block touches lies where all its elements do. -/
theorem acc3 {sp : Space} {e : EltTy} {A B C a b d x0 y0 z0 : ℕ} (m : Memref sig .tc sp ⟨3, ![A, B, C]⟩ e) {o : Fin 3 → ℕ} (eo : o = ![x0, y0, z0])
    (h : ∀ i, o i + ![a, b, d] i ≤ ![A, B, C] i) (h0 : x0 + a ≤ A) (h1 : y0 + b ≤ B) (h2 : z0 + d ≤ C) {S : Finset m.view.ty.Idx}
    (hS : ∀ (x : Fin a) (y : Fin b) (z : Fin d), m.view.emb (ix3 ⟨x0 + x, by omega⟩ ⟨y0 + y, by omega⟩ ⟨z0 + z, by omega⟩) ∈ S) :
    (m.access (Rect.unit (s := ⟨3, ![A, B, C]⟩) o ![a, b, d] h)).set ⊆ S := by
  intro i hi
  obtain ⟨x, -, rfl⟩ := Finset.mem_map.mp hi
  have e1 := emb_blk3 m eo h h0 h1 h2 (x 0) (x 1) (x 2)
  have e2 : (m.access (Rect.unit (s := ⟨3, ![A, B, C]⟩) o ![a, b, d] h)).emb x = (m.access (Rect.unit (s := ⟨3, ![A, B, C]⟩) o ![a, b, d] h)).emb (ix3 (x 0) (x 1) (x 2)) :=
    congrArg _ (eq_ix3 x)
  exact (e2.trans e1) ▸ hS (x 0) (x 1) (x 2)

theorem rd_raw {j k sl : ℕ} (hs : sl < 2) (hk : k < 40) {o : Fin 3 → ℕ} (e : o = ![sl, 0, k * 128]) (h : ∀ a, o a + S1x256x128.size a ≤ S2x256x5120.size a) :
    (bR.access (Rect.unit (s := S2x256x5120) o S1x256x128.size h)).read (Elt F) (rawC I.X I.tok j) = rblk I j k := by
  funext i
  rw [eq_ix3 i]
  refine (congrArg (rawC I.X I.tok j) (emb_blk3 bR e h (by omega) (by omega) (by omega) (i 0) (i 1) (i 2))).trans ?_
  have h2 : (i 2).val < 128 := (i 2).isLt
  show I.X _ = I.X _
  refine congrArg I.X (congr (congrArg ix2 (Fin.ext ?_)) (Fin.ext ?_))
  · show (wd I.tok (256 * j + srcOf (0 + (i 1).val))).toNat / 2 % 16384 = (wd I.tok (256 * j + srcOf (i 1).val)).toNat / 2 % 16384
    rw [Nat.zero_add]
  · show k * 128 + (i 2).val = (128 * k + (i 2).val) % 5120
    omega

/-- The first `k` blocks of columns are extracted. -/
def xst (j k : ℕ) : sProp 𝕄 := iprop(∃ f : S256x5120.Idx → Elt F .bf16, ⌜∀ i, (i 1).val < 128 * k → f i = xbf I j i⌝ ∗ (bX.view.loc (c : Thread nD τ) ↦[Finset.univ]{fullShare} f))

theorem xst_all (j : ℕ) : xst c I j 40 ⊢ (bX.view.loc (c : Thread nD τ) ↦[Finset.univ]{fullShare} xbf I j : sProp 𝕄) := by
  unfold xst
  iintro ⟨%f, %hf, H⟩
  rw [show f = xbf I j from funext fun i => hf i (i 1).isLt]
  iexact H

section
variable {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}

theorem loop5 (v0 : Elt F .i32) (hv : InR v0) (hw : k0_chk19 v0) (t : Fin (k0_t2_loop v0).trips) {hok} {Q : Unit → sProp 𝕄} :
    iprop((bR.view.loc (c : Thread nD τ) ↦[slotS 2 256 5120 (t.val % 2)]{fullShare} rawC I.X I.tok t.val) ∗ (∃ f, bX.view.loc (c : Thread nD τ) ↦[Finset.univ]{fullShare} f))
      ⊢ iprop((iprop((bR.view.loc (c : Thread nD τ) ↦[slotS 2 256 5120 (t.val % 2)]{fullShare} rawC I.X I.tok t.val) ∗ xst c I t.val 40) -∗ Q ⟨⟩)
        -∗ wp frame (wpE (defs₀ (F := F)) Variants.none (c : Thread nD τ) none) Set.univ (Scf.Loop.for k0_t5_loop hok ⟨⟩
          (k0_t5_body a0 h0 a1 h1 a2 h2 a3 h3 mP hP mX hX mW hW a7 h7 mO hO bW hbW bR hbR bX hbX bH hbH bP hbP cc0_scratch5 cc0_scratch6 cc0_scratch7 cc0_scratch8 v0 hw 0#32 1#32 t (pvec I t.val))) Q) := by
  have hj := t2_lt' hv t
  refine BIBase.Entails.trans ?_ (wp_loop c 40 rfl (fun k => iprop((bR.view.loc (c : Thread nD τ) ↦[slotS 2 256 5120 (t.val % 2)]{fullShare} rawC I.X I.tok t.val) ∗ xst c I t.val k)) fun k => ?_)
  · unfold xst
    iintro ⟨HR, %f, H⟩
    isplitl [HR]; · iexact HR
    iexists f
    isplitr; · ipureintro; intro i hi; omega
    iexact H
  · have hk : k.val < 40 := k.isLt
    have e3 : k0_off123 v0 t k = ![t.val % 2, 0, k.val * 128] := o33 (w_slot t.val (by omega)) (w_mul k.val _ (by omega) (by decide))
    have e4 : k0_off124 k = ![0, k.val * 128] := o02 (w_mul k.val _ (by omega) (by decide))
    unfold k0_t5_body xst
    dsimp only
    iintro ⟨HR, %f, %hf, H⟩
    rw [wp_bind]
    iapply (wp_ld (defs := defs₀ (F := F)) (m := bR) (S := slotS 2 256 5120 (t.val % 2)) (f := rawC I.X I.tok t.val) Variants.none (c : Thread nD τ) none Set.univ ?_) $$ HR
    · refine acc3 bR e3 (k0_off123_inb v0 hw t k) (by omega) (by omega) (by omega) fun x y z => mem_slotS.2 ?_
      show t.val % 2 + x.val = t.val % 2
      omega
    iintro HR
    rw [rd_raw I (by omega) hk e3]
    rw [wp_bind]
    iapply (wp_ld (defs := defs₀ (F := F)) (m := bX) (S := Finset.univ) (f := f) Variants.none (c : Thread nD τ) none Set.univ (by exact Finset.subset_univ _)) $$ H
    iintro H
    rw [wp_bind]
    iapply (wp_st (defs := defs₀ (F := F)) (m := bX) (S := Finset.univ) (f := f) Variants.none (c : Thread nD τ) none Set.univ
      (fun i : S256x5120.Idx => if (i 1).val < 128 * (k.val + 1) then xbf I t.val i else f i) (by exact Finset.subset_univ _) ?_) $$ H
    · refine stLand (bX.access (Rect.unit (s := S256x5120) (k0_off124 k) S256x128.size (k0_off124_inb k))) f (fun i : S256x5120.Idx => if (i 1).val < 128 * (k.val + 1) then xbf I t.val i else f i) _ ?_ ?_
      · intro x
        rw [eq_ix2 x]
        refine Eq.symm ((congrArg (fun i : S256x5120.Idx => if (i 1).val < 128 * (k.val + 1) then xbf I t.val i else f i)
          (emb_blk2 bX e4 (k0_off124_inb k) (by omega) (by omega) (x 0) (x 1))).trans ?_)
        have h1 : (x 1).val < 128 := (x 1).isLt
        show (if k.val * 128 + (x 1).val < 128 * (k.val + 1) then k0_pay1 (pvec I t.val) (rblk I t.val ((k.val * 128 + (x 1).val) / 128)) (ix2 ⟨0 + (x 0).val, _⟩ ⟨(k.val * 128 + (x 1).val) % 128, _⟩) else _) = _
        rw [if_pos (by omega)]
        refine congr (congrArg (k0_pay1 (pvec I t.val)) (congrArg (rblk I t.val) (by omega))) (congr (congrArg ix2 (Fin.ext ?_)) (Fin.ext ?_))
        · show 0 + (x 0).val = (x 0).val; omega
        · show (k.val * 128 + (x 1).val) % 128 = (x 1).val; omega
      · intro i _
        have hi1 : (i 1).val < 5120 := (i 1).isLt
        by_cases hlo : (i 1).val < 128 * k.val
        · right
          show f i = if (i 1).val < 128 * (k.val + 1) then xbf I t.val i else f i
          rw [if_pos (by omega)]; exact hf i hlo
        by_cases hhi : (i 1).val < 128 * (k.val + 1)
        · left
          refine ⟨ix2 (i 0) ⟨(i 1).val - k.val * 128, by omega⟩, (emb_blk2 bX e4 (k0_off124_inb k) (by omega) (by omega) _ _).trans ?_⟩
          refine Eq.symm ((eq_ix2 i).trans (congr (congrArg ix2 (Fin.ext ?_)) (Fin.ext ?_)))
          · show (i 0).val = 0 + (i 0).val; omega
          · show (i 1).val = k.val * 128 + ((i 1).val - k.val * 128); omega
        · right
          show f i = if (i 1).val < 128 * (k.val + 1) then xbf I t.val i else f i
          rw [if_neg hhi]
    iintro H
    rw [wp_pure]
    imodintro
    isplitl [HR]; · iexact HR
    iexists _
    isplitr
    swap
    · iexact H
    · ipureintro
      intro i hi
      exact if_pos hi

end

end Cert.Hand

end
-- ==== Proof.Weights.lean ====
/-
  The weights of a half: waited for where they are new, and the next ones sent for where they differ.
-/
module

public import proofs.«01_k».proof.Proof.Extract

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F)

/-- Slot `s` holds the weights of expert `e`. -/
def wHas (e s : ℕ) (h : s < 2) : sProp 𝕄 :=
  iprop((mW.view.loc (c : Thread nD τ) ↦[Finset.univ]{shareTok fullShare 2 ⟨s, h⟩} I.W) ∗ (bW.view.loc (c : Thread nD τ) ↦[slotS 2 5120 1536 s]{fullShare} wC I e) ∗ semVal ((c : Thread nD τ), .dma (cell cc0_scratch6 s h)) 0)

/-- The weights of half `s` before tile `k`: in flight where the tile's expert is new, else still there. -/
def wst (k s : ℕ) (h : s < 2) : sProp 𝕄 :=
  if k = 0 ∨ (k < I.v0.toNat ∧ ex I s k ≠ ex I s (k - 1)) then wS c I (ex I s k) s h else wHas c I (ex I s (k - 1)) s h

variable {c I}

theorem wst_new {k s : ℕ} {h : s < 2} (hk : k < I.v0.toNat) (hc : k = 0 ∨ wd (I.te s) k ≠ wd (I.te s) (k - 1)) : wst c I k s h ⊢ wS c I (ex I s k) s h := by
  unfold wst
  rw [if_pos (hc.imp id fun hc => ⟨hk, fun e => hc (BitVec.toNat_inj.1 e)⟩)]

theorem wst_old {k s : ℕ} {h : s < 2} (hc : ¬(k = 0 ∨ wd (I.te s) k ≠ wd (I.te s) (k - 1))) : wst c I k s h ⊢ wHas c I (ex I s k) s h := by
  rw [not_or, not_not] at hc
  have e : ex I s k = ex I s (k - 1) := congrArg BitVec.toNat hc.2
  unfold wst
  rw [if_neg (fun h => h.elim hc.1 fun h => h.2 e), e]

theorem wst_send {k s : ℕ} {h : s < 2} (hk : k < I.v0.toNat) (hc : wd (I.te s) (min (k + 1) (I.v0.toNat - 1)) ≠ wd (I.te s) k) :
    wS c I (ex I s (min (k + 1) (I.v0.toNat - 1))) s h ⊢ wst c I (k + 1) s h := by
  have hk1 : k + 1 < I.v0.toNat := by
    by_contra hn
    exact hc (congrArg _ (by omega))
  have e : min (k + 1) (I.v0.toNat - 1) = k + 1 := by omega
  rw [e] at hc ⊢
  unfold wst
  rw [if_pos (Or.inr ⟨hk1, fun e => hc (BitVec.toNat_inj.1 e)⟩)]

theorem wst_keep {k s : ℕ} {h : s < 2} (hk : k < I.v0.toNat) (hc : ¬ wd (I.te s) (min (k + 1) (I.v0.toNat - 1)) ≠ wd (I.te s) k) :
    wHas c I (ex I s k) s h ⊢ wst c I (k + 1) s h := by
  rw [not_not] at hc
  unfold wst
  rw [if_neg]
  · exact .rfl
  rintro (h0 | ⟨h1, h2⟩)
  · omega
  · have e : min (k + 1) (I.v0.toNat - 1) = k + 1 := by omega
    rw [e] at hc
    exact h2 (congrArg BitVec.toNat hc)

variable (c I) {𝒱 : Variants} {bd : Option 𝒱.V}

/-- A step taken only under a condition, before the rest `K`. -/
theorem wp_cond {p : Prop} [Decidable p] {α : Type} {A : p → Prog (TpuEff nD τ sig (Elt F) Λ₀ .tc) PUnit} {K : Prog (TpuEff nD τ sig (Elt F) Λ₀ .tc) α} {Q : α → sProp 𝕄} {P R : sProp 𝕄}
    (hA : ∀ h (Q' : PUnit → sProp 𝕄), P ⊢ iprop((R -∗ Q' ⟨⟩) -∗ wp frame (wpE (defs₀ (F := F)) 𝒱 (c : Thread nD τ) bd) Set.univ (A h) Q')) (hB : ¬p → P ⊢ R) :
    P ⊢ iprop((R -∗ wp frame (wpE (defs₀ (F := F)) 𝒱 (c : Thread nD τ) bd) Set.univ K Q)
      -∗ wp frame (wpE (defs₀ (F := F)) 𝒱 (c : Thread nD τ) bd) Set.univ (if h : p then A h >>= fun _ => K else K) Q) := by
  by_cases h : p
  · rw [dif_pos h, wp_bind]; exact hA h (fun _ => wp frame (wpE (defs₀ (F := F)) 𝒱 (c : Thread nD τ) bd) Set.univ K Q)
  · rw [dif_neg h]
    iintro H Hk
    iapply Hk
    iapply (hB h) $$ H

/-- Two steps taken only under a condition, before the rest `K`. -/
theorem wp_cond2 {p : Prop} [Decidable p] {α : Type} {A B : p → Prog (TpuEff nD τ sig (Elt F) Λ₀ .tc) PUnit} {K : Prog (TpuEff nD τ sig (Elt F) Λ₀ .tc) α} {Q : α → sProp 𝕄} {P R : sProp 𝕄}
    (hA : ∀ h (Q' : PUnit → sProp 𝕄), P ⊢ iprop((R -∗ Q' ⟨⟩) -∗ wp frame (wpE (defs₀ (F := F)) 𝒱 (c : Thread nD τ) bd) Set.univ (A h >>= fun _ => B h) Q')) (hB : ¬p → P ⊢ R) :
    P ⊢ iprop((R -∗ wp frame (wpE (defs₀ (F := F)) 𝒱 (c : Thread nD τ) bd) Set.univ K Q)
      -∗ wp frame (wpE (defs₀ (F := F)) 𝒱 (c : Thread nD τ) bd) Set.univ (if h : p then A h >>= fun _ => (B h >>= fun _ => K) else K) Q) := by
  by_cases h : p
  · rw [dif_pos h, show (A h >>= fun _ => (B h >>= fun _ => K)) = ((A h >>= fun _ => B h) >>= fun _ => K) from (bind_assoc _ _ _).symm, wp_bind]
    exact hA h (fun _ => wp frame (wpE (defs₀ (F := F)) 𝒱 (c : Thread nD τ) bd) Set.univ K Q)
  · rw [dif_neg h]
    iintro H Hk
    iapply Hk
    iapply (hB h) $$ H

/-- A word of a vector in scalar memory. -/
theorem wp_wd {n : ℕ} {m : Memref sig .tc .smem ⟨1, ![n]⟩ .i32} {o : Fin 1 → ℕ} {h : ∀ a, o a + ![1] a ≤ ![n] a}
    {h1 : (Rect.unit (s := ⟨1, ![n]⟩) o ![1] h).shape.numel = 1} {hp : EltTy.i32.packing = 1}
    {Q : Elt F .i32 → sProp 𝕄} {q : PosShare TreeShare} {X : (⟨1, ![n]⟩ : Shape).Idx → Elt F .i32} {i : ℕ} (e : o = ![i]) (hi : i < n) :
    owns (c : Thread nD τ) m q X ⊢ iprop((owns (c : Thread nD τ) m q X -∗ Q (wd X i))
        -∗ wp frame (wpE (defs₀ (F := F)) 𝒱 (c : Thread nD τ) bd) Set.univ (smemLoad m (Rect.unit (s := ⟨1, ![n]⟩) o ![1] h) h1 hp) Q) := by
  rw [← wd_eq X i hi]
  exact wp_word 𝒱 (c : Thread nD τ) bd Set.univ e hi

/-- A load from a buffer held whole. -/
theorem wp_ldo {sp : CoreSpace} {s : Shape} {e : EltTy} {m : Memref sig .tc sp s e} {r : Rect s} {hl : m.view.LoadsAt r.toLoadRect} {Q : (r.shape.Idx → Elt F e) → sProp 𝕄}
    {q : PosShare TreeShare} {X : s.Idx → Elt F e} :
    owns (c : Thread nD τ) m q X ⊢ iprop((owns (c : Thread nD τ) m q X -∗ Q (fun i => X (r.emb i)))
        -∗ wp frame (wpE (defs₀ (F := F)) 𝒱 (c : Thread nD τ) bd) Set.univ (Prog.lift (TpuEff.load m r.toLoadRect hl)) Q) := by
  unfold owns
  iintro ⟨%f, %hf, H⟩ Hk
  iapply (wp_ld (defs := defs₀ (F := F)) (m := m) (S := m.view.set) (f := f) 𝒱 (c : Thread nD τ) bd Set.univ (View.set_slice_subset m.view r)) $$ H
  iintro H
  have e : (m.access r).read (Elt F) f = fun i => X (r.emb i) := by subst hf; rfl
  rw [e]
  iapply Hk
  iexists f
  isplitr; · ipureintro; exact hf
  iexact H

end Cert.Hand

end
-- ==== Proof.Half.lean ====
/-
  The two halves of a tile: the weights, the products, the store to the staging buffer.
-/
module

public import proofs.«01_k».proof.Proof.Weights

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F)

/-- The vectors of words, and the biases. -/
def sm (a0 : Memref sig .tc .smem S1 .i32) (a1 : Memref sig .tc .smem S41984 .i32) (a2 a3 : Memref sig .tc .smem S164 .i32) (a7 : Memref sig .tc .vmem S8x1x1536 .bf16) : sProp 𝕄 :=
  iprop(owns (c : Thread nD τ) a0 fullShare (fun _ : S1.Idx => (I.v0 : Elt F .i32)) ∗ owns (c : Thread nD τ) a1 fullShare I.tok ∗ owns (c : Thread nD τ) a2 fullShare (I.te 0) ∗ owns (c : Thread nD τ) a3 fullShare (I.te 1) ∗ owns (c : Thread nD τ) a7 fullShare I.B)

/-- The first `n` halves of tile `j` stand in slot `sl` of the staging buffer. -/
def hfill (j n sl : ℕ) : sProp 𝕄 :=
  iprop(∃ f : S2x256x1536.Idx → Elt F .bf16, ⌜∀ i, (i 2).val < 768 * n → f i = hC I j i⌝ ∗ (bH.view.loc (c : Thread nD τ) ↦[slotS 2 256 1536 sl]{fullShare} f))

theorem hfill_all (j sl : ℕ) : hfill c I j 2 sl ⊢ (bH.view.loc (c : Thread nD τ) ↦[slotS 2 256 1536 sl]{fullShare} hC I j : sProp 𝕄) := by
  unfold hfill
  iintro ⟨%f, %hf, H⟩
  rw [show f = hC I j from funext fun i => hf i (i 2).isLt]
  iexact H

theorem rd_w {e s : ℕ} (h : s < 2) {o : Fin 3 → ℕ} (eo : o = ![s, 0, 0]) (hb : ∀ a, o a + S1x5120x1536.size a ≤ S2x5120x1536.size a) :
    (bW.access (Rect.unit (s := S2x5120x1536) o S1x5120x1536.size hb)).read (Elt F) (wC I e) = wvec I e := by
  funext i
  rw [eq_ix3 i]
  refine (congrArg (wC I e) (emb_blk3 bW eo hb (by omega) (by omega) (by omega) (i 0) (i 1) (i 2))).trans ?_
  show I.W _ = I.W _
  refine congrArg I.W (congr (congrArg (ix3 _) (Fin.ext ?_)) (Fin.ext ?_))
  · show 0 + (i 1).val = (i 1).val; omega
  · show 0 + (i 2).val = (i 2).val; omega

theorem rd_x {j : ℕ} {o : Fin 2 → ℕ} (eo : o = ![0, 0]) (hb : ∀ a, o a + S256x5120.size a ≤ S256x5120.size a) :
    (bX.access (Rect.unit (s := S256x5120) o S256x5120.size hb)).read (Elt F) (xbf I j) = xbf I j := by
  funext i
  refine (congrArg ((bX.access (Rect.unit (s := S256x5120) o S256x5120.size hb)).read (Elt F) (xbf I j)) (eq_ix2 i)).trans ?_
  refine (congrArg (xbf I j) (emb_blk2 bX eo hb (by omega) (by omega) (i 0) (i 1))).trans ?_
  refine congrArg (xbf I j) (Eq.symm ((eq_ix2 i).trans (congr (congrArg ix2 (Fin.ext ?_)) (Fin.ext ?_))))
  · show (i 0).val = 0 + (i 0).val; omega
  · show (i 1).val = 0 + (i 1).val; omega

theorem rd_b {e : ℕ} (he : e < 8) {o : Fin 3 → ℕ} (eo : o = ![e, 0, 0]) (hb : ∀ a, o a + S1x1x1536.size a ≤ S8x1x1536.size a) :
    (fun i => I.B ((Rect.unit (s := S8x1x1536) o S1x1x1536.size hb).emb i)) = bvec I e := by
  subst eo
  funext i
  have h0 : (i 0).val < 1 := (i 0).isLt
  have h1 : (i 1).val < 1 := (i 1).isLt
  refine congrArg I.B (funext fun a => Fin.ext ?_)
  rw [ValueKit.rect_emb_unit_val]
  fin_cases a
  · show e + (i 0).val = e % 8; omega
  · show 0 + (i 1).val = 0; omega
  · show 0 + (i 2).val = (i 2).val; omega

theorem blk_in {sl b : ℕ} (h : sl < 2) (hb : b + 768 ≤ 1536) {o : Fin 3 → ℕ} (eo : o = ![sl, 0, b]) (hbd : ∀ a, o a + S1x256x768.size a ≤ S2x256x1536.size a) :
    (bH.access (Rect.unit (s := S2x256x1536) o S1x256x768.size hbd)).set ⊆ slotS 2 256 1536 sl := by
  refine acc3 bH eo hbd (by omega) (by omega) (by omega) fun x y z => mem_slotS.2 ?_
  show sl + x.val = sl
  omega

variable {𝒱 : Variants} {bd : Option 𝒱.V}

theorem hT_half {j s : ℕ} (hs : s < 2) (r : Fin 256) (k : Fin 768) : hT I j r ⟨768 * s + k.val, by omega⟩ = half I s j (ix3 0 r k) := by
  unfold hT
  obtain rfl | rfl : s = 0 ∨ s = 1 := by omega
  · rw [dif_pos (show 768 * 0 + k.val < 768 by omega)]
    exact congrArg (fun k => half I 0 j (ix3 0 r k)) (Fin.ext (by show 768 * 0 + k.val = k.val; omega))
  · rw [dif_neg (show ¬ 768 * 1 + k.val < 768 by omega)]
    exact congrArg (fun k => half I 1 j (ix3 0 r k)) (Fin.ext (by show 768 * 1 + k.val - 768 = k.val; omega))

/-- The store of half `s`. -/
theorem wp_half {j s sl : ℕ} (hs : s < 2) (h : sl < 2) {o : Fin 3 → ℕ} (eo : o = ![sl, 0, 768 * s]) {hbd : ∀ a, o a + S1x256x768.size a ≤ S2x256x1536.size a}
    {w : (Rect.unit (s := S2x256x1536) o S1x256x768.size hbd).shape.Idx → Elt F .bf16} (hw : w = half I s j)
    {hx : (bH.access (Rect.unit (s := S2x256x1536) o S1x256x768.size hbd)).Stores Finset.univ} {hm} {Q : PUnit → sProp 𝕄} :
    hfill c I j s sl ⊢ iprop((hfill c I j (s + 1) sl -∗ Q ⟨⟩) -∗ wp frame (wpE (defs₀ (F := F)) 𝒱 (c : Thread nD τ) bd) Set.univ
      (Prog.lift (TpuEff.store bH (Rect.unit (s := S2x256x1536) o S1x256x768.size hbd) w Finset.univ hx hm)) Q) := by
  subst hw
  unfold hfill
  iintro ⟨%f, %hf, H⟩ Hk
  iapply (wp_st (defs := defs₀ (F := F)) (m := bH) (S := slotS 2 256 1536 sl) (f := f) 𝒱 (c : Thread nD τ) bd Set.univ
    (fun i : S2x256x1536.Idx => if (i 2).val < 768 * (s + 1) then hC I j i else f i) (by exact blk_in h (by omega) eo hbd) ?_) $$ H
  · refine stLand (bH.access (Rect.unit (s := S2x256x1536) o S1x256x768.size hbd)) f (fun i : S2x256x1536.Idx => if (i 2).val < 768 * (s + 1) then hC I j i else f i) _ ?_ ?_
    · intro x
      refine Eq.symm ((congrArg ((bH.access (Rect.unit (s := S2x256x1536) o S1x256x768.size hbd)).read (Elt F) (fun i : S2x256x1536.Idx => if (i 2).val < 768 * (s + 1) then hC I j i else f i)) (eq_ix3 x)).trans ?_)
      refine (congrArg (fun i : S2x256x1536.Idx => if (i 2).val < 768 * (s + 1) then hC I j i else f i)
        (emb_blk3 bH eo hbd (by omega) (by omega) (by omega) (x 0) (x 1) (x 2))).trans ?_
      have h0 : (x 0).val < 1 := (x 0).isLt
      have h2 : (x 2).val < 768 := (x 2).isLt
      show (if 768 * s + (x 2).val < 768 * (s + 1) then hT I j ⟨0 + (x 1).val, _⟩ ⟨768 * s + (x 2).val, _⟩ else _) = _
      rw [if_pos (by omega)]
      refine (congrArg (fun r => hT I j r ⟨768 * s + (x 2).val, by omega⟩) (show (⟨0 + (x 1).val, by have := (x 1).isLt; exact (Nat.zero_add _).symm ▸ this⟩ : Fin 256) = x 1 from Fin.ext (Nat.zero_add _))).trans ?_
      refine (hT_half I hs (x 1) (x 2)).trans ?_
      exact congrArg (half I s j) (Eq.symm ((eq_ix3 x).trans (congrArg (fun a => ix3 a (x 1) (x 2)) (Fin.ext (by show (x 0).val = 0; omega)))))
    · intro i hi
      have hi0 := mem_slotS.1 hi
      by_cases hlo : (i 2).val < 768 * s
      · right
        show f i = if (i 2).val < 768 * (s + 1) then hC I j i else f i
        rw [if_pos (by omega)]; exact hf i hlo
      by_cases hhi : (i 2).val < 768 * (s + 1)
      · left
        refine ⟨ix3 0 (i 1) ⟨(i 2).val - 768 * s, by omega⟩, (emb_blk3 bH eo hbd (by omega) (by omega) (by omega) _ _ _).trans ?_⟩
        refine Eq.symm ((eq_ix3 i).trans (congr (congr (congrArg ix3 (Fin.ext ?_)) (Fin.ext ?_)) (Fin.ext ?_)))
        · show (i 0).val = sl + 0; omega
        · show (i 1).val = 0 + (i 1).val; omega
        · show (i 2).val = 768 * s + ((i 2).val - 768 * s); omega
      · right
        show f i = if (i 2).val < 768 * (s + 1) then hC I j i else f i
        rw [if_neg hhi]
  iintro H
  iapply Hk
  iexists _
  isplitr
  swap
  · iexact H
  · ipureintro
    intro i hi
    exact if_pos hi

end Cert.Hand

end
-- ==== Proof.Halves.lean ====
/-
  The two parts of the kernel that make the halves of a tile.
-/
module

public import proofs.«01_k».proof.Proof.Half

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F)

/-- What a half works with besides its weights. -/
def hctx (a0 : Memref sig .tc .smem S1 .i32) (a1 : Memref sig .tc .smem S41984 .i32) (a2 a3 : Memref sig .tc .smem S164 .i32) (a7 : Memref sig .tc .vmem S8x1x1536 .bf16) (j : ℕ) : sProp 𝕄 :=
  iprop((bX.view.loc (c : Thread nD τ) ↦[Finset.univ]{fullShare} xbf I j) ∗ sm c I a0 a1 a2 a3 a7 ∗ (∃ W, owes (c : Thread nD τ) 0 W))

variable {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}

theorem wslot_in {s : ℕ} (h : s < 2) {o : Fin 3 → ℕ} (eo : o = ![s, 0, 0]) (hb : ∀ a, o a + S1x5120x1536.size a ≤ S2x5120x1536.size a) :
    (bW.access (Rect.unit (s := S2x5120x1536) o S1x5120x1536.size hb)).set ⊆ slotS 2 5120 1536 s := by
  refine acc3 bW eo hb (by omega) (by omega) (by omega) fun x y z => mem_slotS.2 ?_
  show s + x.val = s
  omega

theorem part26 (ok : I.Ok) (hw : k0_chk19 (I.v0 : Elt F .i32)) (t : Fin (k0_t2_loop (I.v0 : Elt F .i32)).trips) (v18 v37 v64 : BitVec 32) (hw38 : k0_chk38 (wd (I.te 0) t.val : Elt F .i32))
    {Q : (Σ' (v101 : Elt F .i32) (_ : k0_chk41 v101), BitVec 32) → sProp 𝕄} :
    iprop(wst c I t.val 0 (by decide) ∗ hfill c I t.val 0 (t.val % 2) ∗ hctx c I a0 a1 a2 a3 a7 t.val)
      ⊢ iprop((iprop(wst c I (t.val + 1) 0 (by decide) ∗ hfill c I t.val 1 (t.val % 2) ∗ hctx c I a0 a1 a2 a3 a7 t.val)
          -∗ Q ⟨(wd (I.te 1) t.val : BitVec 32), chkB _ (ok.te 1 _ (t2_lt ok.n t)), Scalar.subi v18 1#32⟩)
        -∗ wp frame (wpE (defs₀ (F := F)) Variants.none (c : Thread nD τ) none) Set.univ
          (k0_part26 a0 h0 a1 h1 a2 h2 a3 h3 mP hP mX hX mW hW a7 h7 mO hO bW hbW bR hbR bX hbX bH hbH bP hbP cc0_scratch5 cc0_scratch6 cc0_scratch7 cc0_scratch8 (I.v0 : Elt F .i32) hw t v18 v37 (wd (I.te 0) t.val : Elt F .i32) hw38 v64) Q) := by
  have hj := t2_lt ok.n t
  have hj' := t2_lt' ok.n t
  have hv1 := ok.n.hi
  have hsl : t.val % 2 < 2 := Nat.mod_lt _ (by decide)
  have hcur := ok.te 0 _ hj
  have hnx := ok.te 0 (min (t.val + 1) (I.v0.toNat - 1)) (by omega)
  rw [k0_part26_eq_skeleton]
  unfold k0_part26_skel hctx sm
  dsimp only
  iintro ⟨HW, HF, HX, ⟨H0, H1, H2, H3, H7⟩, HO⟩ Hk
  rw [wp_bind]
  iapply (wp_wd c (o1 (w_prev t.val (by omega))) (by omega)) $$ H2
  iintro H2
  rw [wp_bind]
  iapply (wp_asm Variants.none (c : Thread nD τ) none Set.univ (chk36 t _ _ hcur))
  iapply (wp_cond c (P := iprop(wst c I t.val 0 (by decide) ∗ (∃ W, owes (c : Thread nD τ) 0 W))) (R := iprop(wHas c I (ex I 0 t.val) 0 (by decide) ∗ (∃ W, owes (c : Thread nD τ) 0 W))) ?_ ?_) $$ [HW HO]
  · intro hc Q'
    dsimp only
    iintro ⟨HW, HO⟩ Hk
    ihave HS := (wst_new hj ((cond3_iff t hj' _ _).1 hc)) $$ HW
    unfold wS
    iapply (wp_unslot c (by decide) rfl (by decide)) $$ [HS HO]
    · isplitl [HS] <;> iassumption
    iintro ⟨⟨HB, HM⟩, Hc, HO⟩
    iapply Hk
    unfold wHas
    isplitr [HO]
    · isplitl [HM]; · iexact HM
      isplitl [HB] <;> iassumption
    iexact HO
  · intro hc
    iintro ⟨HW, HO⟩
    isplitl [HW]
    · iapply (wst_old (fun h => hc ((cond3_iff t hj' _ _).2 h))) $$ HW
    iexact HO
  · isplitl [HW] <;> iassumption
  iintro ⟨HW, HO⟩
  rw [wp_bind]
  iapply (wp_ld (defs := defs₀ (F := F)) (m := bX) (S := Finset.univ) (f := xbf I t.val) Variants.none (c : Thread nD τ) none Set.univ (by exact Finset.subset_univ _)) $$ HX
  iintro HX
  rw [rd_x I rfl]
  unfold wHas
  icases HW with ⟨HM, HB, Hc⟩
  rw [wp_bind]
  iapply (wp_ld (defs := defs₀ (F := F)) (m := bW) (S := slotS 2 5120 1536 0) (f := wC I (ex I 0 t.val)) Variants.none (c : Thread nD τ) none Set.univ (by exact wslot_in (by decide) rfl _)) $$ HB
  iintro HB
  rw [rd_w I (by decide) rfl]
  rw [wp_bind]
  iapply (wp_wd c (o1 (w_next _ ok.n t.val (by omega))) (by omega)) $$ H2
  iintro H2
  rw [wp_bind]
  iapply (wp_asm Variants.none (c : Thread nD τ) none Set.univ (chk37 _ _ hnx))
  iapply (wp_cond c (P := wHas c I (ex I 0 t.val) 0 (by decide)) (R := wst c I (t.val + 1) 0 (by decide)) ?_ ?_) $$ [HM HB Hc]
  · intro hc Q'
    dsimp only
    unfold wHas
    iintro ⟨HM, HB, Hc⟩ Hk
    iapply (wp_wcp c I (e := ex I 0 (min (t.val + 1) (I.v0.toNat - 1))) (by decide) hnx rfl rfl rfl) $$ [HM HB Hc]
    · isplitl [HM]; · iexact HM
      isplitl [HB] <;> iassumption
    iintro HS
    iapply Hk
    iapply (wst_send hj ((cond4_iff _ _).1 hc)) $$ HS
  · intro hc
    exact wst_keep hj fun h => hc ((cond4_iff _ _).2 h)
  · unfold wHas
    isplitl [HM]; · iexact HM
    isplitl [HB] <;> iassumption
  iintro HW
  rw [wp_bind]
  iapply (wp_ldo c) $$ H7
  iintro H7
  unfold hfill
  icases HF with ⟨%f, %hf, HF⟩
  rw [wp_bind]
  iapply (wp_ld (defs := defs₀ (F := F)) (m := bH) (S := slotS 2 256 1536 (t.val % 2)) (f := f) Variants.none (c : Thread nD τ) none Set.univ
    (by exact blk_in hsl (by omega) (o3c (w_slot t.val (by omega))) _)) $$ HF
  iintro HF
  rw [wp_bind]
  iapply (wp_half c I (j := t.val) (s := 0) (sl := t.val % 2) (by decide) hsl (o3c (w_slot t.val (by omega))) (by exact congrArg (k0_pay2 (xbf I t.val) (wvec I (ex I 0 t.val))) (rd_b I (e := ex I 0 t.val) hcur rfl _))) $$ [HF]
  · unfold hfill
    iexists f
    isplitr; · ipureintro; exact hf
    iexact HF
  iintro HF
  rw [wp_bind]
  iapply (wp_wd c (o1 (w_iv t.val (by omega))) (by omega)) $$ H3
  iintro H3
  rw [wp_bind]
  iapply (wp_asm Variants.none (c : Thread nD τ) none Set.univ (chkB _ (ok.te 1 _ hj)))
  rw [wp_pure]
  imodintro
  iapply Hk
  isplitl [HW]; · iexact HW
  isplitl [HF]; · unfold hfill; iexact HF
  isplitl [HX]; · iexact HX
  isplitr [HO]
  · isplitl [H0]; · iexact H0
    isplitl [H1]; · iexact H1
    isplitl [H2]; · iexact H2
    isplitl [H3] <;> iassumption
  iexact HO

theorem part27 (ok : I.Ok) (hw : k0_chk19 (I.v0 : Elt F .i32)) (t : Fin (k0_t2_loop (I.v0 : Elt F .i32)).trips) (v18 v37 v102 : BitVec 32) (hw41 : k0_chk41 (wd (I.te 1) t.val : Elt F .i32))
    {Q : PUnit → sProp 𝕄} :
    iprop(wst c I t.val 1 (by decide) ∗ hfill c I t.val 1 (t.val % 2) ∗ hctx c I a0 a1 a2 a3 a7 t.val)
      ⊢ iprop((iprop(wst c I (t.val + 1) 1 (by decide) ∗ hfill c I t.val 2 (t.val % 2) ∗ hctx c I a0 a1 a2 a3 a7 t.val)
          -∗ Q ⟨⟩)
        -∗ wp frame (wpE (defs₀ (F := F)) Variants.none (c : Thread nD τ) none) Set.univ
          (k0_part27 a0 h0 a1 h1 a2 h2 a3 h3 mP hP mX hX mW hW a7 h7 mO hO bW hbW bR hbR bX hbX bH hbH bP hbP cc0_scratch5 cc0_scratch6 cc0_scratch7 cc0_scratch8 (I.v0 : Elt F .i32) hw t v18 v37 (wd (I.te 1) t.val : Elt F .i32) hw41 v102) Q) := by
  have hj := t2_lt ok.n t
  have hj' := t2_lt' ok.n t
  have hv1 := ok.n.hi
  have hsl : t.val % 2 < 2 := Nat.mod_lt _ (by decide)
  have hcur := ok.te 1 _ hj
  have hnx := ok.te 1 (min (t.val + 1) (I.v0.toNat - 1)) (by omega)
  rw [k0_part27_eq_skeleton]
  unfold k0_part27_skel hctx sm
  dsimp only
  iintro ⟨HW, HF, HX, ⟨H0, H1, H2, H3, H7⟩, HO⟩ Hk
  rw [wp_bind]
  iapply (wp_wd c (o1 (w_prev t.val (by omega))) (by omega)) $$ H3
  iintro H3
  rw [wp_bind]
  iapply (wp_asm Variants.none (c : Thread nD τ) none Set.univ (chk39 t _ _ hcur))
  iapply (wp_cond c (P := iprop(wst c I t.val 1 (by decide) ∗ (∃ W, owes (c : Thread nD τ) 0 W))) (R := iprop(wHas c I (ex I 1 t.val) 1 (by decide) ∗ (∃ W, owes (c : Thread nD τ) 0 W))) ?_ ?_) $$ [HW HO]
  · intro hc Q'
    dsimp only
    iintro ⟨HW, HO⟩ Hk
    ihave HS := (wst_new hj ((cond3_iff t hj' _ _).1 hc)) $$ HW
    unfold wS
    iapply (wp_unslot c (by decide) rfl (by decide)) $$ [HS HO]
    · isplitl [HS] <;> iassumption
    iintro ⟨⟨HB, HM⟩, Hc, HO⟩
    iapply Hk
    unfold wHas
    isplitr [HO]
    · isplitl [HM]; · iexact HM
      isplitl [HB] <;> iassumption
    iexact HO
  · intro hc
    iintro ⟨HW, HO⟩
    isplitl [HW]
    · iapply (wst_old (fun h => hc ((cond3_iff t hj' _ _).2 h))) $$ HW
    iexact HO
  · isplitl [HW] <;> iassumption
  iintro ⟨HW, HO⟩
  rw [wp_bind]
  iapply (wp_ld (defs := defs₀ (F := F)) (m := bX) (S := Finset.univ) (f := xbf I t.val) Variants.none (c : Thread nD τ) none Set.univ (by exact Finset.subset_univ _)) $$ HX
  iintro HX
  rw [rd_x I rfl]
  unfold wHas
  icases HW with ⟨HM, HB, Hc⟩
  rw [wp_bind]
  iapply (wp_ld (defs := defs₀ (F := F)) (m := bW) (S := slotS 2 5120 1536 1) (f := wC I (ex I 1 t.val)) Variants.none (c : Thread nD τ) none Set.univ (by exact wslot_in (by decide) rfl _)) $$ HB
  iintro HB
  rw [rd_w I (by decide) rfl]
  rw [wp_bind]
  iapply (wp_wd c (o1 (w_next _ ok.n t.val (by omega))) (by omega)) $$ H3
  iintro H3
  rw [wp_bind]
  iapply (wp_asm Variants.none (c : Thread nD τ) none Set.univ (chk40 _ _ hnx))
  iapply (wp_cond c (P := wHas c I (ex I 1 t.val) 1 (by decide)) (R := wst c I (t.val + 1) 1 (by decide)) ?_ ?_) $$ [HM HB Hc]
  · intro hc Q'
    dsimp only
    unfold wHas
    iintro ⟨HM, HB, Hc⟩ Hk
    iapply (wp_wcp c I (e := ex I 1 (min (t.val + 1) (I.v0.toNat - 1))) (by decide) hnx rfl rfl rfl) $$ [HM HB Hc]
    · isplitl [HM]; · iexact HM
      isplitl [HB] <;> iassumption
    iintro HS
    iapply Hk
    iapply (wst_send hj ((cond4_iff _ _).1 hc)) $$ HS
  · intro hc
    exact wst_keep hj fun h => hc ((cond4_iff _ _).2 h)
  · unfold wHas
    isplitl [HM]; · iexact HM
    isplitl [HB] <;> iassumption
  iintro HW
  rw [wp_bind]
  iapply (wp_ldo c) $$ H7
  iintro H7
  unfold hfill
  icases HF with ⟨%f, %hf, HF⟩
  rw [wp_bind]
  iapply (wp_ld (defs := defs₀ (F := F)) (m := bH) (S := slotS 2 256 1536 (t.val % 2)) (f := f) Variants.none (c : Thread nD τ) none Set.univ
    (by exact blk_in hsl (by omega) (o3c (w_slot t.val (by omega))) _)) $$ HF
  iintro HF
  rw [wp_bind]
  iapply (wp_half c I (j := t.val) (s := 1) (sl := t.val % 2) (by decide) hsl (o3c (w_slot t.val (by omega))) (by exact congrArg (k0_pay2 (xbf I t.val) (wvec I (ex I 1 t.val))) (rd_b I (e := ex I 1 t.val) hcur rfl _))) $$ [HF]
  · unfold hfill
    iexists f
    isplitr; · ipureintro; exact hf
    iexact HF
  iintro HF
  rw [wp_pure]
  imodintro
  iapply Hk
  isplitl [HW]; · iexact HW
  isplitl [HF]; · unfold hfill; iexact HF
  isplitl [HX]; · iexact HX
  isplitr [HO]
  · isplitl [H0]; · iexact H0
    isplitl [H1]; · iexact H1
    isplitl [H2]; · iexact H2
    isplitl [H3] <;> iassumption
  iexact HO

end Cert.Hand

end
-- ==== Proof.Intake.lean ====
/-
  The part of the kernel that takes a gathered tile in and sends for the next one.
-/
module

public import proofs.«01_k».proof.Proof.Halves

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F)

/-- Slot `sl` of the gather is free. -/
def gfree (sl : ℕ) (h : sl < 2) : sProp 𝕄 :=
  iprop((∃ f, bR.view.loc (c : Thread nD τ) ↦[slotS 2 256 5120 sl]{fullShare} f) ∗ semVal ((c : Thread nD τ), .dma (cell cc0_scratch5 sl h)) 0
    ∗ (∃ f, bP.view.loc (c : Thread nD τ) ↦[slotS 2 1 256 sl]{fullShare} f) ∗ semVal ((c : Thread nD τ), .dma (cell cc0_scratch8 sl h)) 0)

/-- The gather before tile `k`: the tile's rows in flight to slot `a`, if it is there to be done. -/
def gst (k a b : ℕ) (ha : a < 2) (hb : b < 2) : sProp 𝕄 :=
  if k < I.v0.toNat then iprop(gfl c I k a ha 0 ∗ parS c I k a ha ∗ gfree c b hb)
  else iprop(xs c I ∗ (mP.view.loc (c : Thread nD τ) ↦[Finset.univ]{fullShare} I.P) ∗ gfree c b hb ∗ gfree c a ha)

/-- Slot `sl` of the staging buffer is free. -/
def hfree (sl : ℕ) (h : sl < 2) : sProp 𝕄 :=
  iprop((∃ f, bH.view.loc (c : Thread nD τ) ↦[slotS 2 256 1536 sl]{fullShare} f) ∗ semVal ((c : Thread nD τ), .dma (cell cc0_scratch7 sl h)) 0)

/-- Slot `sl` of the staging buffer holds the tile `n` before tile `k`, if there is one, on its way out. -/
def hone (k n sl : ℕ) (h : sl < 2) : sProp 𝕄 := if n ≤ k then hS c I (k - n) sl h else hfree c sl h

variable {c I} in
theorem rows_join {a b d : ℕ} (h : a ≤ b) (h' : b ≤ d) (f : S41984x1536.Idx → Elt F .bf16) :
    (mO.view.loc (c : Thread nD τ) ↦[rowsO a d]{fullShare} f : sProp 𝕄) ⊣⊢ iprop((mO.view.loc (c : Thread nD τ) ↦[rowsO a b]{fullShare} f) ∗ (mO.view.loc (c : Thread nD τ) ↦[rowsO b d]{fullShare} f)) := by
  have e : (rowsO a d : Finset S41984x1536.Idx) = rowsO a b ∪ rowsO b d := by
    ext i
    rw [Finset.mem_union, mem_rowsO, mem_rowsO, mem_rowsO]
    omega
  rw [e]
  refine pointsTo_union (ℓ := mO.view.loc (c : Thread nD τ)) (Finset.disjoint_left.2 fun i hi hi' => ?_)
  have h1 := mem_rowsO.1 hi
  have h2 := mem_rowsO.1 hi'
  omega

theorem rd_p {j sl : ℕ} (h : sl < 2) {o : Fin 3 → ℕ} (eo : o = ![sl, 0, 0]) (hb : ∀ a, o a + S1x1x256.size a ≤ S2x1x256.size a) :
    (bP.access (Rect.unit (s := S2x1x256) o S1x1x256.size hb)).read (Elt F) (parC I j) = pvec I j := by
  funext i
  rw [eq_ix3 i]
  refine (congrArg (parC I j) (emb_blk3 bP eo hb (by omega) (by omega) (by omega) (i 0) (i 1) (i 2))).trans ?_
  show I.P _ = I.P _
  refine congrArg I.P (congrArg (ix3 _ _) (Fin.ext ?_))
  show 0 + (i 2).val = (i 2).val; omega

variable {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}

theorem part25 (ok : I.Ok) (hw : k0_chk19 (I.v0 : Elt F .i32)) (t : Fin (k0_t2_loop (I.v0 : Elt F .i32)).trips) (ha : t.val % 2 < 2) (hb : 1 - t.val % 2 < 2)
    {Q : (Σ' (_ : BitVec 32) (_ : BitVec 32) (v62 : Elt F .i32) (_ : k0_chk38 v62), BitVec 32) → sProp 𝕄} :
    iprop(gst c I t.val (t.val % 2) (1 - t.val % 2) ha hb ∗ (∃ f, bX.view.loc (c : Thread nD τ) ↦[Finset.univ]{fullShare} f) ∗ hone c I t.val 2 (t.val % 2) ha
        ∗ (mO.view.loc (c : Thread nD τ) ↦[rowsO 0 (256 * (t.val - 2))]{fullShare} G I) ∗ sm c I a0 a1 a2 a3 a7 ∗ (∃ W, owes (c : Thread nD τ) 0 W))
      ⊢ iprop((iprop(gst c I (t.val + 1) (1 - t.val % 2) (t.val % 2) hb ha ∗ hfree c (t.val % 2) ha ∗ (mO.view.loc (c : Thread nD τ) ↦[rowsO 0 (256 * (t.val - 1))]{fullShare} G I)
            ∗ hctx c I a0 a1 a2 a3 a7 t.val)
          -∗ Q ⟨Scf.iv 0#32 1#32 t, Scalar.andi (Scf.iv 0#32 1#32 t) 1#32, (wd (I.te 0) t.val : BitVec 32), chkB _ (ok.te 0 _ (t2_lt ok.n t)), Scalar.maxsi (Scalar.subi (Scf.iv 0#32 1#32 t) 1#32) 0#32⟩)
        -∗ wp frame (wpE (defs₀ (F := F)) Variants.none (c : Thread nD τ) none) Set.univ
          (k0_part25 a0 h0 a1 h1 a2 h2 a3 h3 mP hP mX hX mW hW a7 h7 mO hO bW hbW bR hbR bX hbX bH hbH bP hbP cc0_scratch5 cc0_scratch6 cc0_scratch7 cc0_scratch8 (I.v0 : Elt F .i32) hw 0#32 1#32 t) Q) := by
  have hj := t2_lt ok.n t
  have hj' := t2_lt' ok.n t
  have hv1 := ok.n.hi
  rw [k0_part25_eq_skeleton]
  unfold k0_part25_skel hctx sm
  dsimp only
  iintro ⟨HG, HX, HH, HD, ⟨H0, H1, H2, H3, H7⟩, HO⟩ Hk
  ihave HG' := (show gst c I t.val (t.val % 2) (1 - t.val % 2) ha hb ⊢ iprop(gfl c I t.val (t.val % 2) ha 0 ∗ parS c I t.val (t.val % 2) ha ∗ gfree c (1 - t.val % 2) hb) by
    unfold gst; rw [if_pos hj]) $$ HG
  icases HG' with ⟨HR, HP, HN⟩
  rw [wp_bind]
  iapply (loop3 c I (I.v0 : Elt F .i32) ok.n hw t ha) $$ [HR HO]
  · isplitl [HR] <;> iassumption
  iintro ⟨HR, HO⟩
  rw [wp_bind]
  unfold parS
  imod (gfl_end c I ha) $$ HR with ⟨HR, Hx, Hg⟩
  iapply (wp_unslot c ha (o1 (w_slot t.val (by omega))) (by decide)) $$ [HP HO]
  · isplitl [HP] <;> iassumption
  iintro ⟨⟨HP, Hp⟩, Hq, HO⟩
  iapply (wp_cond2 c (P := iprop(gfree c (1 - t.val % 2) hb ∗ xs c I ∗ (mP.view.loc (c : Thread nD τ) ↦[Finset.univ]{fullShare} I.P) ∗ owns (c : Thread nD τ) a1 fullShare I.tok))
    (R := iprop((if t.val + 1 < I.v0.toNat then iprop(gfl c I (t.val + 1) (1 - t.val % 2) hb 0 ∗ parS c I (t.val + 1) (1 - t.val % 2) hb)
      else iprop(xs c I ∗ (mP.view.loc (c : Thread nD τ) ↦[Finset.univ]{fullShare} I.P) ∗ gfree c (1 - t.val % 2) hb)) ∗ owns (c : Thread nD τ) a1 fullShare I.tok)) ?_ ?_) $$ [HN Hx Hp H1]
  · intro hc Q'
    have hc' := (cond1_iff ok.n t).1 hc
    dsimp only
    rw [if_pos hc']
    unfold gfree
    iintro ⟨⟨⟨%f, HR⟩, Hg, ⟨%f', HP⟩, Hq⟩, Hx, Hp, H1⟩ Hk
    rw [wp_bind]
    imod (gath_start c I (j := t.val + 1) hb f) $$ [HR Hx Hg] with HG
    · isplitl [HR]; · iexact HR
      isplitl [Hx] <;> iassumption
    iapply (loop4 c I (I.v0 : Elt F .i32) ok.n hw t hc _ ok.tok f hb) $$ [HG H1]
    · isplitl [HG] <;> iassumption
    iintro ⟨HG, H1⟩
    iapply (wp_par c I hb (by omega) (o1 (w_other t.val (by omega))) (o30 (w_other t.val (by omega))) (o30 (w_succ t.val (by omega)))) $$ [HP Hp Hq]
    · isplitl [Hp]; · iexact Hp
      isplitl [HP] <;> iassumption
    iintro HP
    iapply Hk
    isplitr [H1]
    · isplitl [HG]
      · iapply (gath_full c I hb f) $$ HG
      iexact HP
    iexact H1
  · intro hc
    rw [if_neg (fun h => hc ((cond1_iff ok.n t).2 h))]
    iintro ⟨HN, Hx, Hp, H1⟩
    isplitr [H1]
    · isplitl [Hx]; · iexact Hx
      isplitl [Hp] <;> iassumption
    iexact H1
  · isplitl [HN]; · iexact HN
    isplitl [Hx]; · iexact Hx
    isplitl [Hp] <;> iassumption
  iintro ⟨HN, H1⟩
  rw [wp_bind]
  iapply (wp_ld (defs := defs₀ (F := F)) (m := bP) (S := slotS 2 1 256 (t.val % 2)) (f := parC I t.val) Variants.none (c : Thread nD τ) none Set.univ ?_) $$ HP
  · refine acc3 bP (o30 (w_slot t.val (by omega))) (k0_off122_inb (I.v0 : Elt F .i32) hw t) (by omega) (by omega) (by omega) fun x y z => mem_slotS.2 ?_
    show t.val % 2 + x.val = t.val % 2
    omega
  iintro HP
  rw [rd_p I ha (o := k0_off122 (I.v0 : Elt F .i32) t) (o30 (w_slot t.val (by omega)))]
  rw [wp_bind]
  iapply (loop5 c I (I.v0 : Elt F .i32) ok.n hw t) $$ [HR HX]
  · isplitl [HR] <;> iassumption
  iintro ⟨HR, HX⟩
  ihave HX := (xst_all c I t.val) $$ HX
  iapply (wp_cond c (P := iprop(hone c I t.val 2 (t.val % 2) ha ∗ (mO.view.loc (c : Thread nD τ) ↦[rowsO 0 (256 * (t.val - 2))]{fullShare} G I) ∗ (∃ W, owes (c : Thread nD τ) 0 W)))
    (R := iprop(hfree c (t.val % 2) ha ∗ (mO.view.loc (c : Thread nD τ) ↦[rowsO 0 (256 * (t.val - 1))]{fullShare} G I) ∗ (∃ W, owes (c : Thread nD τ) 0 W))) ?_ ?_) $$ [HH HD HO]
  · intro hc Q'
    have hc' := (cond2_iff ok.n t).1 hc
    dsimp only
    unfold hone
    rw [if_pos hc']
    unfold hS hfree
    iintro ⟨HS, HD, HO⟩ Hk
    iapply (wp_unslot c ha (o1 (w_slot t.val (by omega))) (by decide)) $$ [HS HO]
    · isplitl [HS] <;> iassumption
    iintro ⟨⟨HD', HH⟩, Hq, HO⟩
    iapply Hk
    isplitl [HH Hq]
    · isplitl [HH]
      · iexists _; iexact HH
      iexact Hq
    isplitr [HO]
    · iapply (rows_join (Nat.zero_le _) (show 256 * (t.val - 2) ≤ 256 * (t.val - 1) by omega) (G I)).2
      isplitl [HD]; · iexact HD
      rw [show t.val - 1 = t.val - 2 + 1 by omega]
      iexact HD'
    iexact HO
  · intro hc
    have hc' : ¬ 2 ≤ t.val := fun h => hc ((cond2_iff ok.n t).2 h)
    unfold hone
    rw [if_neg hc', show t.val - 1 = t.val - 2 by omega]
  · isplitl [HH]; · iexact HH
    isplitl [HD] <;> iassumption
  iintro ⟨HH, HD, HO⟩
  rw [wp_bind]
  iapply (wp_wd c (o1 (w_iv t.val (by omega))) (by omega)) $$ H2
  iintro H2
  rw [wp_bind]
  iapply (wp_asm Variants.none (c : Thread nD τ) none Set.univ (chkB _ (ok.te 0 _ hj)))
  rw [wp_pure]
  imodintro
  iapply Hk
  isplitl [HN HR HP Hg Hq]
  · iapply (show iprop((if t.val + 1 < I.v0.toNat then iprop(gfl c I (t.val + 1) (1 - t.val % 2) hb 0 ∗ parS c I (t.val + 1) (1 - t.val % 2) hb)
      else iprop(xs c I ∗ (mP.view.loc (c : Thread nD τ) ↦[Finset.univ]{fullShare} I.P) ∗ gfree c (1 - t.val % 2) hb)) ∗ gfree c (t.val % 2) ha) ⊢ gst c I (t.val + 1) (1 - t.val % 2) (t.val % 2) hb ha by
      unfold gst
      by_cases h : t.val + 1 < I.v0.toNat
      · rw [if_pos h, if_pos h]
        iintro ⟨⟨A, B⟩, C⟩
        isplitl [A]; · iexact A
        isplitl [B] <;> iassumption
      · rw [if_neg h, if_neg h]
        iintro ⟨⟨A, B, D⟩, C⟩
        isplitl [A]; · iexact A
        isplitl [B]; · iexact B
        isplitl [C] <;> iassumption)
    isplitl [HN]; · iexact HN
    unfold gfree
    isplitl [HR]; · iexists _; iexact HR
    isplitl [Hg]; · iexact Hg
    isplitl [HP]; · iexists _; iexact HP
    iexact Hq
  isplitl [HH]; · iexact HH
  isplitl [HD]; · iexact HD
  isplitl [HX]; · iexact HX
  isplitr [HO]
  · isplitl [H0]; · iexact H0
    isplitl [H1]; · iexact H1
    isplitl [H2]; · iexact H2
    isplitl [H3] <;> iassumption
  iexact HO

end Cert.Hand

end
-- ==== Proof.Tiles.lean ====
/-
  One tile from end to end, and the loop over the tiles.
-/
module

public import proofs.«01_k».proof.Proof.Intake

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F)

variable (a0 : Memref sig .tc .smem S1 .i32) {h0 : a0.IsWhole} (a1 : Memref sig .tc .smem S41984 .i32) {h1 : a1.IsWhole} (a2 : Memref sig .tc .smem S164 .i32) {h2 : a2.IsWhole} (a3 : Memref sig .tc .smem S164 .i32) {h3 : a3.IsWhole}
    (a7 : Memref sig .tc .vmem S8x1x1536 .bf16) {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}

/-- Before tile `k`, whose slot is `a`. -/
def inv (k a b : ℕ) (ha : a < 2) (hb : b < 2) : sProp 𝕄 :=
  iprop(gst c I k a b ha hb ∗ (∃ f, bX.view.loc (c : Thread nD τ) ↦[Finset.univ]{fullShare} f) ∗ hone c I k 2 a ha ∗ hone c I k 1 b hb
    ∗ (mO.view.loc (c : Thread nD τ) ↦[rowsO 0 (256 * (k - 2))]{fullShare} G I) ∗ (mO.view.loc (c : Thread nD τ) ↦[rowsO (256 * k) 41984]{fullShare} I.V)
    ∗ wst c I k 0 (by decide) ∗ wst c I k 1 (by decide) ∗ sm c I a0 a1 a2 a3 a7 ∗ (∃ W, owes (c : Thread nD τ) 0 W))

def Inv (k : ℕ) : sProp 𝕄 := inv c I a0 a1 a2 a3 a7 k (k % 2) (1 - k % 2) (Nat.mod_lt _ (by decide)) (by omega)

variable {c I a0 a1 a2 a3 a7}

theorem inv_slots {k a b a' b' : ℕ} {ha hb} (ha' : a' < 2) (hb' : b' < 2) (e : a = a') (e' : b = b') : inv c I a0 a1 a2 a3 a7 k a b ha hb ⊢ inv c I a0 a1 a2 a3 a7 k a' b' ha' hb' := by
  subst e; subst e'; exact .rfl

theorem hone_next {k b : ℕ} {hb : b < 2} : hone c I k 1 b hb ⊢ hone c I (k + 1) 2 b hb := by
  unfold hone
  by_cases h : 1 ≤ k
  · rw [if_pos h, if_pos (show 2 ≤ k + 1 by omega), show k + 1 - 2 = k - 1 by omega]
  · rw [if_neg h, if_neg (show ¬ 2 ≤ k + 1 by omega)]

theorem tile (ok : I.Ok) (hw : k0_chk19 (I.v0 : Elt F .i32)) (t : Fin (k0_t2_loop (I.v0 : Elt F .i32)).trips) :
    Inv c I a0 a1 a2 a3 a7 t.val ⊢ wp frame (wpE (defs₀ (F := F)) Variants.none (c : Thread nD τ) none) Set.univ
      (k0_t2_body a0 h0 a1 h1 a2 h2 a3 h3 mP hP mX hX mW hW a7 h7 mO hO bW hbW bR hbR bX hbX bH hbH bP hbP cc0_scratch5 cc0_scratch6 cc0_scratch7 cc0_scratch8 (I.v0 : Elt F .i32) hw 0#32 t ⟨⟩)
      (fun _ => Inv c I a0 a1 a2 a3 a7 (t.val + 1)) := by
  have hj := t2_lt ok.n t
  have hj' := t2_lt' ok.n t
  have hv1 := ok.n.hi
  have ha : t.val % 2 < 2 := Nat.mod_lt _ (by decide)
  have hb : 1 - t.val % 2 < 2 := by omega
  unfold k0_t2_body Inv
  dsimp only
  refine BIBase.Entails.trans ?_ (wp_mono _ _ _ fun _ => inv_slots (k := t.val + 1) (a := 1 - t.val % 2) (b := t.val % 2) (ha := hb) (hb := ha) _ _ (by omega) (by omega))
  unfold inv
  iintro ⟨HG, HX, HH, HN, HD, HV, HW0, HW1, HS, HO⟩
  rw [wp_bind]
  iapply (part25 c I ok hw t ha hb) $$ [HG HX HH HD HS HO]
  · isplitl [HG]; · iexact HG
    isplitl [HX]; · iexact HX
    isplitl [HH]; · iexact HH
    isplitl [HD]; · iexact HD
    isplitl [HS] <;> iassumption
  iintro ⟨HG, HH, HD, HC⟩
  dsimp only
  unfold hfree
  icases HH with ⟨⟨%f, HF⟩, Hh⟩
  rw [wp_bind]
  iapply (part26 c I ok hw t) $$ [HW0 HF HC]
  · isplitl [HW0]; · iexact HW0
    isplitr [HC]
    · unfold hfill
      iexists f
      isplitr; · ipureintro; intro i hi; omega
      iexact HF
    iexact HC
  iintro ⟨HW0, HF, HC⟩
  dsimp only
  rw [wp_bind]
  iapply (part27 c I ok hw t) $$ [HW1 HF HC]
  · isplitl [HW1]; · iexact HW1
    isplitl [HF] <;> iassumption
  iintro ⟨HW1, HF, HC⟩
  ihave HF := (hfill_all c I t.val (t.val % 2)) $$ HF
  ihave HV' := (rows_join (c := c) (show 256 * t.val ≤ 256 * (t.val + 1) by omega) (show 256 * (t.val + 1) ≤ 41984 by omega) I.V).1 $$ HV
  icases HV' with ⟨HV0, HV⟩
  rw [wp_bind]
  iapply (wp_hcp c I (j := t.val) ha hj hv1 (o1 (w_slot t.val (by omega))) (o30 (w_slot t.val (by omega))) (o20 ((w_mul t.val _ (by omega) (by decide)).trans (Nat.mul_comm _ _)))) $$ [HF HV0 Hh]
  · isplitl [HF]; · iexact HF
    isplitl [HV0] <;> iassumption
  iintro HH
  rw [wp_pure]
  imodintro
  isplitl [HG]; · iexact HG
  unfold hctx
  icases HC with ⟨HX, HS, HO⟩
  isplitl [HX]; · iexists _; iexact HX
  isplitl [HN]; · iapply hone_next $$ HN
  isplitl [HH]
  · unfold hone
    rw [if_pos (show 1 ≤ t.val + 1 by omega), show t.val + 1 - 1 = t.val by omega]
    iexact HH
  isplitl [HD]
  · rw [show t.val + 1 - 2 = t.val - 1 by omega]
    iexact HD
  isplitl [HV]; · iexact HV
  isplitl [HW0]; · iexact HW0
  isplitl [HW1]; · iexact HW1
  isplitl [HS] <;> iassumption

/-- All tiles in use. -/
theorem tiles (ok : I.Ok) (hw : k0_chk19 (I.v0 : Elt F .i32)) {hok} {Q : Unit → sProp 𝕄} :
    Inv c I a0 a1 a2 a3 a7 0 ⊢ iprop((Inv c I a0 a1 a2 a3 a7 I.v0.toNat -∗ Q ⟨⟩) -∗ wp frame (wpE (defs₀ (F := F)) Variants.none (c : Thread nD τ) none) Set.univ
      (Scf.Loop.for (k0_t2_loop (I.v0 : Elt F .i32)) hok ⟨⟩ (k0_t2_body a0 h0 a1 h1 a2 h2 a3 h3 mP hP mX hX mW hW a7 h7 mO hO bW hbW bR hbR bX hbX bH hbH bP hbP cc0_scratch5 cc0_scratch6 cc0_scratch7 cc0_scratch8 (I.v0 : Elt F .i32) hw 0#32)) Q) :=
  wp_loop c I.v0.toNat (trips2 ok.n) (Inv c I a0 a1 a2 a3 a7) fun t => tile ok hw t

end Cert.Hand

end
-- ==== Proof.Body.lean ====
/-
  The start of the kernel, its end, and the kernel as a whole.
-/
module

public import proofs.«01_k».proof.Proof.Tiles

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]
local notation "𝕄" => MT nD τ sig Unit (Elt F) ℕ (Pipeline.UD sig nD τ) ℕ

variable (c : Dev nD) (I : In F)

/-! Buffers as two slots. -/

theorem slots_disj (B C : ℕ) : Disjoint (slotS 2 B C 0) (slotS 2 B C 1) :=
  Finset.disjoint_left.2 fun i h h' => by
    have h1 := mem_slotS.1 h
    have h2 := mem_slotS.1 h'
    omega
theorem slots_univ (B C : ℕ) : slotS 2 B C 0 ∪ slotS 2 B C 1 = Finset.univ := by
  ext i
  have h0 : (i 0).val < 2 := (i 0).isLt
  rw [Finset.mem_union, mem_slotS, mem_slotS]
  simp only [Finset.mem_univ, iff_true]
  omega

theorem two_split {ℓ : Loc nD τ sig} {S0 S1 : Finset (Idx ℓ)} (hd : Disjoint S0 S1) (hu : S0 ∪ S1 = Finset.univ) :
    (iprop(∃ f, ℓ ↦[Finset.univ]{fullShare} f) : sProp 𝕄) ⊢ iprop((∃ f, ℓ ↦[S0]{fullShare} f) ∗ (∃ f, ℓ ↦[S1]{fullShare} f)) := by
  iintro ⟨%f, H⟩
  rw [← hu]
  ihave H' := (pointsTo_union hd).1 $$ H
  icases H' with ⟨A, B⟩
  isplitl [A]
  · iexists f; iexact A
  · iexists f; iexact B

theorem two_join {ℓ : Loc nD τ sig} {S0 S1 : Finset (Idx ℓ)} (hd : Disjoint S0 S1) (hu : S0 ∪ S1 = Finset.univ) :
    iprop((∃ f, ℓ ↦[S0]{fullShare} f) ∗ (∃ f, ℓ ↦[S1]{fullShare} f)) ⊢ (iprop(∃ f, ℓ ↦[Finset.univ]{fullShare} f) : sProp 𝕄) := by
  iintro ⟨⟨%f, A⟩, %g, B⟩
  rw [← hu]
  iexists _
  iapply (pointsTo_join hd)
  isplitl [A] <;> iassumption

/-- Both slots, whichever comes first. -/
theorem both {R : (sl : ℕ) → sl < 2 → sProp 𝕄} {a b : ℕ} (ha : a < 2) (hb : b < 2) (e : b = 1 - a) :
    iprop(R a ha ∗ R b hb) ⊢ iprop(R 0 (by decide) ∗ R 1 (by decide)) := by
  subst e
  obtain rfl | rfl : a = 0 ∨ a = 1 := by omega
  · exact .rfl
  · iintro ⟨A, B⟩
    isplitl [B]; · iexact B
    iexact A

variable {a0 : Memref sig .tc .smem S1 .i32} {h0 : a0.IsWhole} {a1 : Memref sig .tc .smem S41984 .i32} {h1 : a1.IsWhole} {a2 : Memref sig .tc .smem S164 .i32} {h2 : a2.IsWhole} {a3 : Memref sig .tc .smem S164 .i32} {h3 : a3.IsWhole}
    {a7 : Memref sig .tc .vmem S8x1x1536 .bf16} {h7 : a7.IsWhole} {hP : mP.IsWhole} {hX : mX.IsWhole} {hW : mW.IsWhole} {hO : mO.IsWhole} {hbW : bW.IsWhole} {hbR : bR.IsWhole} {hbX : bX.IsWhole} {hbH : bH.IsWhole} {hbP : bP.IsWhole}

/-- Slot `s` of the weights is free. -/
def wfree (s : ℕ) (h : s < 2) : sProp 𝕄 :=
  iprop((mW.view.loc (c : Thread nD τ) ↦[Finset.univ]{shareTok fullShare 2 ⟨s, h⟩} I.W) ∗ (∃ f, bW.view.loc (c : Thread nD τ) ↦[slotS 2 5120 1536 s]{fullShare} f) ∗ semVal ((c : Thread nD τ), .dma (cell cc0_scratch6 s h)) 0)

theorem start (ok : I.Ok) {Q : (Σ' (v0 : Elt F .i32) (_ : k0_chk19 v0) (_ : BitVec 32) (_ : BitVec 32), BitVec 32) → sProp 𝕄} :
    iprop(wfree c I 0 (by decide) ∗ wfree c I 1 (by decide) ∗ gfree c 0 (by decide) ∗ xs c I ∗ (mP.view.loc (c : Thread nD τ) ↦[Finset.univ]{fullShare} I.P) ∗ sm c I a0 a1 a2 a3 a7)
      ⊢ iprop((iprop(wS c I (ex I 0 0) 0 (by decide) ∗ wS c I (ex I 1 0) 1 (by decide) ∗ gfl c I 0 0 (by decide) 0 ∗ parS c I 0 0 (by decide) ∗ sm c I a0 a1 a2 a3 a7)
          -∗ Q ⟨(I.v0 : Elt F .i32), chk19 ok.n, 0#32, Scalar.subi I.v0 0#32, 1#32⟩)
        -∗ wp frame (wpE (defs₀ (F := F)) Variants.none (c : Thread nD τ) none) Set.univ
          (k0_part43 a0 h0 a1 h1 a2 h2 a3 h3 mP hP mX hX mW hW a7 h7 mO hO bW hbW bR hbR bX hbX bH hbH bP hbP cc0_scratch5 cc0_scratch6 cc0_scratch7 cc0_scratch8) Q) := by
  have hlo := ok.n.lo
  have e0 := ok.te 0 0 (by omega)
  have e1 := ok.te 1 0 (by omega)
  rw [k0_part43_eq_skeleton]
  unfold k0_part43_skel sm wfree gfree
  dsimp only
  iintro ⟨⟨HM0, ⟨%f0, HW0⟩, Hw0⟩, ⟨HM1, ⟨%f1, HW1⟩, Hw1⟩, ⟨⟨%f2, HR⟩, Hg, ⟨%f3, HP⟩, Hq⟩, Hx, Hp, H0, H1, H2, H3, H7⟩ Hk
  rw [wp_bind]
  iapply (wp_word (defs := defs₀ (F := F)) Variants.none (c : Thread nD τ) none Set.univ (i := 0) rfl (by decide)) $$ H0
  iintro H0
  rw [wp_bind]
  iapply (wp_asm Variants.none (c : Thread nD τ) none Set.univ (chk19 ok.n))
  rw [wp_bind]
  iapply (wp_wd c (i := 0) rfl (by decide)) $$ H2
  iintro H2
  rw [wp_bind]
  iapply (wp_asm Variants.none (c : Thread nD τ) none Set.univ (chkW _ e0))
  rw [wp_bind]
  iapply (wp_wcp c I (e := ex I 0 0) (by decide) e0 rfl rfl rfl) $$ [HM0 HW0 Hw0]
  · isplitl [HM0]; · iexact HM0
    isplitl [HW0] <;> iassumption
  iintro HS0
  rw [wp_bind]
  iapply (wp_wd c (i := 0) rfl (by decide)) $$ H3
  iintro H3
  rw [wp_bind]
  iapply (wp_asm Variants.none (c : Thread nD τ) none Set.univ (chkW _ e1))
  rw [wp_bind]
  iapply (wp_wcp c I (e := ex I 1 0) (by decide) e1 rfl rfl rfl) $$ [HM1 HW1 Hw1]
  · isplitl [HM1]; · iexact HM1
    isplitl [HW1] <;> iassumption
  iintro HS1
  rw [wp_bind]
  imod (gath_start c I (j := 0) (sl := 0) (by decide) f2) $$ [HR Hx Hg] with HG
  · isplitl [HR]; · iexact HR
    isplitl [Hx] <;> iassumption
  iapply (loop1 c I (fun p hp => ok.tok p (by omega)) f2) $$ [HG H1]
  · isplitl [HG] <;> iassumption
  iintro ⟨HG, H1⟩
  rw [wp_bind]
  iapply (wp_par c I (j := 0) (sl := 0) (by decide) (by decide) rfl rfl rfl) $$ [HP Hp Hq]
  · isplitl [Hp]; · iexact Hp
    isplitl [HP] <;> iassumption
  iintro HP
  rw [wp_pure]
  imodintro
  iapply Hk
  isplitl [HS0]; · iexact HS0
  isplitl [HS1]; · iexact HS1
  isplitl [HG]; · iapply (gath_full c I _ f2) $$ HG
  isplitl [HP]; · iexact HP
  isplitl [H0]; · iexact H0
  isplitl [H1]; · iexact H1
  isplitl [H2]; · iexact H2
  isplitl [H3] <;> iassumption

/-- What the kernel holds besides the result and the shares it lends to nobody. -/
def rest (a0 : Memref sig .tc .smem S1 .i32) (a1 : Memref sig .tc .smem S41984 .i32) (a2 a3 : Memref sig .tc .smem S164 .i32) (a7 : Memref sig .tc .vmem S8x1x1536 .bf16) : sProp 𝕄 :=
  iprop((wfree c I 0 (by decide) ∗ wfree c I 1 (by decide)) ∗ (gfree c 0 (by decide) ∗ gfree c 1 (by decide)) ∗ (hfree c 0 (by decide) ∗ hfree c 1 (by decide))
    ∗ (∃ f, bX.view.loc (c : Thread nD τ) ↦[Finset.univ]{fullShare} f) ∗ xs c I ∗ (mP.view.loc (c : Thread nD τ) ↦[Finset.univ]{fullShare} I.P) ∗ sm c I a0 a1 a2 a3 a7 ∗ (∃ W, owes (c : Thread nD τ) 0 W))

theorem wst_end (ok : I.Ok) {s : ℕ} {h : s < 2} : wst c I I.v0.toNat s h ⊢ wfree c I s h := by
  have hlo := ok.n.lo
  unfold wst wfree wHas
  rw [if_neg (by omega)]
  iintro ⟨A, B, C⟩
  isplitl [A]; · iexact A
  isplitl [B]; · iexists _; iexact B
  iexact C

theorem rowsO_all (f : S41984x1536.Idx → Elt F .bf16) : (mO.view.loc (c : Thread nD τ) ↦[Finset.univ]{fullShare} f : sProp 𝕄) = (mO.view.loc (c : Thread nD τ) ↦[rowsO 0 41984]{fullShare} f) := by
  refine congrArg (fun S => (mO.view.loc (c : Thread nD τ) ↦[S]{fullShare} f : sProp 𝕄)) ?_
  ext i
  exact ⟨fun _ => mem_rowsO.2 ⟨Nat.zero_le _, (i 0).isLt⟩, fun _ => Finset.mem_univ _⟩

theorem body (ok : I.Ok) {Q : PUnit → sProp 𝕄} :
    iprop(rest c I a0 a1 a2 a3 a7 ∗ (mO.view.loc (c : Thread nD τ) ↦[Finset.univ]{fullShare} I.V))
      ⊢ iprop((iprop(rest c I a0 a1 a2 a3 a7 ∗ (mO.view.loc (c : Thread nD τ) ↦[Finset.univ]{fullShare} G I)) -∗ Q ⟨⟩)
        -∗ wp frame (wpE (defs₀ (F := F)) Variants.none (c : Thread nD τ) none) Set.univ
          (cc0_moe_up a0 h0 a1 h1 a2 h2 a3 h3 mP hP mX hX mW hW a7 h7 mO hO bW hbW bR hbR bX hbX bH hbH bP hbP cc0_scratch5 cc0_scratch6 cc0_scratch7 cc0_scratch8) Q) := by
  have hlo := ok.n.lo
  have hhi := ok.n.hi
  rw [cc0_moe_up_eq_skeleton]
  unfold cc0_moe_up_skel rest
  dsimp only
  iintro ⟨⟨⟨HW0, HW1⟩, ⟨HG0, HG1⟩, ⟨HH0, HH1⟩, HX, Hx, Hp, HS, HO⟩, HV⟩ Hk
  rw [wp_bind]
  iapply (start c I ok) $$ [HW0 HW1 HG0 Hx Hp HS]
  · isplitl [HW0]; · iexact HW0
    isplitl [HW1]; · iexact HW1
    isplitl [HG0]; · iexact HG0
    isplitl [Hx]; · iexact Hx
    isplitl [Hp] <;> iassumption
  iintro ⟨HW0, HW1, HG, HP, HS⟩
  dsimp only
  rw [wp_bind]
  iapply (tiles ok (chk19 ok.n)) $$ [HW0 HW1 HG HP HG1 HH0 HH1 HX HV HS HO]
  · unfold Inv inv gst hone wst
    rw [if_pos (show 0 < I.v0.toNat by omega), if_neg (show ¬ 2 ≤ 0 by omega), if_neg (show ¬ 1 ≤ 0 by omega), if_pos (Or.inl rfl), if_pos (Or.inl rfl)]
    isplitl [HG HP HG1]
    · isplitl [HG]; · iexact HG
      isplitl [HP] <;> iassumption
    isplitl [HX]; · iexact HX
    isplitl [HH0]; · iexact HH0
    isplitl [HH1]; · iexact HH1
    ihave HV := (Entails.of_eq (rowsO_all c I.V)) $$ HV
    isplitr [HV HW0 HW1 HS HO]
    · rw [show (rowsO 0 (256 * (0 - 2)) : Finset S41984x1536.Idx) = ∅ from Finset.eq_empty_of_forall_notMem fun i hi => absurd (mem_rowsO.1 hi).2 (by omega)]
      iapply (Entails.of_eq (pointsTo_empty (ℓ := mO.view.loc (c : Thread nD τ)) (q := fullShare) (f := G I)).symm)
      iempintro
    isplitl [HV]; · iexact HV
    isplitl [HW0]; · iexact HW0
    isplitl [HW1]; · iexact HW1
    isplitl [HS] <;> iassumption
  iintro H
  unfold Inv inv
  icases H with ⟨HG, HX, HH, HN, HD, HV, HW0, HW1, HS, HO⟩
  have ha : I.v0.toNat % 2 < 2 := Nat.mod_lt _ (by decide)
  have hb : 1 - I.v0.toNat % 2 < 2 := by omega
  rw [wp_bind]
  iapply (wp_loop c 0 trips6 (fun _ => iprop(∃ W, owes (c : Thread nD τ) 0 W)) fun t => no6 t) $$ HO
  iintro HO
  iapply (wp_cond c (P := iprop(hone c I I.v0.toNat 2 (I.v0.toNat % 2) ha ∗ (mO.view.loc (c : Thread nD τ) ↦[rowsO 0 (256 * (I.v0.toNat - 2))]{fullShare} G I) ∗ (∃ W, owes (c : Thread nD τ) 0 W)))
    (R := iprop(hfree c (I.v0.toNat % 2) ha ∗ (mO.view.loc (c : Thread nD τ) ↦[rowsO 0 (256 * (I.v0.toNat - 1))]{fullShare} G I) ∗ (∃ W, owes (c : Thread nD τ) 0 W))) ?_ ?_) $$ [HH HD HO]
  · intro hc Q'
    have hc' := (cond13_iff ok.n).1 hc
    dsimp only
    unfold hone
    rw [if_pos hc']
    unfold hS hfree
    iintro ⟨HS, HD, HO⟩ Hk
    iapply (wp_unslot c ha (o1 (w_end _)) (by decide)) $$ [HS HO]
    · isplitl [HS] <;> iassumption
    iintro ⟨⟨HD', HH⟩, Hq, HO⟩
    iapply Hk
    isplitl [HH Hq]
    · isplitl [HH]
      · iexists _; iexact HH
      iexact Hq
    isplitr [HO]
    · iapply (rows_join (Nat.zero_le _) (show 256 * (I.v0.toNat - 2) ≤ 256 * (I.v0.toNat - 1) by omega) (G I)).2
      isplitl [HD]; · iexact HD
      rw [show I.v0.toNat - 1 = I.v0.toNat - 2 + 1 by omega]
      iexact HD'
    iexact HO
  · intro hc
    have hc' : ¬ 2 ≤ I.v0.toNat := fun h => hc ((cond13_iff ok.n).2 h)
    unfold hone
    rw [if_neg hc', show I.v0.toNat - 1 = I.v0.toNat - 2 by omega]
  · isplitl [HH]; · iexact HH
    isplitl [HD] <;> iassumption
  iintro ⟨HH, HD, HO⟩
  rw [wp_bind]
  ihave HN := (show hone c I I.v0.toNat 1 (1 - I.v0.toNat % 2) hb ⊢ hS c I (I.v0.toNat - 1) (1 - I.v0.toNat % 2) hb by unfold hone; rw [if_pos hlo]) $$ HN
  unfold hS
  iapply (wp_unslot c hb (o1 ((w_last ok.n).trans (by omega))) (by decide)) $$ [HN HO]
  · isplitl [HN] <;> iassumption
  iintro ⟨⟨HD', HN⟩, Hq, HO⟩
  rw [wp_pure]
  imodintro
  iapply Hk
  isplitr [HD HD' HV]
  · isplitl [HW0 HW1]
    · isplitl [HW0]
      · iapply (wst_end c I ok) $$ HW0
      iapply (wst_end c I ok) $$ HW1
    ihave HG := (show gst c I I.v0.toNat (I.v0.toNat % 2) (1 - I.v0.toNat % 2) ha hb ⊢ iprop(xs c I ∗ (mP.view.loc (c : Thread nD τ) ↦[Finset.univ]{fullShare} I.P) ∗ gfree c (1 - I.v0.toNat % 2) hb ∗ gfree c (I.v0.toNat % 2) ha) by unfold gst; rw [if_neg (Nat.lt_irrefl _)]) $$ HG
    icases HG with ⟨Hx, Hp, HG1, HG0⟩
    isplitl [HG0 HG1]
    · iapply (both (R := gfree c) ha hb rfl)
      isplitl [HG0] <;> iassumption
    isplitl [HH HN Hq]
    · iapply (both (R := hfree c) ha hb rfl)
      isplitl [HH]; · iexact HH
      unfold hfree
      isplitl [HN]; · iexists _; iexact HN
      iexact Hq
    isplitl [HX]; · iexact HX
    isplitl [Hx]; · iexact Hx
    isplitl [Hp]; · iexact Hp
    isplitl [HS] <;> iassumption
  · iapply (Entails.of_eq (rowsO_all c (G I)).symm)
    iapply (rows_join (Nat.zero_le _) (show 256 * I.v0.toNat ≤ 41984 by omega) (G I)).2
    isplitl [HD HD']
    · iapply (rows_join (Nat.zero_le _) (show 256 * (I.v0.toNat - 1) ≤ 256 * I.v0.toNat by omega) (G I)).2
      isplitl [HD]; · iexact HD
      rw [show 256 * I.v0.toNat = 256 * (I.v0.toNat - 1 + 1) by omega]
      iexact HD'
    · iapply (Entails.of_eq (pointsTo_congr (ℓ := mO.view.loc (c : Thread nD τ)) (q := fullShare) (I := rowsO (256 * I.v0.toNat) 41984) (f := I.V) (g := G I) fun i hi => by
        have := (mem_rowsO.1 hi).1
        exact (if_neg (by omega)).symm)) $$ HV

end Cert.Hand

end
-- ==== Proof.Launch.lean ====
/-
  The run of the whole program on the up-projection kernel: it ends, with the result where the kernel put it.
-/
module

public import proofs.«01_k».proof.Proof.Body
public import proofs.«01_k».proof.Proof.Gen.KernelIdeal.Frame
public import Idealize.ShloMosaic.Lib.Pipeline.FrameValue

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- What core `c`'s kernel finds. -/
def inp (c : Dev nD) : In F where
  v0 := (V m c main_arg0 : S1.Idx → BitVec 32) (show S1.Idx from ix1 (0 : Fin 1))
  tok := V m c main_arg1
  te s := if s = 0 then V m c main_arg2 else V m c main_arg3
  P := V m c main_v4
  X := V m c main_arg4
  W := V m c main_arg5
  B := V m c main_v5
  V := V m c main_v6

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem blk0 (c : Dev nD) (t : Fin cfg0.N) : iblk m c 0 t = V m c main_arg0 := by
  rw [fin_N0 t]
  funext j
  show V m c main_arg0 (((cfg0.win 0).blk t0_0).view.emb j) = V m c main_arg0 j
  refine congrArg _ (funext fun a => Fin.ext ?_)
  match a with
  | ⟨0, _⟩ => exact (show 0 * 1 + 1 * (j 0).val = (j 0).val by omega)
theorem blk1 (c : Dev nD) (t : Fin cfg0.N) : iblk m c 1 t = V m c main_arg1 := by
  rw [fin_N0 t]
  funext j
  show V m c main_arg1 (((cfg0.win 1).blk t0_0).view.emb j) = V m c main_arg1 j
  refine congrArg _ (funext fun a => Fin.ext ?_)
  match a with
  | ⟨0, _⟩ => exact (show 0 * 41984 + 1 * (j 0).val = (j 0).val by omega)
theorem blk2 (c : Dev nD) (t : Fin cfg0.N) : iblk m c 2 t = V m c main_arg2 := by
  rw [fin_N0 t]
  funext j
  show V m c main_arg2 (((cfg0.win 2).blk t0_0).view.emb j) = V m c main_arg2 j
  refine congrArg _ (funext fun a => Fin.ext ?_)
  match a with
  | ⟨0, _⟩ => exact (show 0 * 164 + 1 * (j 0).val = (j 0).val by omega)
theorem blk3 (c : Dev nD) (t : Fin cfg0.N) : iblk m c 3 t = V m c main_arg3 := by
  rw [fin_N0 t]
  funext j
  show V m c main_arg3 (((cfg0.win 3).blk t0_0).view.emb j) = V m c main_arg3 j
  refine congrArg _ (funext fun a => Fin.ext ?_)
  match a with
  | ⟨0, _⟩ => exact (show 0 * 164 + 1 * (j 0).val = (j 0).val by omega)
theorem blk4 (c : Dev nD) (t : Fin cfg0.N) : iblk m c 4 t = V m c main_v5 := by
  rw [fin_N0 t]
  funext j
  show V m c main_v5 (((cfg0.win 4).blk t0_0).view.emb j) = V m c main_v5 j
  refine congrArg _ (funext fun a => Fin.ext ?_)
  match a with
  | ⟨0, _⟩ => exact (show 0 * 8 + 1 * (j 0).val = (j 0).val by omega)
  | ⟨1, _⟩ => exact (show 0 * 1 + 1 * (j 1).val = (j 1).val by omega)
  | ⟨2, _⟩ => exact (show 0 * 1536 + 1 * (j 2).val = (j 2).val by omega)

/-! The eight counters of the kernel's copies, the arrays they read, the one they write. -/

def osem : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem osem_ok : Pipeline.OwnSemFacts spec0 osem := by decide
def rd : Finset (Ref sig .tc) := {main_v4, main_arg4, main_arg5}
theorem rd_sub : rd ⊆ Pipeline.restRefs sig spec0 := by decide
def wr : Finset (Ref sig .tc) := {main_v6}
theorem wr_sub : wr ⊆ Pipeline.restRefs sig spec0 \ rd := by decide

/-- What the buffers hold at the end. -/
def end_ (c : Dev nD) (b : Ref sig .tc) : Buf (Elt F) ((c : Thread nD τ).loc b) :=
  if h : b = main_v6 then h ▸ (Cert.Hand.G (inp m c) : Buf (Elt F) ((c : Thread nD τ).loc main_v6)) else V m c b
theorem end_v6 (c : Dev nD) : end_ m c main_v6 = (Cert.Hand.G (inp m c) : Buf (Elt F) ((c : Thread nD τ).loc main_v6)) := by
  unfold end_; rw [dif_pos rfl]

theorem sems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma (cell cc0_scratch5 0 (by decide))) 0 ∗ semVal ((c : Thread nD τ), SemLoc.dma (cell cc0_scratch5 1 (by decide))) 0
          ∗ semVal ((c : Thread nD τ), SemLoc.dma (cell cc0_scratch6 0 (by decide))) 0 ∗ semVal ((c : Thread nD τ), SemLoc.dma (cell cc0_scratch6 1 (by decide))) 0
          ∗ semVal ((c : Thread nD τ), SemLoc.dma (cell cc0_scratch7 0 (by decide))) 0 ∗ semVal ((c : Thread nD τ), SemLoc.dma (cell cc0_scratch7 1 (by decide))) 0
          ∗ semVal ((c : Thread nD τ), SemLoc.dma (cell cc0_scratch8 0 (by decide))) 0 ∗ semVal ((c : Thread nD τ), SemLoc.dma (cell cc0_scratch8 1 (by decide))) 0) := by
  rw [Pipeline.ownSems0_eq_of_list c osem [0, 1, 2, 3, 4, 5, 6, 7] (by decide) (by decide)]; rfl
theorem rd_eq (c : Dev nD) :
    (bigSep rd (fun b => ((c : Thread nD τ).loc b) ↦{fullShare} V m c b) : sProp 𝕄)
      = iprop((mP.view.loc (c : Thread nD τ) ↦[Finset.univ]{fullShare} (inp m c).P) ∗ (mX.view.loc (c : Thread nD τ) ↦[Finset.univ]{fullShare} (inp m c).X) ∗ (mW.view.loc (c : Thread nD τ) ↦[Finset.univ]{fullShare} (inp m c).W)) := by
  rw [BI.bigSep_eq_bigSepL_of_eq [main_v4, main_arg4, main_arg5] (by decide) (by decide)]; rfl
theorem wr_eq (c : Dev nD) (G : (b : Ref sig .tc) → Buf (Elt F) ((c : Thread nD τ).loc b)) :
    (bigSep wr (fun b => ((c : Thread nD τ).loc b) ↦{fullShare} G b) : sProp 𝕄) = (mO.view.loc (c : Thread nD τ) ↦[Finset.univ]{fullShare} (G main_v6)) := by
  unfold wr; rw [BI.bigSep_singleton]

/-! What the kernel is given, dealt out and gathered again. -/

/-- The buffers at any contents, the counters at zero, the arrays read and the words. -/
def given (c : Dev nD) (I : In F) : sProp 𝕄 :=
  iprop(((∃ f, bW.view.loc (c : Thread nD τ) ↦[Finset.univ]{fullShare} f) ∗ (∃ f, bR.view.loc (c : Thread nD τ) ↦[Finset.univ]{fullShare} f) ∗ (∃ f, bX.view.loc (c : Thread nD τ) ↦[Finset.univ]{fullShare} f)
      ∗ (∃ f, bH.view.loc (c : Thread nD τ) ↦[Finset.univ]{fullShare} f) ∗ (∃ f, bP.view.loc (c : Thread nD τ) ↦[Finset.univ]{fullShare} f))
    ∗ (semVal ((c : Thread nD τ), SemLoc.dma (cell cc0_scratch5 0 (by decide))) 0 ∗ semVal ((c : Thread nD τ), SemLoc.dma (cell cc0_scratch5 1 (by decide))) 0
        ∗ semVal ((c : Thread nD τ), SemLoc.dma (cell cc0_scratch6 0 (by decide))) 0 ∗ semVal ((c : Thread nD τ), SemLoc.dma (cell cc0_scratch6 1 (by decide))) 0
        ∗ semVal ((c : Thread nD τ), SemLoc.dma (cell cc0_scratch7 0 (by decide))) 0 ∗ semVal ((c : Thread nD τ), SemLoc.dma (cell cc0_scratch7 1 (by decide))) 0
        ∗ semVal ((c : Thread nD τ), SemLoc.dma (cell cc0_scratch8 0 (by decide))) 0 ∗ semVal ((c : Thread nD τ), SemLoc.dma (cell cc0_scratch8 1 (by decide))) 0)
    ∗ (mP.view.loc (c : Thread nD τ) ↦[Finset.univ]{fullShare} I.P) ∗ (mX.view.loc (c : Thread nD τ) ↦[Finset.univ]{fullShare} I.X) ∗ (mW.view.loc (c : Thread nD τ) ↦[Finset.univ]{fullShare} I.W))

/-- The shares of the arrays that no copy takes. -/
def left (c : Dev nD) (I : In F) : sProp 𝕄 :=
  iprop((mX.view.loc (c : Thread nD τ) ↦[Finset.univ]{shareDrop fullShare 256} I.X) ∗ (mW.view.loc (c : Thread nD τ) ↦[Finset.univ]{shareDrop fullShare 2} I.W))

theorem two_toks (Φ : Fin 2 → sProp 𝕄) : bigSep Finset.univ Φ = iprop(Φ ⟨0, by decide⟩ ∗ Φ ⟨1, by decide⟩) :=
  bigSep_univ_eq_bigSepL [(0 : Fin 2), (1 : Fin 2)] (by decide) (by decide) Φ

theorem deal (c : Dev nD) (I : In F) {a0 : Memref sig .tc .smem S1 .i32} {a1 : Memref sig .tc .smem S41984 .i32} {a2 a3 : Memref sig .tc .smem S164 .i32} {a7 : Memref sig .tc .vmem S8x1x1536 .bf16} :
    iprop(given c I ∗ sm c I a0 a1 a2 a3 a7 ∗ (∃ W, owes (c : Thread nD τ) 0 W)) ⊢ iprop(rest c I a0 a1 a2 a3 a7 ∗ left c I) := by
  unfold given rest left wfree gfree hfree
  iintro ⟨⟨⟨HW, HR, HX, HH, HP⟩, ⟨G0, G1, W0, W1, H0, H1, P0, P1⟩, Hp, Hx, Hw⟩, HS, HO⟩
  ihave HW := (two_split (slots_disj 5120 1536) (slots_univ 5120 1536)) $$ HW
  icases HW with ⟨HW0, HW1⟩
  ihave HR := (two_split (slots_disj 256 5120) (slots_univ 256 5120)) $$ HR
  icases HR with ⟨HR0, HR1⟩
  ihave HH := (two_split (slots_disj 256 1536) (slots_univ 256 1536)) $$ HH
  icases HH with ⟨HH0, HH1⟩
  ihave HP := (two_split (slots_disj 1 256) (slots_univ 1 256)) $$ HP
  icases HP with ⟨HP0, HP1⟩
  ihave Hx := (pointsTo_toks_split fullShare 256) $$ Hx
  icases Hx with ⟨Hxd, Hx⟩
  ihave Hw := (pointsTo_toks_split fullShare 2) $$ Hw
  icases Hw with ⟨Hwd, Hw⟩
  ihave Hw := (Entails.of_eq (two_toks _)) $$ Hw
  icases Hw with ⟨Hw0, Hw1⟩
  isplitr [Hxd Hwd]
  · isplitl [HW0 HW1 Hw0 Hw1 W0 W1]
    · isplitl [HW0 Hw0 W0]
      · isplitl [Hw0]; · iexact Hw0
        isplitl [HW0] <;> iassumption
      · isplitl [Hw1]; · iexact Hw1
        isplitl [HW1] <;> iassumption
    isplitl [HR0 HR1 G0 G1 HP0 HP1 P0 P1]
    · isplitl [HR0 G0 HP0 P0]
      · isplitl [HR0]; · iexact HR0
        isplitl [G0]; · iexact G0
        isplitl [HP0] <;> iassumption
      · isplitl [HR1]; · iexact HR1
        isplitl [G1]; · iexact G1
        isplitl [HP1] <;> iassumption
    isplitl [HH0 HH1 H0 H1]
    · isplitl [HH0 H0]
      · isplitl [HH0] <;> iassumption
      · isplitl [HH1] <;> iassumption
    isplitl [HX]; · iexact HX
    isplitl [Hx]; · unfold xs; iexact Hx
    isplitl [Hp]; · iexact Hp
    isplitl [HS] <;> iassumption
  isplitl [Hxd] <;> iassumption

theorem undeal (c : Dev nD) (I : In F) {a0 : Memref sig .tc .smem S1 .i32} {a1 : Memref sig .tc .smem S41984 .i32} {a2 a3 : Memref sig .tc .smem S164 .i32} {a7 : Memref sig .tc .vmem S8x1x1536 .bf16} :
    iprop(rest c I a0 a1 a2 a3 a7 ∗ left c I) ⊢ iprop(given c I ∗ sm c I a0 a1 a2 a3 a7 ∗ (∃ W, owes (c : Thread nD τ) 0 W)) := by
  unfold given rest left wfree gfree hfree
  iintro ⟨⟨⟨⟨Hw0, HW0, W0⟩, Hw1, HW1, W1⟩, ⟨⟨HR0, G0, HP0, P0⟩, HR1, G1, HP1, P1⟩, ⟨⟨HH0, H0⟩, HH1, H1⟩, HX, Hx, Hp, HS, HO⟩, Hxd, Hwd⟩
  isplitr [HS HO]
  · isplitl [HW0 HW1 HR0 HR1 HX HH0 HH1 HP0 HP1]
    · isplitl [HW0 HW1]
      · iapply (two_join (slots_disj 5120 1536) (slots_univ 5120 1536))
        isplitl [HW0] <;> iassumption
      isplitl [HR0 HR1]
      · iapply (two_join (slots_disj 256 5120) (slots_univ 256 5120))
        isplitl [HR0] <;> iassumption
      isplitl [HX]; · iexact HX
      isplitl [HH0 HH1]
      · iapply (two_join (slots_disj 256 1536) (slots_univ 256 1536))
        isplitl [HH0] <;> iassumption
      · iapply (two_join (slots_disj 1 256) (slots_univ 1 256))
        isplitl [HP0] <;> iassumption
    isplitl [G0 G1 W0 W1 H0 H1 P0 P1]
    · isplitl [G0]; · iexact G0
      isplitl [G1]; · iexact G1
      isplitl [W0]; · iexact W0
      isplitl [W1]; · iexact W1
      isplitl [H0]; · iexact H0
      isplitl [H1]; · iexact H1
      isplitl [P0] <;> iassumption
    isplitl [Hp]; · iexact Hp
    isplitl [Hx Hxd]
    · iapply (pointsTo_toks_join fullShare 256)
      isplitl [Hxd]; · iexact Hxd
      unfold xs; iexact Hx
    · iapply (pointsTo_toks_join fullShare 2)
      isplitl [Hwd]; · iexact Hwd
      iapply (Entails.of_eq (two_toks _).symm)
      isplitl [Hw0] <;> iassumption
  isplitl [HS] <;> iassumption

end Cert.Hand

end
-- ==== Proof.Run.lean ====
/-
  The run of the whole program: it ends, with the result where the kernel put it.
-/
module

public import proofs.«01_k».proof.Proof.Launch

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

theorem phi_eq (G : (c : Dev nD) → (b : Ref sig .tc) → Buf (Elt F) ((c : Thread nD τ).loc b)) (c : Dev nD) :
    (Pipeline.ΦDRG osem spec0 rd wr (V m) G c : sProp 𝕄) ⊣⊢ iprop(given c (inp m c) ∗ (∃ r, prngReg c r) ∗ (mO.view.loc (c : Thread nD τ) ↦[Finset.univ]{fullShare} (G c main_v6))) := by
  rw [Pipeline.ΦDRG_eq, scopedRest0_eq, sems_eq, rd_eq]
  unfold Pipeline.routed given
  rw [wr_eq]
  constructor
  · iintro ⟨HB, Hg, Hq, HR, HO⟩
    isplitl [HB Hq HR]
    · isplitl [HB]; · iexact HB
      isplitl [Hq] <;> iassumption
    isplitl [Hg] <;> iassumption
  · iintro ⟨⟨HB, Hq, HR⟩, Hg, HO⟩
    isplitl [HB]; · iexact HB
    isplitl [Hg]; · iexact Hg
    isplitl [Hq]; · iexact Hq
    isplitl [HR] <;> iassumption

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then Pipeline.ΦDRG osem spec0 rd wr (V m) (V m) c else Pipeline.ΦDRG osem spec0 rd wr (V m) (end_ m) c
  q _ := fullShare
  owed _ := 0

theorem phi_at (c : Dev nD) (t : Fin (cfg0.N + 1)) : (dats m 0 c).Φ t = if t.val = 0 then Pipeline.ΦDRG osem spec0 rd wr (V m) (V m) c else Pipeline.ΦDRG osem spec0 rd wr (V m) (end_ m) c := rfl
theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  (dats m 0 c).before_in_eq_fetched 0 rfl (fun _ => rfl) (fun _ _ _ => rfl) (fun t => rfl) t d
theorem before1 (c : Dev nD) (t : Fin cfg0.N) (d) : (dats m 0 c).before 1 t d = iblk m c 1 t :=
  (dats m 0 c).before_in_eq_fetched 1 rfl (fun _ => rfl) (fun _ _ _ => rfl) (fun t => rfl) t d
theorem before2 (c : Dev nD) (t : Fin cfg0.N) (d) : (dats m 0 c).before 2 t d = iblk m c 2 t :=
  (dats m 0 c).before_in_eq_fetched 2 rfl (fun _ => rfl) (fun _ _ _ => rfl) (fun t => rfl) t d
theorem before3 (c : Dev nD) (t : Fin cfg0.N) (d) : (dats m 0 c).before 3 t d = iblk m c 3 t :=
  (dats m 0 c).before_in_eq_fetched 3 rfl (fun _ => rfl) (fun _ _ _ => rfl) (fun t => rfl) t d
theorem before4 (c : Dev nD) (t : Fin cfg0.N) (d) : (dats m 0 c).before 4 t d = iblk m c 4 t :=
  (dats m 0 c).before_in_eq_fetched 4 rfl (fun _ => rfl) (fun _ _ _ => rfl) (fun t => rfl) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The five windows hold the words and the bias. -/
theorem words_eq (c : Dev nD) (t : Fin cfg0.N) :
    iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t))
      = (sm c (inp m c) (st0_0 t) (st0_1 t) (st0_2 t) (st0_3 t) (st0_4 t) : sProp 𝕄) := by
  rw [blk0, blk1, blk2, blk3, blk4]
  have e : (fun _ : S1.Idx => ((inp m c).v0 : Elt F .i32)) = V m c main_arg0 := by
    funext i
    refine congrArg (V m c main_arg0 : S1.Idx → BitVec 32) (funext fun a => Fin.ext ?_)
    have h0 : (i a).val < 1 := by
      match a with
      | ⟨0, _⟩ => exact (i 0).isLt
    match a with
    | ⟨0, _⟩ => exact (show 0 = (i 0).val by have : (i 0).val < 1 := (i 0).isLt; omega)
  unfold sm
  rw [e]
  rfl

theorem sound_body (c : Dev nD) (ok : (inp m c).Ok) (t : Fin cfg0.N) :
    bodyPre m c t ⊢ wp frame (wpE (defs₀ (F := F)) Variants.none c none) Set.univ (bodyAt0 t) (fun _ => bodyPost m c t) := by
  have ht : t.val = 0 := by have := N_0; have := t.isLt; change t.val < grid0.N at this; omega
  unfold bodyPre bodyPost bodyAt0
  rw [phi_at m c t.castSucc, if_pos (show t.castSucc.val = 0 from ht), phi_at m c t.succ, if_neg (show ¬ t.succ.val = 0 by rw [Fin.val_succ]; omega)]
  simp only [before0, before1, before2, before3, before4]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩⟩
  ihave HΦ := (phi_eq m (V m) c).1 $$ HΦ
  icases HΦ with ⟨HB, Hg, HV⟩
  ihave HS := (Entails.of_eq (words_eq m c t)) $$ [H0 H1 H2 H3 H4]
  · isplitl [H0]; · iexact H0
    isplitl [H1]; · iexact H1
    isplitl [H2]; · iexact H2
    isplitl [H3] <;> iassumption
  ihave HR := (deal c (inp m c)) $$ [HB HS HW]
  · isplitl [HB]; · iexact HB
    isplitl [HS]; · iexact HS
    iexists _; iexact HW
  icases HR with ⟨HR, HL⟩
  iapply (body c (inp m c) ok) $$ [HR HV]
  · isplitl [HR]; · iexact HR
    iexact HV
  iintro ⟨HR, HV⟩
  ihave HB := (undeal c (inp m c)) $$ [HR HL]
  · isplitl [HR] <;> iassumption
  icases HB with ⟨HB, HS, %W', HW⟩
  isplitl [HB Hg HV]
  · iapply (phi_eq m (end_ m) c).2
    isplitl [HB]; · iexact HB
    isplitl [Hg]; · iexact Hg
    rw [end_v6]
    iexact HV
  isplitl [HW]
  · iexists W'; isplitr; · ipureintro; exact fun _ _ => Or.inl trivial
    iexact HW
  iapply (Entails.of_eq (words_eq m c t).symm) $$ HS

theorem defs₀_row (t : Fin cfg0.N) :
    defs₀ (F := F) .tc cfg0.body (cfg0.bodyArgs t (cfg0.slots t)) = bodyAt0 t := by
  unfold defs₀; rw [Defs.onTc_tc]

theorem body_obligation (c : Dev nD) (ok : (inp m c).Ok) : BodyObligation (dats (F := F) m 0 c) (defs₀ (F := F)) Variants.none () Set.univ := fun t => by
  rw [bigSep_W0, bigSep_W0, defs₀_row]
  exact triple_restated (sound_body m c ok t) rfl .rfl fun _ => .rfl

set_option backward.isDefEq.respectTransparency.types false in
theorem run_main (ok : ∀ c, (inp m c).Ok) : θ_run defs (onTc (τ := τ) (main (F := F))) (s₀ m ρ) (fun r => Pipeline.FramePostRG cfgs (dats m) 0 wr (V m) (end_ m) r ∧ r.2.sem = fun _ => 0) :=
  Pipeline.θ_run_frame_dmaRG (Q' := _) cfgs (dats m) (0 : Fin 1) launch0 osem defs₀ Variants.none osem_ok rd wr rd_sub wr_sub m ρ main
    (hbody := fun c => (body_obligation m c (ok c)).loose) (hshare := fun c => (dats m 0 c).share_full fun _ => rfl)
    (howed := fun _ _ => rfl) (V := V m) (hmain := hmainD m Variants.none) (hA := A_eq m) (G := end_ m)
    (hin := fun _ => .rfl) (hout := fun _ => .rfl)

/-- The run: every argument as it was, the result at `G`, every counter at zero. -/
theorem run (ok : ∀ c, (inp m c).Ok) :
    θ_run defs (onTc (τ := τ) (main (F := F))) ⟨m, fun _ => 0, ρ⟩ (fun r => (∀ c : Dev nD,
      r.2.mem ((c.tc : Thread nD τ).loc main_v6) = Cert.Hand.G (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.2 c main_v6 (by decide)).trans (end_v6 m c),
      ((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩) (run_main m ρ ok)

end Cert.Hand

end
-- ==== Proof.Pre.lean ====
/-
  The precondition, read: the words name what is there.
-/
module

public import proofs.«01_k».proof.Proof.Run
public import proofs.«01_k».proof.Proof.Gen.Pre_in_range
public import Idealize.ShloMosaic.Lib.ReduceAll

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem ofBool_eq_one (p : Bool) : (BitVec.ofBool p = 1#1) ↔ p = true := by cases p <;> decide
theorem and_one {a b : BitVec 1} (h : IntOp.andi a b = 1#1) : a = 1#1 ∧ b = 1#1 := by
  revert h; revert a b; decide

instance : Subsingleton Cert.Pre_in_range.S_.Idx := ⟨fun a b => funext fun i => i.elim0⟩

variable {nt : S1.Idx → BitVec 32} {tok : S41984.Idx → BitVec 32} {ta tb : S164.Idx → BitVec 32} {x : S16384x5120.Idx → BitVec 32}
  {w : S8x5120x1536.Idx → Elt F .bf16} {b : S8x1536.Idx → Elt F .bf16}

theorem one_idx (i : S1.Idx) : i = ix1 (0 : Fin 1) := by
  funext a
  match a with
  | ⟨0, _⟩ => exact Fin.ext (by have : (i 0).val < 1 := (i 0).isLt; show (i 0).val = 0; omega)

/-- The precondition's four conjuncts. -/
theorem pre_read (h : Cert.Pre_in_range.fn (F := F) nt tok ta tb x w b = fun _ => 1#1) :
    InR (nt (ix1 (0 : Fin 1))) ∧ (∀ p, p < 256 * (nt (ix1 (0 : Fin 1))).toNat → (wd (F := F) tok p).toNat < 32768)
      ∧ (∀ p, p < (nt (ix1 (0 : Fin 1))).toNat → (wd (F := F) ta p).toNat < 8) ∧ (∀ p, p < (nt (ix1 (0 : Fin 1))).toNat → (wd (F := F) tb p).toNat < 8) := by
  have e := congrFun h (fun i => i.elim0)
  unfold Cert.Pre_in_range.fn Cert.Pre_in_range.fn_part1 Cert.Pre_in_range.fn_part2 at e
  dsimp only at e
  obtain ⟨e, e4⟩ := and_one e
  obtain ⟨e, e3⟩ := and_one e
  obtain ⟨e1, e2⟩ := and_one e
  have r1 := Host.reduce_andi_all _ _ _ _ _ e1 (ix1 (0 : Fin 1))
  have r2 := fun p : Fin 41984 => Host.reduce_andi_all _ _ _ _ _ e2 (ix1 p)
  have r3 := fun p : Fin 164 => Host.reduce_andi_all _ _ _ _ _ e3 (ix1 p)
  have r4 := fun p : Fin 164 => Host.reduce_andi_all _ _ _ _ _ e4 (ix1 p)
  have hnt : nt = fun _ => nt (ix1 (0 : Fin 1)) := funext fun i => congrArg nt (one_idx i)
  generalize nt (ix1 (0 : Fin 1)) = n at hnt r1 ⊢
  subst hnt
  simp only [andi, ori, cmpi, broadcastInDim, constantI, muli, iotaInDim, IntOp.cmpi, andi_ofBool, ori_ofBool, ofBool_eq_one, Bool.and_eq_true, Bool.or_eq_true] at r1 r2 r3 r4
  have hn : InR n := by
    obtain ⟨h1, h2⟩ := r1
    simp only [BitVec.sle, decide_eq_true_eq, BitVec.toInt, BitVec.toNat_ofNat] at h1 h2
    constructor <;> omega
  have h1 := hn.lo
  have h2 := hn.hi
  have tile : ∀ {t : S164.Idx → BitVec 32}, (∀ p : Fin 164, BitVec.sle n (BitVec.ofNat 32 p.val) = true ∨ BitVec.sle 0#32 (t (ix1 p)) = true ∧ BitVec.slt (t (ix1 p)) 8#32 = true) →
      ∀ p, p < n.toNat → (wd (F := F) t p).toNat < 8 := by
    intro t r p hp
    rw [← wd_eq (F := F) t p (by omega)]
    rcases r ⟨p, by omega⟩ with h | ⟨h3, h4⟩
    · simp only [BitVec.sle, decide_eq_true_eq, BitVec.toInt, BitVec.toNat_ofNat] at h
      omega
    · simp only [BitVec.sle, BitVec.slt, decide_eq_true_eq, BitVec.toInt, BitVec.toNat_ofNat] at h3 h4
      omega
  refine ⟨hn, fun p hp => ?_, tile r3, tile r4⟩
  rw [← wd_eq (F := F) tok p (by omega)]
  rcases r2 ⟨p, by omega⟩ with h | ⟨h3, h4⟩
  · have h : BitVec.sle (n * 256#32) (BitVec.ofNat 32 p) = true := h
    have e : (n * 256#32).toNat = 256 * n.toNat := by rw [BitVec.toNat_mul, BitVec.toNat_ofNat]; omega
    simp only [BitVec.sle, decide_eq_true_eq, BitVec.toInt, e, BitVec.toNat_ofNat] at h
    omega
  · simp only [BitVec.sle, BitVec.slt, decide_eq_true_eq, BitVec.toInt, BitVec.toNat_ofNat] at h3 h4
    omega

theorem inp_ok (m : (ℓ : Loc nD τ sig) → Buf (Elt F) ℓ) (c : Dev nD)
    (h : Cert.Pre_in_range.fn (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) = fun _ => 1#1) : (inp m c).Ok := by
  rw [← V_main_arg0 m c, ← V_main_arg1 m c, ← V_main_arg2 m c, ← V_main_arg3 m c] at h
  obtain ⟨h0, h1, h2, h3⟩ := pre_read h
  refine ⟨h0, h1, fun s p hp => ?_⟩
  show (wd (if s = 0 then V m c main_arg2 else V m c main_arg3) p).toNat < 8
  split
  · exact h2 p hp
  · exact h3 p hp

end Cert.Hand

end
-- ==== Proof.Frames.lean ====
/-
  The three programs run, leave their arguments alone and end with every counter at zero.
-/
module

public import proofs.«01_k».proof.Proof.Pre
public import proofs.«01_k».proof.Proof.Gen.Kernel
public import proofs.«01_k».proof.Proof.Gen.ReferenceIdeal.Run
public import proofs.«01_k».proof.Defs

@[expose] public section

set_option maxRecDepth 100000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

/-! The kernel as printed and its idealization are one text: the same body, the same table of definitions, the same entry. -/

section
variable {F : FTy → Type} [FloatOps F]

set_option maxHeartbeats 0 in
theorem cc_eq : @Cert.Kernel.cc0_moe_up F _ _ = @Cert.KernelIdeal.cc0_moe_up F _ _ := by rfl

set_option maxHeartbeats 0 in
theorem defs0_eq : Cert.Kernel.defs₀ (F := F) = Cert.KernelIdeal.defs₀ (F := F) := by
  unfold Cert.Kernel.defs₀ Cert.KernelIdeal.defs₀
  congr 1
  funext l x
  match l, x with
  | 0, (t, s) =>
    dsimp only
    rw [cc_eq]

set_option maxHeartbeats 0 in
theorem defs_eq : Cert.Kernel.defs (F := F) = Cert.KernelIdeal.defs (F := F) := by
  unfold Cert.Kernel.defs Cert.KernelIdeal.defs
  exact congrArg (Pipeline.defs _) defs0_eq

set_option maxHeartbeats 0 in
theorem main_eq : Cert.Kernel.main (F := F) = Cert.KernelIdeal.main (F := F) := rfl
end

theorem frame_i : Cert.quiescent_KernelIdeal := fun m g h =>
  (θ_run Cert.KernelIdeal.defs _ _).mono (fun _ h => ⟨fun c => (h.1 c).2, h.2⟩) (run (F := Ideal) m g fun c => inp_ok m c (h c))

theorem frame_r : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

set_option maxHeartbeats 0 in
theorem frame_k : Cert.quiescent_Kernel := by
  intro m g h
  have key := (θ_run (Cert.KernelIdeal.defs (F := Bits)) _ _).mono (fun _ h => (⟨fun c => (h.1 c).2, h.2⟩ : _ ∧ _)) (run (F := Bits) m g fun c => inp_ok (F := Bits) m c (h c))
  rw [← defs_eq, ← main_eq] at key
  exact key

end Cert.Hand

end
-- ==== Proof.Decode.lean ====
/-
  The words the kernel unpacks: row `r` of a tile, column `d`, is the half of the gathered word that the token's parity names.
-/
module

public import proofs.«01_k».proof.Proof.Tile
public import Idealize.ShloMosaic.Lib.BitcastPair
public import Idealize.ShloMosaic.Lib.Pipeline.Value
public import Idealize.ShloMosaic.Lib.ValueIdx

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

/-- The half of word `w` that token `t` of a pair reads: the low half if `t` is even, the high half if it is odd. -/
def halfOf (w : BitVec 32) (t : ℕ) : BitVec 16 := (w >>> (16 * (t % 2))).setWidth 16

theorem shr_par (w p : BitVec 32) (h : p.toNat < 2) : IntOp.shrui .vector w (IntOp.shli .vector p 4#32) = w >>> (16 * p.toNat) := by
  have e : (IntOp.shli .vector p 4#32).toNat = 16 * p.toNat := by
    unfold IntOp.shli
    rw [if_pos (by decide)]
    show (p <<< 4).toNat = _
    rw [BitVec.toNat_shiftLeft, Nat.shiftLeft_eq]; omega
  unfold IntOp.shrui
  rw [if_pos (by omega)]
  show w >>> (IntOp.shli .vector p 4#32).toNat = _
  rw [e]

theorem lo_of (x y : BitVec 32) : ((x &&& 65535#32) ||| (y <<< 16)).extractLsb' 0 16 = x.setWidth 16 := by
  apply BitVec.eq_of_getLsbD_eq
  intro i hi
  have h : (65535#32).getLsbD i = true := by
    rw [show (65535#32 : BitVec 32) = (BitVec.allOnes 16).setWidth 32 from rfl, BitVec.getLsbD_setWidth, BitVec.getLsbD_allOnes]
    simp [hi]; omega
  simp only [BitVec.getLsbD_extractLsb', BitVec.getLsbD_or, BitVec.getLsbD_and, BitVec.getLsbD_shiftLeft, BitVec.getLsbD_setWidth, Nat.zero_add, h]
  simp [hi]

theorem hi_of (x y : BitVec 32) : ((x &&& 65535#32) ||| (y <<< 16)).extractLsb' 16 16 = y.setWidth 16 := by
  apply BitVec.eq_of_getLsbD_eq
  intro i hi
  have h : (65535#32).getLsbD (16 + i) = false := by
    rw [show (65535#32 : BitVec 32) = (BitVec.allOnes 16).setWidth 32 from rfl, BitVec.getLsbD_setWidth, BitVec.getLsbD_allOnes]
    simp
  simp only [BitVec.getLsbD_extractLsb', BitVec.getLsbD_or, BitVec.getLsbD_and, BitVec.getLsbD_shiftLeft, BitVec.getLsbD_setWidth, h]
  simp [hi]; omega

/-- The raw row that row `r` of the unpacked tile comes from. -/
theorem raw_lt (r : Fin 256) : rowOf r.val < 256 := by have := r.isLt; unfold rowOf; omega

/-- One element of the unpacked block: the low half of its raw word, shifted by sixteen times the raw row's parity. -/
theorem pay1_apply (p : Vec F S1x1x256 .i32) (b : Vec F S1x256x128 .i32) (r : Fin 256) (d : Fin 128)
    (hp : (p (ix3 0 0 ⟨rowOf r, raw_lt r⟩)).toNat < 2) :
    k0_pay1 p b (ix2 r d) = FloatOps.ofBits .bf16 (halfOf (b (ix3 0 ⟨rowOf r, raw_lt r⟩ d)) (p (ix3 0 0 ⟨rowOf r, raw_lt r⟩)).toNat) := by
  have hr := r.isLt
  have hd := d.isLt
  unfold k0_pay1
  dsimp only
  -- the shifted words
  generalize hS : shrui (shapeCast S256x128 b shapeCasts_S1x256x128_S256x128)
    (shli (transpose S256x128 [1, 0] (broadcastTo S128x256 (shapeCast S1x256 (shapeCast S1x256 p shapeCasts_S1x1x256_S1x256) shapeCasts_S1x256_S1x256) broadcasts_S1x256_S128x256) transposes_S128x256_p1_0_S256x128) (broadcast S256x128 4#32)) = s
  have es : ∀ (q : Fin 256), s (ix2 q d) = IntOp.shrui .vector (b (ix3 0 q d)) (IntOp.shli .vector (p (ix3 0 0 q)) 4#32) := by
    intro q
    rw [← hS]
    have hq := q.isLt
    refine congr (congrArg (IntOp.shrui .vector) ?_) (congr (congrArg (IntOp.shli .vector) ?_) rfl)
    · exact shapeCast_apply b _ (ix2 q d) (ix3 0 q d) (by
        rewrite [Shape.rowMajor_val_three, Shape.rowMajor_val_two]
        show (0 * 256 + q.val) * 128 + d.val = q.val * 128 + d.val; omega)
    · rw [transpose_apply _ _ _ (ix2 q d) (ix2 d q) (fun a => match a with | ⟨0, _⟩ => rfl | ⟨1, _⟩ => rfl)]
      refine (broadcastTo_apply (s := S1x256) _ _ (ix2 d q) (ix2 0 q) (fun a => match a with | ⟨0, _⟩ => rfl | ⟨1, _⟩ => rfl)).trans ?_
      refine (shapeCast_apply (s := S1x256) _ _ (ix2 0 q) (ix2 0 q) rfl).trans ?_
      exact shapeCast_apply p _ (ix2 0 q) (ix3 0 0 q) (by
        rewrite [Shape.rowMajor_val_three, Shape.rowMajor_val_two]
        show (0 * 1 + 0) * 256 + q.val = 0 * 256 + q.val; omega)
  rw [shapeCast_apply _ _ (ix2 r d) (ix2 r d) rfl]
  show FloatOps.ofBits .bf16 _ = _
  refine congrArg _ ?_
  rw [bitcast_32_16]
  generalize hV : shapeCast S128x128 _ _ = v
  have ev : ∀ (t : Fin 128), v (ix2 t d) = ((s (ix2 ⟨16 * (t.val / 8) + t.val % 8, by omega⟩ d)) &&& 65535#32) ||| ((s (ix2 ⟨16 * (t.val / 8) + (t.val % 8 + 8), by omega⟩ d)) <<< 16) := by
    intro t
    have ht := t.isLt
    rw [← hV, shapeCast_apply _ _ (ix2 t d) (ix3 ⟨t.val / 8, by omega⟩ ⟨t.val % 8, by omega⟩ d) (by
        rewrite [Shape.rowMajor_val_three, Shape.rowMajor_val_two]
        show (t.val / 8 * 8 + t.val % 8) * 128 + d.val = t.val * 128 + d.val; omega)]
    refine congrArg₂ (fun x y : BitVec 32 => x ||| y) (congrArg (fun x : BitVec 32 => x &&& 65535#32) ?_) ?_
    · rw [shapeCast_apply _ _ (ix3 ⟨t.val / 8, by omega⟩ ⟨t.val % 8, by omega⟩ d) (ix4 ⟨t.val / 8, by omega⟩ 0 ⟨t.val % 8, by omega⟩ d) (by
        rewrite [Shape.rowMajor_val_three, Shape.rowMajor_val_four]
        show ((t.val / 8 * 1 + 0) * 8 + t.val % 8) * 128 + d.val = (t.val / 8 * 8 + t.val % 8) * 128 + d.val; omega)]
      rw [extractStridedSlice_apply _ _ _ _ (ix4 ⟨t.val / 8, by omega⟩ 0 ⟨t.val % 8, by omega⟩ d) (fun a => match a with
        | ⟨0, _⟩ => (Nat.zero_add _).symm | ⟨1, _⟩ => rfl | ⟨2, _⟩ => (Nat.zero_add _).symm | ⟨3, _⟩ => (Nat.zero_add _).symm)]
      exact shapeCast_apply _ _ _ _ (by
        rewrite [Shape.rowMajor_val_two, Shape.rowMajor_val_four]
        show (16 * (t.val / 8) + t.val % 8) * 128 + d.val = ((t.val / 8 * 2 + 0) * 8 + t.val % 8) * 128 + d.val; omega)
    · show IntOp.shli .vector _ 16#32 = _
      unfold IntOp.shli
      rw [if_pos (by decide)]
      show (_ : BitVec 32) <<< (16#32).toNat = _
      refine congrArg (fun x : BitVec 32 => x <<< 16) ?_
      rw [shapeCast_apply _ _ (ix3 ⟨t.val / 8, by omega⟩ ⟨t.val % 8, by omega⟩ d) (ix4 ⟨t.val / 8, by omega⟩ 0 ⟨t.val % 8, by omega⟩ d) (by
        rewrite [Shape.rowMajor_val_three, Shape.rowMajor_val_four]
        show ((t.val / 8 * 1 + 0) * 8 + t.val % 8) * 128 + d.val = (t.val / 8 * 8 + t.val % 8) * 128 + d.val; omega)]
      rw [extractStridedSlice_apply _ _ _ _ (ix4 ⟨t.val / 8, by omega⟩ 1 ⟨t.val % 8, by omega⟩ d) (fun a => match a with
        | ⟨0, _⟩ => (Nat.zero_add _).symm | ⟨1, _⟩ => rfl | ⟨2, _⟩ => (Nat.zero_add _).symm | ⟨3, _⟩ => (Nat.zero_add _).symm)]
      exact shapeCast_apply _ _ _ _ (by
        rewrite [Shape.rowMajor_val_two, Shape.rowMajor_val_four]
        show (16 * (t.val / 8) + (t.val % 8 + 8)) * 128 + d.val = ((t.val / 8 * 2 + 1) * 8 + t.val % 8) * 128 + d.val; omega)
  have erow : (S256x128).row (ix2 r d) = r.val := rfl
  have ei : ∀ h, (bitcasts_S128x128_w32_S256x128_w16).srcIdx (ix2 r d) ((S256x128).row (ix2 r d) / 2) h = ix2 (⟨r.val / 2, by omega⟩ : Fin 128) d := by
    intro h
    funext a
    match a with
    | ⟨0, _⟩ => rfl
    | ⟨1, _⟩ => rfl
  rw [ei, ev, erow]
  unfold halfOf
  rw [Nat.mod_eq_of_lt hp, ← shr_par _ _ hp, ← es]
  rcases Nat.mod_two_eq_zero_or_one r.val with h2 | h2
  · rw [h2, Nat.mul_zero, lo_of]
    refine congrArg (fun q : Fin 256 => (s (ix2 q d)).setWidth 16) (Fin.ext ?_)
    show 16 * (r.val / 2 / 8) + r.val / 2 % 8 = rowOf r.val
    unfold rowOf; omega
  · rw [h2, Nat.mul_one, hi_of]
    refine congrArg (fun q : Fin 256 => (s (ix2 q d)).setWidth 16) (Fin.ext ?_)
    show 16 * (r.val / 2 / 8) + (r.val / 2 % 8 + 8) = rowOf r.val
    unfold rowOf; omega

end Cert.Hand

end
-- ==== Proof.Prod.lean ====
/-
  What one tile computes over the extended reals: the products with an expert, its bias, and the gated unit.
-/
module

public import proofs.«01_k».proof.Proof.Decode
public import Idealize.ShloMosaic.Lib.MatmulPlain
public import Idealize.ShloMosaic.PureOps.Ideal.Laws
public import Idealize.ShloMosaic.Lib.Pipeline.Value
public import Idealize.ShloMosaic.Lib.ValueIdx

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

/-- One entry of a row's product with an expert's weights, plus the bias. -/
def lin (x : Fin 5120 → EReal) (w : Fin 5120 → Fin 1536 → EReal) (b : Fin 1536 → EReal) (n : Fin 1536) : EReal := (∑ d, x d * w d n) + b n
/-- The gated unit: the first half of the products through `y ↦ y · σ(y)`, times the second half. -/
def glu (x : Fin 5120 → EReal) (w : Fin 5120 → Fin 1536 → EReal) (b : Fin 1536 → EReal) (k : Fin 768) : EReal :=
  (lin x w b ⟨k.val, by omega⟩ * Ideal.logistic (lin x w b ⟨k.val, by omega⟩)) * lin x w b ⟨768 + k.val, by omega⟩

theorem pay2_apply (x : Vec Ideal S256x5120 .bf16) (w : Vec Ideal S1x5120x1536 .bf16) (b : Vec Ideal S1x1x1536 .bf16) (r : Fin 256) (k : Fin 768) :
    k0_pay2 (F := Ideal) x w b (ix3 0 r k) = glu (fun d => x (ix2 r d)) (fun d n => w (ix3 0 d n)) (fun n => b (ix3 0 0 n)) k := by
  have hr := r.isLt
  have hk := k.isLt
  unfold k0_pay2
  generalize hg : addf (F := Ideal) _ _ = g
  have eg : ∀ n : Fin 1536, g (ix2 r n) = lin (fun d => x (ix2 r d)) (fun d n => w (ix3 0 d n)) (fun n => b (ix3 0 0 n)) n := by
    intro n
    rw [← hg]
    refine congrArg₂ (fun a b : EReal => a + b) ?_ ?_
    · refine (Ideal.matmul_plain_apply none x _ _ r n).trans ?_
      refine (congrArg₂ (fun a b : EReal => a + b) Ideal.ofBits_zero_f32 (Finset.sum_congr rfl fun d _ => congrArg (fun y : EReal => x (ix2 r d) * y) ?_)).trans (zero_add _)
      exact shapeCast_apply w _ (ix2 d n) (ix3 0 d n) (by
        rewrite [Shape.rowMajor_val_three, Shape.rowMajor_val_two]
        show (0 * 5120 + d.val) * 1536 + n.val = d.val * 1536 + n.val; omega)
    · refine (broadcastTo_apply (s := S1x1536) _ _ (ix2 r n) (ix2 0 n) (fun a => match a with | ⟨0, _⟩ => rfl | ⟨1, _⟩ => rfl)).trans ?_
      exact shapeCast_apply b _ (ix2 0 n) (ix3 0 0 n) (by
        rewrite [Shape.rowMajor_val_three, Shape.rowMajor_val_two]
        show (0 * 1 + 0) * 1536 + n.val = 0 * 1536 + n.val; omega)
  refine (shapeCast_apply (s := S256x768) _ _ (ix3 0 r k) (ix2 r k) (by
    rewrite [Shape.rowMajor_val_three, Shape.rowMajor_val_two]
    show r.val * 768 + k.val = (0 * 256 + r.val) * 768 + k.val; omega)).trans ?_
  have e0 : extractStridedSlice S256x768 ![0, 0] g slices_S256x1536_o0_0_S256x768 (ix2 r k) = g (ix2 r ⟨k.val, by omega⟩) :=
    extractStridedSlice_apply _ _ _ _ _ (fun a => match a with | ⟨0, _⟩ => (Nat.zero_add _).symm | ⟨1, _⟩ => (Nat.zero_add _).symm)
  have e1 : extractStridedSlice S256x768 ![0, 768] g slices_S256x1536_o0_768_S256x768 (ix2 r k) = g (ix2 r ⟨768 + k.val, by omega⟩) :=
    extractStridedSlice_apply _ _ _ _ _ (fun a => match a with | ⟨0, _⟩ => (Nat.zero_add _).symm | ⟨1, _⟩ => rfl)
  unfold glu
  rw [← eg, ← eg, ← e0, ← e1]
  rfl

end Cert.Hand

end
-- ==== Proof.KerVal.lean ====
/-
  What the kernel leaves in the result, as a function of its operands alone.
-/
module

public import proofs.«01_k».proof.Proof.Prod
public import Idealize.ShloMosaic.Lib.Pipeline.Value
public import Idealize.ShloMosaic.Lib.ValueIdx

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

/-- Row `t` of the tokens: the halves of the words of pair `t / 2` that `t`'s parity names. -/
def tokRow {F : FTy → Type} [FloatOps F] (X : S16384x5120.Idx → Elt F .i32) (t : ℕ) (d : Fin 5120) : Elt F .bf16 :=
  FloatOps.ofBits .bf16 (halfOf (X (ix2 ⟨t / 2 % 16384, Nat.mod_lt _ (by decide)⟩ d)) t)

section
variable {F : FTy → Type} [FloatOps F] (I : In F)

/-- The parities the kernel is given are those of the tokens, in the order of the raw rows. -/
def ParOk : Prop := ∀ (j : Fin 164) (p : Fin 256), I.P (ix3 j 0 p) = wd I.tok (256 * j.val + srcOf p.val) &&& 1#32

theorem and_one_toNat (w : BitVec 32) : (w &&& 1#32).toNat = w.toNat % 2 := by
  rw [BitVec.toNat_and, show (1#32 : BitVec 32).toNat = 1 from rfl, Nat.and_one_is_mod]

theorem halfOf_mod (w : BitVec 32) (t : ℕ) : halfOf w (t % 2) = halfOf w t := by unfold halfOf; rw [Nat.mod_mod]

theorem xbf_apply (hP : ParOk I) {j : ℕ} (hj : j < 164) (r : Fin 256) (d : Fin 5120) :
    xbf I j (ix2 r d) = tokRow I.X (wd I.tok (256 * j + r.val)).toNat d := by
  have hr := r.isLt
  have hd := d.isLt
  have ep : pvec I j (ix3 0 0 ⟨rowOf r, raw_lt r⟩) = wd I.tok (256 * j + r.val) &&& 1#32 := by
    refine (hP ⟨j % 164, Nat.mod_lt _ (by decide)⟩ ⟨rowOf r, raw_lt r⟩).trans ?_
    show wd I.tok (256 * (j % 164) + srcOf (rowOf r.val)) &&& 1#32 = _
    rw [srcOf_rowOf, Nat.mod_eq_of_lt hj]
  have eb : rblk I j (d.val / 128) (ix3 0 ⟨rowOf r, raw_lt r⟩ ⟨d.val % 128, Nat.mod_lt _ (by decide)⟩)
      = I.X (ix2 ⟨(wd I.tok (256 * j + r.val)).toNat / 2 % 16384, Nat.mod_lt _ (by decide)⟩ d) := by
    refine congrArg I.X (congr (congrArg ix2 (Fin.ext ?_)) (Fin.ext ?_))
    · show (wd I.tok (256 * j + srcOf (rowOf r.val))).toNat / 2 % 16384 = _
      rw [srcOf_rowOf]
    · show (128 * (d.val / 128) + d.val % 128) % 5120 = d.val
      omega
  refine (pay1_apply (pvec I j) (rblk I j (d.val / 128)) r ⟨d.val % 128, Nat.mod_lt _ (by decide)⟩ ?_).trans ?_
  · rw [ep, and_one_toNat]; omega
  · rw [ep, eb, and_one_toNat, halfOf_mod]; rfl

end

variable (I : In Ideal)

/-- Entry (p, k) of the result, from the operands: row `p`'s token, tile `p / 256`'s expert of half `k / 768`. -/
def outAt (X : S16384x5120.Idx → Elt Ideal .i32) (W : S8x5120x1536.Idx → Elt Ideal .bf16) (B : Fin 8 → Fin 1536 → EReal) (t e : ℕ) (k : Fin 768) : EReal :=
  glu (tokRow X t) (fun d n => W (ix3 ⟨e % 8, Nat.mod_lt _ (by decide)⟩ d n)) (B ⟨e % 8, Nat.mod_lt _ (by decide)⟩) k

theorem half_apply (hP : ParOk I) {j : ℕ} (hj : j < 164) (s : ℕ) (r : Fin 256) (k : Fin 768) :
    half I s j (ix3 0 r k) = outAt I.X I.W (fun e n => I.B (ix3 e 0 n)) (wd I.tok (256 * j + r.val)).toNat (ex I s j) k := by
  refine (pay2_apply _ _ _ r k).trans ?_
  rw [show (fun d => xbf I j (ix2 r d)) = tokRow I.X (wd I.tok (256 * j + r.val)).toNat from funext fun d => xbf_apply I hP hj r d]
  rfl

/-- The result at row `p` of a tile that is used, column `k` of half `s`. -/
theorem G_apply (hP : ParOk I) (hn : I.v0.toNat ≤ 164) (p : Fin 41984) (s : Fin 2) (k : Fin 768) (hp : p.val < 256 * I.v0.toNat) :
    G I (ix2 p ⟨768 * s.val + k.val, by omega⟩)
      = outAt I.X I.W (fun e n => I.B (ix3 e 0 n)) (wd I.tok p.val).toNat (ex I s.val (p.val / 256)) k := by
  have hk := k.isLt
  have hs := s.isLt
  refine (if_pos hp).trans ?_
  have ei : 256 * (p.val / 256) + p.val % 256 = p.val := by omega
  have key := fun s' => half_apply I hP (j := p.val / 256) (by omega) s' ⟨p.val % 256, Nat.mod_lt _ (by decide)⟩ k
  simp only [ei] at key
  show (if h : 768 * s.val + k.val < 768 then half I 0 (p.val / 256) (ix3 0 ⟨p.val % 256, _⟩ ⟨768 * s.val + k.val, h⟩)
    else half I 1 (p.val / 256) (ix3 0 ⟨p.val % 256, _⟩ ⟨768 * s.val + k.val - 768, _⟩)) = _
  by_cases h0 : s.val = 0
  · rw [dif_pos (by omega)]
    refine Eq.trans ?_ ((key 0).trans (by rw [h0]))
    refine congrArg (fun q : Fin 768 => half I 0 (p.val / 256) (ix3 0 ⟨p.val % 256, _⟩ q)) (Fin.ext ?_)
    show 768 * s.val + k.val = k.val; omega
  · have h1 : s.val = 1 := by omega
    rw [dif_neg (by omega)]
    refine Eq.trans ?_ ((key 1).trans (by rw [h1]))
    refine congrArg (fun q : Fin 768 => half I 1 (p.val / 256) (ix3 0 ⟨p.val % 256, _⟩ q)) (Fin.ext ?_)
    show 768 * s.val + k.val - 768 = k.val; omega

end Cert.Hand

end
-- ==== Proof.Hosts.lean ====
/-
  What the host operations before the kernel leave: the parities in the order of the raw rows, and the bias.
-/
module

public import proofs.«01_k».proof.Proof.KerVal
public import proofs.«01_k».proof.Proof.Launch
public import Idealize.ShloMosaic.Lib.Pipeline.Value
public import Idealize.ShloMosaic.Lib.ValueIdx

@[expose] public section

set_option maxRecDepth 20000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F] (m : (l : Loc nD τ sig) → Buf (Elt F) l) (c : Dev nD)

theorem V_v4 : V m c main_v4 = shapeCast S164x1x256 (transpose S164x16x2x8 [0, 1, 3, 2] (shapeCast S164x16x8x2
    (andi (m ((c : Thread nD τ).loc main_arg1)) (broadcastInDim S41984 ![] bcast_S_S41984 (constantI S_ 32 1#32))) shapeCasts_S41984_S164x16x8x2)
    transposes_S164x16x8x2_S164x16x2x8_0_1_3_2) shapeCasts_S164x16x2x8_S164x1x256 := by
  after_results_simp
  rfl

theorem V_v5 : V m c main_v5 = broadcastInDim S8x1x1536 ![0, 2] bcast_S8x1536_S8x1x1536_0_2 (m ((c : Thread nD τ).loc main_arg6)) := by
  after_results_simp
  rfl

theorem par_ok : ParOk (inp m c) := by
  intro j p
  have hj := j.isLt
  have hp := p.isLt
  have hs := srcOf_lt p.val hp
  show V m c main_v4 (ix3 j 0 p) = wd (V m c main_arg1) _ &&& 1#32
  rw [V_main_arg1, V_v4]
  refine (shapeCast_apply (s := S164x16x2x8) _ _ (ix3 j 0 p) (ix4 j ⟨p.val / 16, by omega⟩ ⟨p.val % 16 / 8, by omega⟩ ⟨p.val % 8, by omega⟩) (by
    rewrite [Shape.rowMajor_val_three, Shape.rowMajor_val_four]
    show ((j.val * 16 + p.val / 16) * 2 + p.val % 16 / 8) * 8 + p.val % 8 = (j.val * 1 + 0) * 256 + p.val; omega)).trans ?_
  refine (transpose_apply (s := S164x16x8x2) _ _ _ _ (ix4 j ⟨p.val / 16, by omega⟩ ⟨p.val % 8, by omega⟩ ⟨p.val % 16 / 8, by omega⟩) (fun a => match a with
    | ⟨0, _⟩ => rfl | ⟨1, _⟩ => rfl | ⟨2, _⟩ => rfl | ⟨3, _⟩ => rfl)).trans ?_
  refine (shapeCast_apply (s := S41984) _ _ _ (ix1 ⟨256 * j.val + srcOf p.val, by omega⟩) (by
    rewrite [Shape.rowMajor_val_one, Shape.rowMajor_val_four]
    show 256 * j.val + srcOf p.val = ((j.val * 16 + p.val / 16) * 8 + p.val % 8) * 2 + p.val % 16 / 8
    unfold srcOf; omega)).trans ?_
  exact congrArg (fun x : BitVec 32 => x &&& 1#32) (wd_eq _ _ _)

theorem bias_apply (e : Fin 8) (n : Fin 1536) : (inp m c).B (ix3 e 0 n) = (m ((c : Thread nD τ).loc main_arg6) : S8x1536.Idx → Elt F .bf16) (ix2 e n) := by
  show V m c main_v5 (ix3 e 0 n) = _
  rw [V_v5]
  exact broadcastInDim_apply _ _ _ (ix3 e 0 n) (ix2 e n) (fun a => match a with | ⟨0, _⟩ => rfl | ⟨1, _⟩ => rfl)

end Cert.Hand

end
-- ==== Proof.RefGather.lean ====
/-
  The reference's gather of one weight matrix for every tile, read at an index.
-/
module

public import Idealize.ShloMosaic.Lib.Routing.Ops
public import Idealize.ShloMosaic.Lib.ValueIdx

@[expose] public section

noncomputable section

namespace Cert.Hand

open Idealize.ShloMosaic Idealize.ShloMosaic.ValueIdx

theorem not_mem_zero (l : List (Fin 3)) (h : l = [0]) : (1 : Fin 3) ∉ l ∧ (2 : Fin 3) ∉ l := by subst h; decide

/-- `table[idx]` over the matrices of a `[nb, B, C]` table: where `idx` holds at `(c, 0)` a number `b < nb`, entry `(c, y, z)` of the
    result is the table's entry `(b, y, z)`. -/
theorem gather_mat {α : Type} {nb B C n : Nat} (d : GatherDims ⟨3, ![nb, B, C]⟩ ⟨2, ![n, 1]⟩ ⟨3, ![n, B, C]⟩) (hoff : d.offsetDims = [1, 2])
    (hcoll : d.collapsedSliceDims = [0]) (hob : d.operandBatchingDims = [])
    (hsim : d.startIndexMap = [0]) (hivd : d.indexVectorDim = 1) (x : (⟨3, ![nb, B, C]⟩ : Shape).Idx → α) (idx : IVec ⟨2, ![n, 1]⟩ 32)
    (c : Fin n) (y : Fin B) (z : Fin C) (b : Fin nb) (hb : idx (ix2 c (0 : Fin 1)) = BitVec.ofNat 32 b.val) (hnb : nb < 2 ^ 31) :
    Host.gather d x idx (ix3 c y z) = x (ix3 b y z) := by
  obtain ⟨od, cd, obd, sbd, sim, ivd, ss, wf⟩ := d
  dsimp only at hoff hcoll hob hsim hivd
  subst hoff hcoll hob hsim hivd
  have hsbd : sbd = [] := List.length_eq_zero_iff.1 (by have := wf; simp_all [GatherDims.WF])
  subst hsbd
  generalize hd : (GatherDims.mk [1, 2] [0] [] [] [0] 1 ss wf : GatherDims ⟨3, ![nb, B, C]⟩ ⟨2, ![n, 1]⟩ ⟨3, ![n, B, C]⟩) = d
  have hoff : d.offsetDims = [1, 2] := by rw [← hd]
  have hcoll : d.collapsedSliceDims = [0] := by rw [← hd]
  have hob : d.operandBatchingDims = [] := by rw [← hd]
  have hsim : d.startIndexMap = [0] := by rw [← hd]
  have hsl : d.sliceSizes 0 = 1 := d.slice_collapsed 0 (by rw [hcoll]; exact List.mem_singleton.2 rfl)
  have hbN : ∀ a', a' ∉ d.operandBatchingDims := fun a' => by rw [hob]; exact List.not_mem_nil
  unfold Host.gather
  refine congrArg x (funext fun a => Fin.ext ?_)
  match a with
  | ⟨0, _⟩ =>
    have hk : (0 : Fin 3) ∉ d.sKept := fun h => ((d.mem_sKept 0).1 h).1 (by rw [hcoll]; exact List.mem_singleton.2 rfl)
    have hm : (0 : Fin 3) ∈ d.startIndexMap := by rw [hsim]; exact List.mem_singleton.2 rfl
    show d.start (ix3 c y z) idx 0 + d.batchCoord (ix3 c y z) 0 + d.offCoord (ix3 c y z) 0 = b.val
    rw [d.batchCoord_eq_zero _ _ (hbN 0), d.offCoord_eq_zero _ _ hk]
    simp only [Nat.add_zero]
    unfold GatherDims.start
    rw [dif_pos hm]
    have hsi : d.siIdx (ix3 c y z) ⟨d.startIndexMap.idxOf 0, List.idxOf_lt_length_iff.2 hm⟩ = ix2 c (0 : Fin 1) := by
      funext b'
      apply Fin.ext
      subst hd
      match b' with
      | ⟨0, _⟩ => rfl
      | ⟨1, _⟩ => rfl
    have hbl := b.isLt
    rw [hsi, hb, hsl, StableHlo.Predicate.toInt_ofNat_small _ (by omega)]
    show min ((b.val : Int)).toNat (nb - 1) = b.val
    omega
  | ⟨1, _⟩ =>
    have hk : (1 : Fin 3) ∈ d.sKept := (d.mem_sKept 1).2 ⟨(not_mem_zero _ hcoll).1, hbN 1⟩
    have hm : (1 : Fin 3) ∉ d.startIndexMap := (not_mem_zero _ hsim).1
    show d.start (ix3 c y z) idx 1 + d.batchCoord (ix3 c y z) 1 + d.offCoord (ix3 c y z) 1 = y.val
    rw [d.batchCoord_eq_zero _ _ (hbN 1), Nat.add_zero]
    unfold GatherDims.start GatherDims.offCoord
    rw [dif_neg hm, dif_pos hk, Nat.zero_add]
    subst hd
    rfl
  | ⟨2, _⟩ =>
    have hk : (2 : Fin 3) ∈ d.sKept := (d.mem_sKept 2).2 ⟨(not_mem_zero _ hcoll).2, hbN 2⟩
    have hm : (2 : Fin 3) ∉ d.startIndexMap := (not_mem_zero _ hsim).2
    show d.start (ix3 c y z) idx 2 + d.batchCoord (ix3 c y z) 2 + d.offCoord (ix3 c y z) 2 = z.val
    rw [d.batchCoord_eq_zero _ _ (hbN 2), Nat.add_zero]
    unfold GatherDims.start GatherDims.offCoord
    rw [dif_neg hm, dif_pos hk, Nat.zero_add]
    subst hd
    rfl

end Cert.Hand

end
-- ==== Proof.RefVal.lean ====
/-
  The reference's result at an index, as the same function of the operands as the kernel's.
-/
module

public import proofs.«01_k».proof.Proof.KerVal
public import proofs.«01_k».proof.Proof.RefGather
public import proofs.«01_k».proof.Proof.Gen.ReferenceIdeal.Read
public import Idealize.ShloMosaic.Lib.IdealHost

@[expose] public section

set_option maxRecDepth 20000

noncomputable section

namespace Cert.Hand

open Cert.ReferenceIdeal Cert.ReferenceIdeal.Gen Cert.ReferenceIdeal.Read
open Idealize.ShloMosaic Idealize.ShloMosaic.ValueIdx Idealize.ShloMosaic.StableHlo

section
variable {F : FTy → Type} [FloatOps F]
variable (x1 : S41984.Idx → BitVec 32) (x2 x3 : S164.Idx → BitVec 32) (x4 : S16384x5120.Idx → BitVec 32)
  (x5 : S8x5120x1536.Idx → Elt F .bf16) (x6 : S8x1536.Idx → Elt F .bf16)

/-- The table of tokens: row `t` is half `t % 2` of pair `t / 2`. -/
theorem ref_tokens (t : Fin 32768) (d : Fin 5120) : val_main_v11 (F := F) x4 (ix2 t d) = tokRow (F := F) x4 t.val d := by
  have ht := t.isLt
  have hd := d.isLt
  have e0 : (t.val * 5120 + d.val) / 10240 = t.val / 2 := by omega
  have e1 : (t.val * 5120 + d.val) / 5120 % 2 = t.val % 2 := by omega
  have e2 : (t.val * 5120 + d.val) % 5120 = d.val := by omega
  rw [val_main_v11_apply]
  unfold val_main_v10
  by_cases h : t.val % 2 = 0
  · refine (concatenate_pair_apply_left (t := S16384x2x5120) (s₁ := S16384x1x5120) (s₂ := S16384x1x5120) 1 _ _ _ (idx_main_v11 (ix2 t d)) rfl (ix3 ⟨t.val / 2, by omega⟩ 0 d) (fun b => match b with
      | ⟨0, _⟩ => e0.symm | ⟨1, _⟩ => by show 0 = (t.val * 5120 + d.val) / 5120 % 2; omega | ⟨2, _⟩ => e2.symm)).trans ?_
    rw [val_main_v8_apply, val_main_v3_apply]
    unfold tokRow halfOf
    refine congrArg (FloatOps.ofBits .bf16) ?_
    rw [h, val_main_v2_apply, val_main_v1_apply, val_main_v0_apply, val_main_c_apply]
    have ei : idx_main_v8 (ix3 ⟨t.val / 2, by omega⟩ 0 d) = (ix2 ⟨t.val / 2 % 16384, Nat.mod_lt _ (by decide)⟩ d : S16384x5120.Idx) := by
      funext a
      match a with
      | ⟨0, _⟩ => exact Fin.ext (by show t.val / 2 = t.val / 2 % 16384; omega)
      | ⟨1, _⟩ => rfl
    rw [ei]
    generalize x4 _ = w
    show ((w : BitVec 32) &&& 65535#32).setWidth 16 = (w >>> (16 * 0)).setWidth 16
    apply BitVec.eq_of_toNat_eq
    simp only [BitVec.toNat_setWidth, BitVec.toNat_and, BitVec.toNat_ushiftRight, BitVec.toNat_ofNat, Nat.mul_zero, Nat.shiftRight_zero]
    rw [show 65535 % 2 ^ 32 = 2 ^ 16 - 1 from rfl, Nat.and_two_pow_sub_one_eq_mod, Nat.mod_mod]
  · have h1 : t.val % 2 = 1 := by omega
    refine (concatenate_pair_apply_right (t := S16384x2x5120) (s₁ := S16384x1x5120) (s₂ := S16384x1x5120) 1 _ _ _ (idx_main_v11 (ix2 t d)) rfl rfl (ix3 ⟨t.val / 2, by omega⟩ 0 d) (fun b hb => match b with
      | ⟨0, _⟩ => e0.symm | ⟨1, _⟩ => absurd (Fin.ext rfl) hb | ⟨2, _⟩ => e2.symm) (by show 0 + 1 = (t.val * 5120 + d.val) / 5120 % 2; omega)).trans ?_
    rw [val_main_v9_apply, val_main_v7_apply]
    unfold tokRow halfOf
    refine congrArg (FloatOps.ofBits .bf16) ?_
    rw [h1, val_main_v6_apply, val_main_v5_apply, val_main_v4_apply, val_main_c_0_apply]
    have ei : idx_main_v9 (ix3 ⟨t.val / 2, by omega⟩ 0 d) = (ix2 ⟨t.val / 2 % 16384, Nat.mod_lt _ (by decide)⟩ d : S16384x5120.Idx) := by
      funext a
      match a with
      | ⟨0, _⟩ => exact Fin.ext (by show t.val / 2 = t.val / 2 % 16384; omega)
      | ⟨1, _⟩ => rfl
    rw [ei]
    generalize x4 _ = w
    rfl

/-- A word below 2³¹ is not negative: the wrapped index is the word. -/
theorem wrap_eq (w k : BitVec 32) (h : w.toNat < 2 ^ 31) : Scalar.select (IntOp.cmpi .slt w 0#32) (IntOp.addi w k) w = w := by
  have e : IntOp.cmpi .slt w 0#32 = 0#1 := by
    show BitVec.ofBool (w.slt 0#32) = _
    have : w.slt 0#32 = false := by
      rw [BitVec.slt_eq_decide, BitVec.toInt_eq_toNat_of_lt (by omega)]
      simp
    rw [this]; rfl
  rw [e]
  unfold Scalar.select
  exact if_neg (by decide)

theorem ofNat_toNat32 (w : BitVec 32) : w = BitVec.ofNat 32 w.toNat := by simp

/-- Row `p` gathers its token's row. -/
theorem ref_row (p : Fin 41984) (d : Fin 5120) (h : (x1 (ix1 p)).toNat < 32768) :
    val_main_v18 (F := F) x1 x4 (ix2 p d) = tokRow (F := F) x4 (x1 (ix1 p)).toNat d := by
  unfold val_main_v18
  refine (Routing.gather_row _ rfl rfl rfl rfl rfl _ _ p d ⟨(x1 (ix1 p)).toNat, h⟩ ?_ (by decide)).trans (ref_tokens x4 _ d)
  rw [val_main_v17_apply, val_main_v16_apply, val_main_v13_apply, val_main_v15_apply, val_main_v12_apply, val_main_c_1_apply]
  have ei : idx_main_v17 (ix2 p (0 : Fin 1)) = (ix1 p : S41984.Idx) := funext fun a => match a with | ⟨0, _⟩ => rfl
  rw [ei]
  exact (wrap_eq _ _ (by omega)).trans (ofNat_toNat32 _)

/-- Tile `j` gathers its expert's weights. -/
theorem ref_w (j : Fin 164) (d : Fin 5120) (n : Fin 1536) (h : (x2 (ix1 j)).toNat < 8) :
    val_main_v26 (F := F) x2 x5 (ix3 j d n) = x5 (ix3 ⟨(x2 (ix1 j)).toNat % 8, Nat.mod_lt _ (by decide)⟩ d n) := by
  unfold val_main_v26
  refine gather_mat _ rfl rfl rfl rfl rfl _ _ j d n ⟨(x2 (ix1 j)).toNat % 8, Nat.mod_lt _ (by decide)⟩ ?_ (by decide)
  rw [val_main_v25_apply, val_main_v24_apply, val_main_v21_apply, val_main_v23_apply, val_main_v20_apply, val_main_c_3_apply]
  have ei : idx_main_v25 (ix2 j (0 : Fin 1)) = (ix1 j : S164.Idx) := funext fun a => match a with | ⟨0, _⟩ => rfl
  rw [ei]
  refine (wrap_eq _ _ (by omega)).trans ?_
  show _ = BitVec.ofNat 32 ((x2 (ix1 j)).toNat % 8)
  rw [Nat.mod_eq_of_lt h]
  exact ofNat_toNat32 _

/-- Tile `j` gathers its expert's bias. -/
theorem ref_b (j : Fin 164) (n : Fin 1536) (h : (x2 (ix1 j)).toNat < 8) :
    val_main_v33 (F := F) x2 x6 (ix2 j n) = x6 (ix2 ⟨(x2 (ix1 j)).toNat % 8, Nat.mod_lt _ (by decide)⟩ n) := by
  unfold val_main_v33
  refine Routing.gather_row _ rfl rfl rfl rfl rfl _ _ j n ⟨(x2 (ix1 j)).toNat % 8, Nat.mod_lt _ (by decide)⟩ ?_ (by decide)
  rw [val_main_v32_apply, val_main_v31_apply, val_main_v28_apply, val_main_v30_apply, val_main_v27_apply, val_main_c_5_apply]
  have ei : idx_main_v32 (ix2 j (0 : Fin 1)) = (ix1 j : S164.Idx) := funext fun a => match a with | ⟨0, _⟩ => rfl
  rw [ei]
  refine (wrap_eq _ _ (by omega)).trans ?_
  show _ = BitVec.ofNat 32 ((x2 (ix1 j)).toNat % 8)
  rw [Nat.mod_eq_of_lt h]
  exact ofNat_toNat32 _

end

variable (x1 : S41984.Idx → BitVec 32) (x2 x3 : S164.Idx → BitVec 32) (x4 : S16384x5120.Idx → BitVec 32)
  (x5 : S8x5120x1536.Idx → Elt Ideal .bf16) (x6 : S8x1536.Idx → Elt Ideal .bf16)

/-- The row of activations before the nonlinearity. -/
theorem ref_lin (j : Fin 164) (r : Fin 256) (n : Fin 1536) (t : ℕ) (et : ∀ d, val_main_v19 (F := Ideal) x1 x4 (ix3 j r d) = tokRow (F := Ideal) x4 t d)
    (h : (x2 (ix1 j)).toNat < 8) :
    val_main_v38 (F := Ideal) x1 x2 x4 x5 x6 (ix3 j r n)
      = lin (tokRow (F := Ideal) x4 t) (fun d n => x5 (ix3 ⟨(x2 (ix1 j)).toNat % 8, Nat.mod_lt _ (by decide)⟩ d n))
        (fun n => x6 (ix2 ⟨(x2 (ix1 j)).toNat % 8, Nat.mod_lt _ (by decide)⟩ n)) n := by
  rw [val_main_v38_apply, val_main_v35_apply, val_main_v37_apply, val_main_v36_apply, val_main_v34_apply]
  have eb : idx_main_v36 (idx_main_v37 (ix3 j r n)) = (ix2 j n : S164x1536.Idx) := funext fun a => match a with | ⟨0, _⟩ => rfl | ⟨1, _⟩ => rfl
  rw [eb, ref_b x2 x6 j n h]
  unfold lin
  refine congrArg₂ (fun x y : EReal => x + y) (Finset.sum_congr rfl fun d _ => ?_) rfl
  refine congrArg₂ (fun x y : EReal => x * y) ?_ ?_
  · exact (congrArg _ (funext fun a => match a with | ⟨0, _⟩ => rfl | ⟨1, _⟩ => rfl | ⟨2, _⟩ => rfl)).trans (et d)
  · exact (congrArg _ (funext fun a => match a with | ⟨0, _⟩ => rfl | ⟨1, _⟩ => rfl | ⟨2, _⟩ => rfl)).trans (ref_w x2 x5 j d n h)

/-- Half of the reference's result for tile `j`. -/
theorem ref_half (j : Fin 164) (r : Fin 256) (k : Fin 768) (t : ℕ) (et : ∀ d, val_main_v19 (F := Ideal) x1 x4 (ix3 j r d) = tokRow (F := Ideal) x4 t d)
    (h : (x2 (ix1 j)).toNat < 8) :
    val_main_v43 (F := Ideal) x1 x2 x4 x5 x6 (ix3 j r k) = outAt x4 x5 (fun e n => x6 (ix2 e n)) t (x2 (ix1 j)).toNat k := by
  have e0 : idx_main_v39 (ix3 j r k) = (ix3 j r ⟨k.val, by omega⟩ : S164x256x1536.Idx) := funext fun a => match a with | ⟨0, _⟩ => rfl | ⟨1, _⟩ => rfl | ⟨2, _⟩ => rfl
  have e1 : idx_main_v41 (ix3 j r k) = (ix3 j r ⟨768 + k.val, by omega⟩ : S164x256x1536.Idx) := funext fun a => match a with | ⟨0, _⟩ => rfl | ⟨1, _⟩ => rfl | ⟨2, _⟩ => rfl
  rw [val_main_v43_apply, val_main_v42_apply, val_main_v40_apply, val_main_call0_v5_apply, val_main_call0_v4_apply, val_main_call0_cst_0_apply,
    val_main_call0_v3_apply, val_main_call0_v2_apply, val_main_call0_cst_apply, val_main_call0_v1_apply, val_main_call0_v0_apply, val_main_v39_apply, val_main_v41_apply,
    e0, e1, ref_lin x1 x2 x4 x5 x6 j r _ t et h, ref_lin x1 x2 x4 x5 x6 j r _ t et h]
  unfold outAt glu
  refine congrArg₂ (fun x y : EReal => x * y) (congrArg₂ (fun x y : EReal => x * y) rfl ?_) rfl
  generalize lin _ _ _ _ = g
  show Ideal.div (Ideal.ofBits .f32 0x3F800000#32) (Ideal.ofBits .f32 0x3F800000#32 + Ideal.exp (-g)) = Ideal.logistic g
  rw [Ideal.ofBits_one_f32]
  rfl

theorem half_same : val_main_v67 (F := Ideal) x1 x3 x4 x5 x6 = val_main_v43 (F := Ideal) x1 x3 x4 x5 x6 := rfl

/-- The reference at row `p`, column `k` of half `s`. -/
theorem ref_apply (p : Fin 41984) (s : Fin 2) (k : Fin 768) (ht : (x1 (ix1 p)).toNat < 32768)
    (h2 : (x2 (ix1 ⟨p.val / 256, by omega⟩)).toNat < 8) (h3 : (x3 (ix1 ⟨p.val / 256, by omega⟩)).toNat < 8) :
    val_main_v69 (F := Ideal) x1 x2 x3 x4 x5 x6 (ix2 p ⟨768 * s.val + k.val, by omega⟩)
      = outAt x4 x5 (fun e n => x6 (ix2 e n)) (x1 (ix1 p)).toNat ((if s.val = 0 then x2 else x3) (ix1 ⟨p.val / 256, by omega⟩)).toNat k := by
  have hp := p.isLt
  have hs := s.isLt
  have hk := k.isLt
  have et : ∀ d, val_main_v19 (F := Ideal) x1 x4 (ix3 ⟨p.val / 256, by omega⟩ ⟨p.val % 256, Nat.mod_lt _ (by decide)⟩ d) = tokRow (F := Ideal) x4 (x1 (ix1 p)).toNat d := fun d => by
    rw [val_main_v19_apply]
    refine Eq.trans (congrArg _ ?_) (ref_row x1 x4 p d ht)
    have hd := d.isLt
    funext a
    match a with
    | ⟨0, _⟩ => exact Fin.ext (by show ((p.val / 256 * 256 + p.val % 256) * 5120 + d.val) / 5120 = p.val; omega)
    | ⟨1, _⟩ => exact Fin.ext (by show ((p.val / 256 * 256 + p.val % 256) * 5120 + d.val) % 5120 = d.val; omega)
  rw [val_main_v69_apply]
  unfold val_main_v68
  have e0 : (p.val * 1536 + (768 * s.val + k.val)) / 393216 = p.val / 256 := by omega
  have e1 : (p.val * 1536 + (768 * s.val + k.val)) / 1536 % 256 = p.val % 256 := by omega
  have e2 : (p.val * 1536 + (768 * s.val + k.val)) % 1536 = 768 * s.val + k.val := by omega
  by_cases h0 : s.val = 0
  · rw [if_pos h0]
    refine (concatenate_pair_apply_left (t := S164x256x1536) (s₁ := S164x256x768) (s₂ := S164x256x768) 2 _ _ _ (idx_main_v69 (ix2 p ⟨768 * s.val + k.val, by omega⟩)) rfl (ix3 ⟨p.val / 256, by omega⟩ ⟨p.val % 256, Nat.mod_lt _ (by decide)⟩ k) (fun b => match b with
      | ⟨0, _⟩ => e0.symm | ⟨1, _⟩ => e1.symm | ⟨2, _⟩ => by show k.val = (p.val * 1536 + (768 * s.val + k.val)) % 1536; omega)).trans ?_
    exact ref_half x1 x2 x4 x5 x6 _ _ k _ et h2
  · rw [if_neg h0, half_same]
    refine (concatenate_pair_apply_right (t := S164x256x1536) (s₁ := S164x256x768) (s₂ := S164x256x768) 2 _ _ _ (idx_main_v69 (ix2 p ⟨768 * s.val + k.val, by omega⟩)) rfl rfl (ix3 ⟨p.val / 256, by omega⟩ ⟨p.val % 256, Nat.mod_lt _ (by decide)⟩ k) (fun b hb => match b with
      | ⟨0, _⟩ => e0.symm | ⟨1, _⟩ => e1.symm | ⟨2, _⟩ => absurd (Fin.ext rfl) hb) (by show k.val + 768 = (p.val * 1536 + (768 * s.val + k.val)) % 1536; omega)).trans ?_
    exact ref_half x1 x3 x4 x5 x6 _ _ k _ et h3

end Cert.Hand

end
-- ==== Proof.Value.lean ====
/-
  The value claim: in the tiles that are used, kernel and reference leave the same numbers.
-/
module

public import proofs.«01_k».proof.Proof.Hosts
public import proofs.«01_k».proof.Proof.RefVal
public import proofs.«01_k».proof.Proof.Frames
public import proofs.«01_k».proof.Proof.Gen.On_tiles_used

@[expose] public section

set_option maxRecDepth 100000

noncomputable section

namespace Cert.Hand

open Cert.KernelIdeal Cert.KernelIdeal.Gen
open Idealize.ShloMosaic Idealize.ShloMosaic.TcCoe Idealize.ShloMosaic.ValueIdx
open Idealize.SL.Sem

/-- The rows of the tiles that are used, read: row `p` is one when `p` is less than the tiles' number times 256. -/
theorem on_read {nt : S1.Idx → BitVec 32} {tok : S41984.Idx → BitVec 32} {ta tb : S164.Idx → BitVec 32} {x : S16384x5120.Idx → BitVec 32}
    {w : S8x5120x1536.Idx → Elt Ideal .bf16} {b : S8x1536.Idx → Elt Ideal .bf16} (p : Fin 41984) (q : Fin 1536) (hn : InR (nt (ix1 (0 : Fin 1))))
    (h : Cert.On_tiles_used.fn (F := Ideal) nt tok ta tb x w b (ix2 p q) = 1#1) : p.val < 256 * (nt (ix1 (0 : Fin 1))).toNat := by
  unfold Cert.On_tiles_used.fn at h
  have hnt : nt = fun _ => nt (ix1 (0 : Fin 1)) := funext fun i => congrArg nt (one_idx i)
  generalize nt (ix1 (0 : Fin 1)) = n at hnt hn ⊢
  subst hnt
  have h1 := hn.lo
  have h2 := hn.hi
  have hp := p.isLt
  simp only [cmpi, broadcastInDim, constantI, muli, iotaInDim, IntOp.cmpi, ofBool_eq_one] at h
  have h : BitVec.slt (BitVec.ofNat 32 p.val) (n * 256#32) = true := h
  have e : (n * 256#32).toNat = 256 * n.toNat := by rw [BitVec.toNat_mul, BitVec.toNat_ofNat]; omega
  simp only [BitVec.slt, decide_eq_true_eq, BitVec.toInt, e, BitVec.toNat_ofNat] at h
  omega

/-- A column is column `k` of half `s`. -/
theorem split_col (q : Fin 1536) : ∃ (s : Fin 2) (k : Fin 768), q = ⟨768 * s.val + k.val, by omega⟩ :=
  ⟨⟨q.val / 768, by omega⟩, ⟨q.val % 768, Nat.mod_lt _ (by decide)⟩, Fin.ext (by dsimp only; omega)⟩

/-- The equation: where the tile is used, the kernel's result is the reference's, of the same arguments. -/
theorem value_eq (m : (ℓ : Loc nD τ sig) → Buf (Elt Ideal) ℓ) (c : Dev nD) (ok : (inp m c).Ok) (p : Fin 41984) (q : Fin 1536)
    (hp : p.val < 256 * (inp m c).v0.toNat) :
    G (inp m c) (ix2 p q) = Cert.ReferenceIdeal.Read.val_main_v69 (F := Ideal) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (ix2 p q) := by
  have hq := q.isLt
  have hpl := p.isLt
  have h1 := ok.n.lo
  have h2 := ok.n.hi
  obtain ⟨s, k, eq'⟩ := split_col q
  subst eq'
  have etok : (inp m c).tok = (m ((c.tc : Thread nD τ).loc main_arg1) : S41984.Idx → BitVec 32) := V_main_arg1 m c
  have ete : ∀ s, (inp m c).te s = (if s = 0 then m ((c.tc : Thread nD τ).loc main_arg2) else m ((c.tc : Thread nD τ).loc main_arg3) : S164.Idx → BitVec 32) := fun s => by
    show (if s = 0 then V m c main_arg2 else V m c main_arg3) = _
    rw [V_main_arg2, V_main_arg3]
  have eX : (inp m c).X = (m ((c.tc : Thread nD τ).loc main_arg4) : S16384x5120.Idx → BitVec 32) := V_main_arg4 m c
  have eW : (inp m c).W = (m ((c.tc : Thread nD τ).loc main_arg5) : S8x5120x1536.Idx → Elt Ideal .bf16) := V_main_arg5 m c
  have eB : (fun (e : Fin 8) (n : Fin 1536) => (inp m c).B (ix3 e 0 n)) = fun e n => (m ((c.tc : Thread nD τ).loc main_arg6) : S8x1536.Idx → Elt Ideal .bf16) (ix2 e n) :=
    funext fun e => funext fun n => bias_apply m c e n
  have ht := ok.tok p.val hp
  have hte := fun s => ok.te s (p.val / 256) (by omega)
  rw [G_apply (inp m c) (par_ok m c) h2 p s k hp]
  unfold ex
  rw [eX, eW, eB]
  rw [etok, ← wd_eq (F := Ideal) _ p.val hpl] at ht ⊢
  have h0 := hte 0
  have h3 := hte 1
  rw [ete, ← wd_eq (F := Ideal) _ (p.val / 256) (by omega)] at h0 h3
  rw [ete, ← wd_eq (F := Ideal) _ (p.val / 256) (by omega)]
  exact (ref_apply _ _ _ _ _ _ p s k ht h0 h3).symm

theorem alg : Cert.algebraic_KernelIdeal_ReferenceIdeal_on_tiles_used := by
  intro m g m' g' hpre hargs
  have ok := fun c => inp_ok (F := Ideal) m c (hpre c)
  refine ⟨fun c => G (inp m c), (θ_run Cert.KernelIdeal.defs _ _).mono (fun _ h c => ⟨fun i _ => congrFun (h.1 c).1 i, (h.1 c).2⟩) (run (F := Ideal) m g ok),
    (θ_run Cert.ReferenceIdeal.defs _ _).mono (fun r h c => ⟨fun i hi => ?_, (h c).2⟩) (Cert.ReferenceIdeal.Value.run (F := Ideal) m' g')⟩
  obtain ⟨_, a1, a2, a3, a4, a5, a6⟩ := hargs c
  refine (congrFun ((h c).1.trans (Cert.ReferenceIdeal.Read.val_main_v69_eq m' c)) i).trans ?_
  rw [a1, a2, a3, a4, a5, a6]
  have ei : i = ix2 (⟨(i 0).val, (i 0).isLt⟩ : Fin 41984) (⟨(i 1).val, (i 1).isLt⟩ : Fin 1536) := funext fun a => match a with | ⟨0, _⟩ => rfl | ⟨1, _⟩ => rfl
  rw [ei] at hi ⊢
  have e0 : (inp m c).v0 = (m ((c.tc : Thread nD τ).loc main_arg0) : S1.Idx → BitVec 32) (ix1 (0 : Fin 1)) := congrFun (V_main_arg0 m c) _
  have hn := (ok c).n
  rw [e0] at hn
  refine (value_eq m c (ok c) _ _ ?_).symm
  rw [e0]
  exact on_read _ _ hn hi

end Cert.Hand

end
-- ==== Proof.DecBits.lean ====
/-
  The weight codes as numbers. A four-bit code is a sign and one of eight magnitudes; a scale is a power of two. Here both
  are read from the bits, once as the kernel reads them and once as the reference does.
-/
module

public import Idealize.ShloMosaic.PureOps.Ideal

@[expose] public section

set_option maxRecDepth 20000

noncomputable section

namespace Cert.Hand.Dec

open Idealize.ShloMosaic

/-! ## The eight-bit pattern of a four-bit code -/

/-- The low code of a byte, as the kernel moves it into an eight-bit float: sign to bit 7, magnitude to bits 2 to 4. -/
def loB (b : BitVec 8) : BitVec 8 := ((b &&& 8#8) <<< 4) ||| ((b &&& 7#8) <<< 2)
/-- The high code of a byte, moved the same way. -/
def hiB (b : BitVec 8) : BitVec 8 := (b &&& 128#8) ||| ((b &&& 112#8) >>> 2)

/-- The same on four bytes at once. -/
def loW (w : BitVec 32) : BitVec 32 := ((w &&& 134744072#32) <<< 4) ||| ((w &&& 117901063#32) <<< 2)
def hiW (w : BitVec 32) : BitVec 32 := (w &&& 2155905152#32) ||| ((w &&& 1886417008#32) >>> 2)

theorem loW_byte (w : BitVec 32) (p : Nat) (hp : p < 4) : (loW w).extractLsb' (8 * p) 8 = loB (w.extractLsb' (8 * p) 8) := by
  unfold loW loB
  apply BitVec.eq_of_getLsbD_eq
  intro i hi
  interval_cases p <;> interval_cases i <;> simp [BitVec.getLsbD_extractLsb']

theorem hiW_byte (w : BitVec 32) (p : Nat) (hp : p < 4) : (hiW w).extractLsb' (8 * p) 8 = hiB (w.extractLsb' (8 * p) 8) := by
  unfold hiW hiB
  apply BitVec.eq_of_getLsbD_eq
  intro i hi
  interval_cases p <;> interval_cases i <;> simp [BitVec.getLsbD_extractLsb']

/-- The number a four-bit code stands for. -/
def fp4 : Fin 16 → ℝ := ![0, 0.5, 1, 1.5, 2, 3, 4, 6, 0, -0.5, -1, -1.5, -2, -3, -4, -6]

theorem loB_nib : ∀ b : BitVec 8, loB b = loB (BitVec.ofNat 8 (b.toNat % 16)) := by decide +kernel
theorem hiB_nib : ∀ b : BitVec 8, hiB b = loB (BitVec.ofNat 8 (b.toNat / 16)) := by decide +kernel

/-- The eight-bit float is a 64th of the code's number. -/
theorem e4_val (n : Fin 16) : Ideal.ofBits .fp8e4m3 (loB (BitVec.ofNat 8 n.val)) = ((fp4 n / 64 : ℝ) : EReal) := by
  fin_cases n <;> (simp [Ideal.ofBits, Ideal.e4m3fn, loB, fp4, -EReal.coe_mul]; try norm_num)

/-- The eight-bit float times 64 is the code's number. -/
theorem e4_nib (n : Fin 16) : Ideal.ofBits .fp8e4m3 (loB (BitVec.ofNat 8 n.val)) * Ideal.ofBits .bf16 0x4280#16 = ((fp4 n : ℝ) : EReal) := by
  have e : Ideal.ofBits .bf16 0x4280#16 = ((64 : ℝ) : EReal) := by
    simp [Ideal.ofBits, Ideal.ieee, -EReal.coe_mul]; norm_num
  rw [e, e4_val, ← EReal.coe_mul]
  congr 1
  ring

/-! ## The reference's reading of a code -/

/-- The chain of choices by the code's bits. -/
def pick (c : BitVec 32) : EReal :=
  let b : BitVec 32 → BitVec 1 := fun k => IntOp.cmpi .ne (IntOp.andi c k) 0#32
  let v : BitVec 16 → EReal := fun x => Ideal.ofBits .bf16 x
  let mag := Scalar.select (b 4#32)
    (Scalar.select (b 2#32) (Scalar.select (b 1#32) (v 0x40C0#16) (v 0x4080#16)) (Scalar.select (b 1#32) (v 0x4040#16) (v 0x4000#16)))
    (Scalar.select (b 2#32) (Scalar.select (b 1#32) (v 0x3FC0#16) (v 0x3F80#16)) (Scalar.select (b 1#32) (v 0x3F00#16) (v 0x0000#16)))
  Scalar.select (b 8#32) (-mag) mag

theorem pick_nib (n : Fin 16) : pick (BitVec.ofNat 32 n.val) = ((fp4 n : ℝ) : EReal) := by
  have e6 : Ideal.ofBits .bf16 0x40C0#16 = ((6 : ℝ) : EReal) := by simp [Ideal.ofBits, Ideal.ieee, -EReal.coe_mul]; norm_num
  have e4 : Ideal.ofBits .bf16 0x4080#16 = ((4 : ℝ) : EReal) := by simp [Ideal.ofBits, Ideal.ieee, -EReal.coe_mul]; norm_num
  have e3 : Ideal.ofBits .bf16 0x4040#16 = ((3 : ℝ) : EReal) := by simp [Ideal.ofBits, Ideal.ieee, -EReal.coe_mul]; norm_num
  have e2 : Ideal.ofBits .bf16 0x4000#16 = ((2 : ℝ) : EReal) := by simp [Ideal.ofBits, Ideal.ieee, -EReal.coe_mul]; norm_num
  have e15 : Ideal.ofBits .bf16 0x3FC0#16 = ((1.5 : ℝ) : EReal) := by simp [Ideal.ofBits, Ideal.ieee, -EReal.coe_mul]; norm_num
  have e1 : Ideal.ofBits .bf16 0x3F80#16 = ((1 : ℝ) : EReal) := by simp [Ideal.ofBits, Ideal.ieee, -EReal.coe_mul]; norm_num
  have e05 : Ideal.ofBits .bf16 0x3F00#16 = ((0.5 : ℝ) : EReal) := by simp [Ideal.ofBits, Ideal.ieee, -EReal.coe_mul]; norm_num
  have e0 : Ideal.ofBits .bf16 0x0000#16 = ((0 : ℝ) : EReal) := by simp [Ideal.ofBits, Ideal.ieee]
  unfold pick
  simp only [e6, e4, e3, e2, e15, e1, e05, e0]
  fin_cases n <;> simp [Scalar.select, IntOp.cmpi, IntOp.andi, fp4, -EReal.coe_neg] <;> first | rw [EReal.coe_neg, EReal.coe_one] | rw [EReal.coe_neg]

theorem lo_word : ∀ b : BitVec 8, IntOp.andi (b.setWidth 32) 15#32 = BitVec.ofNat 32 (b.toNat % 16) := by decide +kernel
theorem hi_word : ∀ b : BitVec 8, IntOp.shrsi .host (b.setWidth 32) 4#32 = BitVec.ofNat 32 (b.toNat / 16) := by decide +kernel

theorem lo_eq (b : BitVec 8) : Ideal.ofBits .fp8e4m3 (loB b) * Ideal.ofBits .bf16 0x4280#16 = pick (IntOp.andi (b.setWidth 32) 15#32) := by
  rw [loB_nib, lo_word]
  exact (e4_nib ⟨b.toNat % 16, by omega⟩).trans (pick_nib ⟨b.toNat % 16, by omega⟩).symm

theorem hi_eq (b : BitVec 8) : Ideal.ofBits .fp8e4m3 (hiB b) * Ideal.ofBits .bf16 0x4280#16 = pick (IntOp.shrsi .host (b.setWidth 32) 4#32) := by
  have h := b.isLt
  rw [hiB_nib, hi_word]
  exact (e4_nib ⟨b.toNat / 16, by omega⟩).trans (pick_nib ⟨b.toNat / 16, by omega⟩).symm

/-! ## The scale -/

/-- The word the host makes of a scale byte: the byte as a bfloat16's exponent, in both halves. -/
def scW (s : BitVec 8) : BitVec 32 := (s.setWidth 32 <<< 7) ||| ((s.setWidth 32 <<< 7) <<< 16)

theorem scW_half (s : BitVec 8) (p : Nat) (hp : p < 2) : (scW s).extractLsb' (16 * p) 16 = s.setWidth 16 <<< 7 := by
  unfold scW
  apply BitVec.eq_of_getLsbD_eq
  intro i hi
  interval_cases p <;> interval_cases i <;> simp [BitVec.getLsbD_extractLsb']

theorem sc_parts : ∀ s : BitVec 8, (s.setWidth 16 <<< 7).extractLsb' 15 1 = 0#1 ∧ ((s.setWidth 16 <<< 7).extractLsb' 7 8).toNat = s.toNat
    ∧ ((s.setWidth 16 <<< 7).extractLsb' 0 7).toNat = 0 := by decide +kernel

/-- The exponent of a normal number: the power of two. -/
theorem sc_ker (s : BitVec 8) (h1 : 1 ≤ s.toNat) (h2 : s.toNat ≤ 254) :
    Ideal.ofBits .bf16 (s.setWidth 16 <<< 7) = (((2 : ℝ) ^ ((s.toNat : Int) - 127) : ℝ) : EReal) := by
  obtain ⟨a, b, c⟩ := sc_parts s
  show Ideal.ieee 8 7 _ = _
  unfold Ideal.ieee
  simp only [show 8 + 7 = 15 from rfl, a, b, c]
  rw [if_neg (by omega), if_neg (by omega)]
  congr 1
  have e : (s.toNat : Int) - 127 = ((s.toNat : Int) - (2 ^ (8 - 1) - 1) - 7) + 7 := by norm_num
  rw [e, zpow_add₀ (by norm_num : (2 : ℝ) ≠ 0)]
  norm_num
  ring

theorem sc_int : ∀ s : BitVec 8, (IntOp.subi (s.setWidth 32) 127#32).toInt = (s.toNat : Int) - 127 := by decide +kernel

/-- The reference's power. -/
theorem sc_ref (s : BitVec 8) :
    Ideal.pow (Ideal.ofBits .f32 0x40000000#32) (((IntOp.subi (s.setWidth 32) 127#32).toInt : ℝ) : EReal) = (((2 : ℝ) ^ ((s.toNat : Int) - 127) : ℝ) : EReal) := by
  have e2 : Ideal.ofBits .f32 0x40000000#32 = ((2 : ℝ) : EReal) := by simp [Ideal.ofBits, Ideal.ieee, -EReal.coe_mul]; norm_num
  rw [e2, sc_int]
  show ((Real.rpow 2 (((s.toNat : Int) - 127 : Int) : ℝ) : ℝ) : EReal) = _
  exact congrArg _ (Real.rpow_intCast 2 _)

end Cert.Hand.Dec

end
-- ==== Proof.DecPay.lean ====
/-
  One block of the decoding, read at an element: which byte, which half of it, and which scale. For blocks of any extents,
  since the two decodings differ in theirs alone.
-/
module

public import proofs.«01_k».proof.Proof.DecBits
public import Idealize.ShloMosaic.Lib.Pipeline.Value
public import Idealize.ShloMosaic.Lib.Pointwise
public import Idealize.ShloMosaic.Lib.BitcastFour
public import Idealize.ShloMosaic.Lib.ValueIdx
public import Idealize.ShloMosaic.Lib.ValueLayout

@[expose] public section

set_option maxRecDepth 20000

noncomputable section

namespace Cert.Hand.Dec

open Idealize.ShloMosaic Idealize.ShloMosaic.TcCoe

/-- A coordinate of an axis that is broadcast over nothing. -/
theorem at_dim {p n : Nat} (h : p < n) : p = if n = 1 then 0 else p := by split <;> omega

/-- Words read as bytes: byte `r` of a column is byte `r % 4` of word `r / 4`. -/
theorem bytes_apply {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  rw [bitcast_getLsbD x h _ i hi (by decide), BitVec.getLsbD_extractLsb']
  have er : Shape.row (⟨2, ![R, n]⟩ : Shape) (ix2 a l) = a.val := rfl
  have e1 : (Shape.row (⟨2, ![R, n]⟩ : Shape) (ix2 a l) * 8 + i) / 32 = p.val := by rw [er, hp]; omega
  have e2 : (Shape.row (⟨2, ![R, n]⟩ : Shape) (ix2 a l) * 8 + i) % 32 = 8 * (a.val % 4) + i := by rw [er]; omega
  rw [e2]
  simp only [hi, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words: byte `q` of a word is the byte in row `4 a + q` of the column. -/
theorem word_byte {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 4) (p : Fin R) (hp : p.val = 4 * a.val + q) :
    (bitcast ⟨2, ![r, n]⟩ 32 x h (ix2 a l)).extractLsb' (8 * q) 8 = x (ix2 p l) := by
  apply BitVec.eq_of_getLsbD_eq
  intro i hi
  have eb : (bitcast ⟨2, ![r, n]⟩ 32 x h (ix2 a l)).getLsbD (8 * q + i) = (x (ix2 p l)).getLsbD ((8 * q + i) % 8) :=
    bitcast_8_32_getLsbD_ix2 x h a l (8 * q + i) (by omega) p (by omega)
  rw [BitVec.getLsbD_extractLsb', eb]
  have e : (8 * q + i) % 8 = i := by omega
  rw [e]
  simp [hi]

variable {N R K S L : Nat}

/-- The code of byte row `c`, column `k`, of a block, after the moves on words. -/
theorem code_apply (x : (⟨2, ![N, K]⟩ : Shape).Idx → BitVec 8) (f : BitVec 32 → BitVec 32) (g : BitVec 8 → BitVec 8)
    (hf : ∀ w p, p < 4 → (f w).extractLsb' (8 * p) 8 = g (w.extractLsb' (8 * p) 8)) (h : (⟨2, ![N, K]⟩ : Shape).Bitcasts 8 ⟨2, ![R, K]⟩ 32)
    (h' : (⟨2, ![R, K]⟩ : Shape).Bitcasts 32 ⟨2, ![N, K]⟩ 8) (hN : N = 4 * R) (c : Fin N) (k : Fin K) :
    bitcast ⟨2, ![N, K]⟩ 8 (fun i => f (bitcast ⟨2, ![R, K]⟩ 32 x h i)) h' (ix2 c k) = g (x (ix2 c k)) := by
  have hc := c.isLt
  refine (bytes_apply _ h' c k ⟨c.val / 4, by omega⟩ rfl).trans ?_
  rw [hf _ _ (by omega)]
  exact congrArg g (word_byte x h ⟨c.val / 4, by omega⟩ k (c.val % 4) (by omega) c (by dsimp only; omega))

/-- A word's halves read as rows of sixteen bits. -/
theorem halves_apply (x : (⟨2, ![K, N]⟩ : Shape).Idx → BitVec 32) (h : (⟨2, ![K, N]⟩ : Shape).Bitcasts 32 ⟨2, ![L, N]⟩ 16) (q : Fin L) (c : Fin N)
    (p : Fin K) (hp : p.val = q.val / 2) :
    bitcast ⟨2, ![L, N]⟩ 16 x h (ix2 q c) = (x (ix2 p c)).extractLsb' (16 * (q.val % 2)) 16 := by
  rw [bitcast_32_16]
  congr 2
  funext a
  match a with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Two vectors interleaved by rows: row `q` is row `q / 2` of the first or the second. -/
theorem inter_apply {α : Type} (lo hi : (⟨2, ![K, N]⟩ : Shape).Idx → α) (h : (⟨2, ![L, N]⟩ : Shape).Bitcasts 16 ⟨2, ![K, N]⟩ 32) (q : Fin L) (c : Fin N)
    (p : Fin K) (hp : p.val = q.val / 2) :
    interleaveRows ⟨2, ![L, N]⟩ lo hi h (ix2 q c) = if q.val % 2 = 0 then lo (ix2 p c) else hi (ix2 p c) := by
  have e : ∀ f : (⟨2, ![K, N]⟩ : Shape).Idx → α, ∀ i : (⟨2, ![K, N]⟩ : Shape).Idx, (i 0).val = q.val / 2 → (i 1).val = c.val → f i = f (ix2 p c) := by
    intro f i h0 h1
    congr 1
    funext a
    match a with
    | ⟨0, _⟩ => exact Fin.ext (h0.trans hp.symm)
    | ⟨1, _⟩ => exact Fin.ext h1
  unfold interleaveRows
  have er : Shape.row (⟨2, ![L, N]⟩ : Shape) (ix2 q c) = q.val := rfl
  simp only [er]
  split
  · exact e lo _ rfl rfl
  · exact e hi _ rfl rfl

/-- An element of a decoded block: the code's eight-bit float times 64 times the scale's bfloat16. -/
def blockAt (b : BitVec 8) (s : BitVec 32) (p : Nat) : EReal :=
  Ideal.ofBits .fp8e4m3 (if p = 0 then loB b else hiB b) * Ideal.ofBits .bf16 0x4280#16 * Ideal.ofBits .bf16 (s.extractLsb' (16 * p) 16)

/-- What a block's shapes have to do with one another: `N` columns of `K` bytes each, as `L = 2 K` rows, one scale to 16 bytes. -/
structure PayFacts (N R K S L : Nat) : Prop where
  hN : N = 4 * R
  hK : K = 16 * S
  hL : L = 2 * K
  c0 : (⟨3, ![1, N, K]⟩ : Shape).ShapeCasts ⟨2, ![N, K]⟩
  b8 : (⟨2, ![N, K]⟩ : Shape).Bitcasts 8 ⟨2, ![R, K]⟩ 32
  b32 : (⟨2, ![R, K]⟩ : Shape).Bitcasts 32 ⟨2, ![N, K]⟩ 8
  tr : (⟨2, ![N, K]⟩ : Shape).Transposes [1, 0] ⟨2, ![K, N]⟩
  c1 : (⟨3, ![1, S, N]⟩ : Shape).ShapeCasts ⟨2, ![S, N]⟩
  c2 : (⟨2, ![S, N]⟩ : Shape).ShapeCasts ⟨3, ![S, 1, N]⟩
  c3 : (⟨3, ![S, 1, N]⟩ : Shape).ShapeCasts ⟨3, ![S, 1, N]⟩
  bc : (⟨3, ![S, 1, N]⟩ : Shape).Broadcasts ⟨3, ![S, 16, N]⟩
  c4 : (⟨3, ![S, 16, N]⟩ : Shape).ShapeCasts ⟨2, ![K, N]⟩
  il : (⟨2, ![L, N]⟩ : Shape).Bitcasts 16 ⟨2, ![K, N]⟩ 32
  hw : (⟨2, ![K, N]⟩ : Shape).Bitcasts 32 ⟨2, ![L, N]⟩ 16

/-- The codes of a block as numbers (64ths), after the moves `f` on words, transposed. -/
def codesOf (H : PayFacts N R K S L) (f : BitVec 32 → BitVec 32) (P0 : (⟨3, ![1, N, K]⟩ : Shape).Idx → BitVec 8) : (⟨2, ![K, N]⟩ : Shape).Idx → EReal :=
  transpose ⟨2, ![K, N]⟩ [1, 0] (fun i => Ideal.ofBits .fp8e4m3
    (bitcast ⟨2, ![N, K]⟩ 8 (fun i => f (bitcast ⟨2, ![R, K]⟩ 32 (shapeCast ⟨2, ![N, K]⟩ P0 H.c0) H.b8 i)) H.b32 i)) H.tr

/-- The scale words of a block, each sixteen times. -/
def scalesOf (H : PayFacts N R K S L) (P1 : (⟨3, ![1, S, N]⟩ : Shape).Idx → BitVec 32) : (⟨2, ![K, N]⟩ : Shape).Idx → BitVec 32 :=
  shapeCast ⟨2, ![K, N]⟩ (broadcastTo ⟨3, ![S, 16, N]⟩ (shapeCast ⟨3, ![S, 1, N]⟩ (shapeCast ⟨3, ![S, 1, N]⟩ (shapeCast ⟨2, ![S, N]⟩ P1 H.c1) H.c2) H.c3) H.bc) H.c4

/-- What the body makes of a block. -/
def payOf (H : PayFacts N R K S L) (P0 : (⟨3, ![1, N, K]⟩ : Shape).Idx → BitVec 8) (P1 : (⟨3, ![1, S, N]⟩ : Shape).Idx → BitVec 32) :
    (⟨2, ![L, N]⟩ : Shape).Idx → EReal := fun i =>
  interleaveRows ⟨2, ![L, N]⟩ (codesOf H loW P0) (codesOf H hiW P0) H.il i * Ideal.ofBits .bf16 0x4280#16
    * Ideal.ofBits .bf16 (bitcast ⟨2, ![L, N]⟩ 16 (scalesOf H P1) H.hw i)

theorem codesOf_apply (H : PayFacts N R K S L) (f : BitVec 32 → BitVec 32) (g : BitVec 8 → BitVec 8)
    (hf : ∀ w p, p < 4 → (f w).extractLsb' (8 * p) 8 = g (w.extractLsb' (8 * p) 8)) (P0 : (⟨3, ![1, N, K]⟩ : Shape).Idx → BitVec 8) (k : Fin K) (c : Fin N) :
    codesOf H f P0 (ix2 k c) = Ideal.ofBits .fp8e4m3 (g (P0 (ix3 0 c k))) := by
  have ex : shapeCast ⟨2, ![N, K]⟩ P0 H.c0 (ix2 c k) = P0 (ix3 0 c k) :=
    shapeCast_apply _ _ _ _ (by rewrite [Shape.rowMajor_val_two, Shape.rowMajor_val_three]; show (0 * N + c.val) * K + k.val = c.val * K + k.val; rw [Nat.zero_mul, Nat.zero_add])
  unfold codesOf
  refine (ValueIdx.transpose_ix2_apply _ _ k c).trans ?_
  exact congrArg (Ideal.ofBits .fp8e4m3) ((code_apply _ f g hf H.b8 H.b32 H.hN c k).trans (congrArg g ex))

theorem scalesOf_apply (H : PayFacts N R K S L) (P1 : (⟨3, ![1, S, N]⟩ : Shape).Idx → BitVec 32) (k : Fin K) (c : Fin N) (j : Fin S) (hj : j.val = k.val / 16) :
    scalesOf H P1 (ix2 k c) = P1 (ix3 0 j c) := by
  unfold scalesOf
  refine (shapeCast_apply (s := ⟨3, ![S, 16, N]⟩) _ _ _ (ix3 j ⟨k.val % 16, by omega⟩ c) (by
    rewrite [Shape.rowMajor_val_two, Shape.rowMajor_val_three]
    show (j.val * 16 + k.val % 16) * N + c.val = k.val * N + c.val
    have : j.val * 16 + k.val % 16 = k.val := by omega
    rw [this])).trans ?_
  refine (broadcastTo_apply (s := ⟨3, ![S, 1, N]⟩) (t := ⟨3, ![S, 16, N]⟩) _ H.bc (ix3 j ⟨k.val % 16, by omega⟩ c) (ix3 j 0 c) (fun a => match a with
    | ⟨0, _⟩ => at_dim j.isLt | ⟨1, _⟩ => rfl | ⟨2, _⟩ => at_dim c.isLt)).trans ?_
  refine (shapeCast_apply (s := ⟨3, ![S, 1, N]⟩) _ _ _ (ix3 j 0 c) rfl).trans ?_
  refine (shapeCast_apply (s := ⟨2, ![S, N]⟩) _ _ _ (ix2 j c) (by
    rewrite [Shape.rowMajor_val_two, Shape.rowMajor_val_three]
    show j.val * N + c.val = (j.val * 1 + 0) * N + c.val; rw [Nat.mul_one, Nat.add_zero])).trans ?_
  exact shapeCast_apply (s := ⟨3, ![1, S, N]⟩) _ _ _ _ (by
    rewrite [Shape.rowMajor_val_two, Shape.rowMajor_val_three]
    show (0 * S + j.val) * N + c.val = j.val * N + c.val; rw [Nat.zero_mul, Nat.zero_add])

theorem payOf_apply (H : PayFacts N R K S L) (P0 : (⟨3, ![1, N, K]⟩ : Shape).Idx → BitVec 8) (P1 : (⟨3, ![1, S, N]⟩ : Shape).Idx → BitVec 32) (q : Fin L) (c : Fin N)
    (k : Fin K) (hk : k.val = q.val / 2) (j : Fin S) (hj : j.val = q.val / 32) :
    payOf H P0 P1 (ix2 q c) = blockAt (P0 (ix3 0 c k)) (P1 (ix3 0 j c)) (q.val % 2) := by
  unfold payOf blockAt
  rw [halves_apply _ H.hw q c k hk, inter_apply _ _ H.il q c k hk, scalesOf_apply H P1 k c j (by omega), codesOf_apply H loW loB loW_byte, codesOf_apply H hiW hiB hiW_byte]
  split <;> rfl

/-- The array of scale words the kernel is given: a scale byte in both halves, at a bfloat16's exponent. -/
def scArr (ht : (⟨3, ![8, N, S]⟩ : Shape).Transposes [0, 2, 1] ⟨3, ![8, S, N]⟩) (hb : (⟨0, ![]⟩ : Shape).BroadcastsInDim ⟨3, ![8, S, N]⟩ ![])
    (s : (⟨3, ![8, N, S]⟩ : Shape).Idx → BitVec 8) : (⟨3, ![8, S, N]⟩ : Shape).Idx → BitVec 32 :=
  let v3 : (⟨3, ![8, S, N]⟩ : Shape).Idx → BitVec 32 := Host.shli (extui 32 (transpose ⟨3, ![8, S, N]⟩ [0, 2, 1] s ht) (by decide))
    (broadcastInDim ⟨3, ![8, S, N]⟩ ![] hb (constantI ⟨0, ![]⟩ 32 7#32))
  ori v3 (Host.shli v3 (broadcastInDim ⟨3, ![8, S, N]⟩ ![] hb (constantI ⟨0, ![]⟩ 32 16#32)))

theorem scArr_apply (ht : (⟨3, ![8, N, S]⟩ : Shape).Transposes [0, 2, 1] ⟨3, ![8, S, N]⟩) (hb : (⟨0, ![]⟩ : Shape).BroadcastsInDim ⟨3, ![8, S, N]⟩ ![])
    (s : (⟨3, ![8, N, S]⟩ : Shape).Idx → BitVec 8) (e : Fin 8) (j : Fin S) (n : Fin N) : scArr ht hb s (ix3 e j n) = scW (s (ix3 e n j)) := by
  have h : transpose ⟨3, ![8, S, N]⟩ [0, 2, 1] s ht (ix3 e j n) = s (ix3 e n j) :=
    transpose_apply [0, 2, 1] s ht (ix3 e j n) (ix3 e n j) (fun b => match b with
      | ⟨0, _⟩ => rfl | ⟨1, _⟩ => rfl | ⟨2, _⟩ => rfl)
  rw [← h]
  rfl

/-- The result array, element by element. -/
def arrOf (hL : L = 2 * K) (hS : L = 32 * S) (w : (⟨3, ![8, N, K]⟩ : Shape).Idx → BitVec 8) (s : (⟨3, ![8, N, S]⟩ : Shape).Idx → BitVec 8) :
    (⟨3, ![8, L, N]⟩ : Shape).Idx → EReal := fun i =>
  blockAt (w (ix3 (i 0) (i 2) ⟨(i 1).val / 2, by have : (i 1).val < L := (i 1).isLt; omega⟩))
    (scW (s (ix3 (i 0) (i 2) ⟨(i 1).val / 32, by have : (i 1).val < L := (i 1).isLt; omega⟩))) ((i 1).val % 2)

end Cert.Hand.Dec

end
-- ==== Proof.DecArr.lean ====
/-
  The decoding's result array, from its blocks: the scale words the host builds, and each element of the array.
-/
module

public import proofs.«01_k».proof.Proof.DecPay
public import proofs.«01_k».proof.Proof.Gen.DecodeIdeal.Value
public import Idealize.ShloMosaic.Lib.Pipeline.ValueKit

@[expose] public section

set_option maxRecDepth 20000

noncomputable section

namespace Cert.Hand.Dec

open Cert.DecodeIdeal Cert.DecodeIdeal.Gen
open Idealize.ShloMosaic Idealize.ShloMosaic.TcCoe Idealize.SL.Sem

variable (m : (ℓ : Loc nD τ sig) → Buf (Elt Ideal) ℓ) (c : Dev nD)

/-- The codes, as launched. -/
abbrev wA : S8x1536x2560.Idx → BitVec 8 := m ((c.tc : Thread nD τ).loc main_arg0)
/-- The scale bytes, as launched. -/
abbrev sA : S8x1536x160.Idx → BitVec 8 := m ((c.tc : Thread nD τ).loc main_arg1)

theorem V_v6 : V m c main_v6 = scArr transposes_S8x1536x160_S8x160x1536_0_2_1 bcast_S_S8x160x1536 (sA m c) := by
  show StableHlo.after _ _ _ = _
  after_results_simp
  rfl

/-- The result array, element by element. -/
abbrev arr (w : S8x1536x2560.Idx → BitVec 8) (s : S8x1536x160.Idx → BitVec 8) : S8x5120x1536.Idx → EReal :=
  arrOf (N := 1536) (K := 2560) (S := 160) (L := 5120) rfl rfl w s

/-- The block's shapes. -/
theorem blkFacts : PayFacts 256 64 1280 80 2560 :=
  ⟨rfl, rfl, rfl, shapeCasts_S1x256x1280_S256x1280, bitcasts_S256x1280_w8_S64x1280_w32, bitcasts_S64x1280_w32_S256x1280_w8, transposes_S256x1280_p1_0_S1280x256,
    shapeCasts_S1x80x256_S80x256, shapeCasts_S80x256_S80x1x256, shapeCasts_S80x1x256_S80x1x256, broadcasts_S80x1x256_S80x16x256, shapeCasts_S80x16x256_S1280x256,
    bitcasts_S2560x256_w16_S1280x256_w32, bitcasts_S1280x256_w32_S2560x256_w16⟩

/-- What the body computes of a block. -/
theorem pay_eq (P0 : Vec Ideal S1x256x1280 .i8) (P1 : Vec Ideal S1x80x256 .i32) : k0_pay2 (F := Ideal) P0 P1 = payOf blkFacts P0 P1 := rfl

theorem ix_facts : ∀ t : Fin cfg0.N, win0_0.index t 0 = win0_2.index t 0 ∧ win0_0.index t 1 = win0_2.index t 2 ∧ win0_0.index t 2 = win0_2.index t 1
    ∧ win0_1.index t 0 = win0_2.index t 0 ∧ win0_1.index t 1 = win0_2.index t 1 ∧ win0_1.index t 2 = win0_2.index t 2 :=
  (by decide +kernel : ∀ t : Fin grid0.N, win0_0.index t 0 = win0_2.index t 0 ∧ win0_0.index t 1 = win0_2.index t 2 ∧ win0_0.index t 2 = win0_2.index t 1
    ∧ win0_1.index t 0 = win0_2.index t 0 ∧ win0_1.index t 1 = win0_2.index t 1 ∧ win0_1.index t 2 = win0_2.index t 2)

section
variable (t : Fin cfg0.N) (y1 : Fin 2560) (y2 : Fin 256) (e : Fin 8) (q : Fin 5120) (n : Fin 1536)
  (he : e.val = win0_2.index t 0) (hq : q.val = win0_2.index t 1 * 2560 + y1.val) (hn : n.val = win0_2.index t 2 * 256 + y2.val)
include he hq hn

/-- A block of the codes, read at an element. -/
theorem codes_blk : View.ld (iblk m c 0 t) r0_0 (ix3 0 y2 (⟨y1.val / 2, by omega⟩ : Fin 1280)) = wA m c (ix3 e n ⟨q.val / 2, by omega⟩) := by
  obtain ⟨f0, f1, f2, -, -, -⟩ := ix_facts t
  refine (congrFun (View.ld_unit_lit _ _ (fun a => match a with | ⟨0, _⟩ => rfl | ⟨1, _⟩ => rfl | ⟨2, _⟩ => rfl)) _).trans ?_
  show V m c main_arg0 ((win0_0.blk t).view.emb _) = _
  refine (congrFun (V_main_arg0 m c) _).trans (congrArg (wA m c) (funext fun a => Fin.ext ?_))
  match a with
  | ⟨0, _⟩ =>
    show ((win0_0.blk t).view.emb (ix3 0 y2 (⟨y1.val / 2, by omega⟩ : Fin 1280)) 0).val = e.val
    blk_simp; omega
  | ⟨1, _⟩ =>
    show ((win0_0.blk t).view.emb (ix3 0 y2 (⟨y1.val / 2, by omega⟩ : Fin 1280)) 1).val = n.val
    blk_simp; omega
  | ⟨2, _⟩ =>
    show ((win0_0.blk t).view.emb (ix3 0 y2 (⟨y1.val / 2, by omega⟩ : Fin 1280)) 2).val = q.val / 2
    blk_simp; show win0_0.index t 2 * 1280 + y1.val / 2 = q.val / 2; omega

/-- A block of the scale words, read at an element. -/
theorem scales_blk : View.ld (iblk m c 1 t) r0_1 (ix3 0 (⟨y1.val / 32, by omega⟩ : Fin 80) y2) = scW (sA m c (ix3 e n ⟨q.val / 32, by omega⟩)) := by
  obtain ⟨-, -, -, g0, g1, g2⟩ := ix_facts t
  refine (congrFun (View.ld_unit_lit _ _ (fun a => match a with | ⟨0, _⟩ => rfl | ⟨1, _⟩ => rfl | ⟨2, _⟩ => rfl)) _).trans ?_
  show V m c main_v6 ((win0_1.blk t).view.emb _) = _
  refine (congrFun (V_v6 m c) _).trans (Eq.trans (congrArg (scArr _ _ (sA m c)) (funext fun a => Fin.ext ?_)) (scArr_apply _ _ (sA m c) e ⟨q.val / 32, by omega⟩ n))
  match a with
  | ⟨0, _⟩ =>
    show ((win0_1.blk t).view.emb (ix3 0 (⟨y1.val / 32, by omega⟩ : Fin 80) y2) 0).val = e.val
    blk_simp; omega
  | ⟨1, _⟩ =>
    show ((win0_1.blk t).view.emb (ix3 0 (⟨y1.val / 32, by omega⟩ : Fin 80) y2) 1).val = q.val / 32
    blk_simp; show win0_1.index t 1 * 80 + y1.val / 32 = q.val / 32; omega
  | ⟨2, _⟩ =>
    show ((win0_1.blk t).view.emb (ix3 0 (⟨y1.val / 32, by omega⟩ : Fin 80) y2) 2).val = n.val
    blk_simp; omega

/-- What the body leaves in its block, at an element. -/
theorem out_blk : out0_2 (F := Ideal) (iblk m c 0 t) (iblk m c 1 t) (ix3 0 y1 y2) = arr (wA m c) (sA m c) (ix3 e q n) := by
  unfold out0_2
  refine (Cert.DecodeIdeal.Value.canon2_eq _ _ _).trans ?_
  refine (show _ = k0_pay2 (F := Ideal) (View.ld (iblk m c 0 t) r0_0) (View.ld (iblk m c 1 t) r0_1) (ix2 y1 y2) from
    congrArg _ (funext fun a => match a with | ⟨0, _⟩ => rfl | ⟨1, _⟩ => rfl)).trans ?_
  refine (congrFun (pay_eq _ _) _).trans ?_
  refine (payOf_apply blkFacts _ _ y1 y2 ⟨y1.val / 2, by omega⟩ rfl ⟨y1.val / 32, by omega⟩ rfl).trans ?_
  have e1 : q.val % 2 = y1.val % 2 := by omega
  show _ = blockAt (wA m c (ix3 e n ⟨q.val / 2, _⟩)) (scW (sA m c (ix3 e n ⟨q.val / 32, _⟩))) (q.val % 2)
  rw [e1]
  exact congrArg₂ (fun b s => blockAt b s (y1.val % 2)) (codes_blk m c t y1 y2 e q n he hq hn) (scales_blk m c t y1 y2 e q n he hq hn)
end

theorem arr_eq : (dats m 0 c).arrAt 2 cfg0.N = arr (wA m c) (sA m c) := by
  refine (dats m 0 c).arrAt_eq_of_covers 2 _ (by decide +kernel) fun t hf y => ?_
  blk_simp
  rw [after0_2]
  have hy0 : (y 0).val < 1 := (y 0).isLt
  have E0 : ((win0_2.blk t).view.emb y 0).val = win0_2.index t 0 := by blk_simp; try omega
  have E1 : ((win0_2.blk t).view.emb y 1).val = win0_2.index t 1 * 2560 + (y 1).val := by blk_simp; try omega
  have E2 : ((win0_2.blk t).view.emb y 2).val = win0_2.index t 2 * 256 + (y 2).val := by blk_simp; try omega
  have ey : y = ix3 (0 : Fin 1) (⟨(y 1).val, (y 1).isLt⟩ : Fin 2560) (⟨(y 2).val, (y 2).isLt⟩ : Fin 256) :=
    funext fun a => match a with | ⟨0, _⟩ => Fin.ext (by show (y 0).val = 0; omega) | ⟨1, _⟩ => rfl | ⟨2, _⟩ => rfl
  refine (congrArg _ ey).trans ((out_blk m c t ⟨(y 1).val, (y 1).isLt⟩ ⟨(y 2).val, (y 2).isLt⟩ ⟨((win0_2.blk t).view.emb y 0).val, ((win0_2.blk t).view.emb y 0).isLt⟩
    ⟨((win0_2.blk t).view.emb y 1).val, ((win0_2.blk t).view.emb y 1).isLt⟩ ⟨((win0_2.blk t).view.emb y 2).val, ((win0_2.blk t).view.emb y 2).isLt⟩ E0 E1 E2).trans ?_)
  exact congrArg (arr (wA m c) (sA m c)) (funext fun a => match a with | ⟨0, _⟩ => rfl | ⟨1, _⟩ => rfl | ⟨2, _⟩ => rfl)

end Cert.Hand.Dec

end
-- ==== Proof.DecRef.lean ====
/-
  The reference of the decoding, read at an element, for weights of any extents.
-/
module

public import proofs.«01_k».proof.Proof.DecPay
public import Idealize.ShloMosaic.Lib.Pipeline.Value
public import Idealize.ShloMosaic.Lib.Pointwise
public import Idealize.ShloMosaic.Lib.ValueIdx
public import Idealize.ShloMosaic.Lib.ValueLayout

@[expose] public section

set_option maxRecDepth 20000

noncomputable section

namespace Cert.Hand.Dec

open Idealize.ShloMosaic Idealize.ShloMosaic.TcCoe

/-- The number at an element: the code's, by which half of the byte, times the power of two the scale byte names. -/
def numAt (b s : BitVec 8) (p : Nat) : EReal :=
  (if p = 0 then pick (IntOp.andi (b.setWidth 32) 15#32) else pick (IntOp.shrsi .host (b.setWidth 32) 4#32)) * (((2 : ℝ) ^ ((s.toNat : Int) - 127) : ℝ) : EReal)

/-- An element of the kernel's result is the reference's, where the scale byte is neither 0 nor 255. -/
theorem elem_eq (b s : BitVec 8) (p : Nat) (hp : p < 2) (h1 : 1 ≤ s.toNat) (h2 : s.toNat ≤ 254) : blockAt b (scW s) p = numAt b s p := by
  unfold blockAt numAt
  rw [scW_half s p hp, sc_ker s h1 h2]
  congr 1
  split
  · exact lo_eq b
  · exact hi_eq b

/-- What the reference's shapes have to do with one another. -/
structure RefFacts (N K S L : Nat) : Prop where
  hK : K = 16 * S
  hL : L = 2 * K
  tw : (⟨3, ![8, N, K]⟩ : Shape).Transposes [0, 2, 1] ⟨3, ![8, K, N]⟩
  ts : (⟨3, ![8, N, S]⟩ : Shape).Transposes [0, 2, 1] ⟨3, ![8, S, N]⟩
  b0 : (⟨3, ![8, K, N]⟩ : Shape).BroadcastsInDim ⟨4, ![8, K, 1, N]⟩ ![0, 1, 3]
  cc : Shape.Concatenates [⟨4, ![8, K, 1, N]⟩, ⟨4, ![8, K, 1, N]⟩] ⟨4, ![8, K, 2, N]⟩ 2
  c1 : (⟨4, ![8, K, 2, N]⟩ : Shape).ShapeCasts ⟨4, ![8, S, 32, N]⟩
  b1 : (⟨3, ![8, S, N]⟩ : Shape).BroadcastsInDim ⟨4, ![8, S, 1, N]⟩ ![0, 1, 3]
  b2 : (⟨4, ![8, S, 1, N]⟩ : Shape).BroadcastsInDim ⟨4, ![8, S, 32, N]⟩ ![0, 1, 2, 3]
  c2 : (⟨4, ![8, S, 32, N]⟩ : Shape).ShapeCasts ⟨3, ![8, L, N]⟩

variable {N K S L : Nat} (H : RefFacts N K S L) (w : (⟨3, ![8, N, K]⟩ : Shape).Idx → BitVec 8) (s : (⟨3, ![8, N, S]⟩ : Shape).Idx → BitVec 8)

/-- The bytes of the codes, transposed. -/
def refBytes : (⟨3, ![8, K, N]⟩ : Shape).Idx → BitVec 32 := fun i => (transpose ⟨3, ![8, K, N]⟩ [0, 2, 1] w H.tw i).setWidth 32
/-- The scales. -/
def refScales : (⟨3, ![8, S, N]⟩ : Shape).Idx → EReal := fun i =>
  Ideal.pow (Ideal.ofBits .f32 0x40000000#32) (((IntOp.subi ((transpose ⟨3, ![8, S, N]⟩ [0, 2, 1] s H.ts i).setWidth 32) 127#32).toInt : ℝ) : EReal)
/-- The codes' numbers, low and high beside one another. -/
def refCodes : (⟨4, ![8, K, 2, N]⟩ : Shape).Idx → EReal :=
  concatenate ⟨4, ![8, K, 2, N]⟩ 2 [⟨⟨4, ![8, K, 1, N]⟩, broadcastInDim ⟨4, ![8, K, 1, N]⟩ ![0, 1, 3] H.b0 (fun i => pick (IntOp.andi (refBytes H w i) 15#32))⟩,
    ⟨⟨4, ![8, K, 1, N]⟩, broadcastInDim ⟨4, ![8, K, 1, N]⟩ ![0, 1, 3] H.b0 (fun i => pick (IntOp.shrsi .host (refBytes H w i) 4#32))⟩] H.cc
/-- The reference's result. -/
def refOf : (⟨3, ![8, L, N]⟩ : Shape).Idx → EReal :=
  shapeCast ⟨3, ![8, L, N]⟩ (fun i => shapeCast ⟨4, ![8, S, 32, N]⟩ (refCodes H w) H.c1 i
    * broadcastInDim ⟨4, ![8, S, 32, N]⟩ ![0, 1, 2, 3] H.b2 (broadcastInDim ⟨4, ![8, S, 1, N]⟩ ![0, 1, 3] H.b1 (refScales H s)) i) H.c2

theorem refBytes_apply (e : Fin 8) (k : Fin K) (n : Fin N) : refBytes H w (ix3 e k n) = (w (ix3 e n k)).setWidth 32 :=
  congrArg (BitVec.setWidth 32) (transpose_apply [0, 2, 1] w H.tw (ix3 e k n) (ix3 e n k) (fun b => match b with | ⟨0, _⟩ => rfl | ⟨1, _⟩ => rfl | ⟨2, _⟩ => rfl))

theorem refScales_apply (e : Fin 8) (k : Fin S) (n : Fin N) :
    refScales H s (ix3 e k n) = (((2 : ℝ) ^ (((s (ix3 e n k)).toNat : Int) - 127) : ℝ) : EReal) := by
  have h : transpose ⟨3, ![8, S, N]⟩ [0, 2, 1] s H.ts (ix3 e k n) = s (ix3 e n k) :=
    transpose_apply [0, 2, 1] s H.ts (ix3 e k n) (ix3 e n k) (fun b => match b with | ⟨0, _⟩ => rfl | ⟨1, _⟩ => rfl | ⟨2, _⟩ => rfl)
  unfold refScales
  rw [h, sc_ref]

theorem refCodes_apply (e : Fin 8) (k : Fin K) (p : Fin 2) (n : Fin N) :
    refCodes H w (ix4 e k p n) = if p.val = 0 then pick (IntOp.andi ((w (ix3 e n k)).setWidth 32) 15#32) else pick (IntOp.shrsi .host ((w (ix3 e n k)).setWidth 32) 4#32) := by
  have hb : ∀ f : (⟨3, ![8, K, N]⟩ : Shape).Idx → EReal, broadcastInDim ⟨4, ![8, K, 1, N]⟩ ![0, 1, 3] H.b0 f (ix4 e k (0 : Fin 1) n) = f (ix3 e k n) := fun f =>
    broadcastInDim_apply _ H.b0 f _ (ix3 e k n) (fun a => match a with | ⟨0, _⟩ => at_dim e.isLt | ⟨1, _⟩ => at_dim k.isLt | ⟨2, _⟩ => at_dim n.isLt)
  unfold refCodes
  split
  · next h =>
    refine (concatenate_pair_apply_left (t := ⟨4, ![8, K, 2, N]⟩) (s₁ := ⟨4, ![8, K, 1, N]⟩) (s₂ := ⟨4, ![8, K, 1, N]⟩) 2 _ _ _ (ix4 e k p n) rfl (ix4 e k (0 : Fin 1) n)
      (fun b => match b with | ⟨0, _⟩ => rfl | ⟨1, _⟩ => rfl | ⟨2, _⟩ => h.symm | ⟨3, _⟩ => rfl)).trans ?_
    rw [hb, refBytes_apply]
  · next h =>
    refine (concatenate_pair_apply_right (t := ⟨4, ![8, K, 2, N]⟩) (s₁ := ⟨4, ![8, K, 1, N]⟩) (s₂ := ⟨4, ![8, K, 1, N]⟩) 2 _ _ _ (ix4 e k p n) rfl rfl (ix4 e k (0 : Fin 1) n)
      (fun b hb => match b with | ⟨0, _⟩ => rfl | ⟨1, _⟩ => rfl | ⟨2, _⟩ => absurd (Fin.ext rfl) hb | ⟨3, _⟩ => rfl) (by show 0 + 1 = p.val; omega)).trans ?_
    rw [hb, refBytes_apply]

theorem refOf_apply (e : Fin 8) (q : Fin L) (n : Fin N) (k : Fin K) (hk : k.val = q.val / 2) (j : Fin S) (hj : j.val = q.val / 32) :
    refOf H w s (ix3 e q n) = numAt (w (ix3 e n k)) (s (ix3 e n j)) (q.val % 2) := by
  have hq := q.isLt
  have hL : L = 32 * S := by rw [H.hL, H.hK]; omega
  unfold refOf
  refine (shapeCast_apply _ _ _ (ix4 e j (⟨q.val % 32, by omega⟩ : Fin 32) n) (by
    rewrite [Shape.rowMajor_val_four, Shape.rowMajor_val_three]
    show ((e.val * S + j.val) * 32 + q.val % 32) * N + n.val = (e.val * L + q.val) * N + n.val
    have : (e.val * S + j.val) * 32 + q.val % 32 = e.val * L + q.val := by
      have h : e.val * L = 32 * (e.val * S) := by rw [hL]; ring
      omega
    rw [this])).trans ?_
  have e1 : shapeCast ⟨4, ![8, S, 32, N]⟩ (refCodes H w) H.c1 (ix4 e j (⟨q.val % 32, by omega⟩ : Fin 32) n) = refCodes H w (ix4 e k (⟨q.val % 2, by omega⟩ : Fin 2) n) :=
    shapeCast_apply _ _ _ _ (by
      rewrite [Shape.rowMajor_val_four, Shape.rowMajor_val_four]
      show ((e.val * K + k.val) * 2 + q.val % 2) * N + n.val = ((e.val * S + j.val) * 32 + q.val % 32) * N + n.val
      have : (e.val * K + k.val) * 2 + q.val % 2 = (e.val * S + j.val) * 32 + q.val % 32 := by
        have h : e.val * K = 16 * (e.val * S) := by rw [H.hK]; ring
        omega
      rw [this])
  have e2 : broadcastInDim ⟨4, ![8, S, 32, N]⟩ ![0, 1, 2, 3] H.b2 (broadcastInDim ⟨4, ![8, S, 1, N]⟩ ![0, 1, 3] H.b1 (refScales H s)) (ix4 e j (⟨q.val % 32, by omega⟩ : Fin 32) n)
      = refScales H s (ix3 e j n) :=
    (broadcastInDim_apply _ H.b2 _ (ix4 e j (⟨q.val % 32, by omega⟩ : Fin 32) n) (ix4 e j (0 : Fin 1) n) (fun a => match a with | ⟨0, _⟩ => at_dim e.isLt | ⟨1, _⟩ => at_dim j.isLt | ⟨2, _⟩ => rfl | ⟨3, _⟩ => at_dim n.isLt)).trans
      (broadcastInDim_apply _ H.b1 _ _ (ix3 e j n) (fun a => match a with | ⟨0, _⟩ => at_dim e.isLt | ⟨1, _⟩ => at_dim j.isLt | ⟨2, _⟩ => at_dim n.isLt))
  refine (congrArg₂ (fun a b : EReal => a * b) e1 e2).trans ?_
  rw [refCodes_apply, refScales_apply]
  rfl

/-- Kernel and reference agree everywhere, if no scale byte is 0 or 255. -/
theorem refOf_eq_arrOf (hS : L = 32 * S) (hs : ∀ j, 1 ≤ (s j).toNat ∧ (s j).toNat ≤ 254) (i : (⟨3, ![8, L, N]⟩ : Shape).Idx) :
    refOf H w s i = arrOf H.hL hS w s i := by
  have hi : (i 1).val < L := (i 1).isLt
  have hL := H.hL
  have ei : i = ix3 (⟨(i 0).val, (i 0).isLt⟩ : Fin 8) (⟨(i 1).val, (i 1).isLt⟩ : Fin L) (⟨(i 2).val, (i 2).isLt⟩ : Fin N) :=
    funext fun a => match a with | ⟨0, _⟩ => rfl | ⟨1, _⟩ => rfl | ⟨2, _⟩ => rfl
  rw [ei]
  refine (refOf_apply H w s _ _ _ ⟨(i 1).val / 2, by omega⟩ rfl ⟨(i 1).val / 32, by omega⟩ rfl).trans ?_
  obtain ⟨h1, h2⟩ := hs (ix3 (⟨(i 0).val, (i 0).isLt⟩ : Fin 8) (⟨(i 2).val, (i 2).isLt⟩ : Fin N) (⟨(i 1).val / 32, by omega⟩ : Fin S))
  exact (elem_eq _ _ _ (Nat.mod_lt _ (by decide)) h1 h2).symm

end Cert.Hand.Dec

end
-- ==== Proof.DecVal.lean ====
/-
  The value claim of the decoding: kernel and reference leave the same numbers.
-/
module

public import proofs.«01_k».proof.Proof.DecArr
public import proofs.«01_k».proof.Proof.DecRef
public import proofs.«01_k».proof.Proof.Pre
public import proofs.«01_k».proof.Proof.Gen.Pre_scales_finite
public import proofs.«01_k».proof.Proof.Gen.DecodedIdeal.Read
public import proofs.«01_k».proof.Proof.Gen.DecodedIdeal
public import proofs.«01_k».proof.Proof.Gen.Decode.Frame
public import Idealize.ShloMosaic.Lib.Bf16Pair
public import proofs.«01_k».proof.Defs

@[expose] public section

set_option maxRecDepth 20000

noncomputable section

namespace Cert.Hand.Dec

open Idealize.ShloMosaic Idealize.ShloMosaic.TcCoe Idealize.SL.Sem

instance : Subsingleton Cert.Pre_scales_finite.S_.Idx := ⟨fun a b => funext fun i => i.elim0⟩

/-- The precondition, read: a scale byte is neither 0 nor 255. -/
theorem sc_read {w : Cert.Pre_scales_finite.S8x1536x2560.Idx → BitVec 8} {s : Cert.Pre_scales_finite.S8x1536x160.Idx → BitVec 8}
    (h : Cert.Pre_scales_finite.fn (F := Ideal) w s = fun _ => 1#1) (i : Cert.Pre_scales_finite.S8x1536x160.Idx) : 1 ≤ (s i).toNat ∧ (s i).toNat ≤ 254 := by
  have e := congrFun h (fun i => i.elim0)
  unfold Cert.Pre_scales_finite.fn at e
  dsimp only at e
  have r := Host.reduce_andi_all _ _ _ _ _ e i
  simp only [andi, cmpi, extui, broadcastInDim, constantI, IntOp.cmpi, andi_ofBool, ofBool_eq_one, Bool.and_eq_true] at r
  have key : ∀ x : BitVec 8, (BitVec.sle 1#32 (x.setWidth 32) = true ∧ BitVec.sle (x.setWidth 32) 254#32 = true) → 1 ≤ x.toNat ∧ x.toNat ≤ 254 := by decide +kernel
  exact key _ r

theorem frame_d : Cert.quiescent_Decode := fun m g _ => Cert.Decode.Gen.frame m g
theorem frame_di : Cert.quiescent_DecodeIdeal := fun m g _ => Cert.DecodeIdeal.Gen.frame m g
theorem frame_dip : Cert.quiescent_DecodeIdeal_pre_scales_finite := fun m g _ => Cert.DecodeIdeal.Gen.frame m g

theorem frame_rr (m : (ℓ : Loc Cert.DecodedIdeal.nD Cert.DecodedIdeal.τ Cert.DecodedIdeal.sig) → Buf (Elt Ideal) ℓ) (g : Dev Cert.DecodedIdeal.nD → PrngReg) :
    θ_run (Cert.DecodedIdeal.defs (F := Ideal)) (onTc (τ := Cert.DecodedIdeal.τ) (Cert.DecodedIdeal.main (F := Ideal))) ⟨m, fun _ => 0, g⟩ (fun r => (∀ c : Dev Cert.DecodedIdeal.nD,
      r.2.mem ((c.tc : Thread Cert.DecodedIdeal.nD Cert.DecodedIdeal.τ).loc Cert.DecodedIdeal.main_arg0) = m ((c.tc : Thread Cert.DecodedIdeal.nD Cert.DecodedIdeal.τ).loc Cert.DecodedIdeal.main_arg0)
      ∧ r.2.mem ((c.tc : Thread Cert.DecodedIdeal.nD Cert.DecodedIdeal.τ).loc Cert.DecodedIdeal.main_arg1) = m ((c.tc : Thread Cert.DecodedIdeal.nD Cert.DecodedIdeal.τ).loc Cert.DecodedIdeal.main_arg1))
      ∧ r.2.sem = fun _ => 0) :=
  (θ_run Cert.DecodedIdeal.defs _ _).mono (fun r h => ⟨fun c => (h c).2, sem_eq_zero_of_no_sems (by decide) r.2⟩) (Cert.DecodedIdeal.Value.run (F := Ideal) m g)

theorem frame_r : Cert.quiescent_DecodedIdeal := fun m g _ => frame_rr m g
theorem frame_rp : Cert.quiescent_DecodedIdeal_pre_scales_finite := fun m g _ => frame_rr m g

theorem preserves : Cert.preserves_Decode_DecodeIdeal :=
  ⟨IdealRules.bf16_pair.packStatement _, IdealRules.bf16_pair.statement _ _⟩

open Cert.DecodedIdeal Cert.DecodedIdeal.Gen in
/-- The reference's shapes. -/
theorem refFacts : RefFacts 1536 2560 160 5120 :=
  ⟨rfl, rfl, transposes_S8x1536x2560_S8x2560x1536_0_2_1, transposes_S8x1536x160_S8x160x1536_0_2_1, bcast_S8x2560x1536_S8x2560x1x1536_0_1_3,
    concatenates_S8x2560x1x1536_S8x2560x1x1536_S8x2560x2x1536_d2, shapeCasts_S8x2560x2x1536_S8x160x32x1536, bcast_S8x160x1536_S8x160x1x1536_0_1_3,
    bcast_S8x160x1x1536_S8x160x32x1536_0_1_2_3, shapeCasts_S8x160x32x1536_S8x5120x1536⟩

/-- What the reference computes. -/
theorem ref_eq (w : Cert.DecodedIdeal.S8x1536x2560.Idx → BitVec 8) (s : Cert.DecodedIdeal.S8x1536x160.Idx → BitVec 8) :
    Cert.DecodedIdeal.Read.val_main_v71 (F := Ideal) w s = refOf refFacts w s := rfl

theorem alg : Cert.algebraic_DecodeIdeal_DecodedIdeal_pre_scales_finite := by
  intro m g m' g' hpre hargs
  refine ⟨fun c => arr (wA m c) (sA m c), (θ_run Cert.DecodeIdeal.defs _ _).mono (fun _ h c => ⟨(h c).1.trans (arr_eq m c), (h c).2⟩) (Cert.DecodeIdeal.Value.run_blocks (F := Ideal) m g),
    (θ_run Cert.DecodedIdeal.defs _ _).mono (fun r h c => ⟨(h c).1.trans ((Cert.DecodedIdeal.Read.val_main_v71_eq m' c).trans ?_), (h c).2⟩) (Cert.DecodedIdeal.Value.run (F := Ideal) m' g')⟩
  obtain ⟨a0, a1⟩ := hargs c
  rw [a0, a1]
  funext i
  refine (congrFun (ref_eq _ _) i).trans (refOf_eq_arrOf refFacts (wA m c) (sA m c) rfl (fun j => sc_read (hpre c) j) i)

end Cert.Hand.Dec

end
-- ==== Proof.DecDownArr.lean ====
/-
  The result array of the decoding of the down weights, from its blocks: the scale words the host builds, and each element of the array.
-/
module

public import proofs.«01_k».proof.Proof.DecPay
public import proofs.«01_k».proof.Proof.Gen.DecodeDownIdeal.Value
public import Idealize.ShloMosaic.Lib.Pipeline.ValueKit

@[expose] public section

set_option maxRecDepth 20000

noncomputable section

namespace Cert.Hand.DecD

open Cert.Hand.Dec

open Cert.DecodeDownIdeal Cert.DecodeDownIdeal.Gen
open Idealize.ShloMosaic Idealize.ShloMosaic.TcCoe Idealize.SL.Sem

variable (m : (ℓ : Loc nD τ sig) → Buf (Elt Ideal) ℓ) (c : Dev nD)

/-- The codes, as launched. -/
abbrev wA : S8x5120x384.Idx → BitVec 8 := m ((c.tc : Thread nD τ).loc main_arg0)
/-- The scale bytes, as launched. -/
abbrev sA : S8x5120x24.Idx → BitVec 8 := m ((c.tc : Thread nD τ).loc main_arg1)

theorem V_v6 : V m c main_v6 = scArr transposes_S8x5120x24_S8x24x5120_0_2_1 bcast_S_S8x24x5120 (sA m c) := by
  show StableHlo.after _ _ _ = _
  after_results_simp
  rfl

/-- The result array, element by element. -/
abbrev arr (w : S8x5120x384.Idx → BitVec 8) (s : S8x5120x24.Idx → BitVec 8) : S8x768x5120.Idx → EReal :=
  arrOf (N := 5120) (K := 384) (S := 24) (L := 768) rfl rfl w s

/-- The block's shapes. -/
theorem blkFacts : PayFacts 1024 256 384 24 768 :=
  ⟨rfl, rfl, rfl, shapeCasts_S1x1024x384_S1024x384, bitcasts_S1024x384_w8_S256x384_w32, bitcasts_S256x384_w32_S1024x384_w8, transposes_S1024x384_p1_0_S384x1024,
    shapeCasts_S1x24x1024_S24x1024, shapeCasts_S24x1024_S24x1x1024, shapeCasts_S24x1x1024_S24x1x1024, broadcasts_S24x1x1024_S24x16x1024, shapeCasts_S24x16x1024_S384x1024,
    bitcasts_S768x1024_w16_S384x1024_w32, bitcasts_S384x1024_w32_S768x1024_w16⟩

/-- What the body computes of a block. -/
theorem pay_eq (P0 : Vec Ideal S1x1024x384 .i8) (P1 : Vec Ideal S1x24x1024 .i32) : k0_pay2 (F := Ideal) P0 P1 = payOf blkFacts P0 P1 := rfl

theorem ix_facts : ∀ t : Fin cfg0.N, win0_0.index t 0 = win0_2.index t 0 ∧ win0_0.index t 1 = win0_2.index t 2 ∧ win0_0.index t 2 = win0_2.index t 1
    ∧ win0_1.index t 0 = win0_2.index t 0 ∧ win0_1.index t 1 = win0_2.index t 1 ∧ win0_1.index t 2 = win0_2.index t 2 :=
  (by decide +kernel : ∀ t : Fin grid0.N, win0_0.index t 0 = win0_2.index t 0 ∧ win0_0.index t 1 = win0_2.index t 2 ∧ win0_0.index t 2 = win0_2.index t 1
    ∧ win0_1.index t 0 = win0_2.index t 0 ∧ win0_1.index t 1 = win0_2.index t 1 ∧ win0_1.index t 2 = win0_2.index t 2)

section
variable (t : Fin cfg0.N) (y1 : Fin 768) (y2 : Fin 1024) (e : Fin 8) (q : Fin 768) (n : Fin 5120)
  (he : e.val = win0_2.index t 0) (hq : q.val = win0_2.index t 1 * 768 + y1.val) (hn : n.val = win0_2.index t 2 * 1024 + y2.val)
include he hq hn

/-- A block of the codes, read at an element. -/
theorem codes_blk : View.ld (iblk m c 0 t) r0_0 (ix3 0 y2 (⟨y1.val / 2, by omega⟩ : Fin 384)) = wA m c (ix3 e n ⟨q.val / 2, by omega⟩) := by
  obtain ⟨f0, f1, f2, -, -, -⟩ := ix_facts t
  refine (congrFun (View.ld_unit_lit _ _ (fun a => match a with | ⟨0, _⟩ => rfl | ⟨1, _⟩ => rfl | ⟨2, _⟩ => rfl)) _).trans ?_
  show V m c main_arg0 ((win0_0.blk t).view.emb _) = _
  refine (congrFun (V_main_arg0 m c) _).trans (congrArg (wA m c) (funext fun a => Fin.ext ?_))
  match a with
  | ⟨0, _⟩ =>
    show ((win0_0.blk t).view.emb (ix3 0 y2 (⟨y1.val / 2, by omega⟩ : Fin 384)) 0).val = e.val
    blk_simp; omega
  | ⟨1, _⟩ =>
    show ((win0_0.blk t).view.emb (ix3 0 y2 (⟨y1.val / 2, by omega⟩ : Fin 384)) 1).val = n.val
    blk_simp; omega
  | ⟨2, _⟩ =>
    show ((win0_0.blk t).view.emb (ix3 0 y2 (⟨y1.val / 2, by omega⟩ : Fin 384)) 2).val = q.val / 2
    blk_simp; show win0_0.index t 2 * 384 + y1.val / 2 = q.val / 2; omega

/-- A block of the scale words, read at an element. -/
theorem scales_blk : View.ld (iblk m c 1 t) r0_1 (ix3 0 (⟨y1.val / 32, by omega⟩ : Fin 24) y2) = scW (sA m c (ix3 e n ⟨q.val / 32, by omega⟩)) := by
  obtain ⟨-, -, -, g0, g1, g2⟩ := ix_facts t
  refine (congrFun (View.ld_unit_lit _ _ (fun a => match a with | ⟨0, _⟩ => rfl | ⟨1, _⟩ => rfl | ⟨2, _⟩ => rfl)) _).trans ?_
  show V m c main_v6 ((win0_1.blk t).view.emb _) = _
  refine (congrFun (V_v6 m c) _).trans (Eq.trans (congrArg (scArr _ _ (sA m c)) (funext fun a => Fin.ext ?_)) (scArr_apply _ _ (sA m c) e ⟨q.val / 32, by omega⟩ n))
  match a with
  | ⟨0, _⟩ =>
    show ((win0_1.blk t).view.emb (ix3 0 (⟨y1.val / 32, by omega⟩ : Fin 24) y2) 0).val = e.val
    blk_simp; omega
  | ⟨1, _⟩ =>
    show ((win0_1.blk t).view.emb (ix3 0 (⟨y1.val / 32, by omega⟩ : Fin 24) y2) 1).val = q.val / 32
    blk_simp; show win0_1.index t 1 * 24 + y1.val / 32 = q.val / 32; omega
  | ⟨2, _⟩ =>
    show ((win0_1.blk t).view.emb (ix3 0 (⟨y1.val / 32, by omega⟩ : Fin 24) y2) 2).val = n.val
    blk_simp; omega

/-- What the body leaves in its block, at an element. -/
theorem out_blk : out0_2 (F := Ideal) (iblk m c 0 t) (iblk m c 1 t) (ix3 0 y1 y2) = arr (wA m c) (sA m c) (ix3 e q n) := by
  unfold out0_2
  refine (Cert.DecodeDownIdeal.Value.canon2_eq _ _ _).trans ?_
  refine (show _ = k0_pay2 (F := Ideal) (View.ld (iblk m c 0 t) r0_0) (View.ld (iblk m c 1 t) r0_1) (ix2 y1 y2) from
    congrArg _ (funext fun a => match a with | ⟨0, _⟩ => rfl | ⟨1, _⟩ => rfl)).trans ?_
  refine (congrFun (pay_eq _ _) _).trans ?_
  refine (payOf_apply blkFacts _ _ y1 y2 ⟨y1.val / 2, by omega⟩ rfl ⟨y1.val / 32, by omega⟩ rfl).trans ?_
  have e1 : q.val % 2 = y1.val % 2 := by omega
  show _ = blockAt (wA m c (ix3 e n ⟨q.val / 2, _⟩)) (scW (sA m c (ix3 e n ⟨q.val / 32, _⟩))) (q.val % 2)
  rw [e1]
  exact congrArg₂ (fun b s => blockAt b s (y1.val % 2)) (codes_blk m c t y1 y2 e q n he hq hn) (scales_blk m c t y1 y2 e q n he hq hn)
end

theorem arr_eq : (dats m 0 c).arrAt 2 cfg0.N = arr (wA m c) (sA m c) := by
  refine (dats m 0 c).arrAt_eq_of_covers 2 _ (by decide +kernel) fun t hf y => ?_
  blk_simp
  rw [after0_2]
  have hy0 : (y 0).val < 1 := (y 0).isLt
  have E0 : ((win0_2.blk t).view.emb y 0).val = win0_2.index t 0 := by blk_simp; try omega
  have E1 : ((win0_2.blk t).view.emb y 1).val = win0_2.index t 1 * 768 + (y 1).val := by blk_simp; try omega
  have E2 : ((win0_2.blk t).view.emb y 2).val = win0_2.index t 2 * 1024 + (y 2).val := by blk_simp; try omega
  have ey : y = ix3 (0 : Fin 1) (⟨(y 1).val, (y 1).isLt⟩ : Fin 768) (⟨(y 2).val, (y 2).isLt⟩ : Fin 1024) :=
    funext fun a => match a with | ⟨0, _⟩ => Fin.ext (by show (y 0).val = 0; omega) | ⟨1, _⟩ => rfl | ⟨2, _⟩ => rfl
  refine (congrArg _ ey).trans ((out_blk m c t ⟨(y 1).val, (y 1).isLt⟩ ⟨(y 2).val, (y 2).isLt⟩ ⟨((win0_2.blk t).view.emb y 0).val, ((win0_2.blk t).view.emb y 0).isLt⟩
    ⟨((win0_2.blk t).view.emb y 1).val, ((win0_2.blk t).view.emb y 1).isLt⟩ ⟨((win0_2.blk t).view.emb y 2).val, ((win0_2.blk t).view.emb y 2).isLt⟩ E0 E1 E2).trans ?_)
  exact congrArg (arr (wA m c) (sA m c)) (funext fun a => match a with | ⟨0, _⟩ => rfl | ⟨1, _⟩ => rfl | ⟨2, _⟩ => rfl)

end Cert.Hand.DecD

end
-- ==== Proof.DecDownVal.lean ====
/-
  The value claim of the decoding of the down weights: kernel and reference leave the same numbers.
-/
module

public import proofs.«01_k».proof.Proof.DecDownArr
public import proofs.«01_k».proof.Proof.DecRef
public import proofs.«01_k».proof.Proof.Pre
public import proofs.«01_k».proof.Proof.Gen.Pre_down_scales_finite
public import proofs.«01_k».proof.Proof.Gen.DecodedDownIdeal.Read
public import proofs.«01_k».proof.Proof.Gen.DecodedDownIdeal
public import proofs.«01_k».proof.Proof.Gen.DecodeDown.Frame
public import Idealize.ShloMosaic.Lib.Bf16Pair
public import proofs.«01_k».proof.Defs

@[expose] public section

set_option maxRecDepth 20000

noncomputable section

namespace Cert.Hand.DecD

open Cert.Hand.Dec

open Idealize.ShloMosaic Idealize.ShloMosaic.TcCoe Idealize.SL.Sem

instance : Subsingleton Cert.Pre_down_scales_finite.S_.Idx := ⟨fun a b => funext fun i => i.elim0⟩

/-- The precondition, read: a scale byte is neither 0 nor 255. -/
theorem sc_read {w : Cert.Pre_down_scales_finite.S8x5120x384.Idx → BitVec 8} {s : Cert.Pre_down_scales_finite.S8x5120x24.Idx → BitVec 8}
    (h : Cert.Pre_down_scales_finite.fn (F := Ideal) w s = fun _ => 1#1) (i : Cert.Pre_down_scales_finite.S8x5120x24.Idx) : 1 ≤ (s i).toNat ∧ (s i).toNat ≤ 254 := by
  have e := congrFun h (fun i => i.elim0)
  unfold Cert.Pre_down_scales_finite.fn at e
  dsimp only at e
  have r := Host.reduce_andi_all _ _ _ _ _ e i
  simp only [andi, cmpi, extui, broadcastInDim, constantI, IntOp.cmpi, andi_ofBool, ofBool_eq_one, Bool.and_eq_true] at r
  have key : ∀ x : BitVec 8, (BitVec.sle 1#32 (x.setWidth 32) = true ∧ BitVec.sle (x.setWidth 32) 254#32 = true) → 1 ≤ x.toNat ∧ x.toNat ≤ 254 := by decide +kernel
  exact key _ r

theorem frame_d : Cert.quiescent_DecodeDown := fun m g _ => Cert.DecodeDown.Gen.frame m g
theorem frame_di : Cert.quiescent_DecodeDownIdeal := fun m g _ => Cert.DecodeDownIdeal.Gen.frame m g
theorem frame_dip : Cert.quiescent_DecodeDownIdeal_pre_down_scales_finite := fun m g _ => Cert.DecodeDownIdeal.Gen.frame m g

theorem frame_rr (m : (ℓ : Loc Cert.DecodedDownIdeal.nD Cert.DecodedDownIdeal.τ Cert.DecodedDownIdeal.sig) → Buf (Elt Ideal) ℓ) (g : Dev Cert.DecodedDownIdeal.nD → PrngReg) :
    θ_run (Cert.DecodedDownIdeal.defs (F := Ideal)) (onTc (τ := Cert.DecodedDownIdeal.τ) (Cert.DecodedDownIdeal.main (F := Ideal))) ⟨m, fun _ => 0, g⟩ (fun r => (∀ c : Dev Cert.DecodedDownIdeal.nD,
      r.2.mem ((c.tc : Thread Cert.DecodedDownIdeal.nD Cert.DecodedDownIdeal.τ).loc Cert.DecodedDownIdeal.main_arg0) = m ((c.tc : Thread Cert.DecodedDownIdeal.nD Cert.DecodedDownIdeal.τ).loc Cert.DecodedDownIdeal.main_arg0)
      ∧ r.2.mem ((c.tc : Thread Cert.DecodedDownIdeal.nD Cert.DecodedDownIdeal.τ).loc Cert.DecodedDownIdeal.main_arg1) = m ((c.tc : Thread Cert.DecodedDownIdeal.nD Cert.DecodedDownIdeal.τ).loc Cert.DecodedDownIdeal.main_arg1))
      ∧ r.2.sem = fun _ => 0) :=
  (θ_run Cert.DecodedDownIdeal.defs _ _).mono (fun r h => ⟨fun c => (h c).2, sem_eq_zero_of_no_sems (by decide) r.2⟩) (Cert.DecodedDownIdeal.Value.run (F := Ideal) m g)

theorem frame_r : Cert.quiescent_DecodedDownIdeal := fun m g _ => frame_rr m g
theorem frame_rp : Cert.quiescent_DecodedDownIdeal_pre_down_scales_finite := fun m g _ => frame_rr m g

theorem preserves : Cert.preserves_DecodeDown_DecodeDownIdeal :=
  ⟨IdealRules.bf16_pair.packStatement _, IdealRules.bf16_pair.statement _ _⟩

open Cert.DecodedDownIdeal Cert.DecodedDownIdeal.Gen in
/-- The reference's shapes. -/
theorem refFacts : RefFacts 5120 384 24 768 :=
  ⟨rfl, rfl, transposes_S8x5120x384_S8x384x5120_0_2_1, transposes_S8x5120x24_S8x24x5120_0_2_1, bcast_S8x384x5120_S8x384x1x5120_0_1_3,
    concatenates_S8x384x1x5120_S8x384x1x5120_S8x384x2x5120_d2, shapeCasts_S8x384x2x5120_S8x24x32x5120, bcast_S8x24x5120_S8x24x1x5120_0_1_3,
    bcast_S8x24x1x5120_S8x24x32x5120_0_1_2_3, shapeCasts_S8x24x32x5120_S8x768x5120⟩

/-- What the reference computes. -/
theorem ref_eq (w : Cert.DecodedDownIdeal.S8x5120x384.Idx → BitVec 8) (s : Cert.DecodedDownIdeal.S8x5120x24.Idx → BitVec 8) :
    Cert.DecodedDownIdeal.Read.val_main_v71 (F := Ideal) w s = refOf refFacts w s := rfl

theorem alg : Cert.algebraic_DecodeDownIdeal_DecodedDownIdeal_pre_down_scales_finite := by
  intro m g m' g' hpre hargs
  refine ⟨fun c => arr (wA m c) (sA m c), (θ_run Cert.DecodeDownIdeal.defs _ _).mono (fun _ h c => ⟨(h c).1.trans (arr_eq m c), (h c).2⟩) (Cert.DecodeDownIdeal.Value.run_blocks (F := Ideal) m g),
    (θ_run Cert.DecodedDownIdeal.defs _ _).mono (fun r h c => ⟨(h c).1.trans ((Cert.DecodedDownIdeal.Read.val_main_v71_eq m' c).trans ?_), (h c).2⟩) (Cert.DecodedDownIdeal.Value.run (F := Ideal) m' g')⟩
  obtain ⟨a0, a1⟩ := hargs c
  rw [a0, a1]
  funext i
  refine (congrFun (ref_eq _ _) i).trans (refOf_eq_arrOf refFacts (wA m c) (sA m c) rfl (fun j => sc_read (hpre c) j) i)

end Cert.Hand.DecD

end
-- ==== Proof.UnpackVal.lean ====
/-
  The last call: the halves of each word of a row, as the left and the right half of a row of bfloat16.
-/
module

public import proofs.«01_k».proof.Proof.Gen.UnpackIdeal.Value
public import proofs.«01_k».proof.Proof.Gen.UnpackedIdeal.Read
public import proofs.«01_k».proof.Proof.Gen.UnpackedIdeal
public import proofs.«01_k».proof.Proof.Gen.Unpack.Frame
public import Idealize.ShloMosaic.Lib.Pipeline.Value
public import Idealize.ShloMosaic.Lib.Pipeline.ValueKit
public import Idealize.ShloMosaic.Lib.Pointwise
public import proofs.«01_k».proof.Defs

@[expose] public section

set_option maxRecDepth 20000

noncomputable section

namespace Cert.Hand.Unp

open Idealize.ShloMosaic Idealize.ShloMosaic.TcCoe Idealize.SL.Sem

/-- A row's element: the low half of word `q` in column `q`, the high half in column `2560 + q`. -/
def halfOf {R : Nat} (y : (⟨2, ![R, 2560]⟩ : Shape).Idx → BitVec 32) : (⟨2, ![R, 5120]⟩ : Shape).Idx → EReal := fun i =>
  Ideal.ofBits .bf16 ((y (ix2 (i 0) ⟨(i 1).val % 2560, Nat.mod_lt _ (by decide)⟩)).extractLsb' (16 * ((i 1).val / 2560)) 16)

/-- The same, of an index whose column is known. -/
theorem halfOf_at {R : Nat} (y : (⟨2, ![R, 2560]⟩ : Shape).Idx → BitVec 32) (i : (⟨2, ![R, 5120]⟩ : Shape).Idx) (q : Nat) (h : (i 1).val = q) :
    halfOf y i = Ideal.ofBits .bf16 ((y (ix2 (i 0) ⟨q % 2560, Nat.mod_lt _ (by decide)⟩)).extractLsb' (16 * (q / 2560)) 16) := by
  subst h; rfl

section Kernel
open Cert.UnpackIdeal Cert.UnpackIdeal.Gen

/-- What the two stores of the body leave in its block. -/
theorem block (x : S256x2560.Idx → BitVec 32) (y : S256x5120.Idx) : out0_1 (F := Ideal) x y = halfOf x y := by
  unfold out0_1
  have hx : View.ld (Val := Elt Ideal) (e' := .i32) x r0_0 = x := by
    funext j
    exact (congrFun (View.ld_unit_lit _ _ (fun a => match a with | ⟨0, _⟩ => rfl | ⟨1, _⟩ => rfl)) _)
  rw [hx]
  refine View.canon_apply_of_pieces (Val := Elt Ideal) (e := .bf16) (halfOf x) _ ?_ y (cover0_1 _ _ y)
  intro pc hpc
  rcases List.mem_cons.mp hpc with rfl | hpc
  · intro j
    have h1 : (j 1).val < 2560 := (j 1).isLt
    show Ideal.ofBits .bf16 ((x j).extractLsb' (1 * 16) 16) = halfOf x (r0_2.idx j)
    unfold halfOf
    have e1 : ((r0_2.idx j) 1).val = 2560 + 1 * (j 1).val := rfl
    have e2 : ((r0_2.idx j) 1).val / 2560 = 1 := by omega
    rw [e2]
    refine congrArg (fun i => Ideal.ofBits .bf16 ((x i).extractLsb' 16 16)) (funext fun a => Fin.ext ?_)
    match a with
    | ⟨0, _⟩ => show (j 0).val = 0 + 1 * (j 0).val; omega
    | ⟨1, _⟩ => show (j 1).val = (2560 + 1 * (j 1).val) % 2560; omega
  rcases List.mem_cons.mp hpc with rfl | hpc
  · intro j
    have h1 : (j 1).val < 2560 := (j 1).isLt
    show Ideal.ofBits .bf16 ((x j).extractLsb' (0 * 16) 16) = halfOf x (r0_1.idx j)
    unfold halfOf
    have e1 : ((r0_1.idx j) 1).val = 0 + 1 * (j 1).val := rfl
    have e2 : ((r0_1.idx j) 1).val / 2560 = 0 := by omega
    rw [e2]
    refine congrArg (fun i => Ideal.ofBits .bf16 ((x i).extractLsb' 0 16)) (funext fun a => Fin.ext ?_)
    match a with
    | ⟨0, _⟩ => show (j 0).val = 0 + 1 * (j 0).val; omega
    | ⟨1, _⟩ => show (j 1).val = (0 + 1 * (j 1).val) % 2560; omega
  nomatch hpc

variable (m : (ℓ : Loc nD τ sig) → Buf (Elt Ideal) ℓ) (c : Dev nD)

/-- The words, as launched. -/
abbrev yA : S32768x2560.Idx → BitVec 32 := m ((c.tc : Thread nD τ).loc main_arg0)

theorem ix_facts : ∀ t : Fin cfg0.N, win0_0.index t 0 = win0_1.index t 0 ∧ win0_0.index t 1 = 0 ∧ win0_1.index t 1 = 0 :=
  (by decide +kernel : ∀ t : Fin grid0.N, win0_0.index t 0 = win0_1.index t 0 ∧ win0_0.index t 1 = 0 ∧ win0_1.index t 1 = 0)

/-- The result array after the run. -/
theorem arr_eq : (dats m 0 c).arrAt 1 cfg0.N = halfOf (yA m c) := by
  refine (dats m 0 c).arrAt_eq_of_covers 1 _ (by decide +kernel) fun t hf y => ?_
  obtain ⟨f0, f1, f2⟩ := ix_facts t
  blk_simp
  rw [after0_1]
  have E0 : ((win0_1.blk t).view.emb y 0).val = win0_1.index t 0 * 256 + (y 0).val := by blk_simp; try omega
  have E1 : ((win0_1.blk t).view.emb y 1).val = win0_1.index t 1 * 5120 + (y 1).val := by blk_simp; try omega
  have hy : (y 1).val < 5120 := (y 1).isLt
  refine (block (iblk m c 0 t) y).trans ?_
  show Ideal.ofBits .bf16 ((V m c main_arg0 ((win0_0.blk t).view.emb (ix2 (y 0) ⟨(y 1).val % 2560, _⟩))).extractLsb' (16 * ((y 1).val / 2560)) 16)
    = halfOf (yA m c) ((win0_1.blk t).view.emb y)
  rw [V_main_arg0]
  have e1 : ((win0_1.blk t).view.emb y 1).val = (y 1).val := by omega
  rw [halfOf_at (yA m c) _ (y 1).val e1]
  refine congrArg (fun i => Ideal.ofBits .bf16 ((yA m c i).extractLsb' (16 * ((y 1).val / 2560)) 16)) (funext fun a => Fin.ext ?_)
  match a with
  | ⟨0, _⟩ =>
    show ((win0_0.blk t).view.emb (ix2 (y 0) (⟨(y 1).val % 2560, Nat.mod_lt _ (by decide)⟩ : Fin 2560)) 0).val = ((win0_1.blk t).view.emb y 0).val
    rw [E0]; blk_simp; show win0_0.index t 0 * 256 + (y 0).val = _; omega
  | ⟨1, _⟩ =>
    show ((win0_0.blk t).view.emb (ix2 (y 0) (⟨(y 1).val % 2560, Nat.mod_lt _ (by decide)⟩ : Fin 2560)) 1).val = (y 1).val % 2560
    blk_simp; show win0_0.index t 1 * 2560 + (y 1).val % 2560 = _; omega

end Kernel

section Reference
open Cert.UnpackedIdeal Cert.UnpackedIdeal.Read

theorem lo_bits (w : BitVec 32) : (IntOp.andi w 65535#32).setWidth 16 = w.extractLsb' 0 16 := by
  show (w &&& 65535#32).setWidth 16 = _
  apply BitVec.eq_of_getLsbD_eq
  intro i hi
  interval_cases i <;> simp [BitVec.getLsbD_extractLsb']

theorem hi_bits (w : BitVec 32) : (IntOp.shrui .host w 16#32).setWidth 16 = w.extractLsb' 16 16 := by
  have e : IntOp.shrui .host w 16#32 = w >>> 16 := by simp [IntOp.shrui]
  rw [e]
  apply BitVec.eq_of_getLsbD_eq
  intro i hi
  interval_cases i <;> simp [BitVec.getLsbD_extractLsb']

/-- The reference's result. -/
theorem ref_eq (y : S32768x2560.Idx → BitVec 32) : val_main_v8 (F := Ideal) y = halfOf y := by
  funext i
  have hi : (i 1).val < 5120 := (i 1).isLt
  unfold val_main_v8 halfOf
  by_cases h : (i 1).val < 2560
  · refine (concatenate_pair_apply_left (t := S32768x5120) (s₁ := S32768x2560) (s₂ := S32768x2560) 1 _ _ _ i rfl (ix2 (i 0) (⟨(i 1).val, h⟩ : Fin 2560))
      (fun b => match b with | ⟨0, _⟩ => rfl | ⟨1, _⟩ => rfl)).trans ?_
    have e1 : (i 1).val / 2560 = 0 := by omega
    have e2 : (i 1).val % 2560 = (i 1).val := by omega
    simp only [e1, e2]
    exact congrArg (Ideal.ofBits .bf16) (lo_bits _)
  · refine (concatenate_pair_apply_right (t := S32768x5120) (s₁ := S32768x2560) (s₂ := S32768x2560) 1 _ _ _ i rfl rfl (ix2 (i 0) (⟨(i 1).val % 2560, Nat.mod_lt _ (by decide)⟩ : Fin 2560))
      (fun b hb => match b with | ⟨0, _⟩ => rfl | ⟨1, _⟩ => absurd (Fin.ext rfl) hb) (by show (i 1).val % 2560 + 2560 = (i 1).val; omega)).trans ?_
    have e1 : (i 1).val / 2560 = 1 := by omega
    simp only [e1]
    exact congrArg (Ideal.ofBits .bf16) (hi_bits _)

end Reference

theorem frame_u : Cert.quiescent_Unpack := fun m g _ => Cert.Unpack.Gen.frame m g
theorem frame_ui : Cert.quiescent_UnpackIdeal := fun m g _ => Cert.UnpackIdeal.Gen.frame m g
theorem frame_r : Cert.quiescent_UnpackedIdeal := fun m g _ =>
  (θ_run Cert.UnpackedIdeal.defs _ _).mono (fun r h => ⟨fun c => (h c).2, sem_eq_zero_of_no_sems (by decide) r.2⟩) (Cert.UnpackedIdeal.Value.run (F := Ideal) m g)

theorem alg : Cert.algebraic_UnpackIdeal_UnpackedIdeal := by
  intro m g m' g' _ hargs
  refine ⟨fun c => halfOf (yA m c), (θ_run Cert.UnpackIdeal.defs _ _).mono (fun _ h c => ⟨(h c).1.trans (arr_eq m c), (h c).2⟩) (Cert.UnpackIdeal.Value.run_blocks (F := Ideal) m g),
    (θ_run Cert.UnpackedIdeal.defs _ _).mono (fun r h c => ⟨(h c).1.trans ((Cert.UnpackedIdeal.Read.val_main_v8_eq _).trans ?_), (h c).2⟩) (Cert.UnpackedIdeal.Value.run (F := Ideal) m' g')⟩
  exact (congrArg _ (hargs c)).trans (ref_eq _)

end Cert.Hand.Unp

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Gen.On_tiles_used
public import proofs.«01_k».proof.Proof.Gen.Decode
public import proofs.«01_k».proof.Proof.Gen.Decode.Frame
public import proofs.«01_k».proof.Proof.Gen.DecodeIdeal
public import proofs.«01_k».proof.Proof.Gen.DecodeIdeal.Frame
public import proofs.«01_k».proof.Proof.Gen.DecodeIdeal.Value
public import proofs.«01_k».proof.Proof.Gen.DecodedIdeal
public import proofs.«01_k».proof.Proof.Gen.DecodedIdeal.Run
public import proofs.«01_k».proof.Proof.Gen.DecodedIdeal.Read
public import proofs.«01_k».proof.Proof.Gen.Pre_scales_finite
public import proofs.«01_k».proof.Proof.Gen.DecodeDown
public import proofs.«01_k».proof.Proof.Gen.DecodeDown.Frame
public import proofs.«01_k».proof.Proof.Gen.DecodeDownIdeal
public import proofs.«01_k».proof.Proof.Gen.DecodeDownIdeal.Frame
public import proofs.«01_k».proof.Proof.Gen.DecodeDownIdeal.Value
public import proofs.«01_k».proof.Proof.Gen.DecodedDownIdeal
public import proofs.«01_k».proof.Proof.Gen.DecodedDownIdeal.Run
public import proofs.«01_k».proof.Proof.Gen.DecodedDownIdeal.Read
public import proofs.«01_k».proof.Proof.Gen.Pre_down_scales_finite
public import proofs.«01_k».proof.Proof.Gen.Unpack
public import proofs.«01_k».proof.Proof.Gen.Unpack.Frame
public import proofs.«01_k».proof.Proof.Gen.UnpackIdeal
public import proofs.«01_k».proof.Proof.Gen.UnpackIdeal.Frame
public import proofs.«01_k».proof.Proof.Gen.UnpackIdeal.Value
public import proofs.«01_k».proof.Proof.Gen.UnpackedIdeal
public import proofs.«01_k».proof.Proof.Gen.UnpackedIdeal.Run
public import proofs.«01_k».proof.Proof.Gen.UnpackedIdeal.Read
public import proofs.«01_k».proof.Proof.Frames
public import proofs.«01_k».proof.Proof.Value
public import proofs.«01_k».proof.Proof.DecVal
public import proofs.«01_k».proof.Proof.DecDownVal
public import proofs.«01_k».proof.Proof.UnpackVal

@[expose] public section

/-- The certificate: the four calls, their idealizations and the references run to their ends and leave their arguments
alone; the idealizations of the product and of the unpacking are the calls' own text and those of the two decodings rest
on their rule's two facts; over the extended reals the product's kernel and reference leave the same numbers in the rows of
the tiles that are used, and those of the decodings and of the unpacking everywhere. -/
theorem Cert.Proof.claim : Cert.Claim :=
  ⟨Cert.Kernel.Gen.facts, Cert.KernelIdeal.Gen.facts, Cert.ReferenceIdeal.Gen.facts, Cert.Decode.Gen.facts, Cert.DecodeIdeal.Gen.facts,
    Cert.DecodedIdeal.Gen.facts, Cert.DecodeDown.Gen.facts, Cert.DecodeDownIdeal.Gen.facts, Cert.DecodedDownIdeal.Gen.facts,
    Cert.Unpack.Gen.facts, Cert.UnpackIdeal.Gen.facts, Cert.UnpackedIdeal.Gen.facts, Cert.Pre_in_range.Gen.facts,
    Cert.Pre_scales_finite.Gen.facts, Cert.Pre_down_scales_finite.Gen.facts, Cert.On_tiles_used.Gen.facts,
    Cert.Hand.frame_k, Cert.Hand.frame_i, Cert.Hand.frame_r, Cert.Hand.Dec.frame_d, Cert.Hand.Dec.frame_di, Cert.Hand.Dec.frame_dip,
    Cert.Hand.Dec.frame_r, Cert.Hand.Dec.frame_rp, Cert.Hand.DecD.frame_d, Cert.Hand.DecD.frame_di, Cert.Hand.DecD.frame_dip,
    Cert.Hand.DecD.frame_r, Cert.Hand.DecD.frame_rp, Cert.Hand.Unp.frame_u, Cert.Hand.Unp.frame_ui, Cert.Hand.Unp.frame_r,
    trivial, Cert.Hand.alg, Cert.Hand.Dec.preserves, Cert.Hand.Dec.alg, Cert.Hand.DecD.preserves, Cert.Hand.DecD.alg,
    trivial, Cert.Hand.Unp.alg⟩
